-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Kernel19Ideal_finite_dxc [hPre_finite_dxc : Cert.Pre_finite_dxc.Facts] (m : (ℓ : Loc Cert.Kernel19Ideal.nD Cert.Kernel19Ideal.τ Cert.Kernel19Ideal.sig) → Buf (Elt Ideal) ℓ) : Prop :=
  ∀ c : Dev Cert.Kernel19Ideal.nD,
    (Cert.Pre_finite_dxc.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3))) = (fun _ => 1#1)

def Pre_Reference19Ideal (m : (ℓ : Loc Cert.Reference19Ideal.nD Cert.Reference19Ideal.τ Cert.Reference19Ideal.sig) → Buf (Elt Ideal) ℓ) : Prop :=
  True

def Pre_Reference19Ideal_finite_dxc [hPre_finite_dxc : Cert.Pre_finite_dxc.Facts] (m : (ℓ : Loc Cert.Reference19Ideal.nD Cert.Reference19Ideal.τ Cert.Reference19Ideal.sig) → Buf (Elt Ideal) ℓ) : Prop :=
  ∀ c : Dev Cert.Reference19Ideal.nD,
    (Cert.Pre_finite_dxc.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3))) = (fun _ => 1#1)

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Kernel19Ideal_pre_finite_dxc [hKernel19Ideal : Cert.Kernel19Ideal.Facts] [hPre_finite_dxc : Cert.Pre_finite_dxc.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal_finite_dxc m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Reference19Ideal_pre_finite_dxc [hReference19Ideal : Cert.Reference19Ideal.Facts] [hPre_finite_dxc : Cert.Pre_finite_dxc.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal_finite_dxc m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23_0)) (v1 : (c : Dev Cert.KernelIdeal.nD) → Buf (Elt Ideal) ((c.tc : Thread Cert.KernelIdeal.nD Cert.KernelIdeal.τ).loc Cert.KernelIdeal.main_v23_1)) (v2 : (c : Dev Cert.KernelIdeal.nD) → Buf (Elt Ideal) ((c.tc : Thread Cert.KernelIdeal.nD Cert.KernelIdeal.τ).loc Cert.KernelIdeal.main_v23_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23_0) = v0 c
          ∧ r.2.mem ((c.tc : Thread Cert.KernelIdeal.nD Cert.KernelIdeal.τ).loc Cert.KernelIdeal.main_v23_1) = v1 c
          ∧ r.2.mem ((c.tc : Thread Cert.KernelIdeal.nD Cert.KernelIdeal.τ).loc Cert.KernelIdeal.main_v23_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_v56) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v34) = v0 c
          ∧ r.2.mem ((c.tc : Thread Cert.Reference7Ideal.nD Cert.Reference7Ideal.τ).loc Cert.Reference7Ideal.main_v17) = v1 c
          ∧ r.2.mem ((c.tc : Thread Cert.Reference7Ideal.nD Cert.Reference7Ideal.τ).loc Cert.Reference7Ideal.main_v36) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v13) = v0 c
          ∧ r.2.mem ((c.tc : Thread Cert.Reference8Ideal.nD Cert.Reference8Ideal.τ).loc Cert.Reference8Ideal.main_v14) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v6) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v5) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v7) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal_pre_finite_dxc [hKernel19Ideal : Cert.Kernel19Ideal.Facts] [hReference19Ideal : Cert.Reference19Ideal.Facts] [hPre_finite_dxc : Cert.Pre_finite_dxc.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal_finite_dxc m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v85) = v0 c
          ∧ r.2.mem ((c.tc : Thread Cert.Reference19Ideal.nD Cert.Reference19Ideal.τ).loc Cert.Reference19Ideal.main_v82) = v1 c
          ∧ r.2.mem ((c.tc : Thread Cert.Reference19Ideal.nD Cert.Reference19Ideal.τ).loc Cert.Reference19Ideal.main_v40) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v7) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v2) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v2) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v3) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v3) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v3) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v2) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v3) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hPre_finite : Cert.Pre_finite.Facts) (hPre_finite_dxc : Cert.Pre_finite_dxc.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Kernel19Ideal_pre_finite_dxc (hKernel19Ideal := hKernel19Ideal) (hPre_finite_dxc := hPre_finite_dxc)
    ∧ quiescent_Reference19Ideal (hReference19Ideal := hReference19Ideal)
    ∧ quiescent_Reference19Ideal_pre_finite_dxc (hReference19Ideal := hReference19Ideal) (hPre_finite_dxc := hPre_finite_dxc)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal_pre_finite_dxc (hKernel19Ideal := hKernel19Ideal) (hReference19Ideal := hReference19Ideal) (hPre_finite_dxc := hPre_finite_dxc)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
-- ==== Pre_finite.lean ====
abbrev S4x2048x1024 : Shape := ⟨3, ![4, 2048, 1024]⟩
abbrev S4x2048x2048 : Shape := ⟨3, ![4, 2048, 2048]⟩
abbrev S_ : Shape := ⟨0, ![]⟩

class Facts : Prop where
  bcast_S_S4x2048x1024 : S_.BroadcastsInDim S4x2048x1024 (![] : Fin 0 → Fin S4x2048x1024.rank)
  bcast_S_S4x2048x2048 : S_.BroadcastsInDim S4x2048x2048 (![] : Fin 0 → Fin S4x2048x2048.rank)

variable [Facts]

def fn {F : FTy → Type} [FloatOps F] (main_arg0 : FVec F S4x2048x1024 .bf16) (main_arg1 : FVec F S4x2048x2048 .bf16) (main_arg2 : FVec F S4x2048x1024 .bf16) (main_arg3 : FVec F S4x2048x1024 .f32) (main_arg4 : FVec F S4x2048x1024 .f32) : IVec S4x2048x1024 1 × IVec S4x2048x2048 1 × IVec S4x2048x1024 1 :=
  let main_v0 : FVec F S4x2048x1024 .bf16 := Host.absf main_arg0
  let main_cst : FVec F S_ .bf16 := constant S_ .bf16 0x7F80#16
  let main_v1 : FVec F S4x2048x1024 .bf16 := broadcastInDim S4x2048x1024 ![] bcast_S_S4x2048x1024 main_cst
  let main_v2 : IVec S4x2048x1024 1 := cmpf .olt main_v0 main_v1
  let main_v3 : FVec F S4x2048x2048 .bf16 := Host.absf main_arg1
  let main_cst_0 : FVec F S_ .bf16 := constant S_ .bf16 0x7F80#16
  let main_v4 : FVec F S4x2048x2048 .bf16 := broadcastInDim S4x2048x2048 ![] bcast_S_S4x2048x2048 main_cst_0
  let main_v5 : IVec S4x2048x2048 1 := cmpf .olt main_v3 main_v4
  let main_v6 : FVec F S4x2048x1024 .bf16 := Host.absf main_arg2
  let main_cst_1 : FVec F S_ .bf16 := constant S_ .bf16 0x7F80#16
  let main_v7 : FVec F S4x2048x1024 .bf16 := broadcastInDim S4x2048x1024 ![] bcast_S_S4x2048x1024 main_cst_1
  let main_v8 : IVec S4x2048x1024 1 := cmpf .olt main_v6 main_v7
  (main_v2, main_v5, main_v8)
-- ==== Pre_finite_dxc.lean ====
abbrev S4x2048x3072 : Shape := ⟨3, ![4, 2048, 3072]⟩
abbrev S8x3072 : Shape := ⟨2, ![8, 3072]⟩
abbrev S1x3072 : Shape := ⟨2, ![1, 3072]⟩
abbrev S_ : Shape := ⟨0, ![]⟩

class Facts : Prop where
  bcast_S_S4x2048x3072 : S_.BroadcastsInDim S4x2048x3072 (![] : Fin 0 → Fin S4x2048x3072.rank)

variable [Facts]

def fn {F : FTy → Type} [FloatOps F] (main_arg0 : FVec F S4x2048x3072 .f32) (main_arg1 : FVec F S4x2048x3072 .f32) (main_arg2 : FVec F S8x3072 .f32) (main_arg3 : FVec F S1x3072 .f32) : IVec S4x2048x3072 1 :=
  let main_v0 : FVec F S4x2048x3072 .f32 := Host.absf main_arg1
  let main_cst : FVec F S_ .f32 := constant S_ .f32 0x7F800000#32
  let main_v1 : FVec F S4x2048x3072 .f32 := broadcastInDim S4x2048x3072 ![] bcast_S_S4x2048x3072 main_cst
  let main_v2 : IVec S4x2048x3072 1 := cmpf .olt main_v0 main_v1
  main_v2
-- ==== Kernel.lean ====
abbrev S4x2048x1024 : Shape := ⟨3, ![4, 2048, 1024]⟩
abbrev S4x2048x2048 : Shape := ⟨3, ![4, 2048, 2048]⟩
abbrev S4x2048x16x64 : Shape := ⟨4, ![4, 2048, 16, 64]⟩
abbrev S4x16x2048x2048 : Shape := ⟨4, ![4, 16, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x16x2048 : Shape := ⟨3, ![4, 16, 2048]⟩
abbrev S4x2048x16 : Shape := ⟨3, ![4, 2048, 16]⟩
abbrev S4x2048x16x1 : Shape := ⟨4, ![4, 2048, 16, 1]⟩
abbrev S1x512x128 : Shape := ⟨3, ![1, 512, 128]⟩
abbrev S1x2048x128 : Shape := ⟨3, ![1, 2048, 128]⟩
abbrev S2048x128 : Shape := ⟨2, ![2048, 128]⟩
abbrev S512x128 : Shape := ⟨2, ![512, 128]⟩
abbrev S128x128 : Shape := ⟨2, ![128, 128]⟩
abbrev S1x512x1 : Shape := ⟨3, ![1, 512, 1]⟩
abbrev S512x1 : Shape := ⟨2, ![512, 1]⟩
abbrev S1x128x128 : Shape := ⟨3, ![1, 128, 128]⟩
abbrev S512 : Shape := ⟨1, ![512]⟩
abbrev S384x128 : Shape := ⟨2, ![384, 128]⟩
abbrev S384x1 : Shape := ⟨2, ![384, 1]⟩
abbrev S384 : Shape := ⟨1, ![384]⟩
abbrev S128x1 : Shape := ⟨2, ![128, 1]⟩
abbrev S256x128 : Shape := ⟨2, ![256, 128]⟩
abbrev S256x1 : Shape := ⟨2, ![256, 1]⟩
abbrev S256 : Shape := ⟨1, ![256]⟩

abbrev nBuf : Space → Nat
  | .hbm => 52
  | .vmem => 20
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x2048, .bf16⟩
  | .hbm, ⟨2, _⟩ => ⟨S4x2048x1024, .bf16⟩
  | .hbm, ⟨3, _⟩ => ⟨S4x2048x1024, .f32⟩
  | .hbm, ⟨4, _⟩ => ⟨S4x2048x1024, .f32⟩
  | .hbm, ⟨5, _⟩ => ⟨S4x2048x1024, .f32⟩
  | .hbm, ⟨6, _⟩ => ⟨S4x2048x1024, .bf16⟩
  | .hbm, ⟨7, _⟩ => ⟨S4x2048x1024, .f32⟩
  | .hbm, ⟨8, _⟩ => ⟨S4x2048x16x64, .f32⟩
  | .hbm, ⟨9, _⟩ => ⟨S4x2048x16x64, .f32⟩
  | .hbm, ⟨10, _⟩ => ⟨S4x16x2048x2048, .f32⟩
  | .hbm, ⟨11, _⟩ => ⟨S_, .f32⟩
  | .hbm, ⟨12, _⟩ => ⟨S4x16x2048x2048, .f32⟩
  | .hbm, ⟨13, _⟩ => ⟨S4x16x2048x2048, .f32⟩
  | .hbm, ⟨14, _⟩ => ⟨S2048, .i32⟩
  | .hbm, ⟨15, _⟩ => ⟨S2048x1, .i32⟩
  | .hbm, ⟨16, _⟩ => ⟨S2048, .i32⟩
  | .hbm, ⟨17, _⟩ => ⟨S1x2048, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S4x16x2048x2048, .f32⟩
  | .hbm, ⟨22, _⟩ => ⟨S4x16x2048x2048, .f32⟩
  | .hbm, ⟨23, _⟩ => ⟨S_, .f32⟩
  | .hbm, ⟨24, _⟩ => ⟨S4x16x2048x2048, .f32⟩
  | .hbm, ⟨25, _⟩ => ⟨S4x16x2048x2048, .f32⟩
  | .hbm, ⟨26, _⟩ => ⟨S4x16x2048x2048, .f32⟩
  | .hbm, ⟨27, _⟩ => ⟨S4x16x2048x2048, .f32⟩
  | .hbm, ⟨28, _⟩ => ⟨S4x16x2048x2048, .i1⟩
  | .hbm, ⟨29, _⟩ => ⟨S4x16x2048x2048, .f32⟩
  | .hbm, ⟨30, _⟩ => ⟨S4x16x2048x2048, .f32⟩
  | .hbm, ⟨31, _⟩ => ⟨S4x16x2048x2048, .f32⟩
  | .hbm, ⟨32, _⟩ => ⟨S4x16x2048x2048, .f32⟩
  | .hbm, ⟨33, _⟩ => ⟨S4x16x2048x2048, .f32⟩
  | .hbm, ⟨34, _⟩ => ⟨S4x16x2048x2048, .f32⟩
  | .hbm, ⟨35, _⟩ => ⟨S4x16x2048x2048, .f32⟩
  | .hbm, ⟨36, _⟩ => ⟨S4x16x2048x2048, .f32⟩
  | .hbm, ⟨37, _⟩ => ⟨S4x16x2048x2048, .f32⟩
  | .hbm, ⟨38, _⟩ => ⟨S_, .f32⟩
  | .hbm, ⟨39, _⟩ => ⟨S_, .f32⟩
  | .hbm, ⟨40, _⟩ => ⟨S4x16x2048x2048, .i1⟩
  | .hbm, ⟨41, _⟩ => ⟨S4x16x2048x2048, .f32⟩
  | .hbm, ⟨42, _⟩ => ⟨S4x16x2048x2048, .f32⟩
  | .hbm, ⟨43, _⟩ => ⟨S_, .f32⟩
  | .hbm, ⟨44, _⟩ => ⟨S4x16x2048, .f32⟩
  | .hbm, ⟨45, _⟩ => ⟨S4x2048x16, .f32⟩
  | .hbm, ⟨46, _⟩ => ⟨S4x2048x16x1, .f32⟩
  | .hbm, ⟨47, _⟩ => ⟨S4x2048x16x64, .f32⟩
  | .hbm, ⟨48, _⟩ => ⟨S4x2048x1024, .f32⟩
  | .hbm, ⟨49, _⟩ => ⟨S4x2048x1024, .bf16⟩
  | .hbm, ⟨50, _⟩ => ⟨S4x2048x1024, .f32⟩
  | .hbm, ⟨51, _⟩ => ⟨S4x2048x1024, .f32⟩
  | .local _ .vmem, ⟨0, _⟩ => ⟨S1x512x128, .bf16⟩
  | .local _ .vmem, ⟨1, _⟩ => ⟨S1x512x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x512x128, .f32⟩
  | .local _ .vmem, ⟨7, _⟩ => ⟨S1x512x128, .f32⟩
  | .local _ .vmem, ⟨8, _⟩ => ⟨S1x512x128, .bf16⟩
  | .local _ .vmem, ⟨9, _⟩ => ⟨S1x512x128, .bf16⟩
  | .local _ .vmem, ⟨10, _⟩ => ⟨S1x2048x128, .f32⟩
  | .local _ .vmem, ⟨11, _⟩ => ⟨S1x2048x128, .f32⟩
  | .local _ .vmem, ⟨12, _⟩ => ⟨S1x2048x128, .f32⟩
  | .local _ .vmem, ⟨13, _⟩ => ⟨S1x2048x128, .f32⟩
  | .local _ .vmem, ⟨14, _⟩ => ⟨S1x512x128, .bf16⟩
  | .local _ .vmem, ⟨15, _⟩ => ⟨S1x512x128, .bf16⟩
  | .local _ .vmem, ⟨16, _⟩ => ⟨S1x2048x128, .f32⟩
  | .local _ .vmem, ⟨17, _⟩ => ⟨S1x2048x128, .f32⟩
  | .local _ .vmem, ⟨18, _⟩ => ⟨S1x2048x128, .f32⟩
  | .local _ .vmem, ⟨19, _⟩ => ⟨S1x2048x128, .f32⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v16 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v17 : Ref sig .tc := ⟨.hbm, 42, rfl⟩
abbrev main_cst_1 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23_0 : Ref sig .tc := ⟨.hbm, 49, rfl⟩
abbrev main_v23_1 : Ref sig .tc := ⟨.hbm, 50, rfl⟩
abbrev main_v23_2 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![4, 8, 4], ![false, false, false]⟩

@[reducible] def k0_t1_loop (i : grid0.Coords) : Scf.Loop 32 :=
  let c0_i32_48 : BitVec 32 := 0#32
  let arg2 : BitVec 32 := BitVec.ofNat 32 (i 2).val
  let v140 : BitVec 32 := Scalar.subi arg2 c0_i32_48
  let c1_i32_49 : BitVec 32 := 1#32
  let v142 : BitVec 32 := Scalar.divsi v140 c1_i32_49
  let v143 : BitVec 32 := Scalar.muli v142 c1_i32_49
  let v144 : BitVec 32 := Scalar.addi c0_i32_48 v143
  let c1_i32_50 : BitVec 32 := 1#32
  ⟨c0_i32_48, v144, c1_i32_50⟩
def k0_mult1 (i : grid0.Coords) (k0_t1 : Fin (k0_t1_loop i).trips) : BitVec 32 :=
  let c4_i32_275 : BitVec 32 := 4#32
  let c0_i32_48 : BitVec 32 := 0#32
  let c1_i32_50 : BitVec 32 := 1#32
  let arg13 : BitVec 32 := Scf.iv c0_i32_48 c1_i32_50 k0_t1
  let v869 : BitVec 32 := Scalar.muli c4_i32_275 arg13
  let c0_i32_276 : BitVec 32 := 0#32
  let v870 : BitVec 32 := Scalar.addi v869 c0_i32_276
  let c128_i32_277 : BitVec 32 := 128#32
  let v871 : BitVec 32 := Scalar.muli v870 c128_i32_277
  v871
def k0_off1 (i : grid0.Coords) (k0_t1 : Fin (k0_t1_loop i).trips) (c0_i32_276 : BitVec 32) : Fin 3 → Nat :=
  let c0_278 : Index := 0#32
  let c4_i32_275 : BitVec 32 := 4#32
  let c0_i32_48 : BitVec 32 := 0#32
  let c1_i32_50 : BitVec 32 := 1#32
  let arg13 : BitVec 32 := Scf.iv c0_i32_48 c1_i32_50 k0_t1
  let v869 : BitVec 32 := Scalar.muli c4_i32_275 arg13
  let v870 : BitVec 32 := Scalar.addi v869 c0_i32_276
  let c128_i32_277 : BitVec 32 := 128#32
  let v871 : BitVec 32 := Scalar.muli v870 c128_i32_277
  let v872 : BitVec 32 := v871
  let v873 : Index := Scalar.indexCast v872
  let c0_279 : Index := 0#32
  ![0, v873.toNat, 0]
def k0_mult2 (i : grid0.Coords) (k0_t1 : Fin (k0_t1_loop i).trips) : BitVec 32 :=
  let c4_i32_324 : BitVec 32 := 4#32
  let c0_i32_48 : BitVec 32 := 0#32
  let c1_i32_50 : BitVec 32 := 1#32
  let arg13 : BitVec 32 := Scf.iv c0_i32_48 c1_i32_50 k0_t1
  let v1011 : BitVec 32 := Scalar.muli c4_i32_324 arg13
  let c1_i32_325 : BitVec 32 := 1#32
  let v1012 : BitVec 32 := Scalar.addi v1011 c1_i32_325
  let c128_i32_326 : BitVec 32 := 128#32
  let v1013 : BitVec 32 := Scalar.muli v1012 c128_i32_326
  v1013
def k0_mult3 (i : grid0.Coords) (k0_t1 : Fin (k0_t1_loop i).trips) : BitVec 32 :=
  let c4_i32_373 : BitVec 32 := 4#32
  let c0_i32_48 : BitVec 32 := 0#32
  let c1_i32_50 : BitVec 32 := 1#32
  let arg13 : BitVec 32 := Scf.iv c0_i32_48 c1_i32_50 k0_t1
  let v1153 : BitVec 32 := Scalar.muli c4_i32_373 arg13
  let c2_i32_374 : BitVec 32 := 2#32
  let v1154 : BitVec 32 := Scalar.addi v1153 c2_i32_374
  let c128_i32_375 : BitVec 32 := 128#32
  let v1155 : BitVec 32 := Scalar.muli v1154 c128_i32_375
  v1155
def k0_mult4 (i : grid0.Coords) (k0_t1 : Fin (k0_t1_loop i).trips) : BitVec 32 :=
  let c4_i32_422 : BitVec 32 := 4#32
  let c0_i32_48 : BitVec 32 := 0#32
  let c1_i32_50 : BitVec 32 := 1#32
  let arg13 : BitVec 32 := Scf.iv c0_i32_48 c1_i32_50 k0_t1
  let v1295 : BitVec 32 := Scalar.muli c4_i32_422 arg13
  let c3_i32_423 : BitVec 32 := 3#32
  let v1296 : BitVec 32 := Scalar.addi v1295 c3_i32_423
  let c128_i32_424 : BitVec 32 := 128#32
  let v1297 : BitVec 32 := Scalar.muli v1296 c128_i32_424
  v1297
@[reducible] def k0_t2_loop (i : grid0.Coords) : Scf.Loop 32 :=
  let c0_i32_48 : BitVec 32 := 0#32
  let arg2 : BitVec 32 := BitVec.ofNat 32 (i 2).val
  let v140 : BitVec 32 := Scalar.subi arg2 c0_i32_48
  let c1_i32_49 : BitVec 32 := 1#32
  let v142 : BitVec 32 := Scalar.divsi v140 c1_i32_49
  let v143 : BitVec 32 := Scalar.muli v142 c1_i32_49
  let v144 : BitVec 32 := Scalar.addi c0_i32_48 v143
  let v141 : BitVec 32 := Scalar.addi c0_i32_48 v140
  let c1_i32_51 : BitVec 32 := 1#32
  ⟨v144, v141, c1_i32_51⟩
def k0_mult5 (i : grid0.Coords) (k0_t2 : Fin (k0_t2_loop i).trips) : BitVec 32 :=
  let c4_i32_275 : BitVec 32 := 4#32
  let c0_i32_48 : BitVec 32 := 0#32
  let arg2 : BitVec 32 := BitVec.ofNat 32 (i 2).val
  let v140 : BitVec 32 := Scalar.subi arg2 c0_i32_48
  let c1_i32_49 : BitVec 32 := 1#32
  let v142 : BitVec 32 := Scalar.divsi v140 c1_i32_49
  let v143 : BitVec 32 := Scalar.muli v142 c1_i32_49
  let v144 : BitVec 32 := Scalar.addi c0_i32_48 v143
  let c1_i32_51 : BitVec 32 := 1#32
  let arg13 : BitVec 32 := Scf.iv v144 c1_i32_51 k0_t2
  let v869 : BitVec 32 := Scalar.muli c4_i32_275 arg13
  let c0_i32_276 : BitVec 32 := 0#32
  let v870 : BitVec 32 := Scalar.addi v869 c0_i32_276
  let c128_i32_277 : BitVec 32 := 128#32
  let v871 : BitVec 32 := Scalar.muli v870 c128_i32_277
  v871
def k0_off2 (i : grid0.Coords) (k0_t2 : Fin (k0_t2_loop i).trips) (c0_i32_276 : BitVec 32) : Fin 3 → Nat :=
  let c0_278 : Index := 0#32
  let c4_i32_275 : BitVec 32 := 4#32
  let c0_i32_48 : BitVec 32 := 0#32
  let arg2 : BitVec 32 := BitVec.ofNat 32 (i 2).val
  let v140 : BitVec 32 := Scalar.subi arg2 c0_i32_48
  let c1_i32_49 : BitVec 32 := 1#32
  let v142 : BitVec 32 := Scalar.divsi v140 c1_i32_49
  let v143 : BitVec 32 := Scalar.muli v142 c1_i32_49
  let v144 : BitVec 32 := Scalar.addi c0_i32_48 v143
  let c1_i32_51 : BitVec 32 := 1#32
  let arg13 : BitVec 32 := Scf.iv v144 c1_i32_51 k0_t2
  let v869 : BitVec 32 := Scalar.muli c4_i32_275 arg13
  let v870 : BitVec 32 := Scalar.addi v869 c0_i32_276
  let c128_i32_277 : BitVec 32 := 128#32
  let v871 : BitVec 32 := Scalar.muli v870 c128_i32_277
  let v872 : BitVec 32 := v871
  let v873 : Index := Scalar.indexCast v872
  let c0_279 : Index := 0#32
  ![0, v873.toNat, 0]
def k0_mult6 (i : grid0.Coords) (k0_t2 : Fin (k0_t2_loop i).trips) : BitVec 32 :=
  let c4_i32_324 : BitVec 32 := 4#32
  let c0_i32_48 : BitVec 32 := 0#32
  let arg2 : BitVec 32 := BitVec.ofNat 32 (i 2).val
  let v140 : BitVec 32 := Scalar.subi arg2 c0_i32_48
  let c1_i32_49 : BitVec 32 := 1#32
  let v142 : BitVec 32 := Scalar.divsi v140 c1_i32_49
  let v143 : BitVec 32 := Scalar.muli v142 c1_i32_49
  let v144 : BitVec 32 := Scalar.addi c0_i32_48 v143
  let c1_i32_51 : BitVec 32 := 1#32
  let arg13 : BitVec 32 := Scf.iv v144 c1_i32_51 k0_t2
  let v1011 : BitVec 32 := Scalar.muli c4_i32_324 arg13
  let c1_i32_325 : BitVec 32 := 1#32
  let v1012 : BitVec 32 := Scalar.addi v1011 c1_i32_325
  let c128_i32_326 : BitVec 32 := 128#32
  let v1013 : BitVec 32 := Scalar.muli v1012 c128_i32_326
  v1013
def k0_mult7 (i : grid0.Coords) (k0_t2 : Fin (k0_t2_loop i).trips) : BitVec 32 :=
  let c4_i32_373 : BitVec 32 := 4#32
  let c0_i32_48 : BitVec 32 := 0#32
  let arg2 : BitVec 32 := BitVec.ofNat 32 (i 2).val
  let v140 : BitVec 32 := Scalar.subi arg2 c0_i32_48
  let c1_i32_49 : BitVec 32 := 1#32
  let v142 : BitVec 32 := Scalar.divsi v140 c1_i32_49
  let v143 : BitVec 32 := Scalar.muli v142 c1_i32_49
  let v144 : BitVec 32 := Scalar.addi c0_i32_48 v143
  let c1_i32_51 : BitVec 32 := 1#32
  let arg13 : BitVec 32 := Scf.iv v144 c1_i32_51 k0_t2
  let v1153 : BitVec 32 := Scalar.muli c4_i32_373 arg13
  let c2_i32_374 : BitVec 32 := 2#32
  let v1154 : BitVec 32 := Scalar.addi v1153 c2_i32_374
  let c128_i32_375 : BitVec 32 := 128#32
  let v1155 : BitVec 32 := Scalar.muli v1154 c128_i32_375
  v1155
def k0_mult8 (i : grid0.Coords) (k0_t2 : Fin (k0_t2_loop i).trips) : BitVec 32 :=
  let c4_i32_422 : BitVec 32 := 4#32
  let c0_i32_48 : BitVec 32 := 0#32
  let arg2 : BitVec 32 := BitVec.ofNat 32 (i 2).val
  let v140 : BitVec 32 := Scalar.subi arg2 c0_i32_48
  let c1_i32_49 : BitVec 32 := 1#32
  let v142 : BitVec 32 := Scalar.divsi v140 c1_i32_49
  let v143 : BitVec 32 := Scalar.muli v142 c1_i32_49
  let v144 : BitVec 32 := Scalar.addi c0_i32_48 v143
  let c1_i32_51 : BitVec 32 := 1#32
  let arg13 : BitVec 32 := Scf.iv v144 c1_i32_51 k0_t2
  let v1295 : BitVec 32 := Scalar.muli c4_i32_422 arg13
  let c3_i32_423 : BitVec 32 := 3#32
  let v1296 : BitVec 32 := Scalar.addi v1295 c3_i32_423
  let c128_i32_424 : BitVec 32 := 128#32
  let v1297 : BitVec 32 := Scalar.muli v1296 c128_i32_424
  v1297
def k0_mult9 (i : grid0.Coords) : BitVec 32 :=
  let arg2 : BitVec 32 := BitVec.ofNat 32 (i 2).val
  let c4_i32 : BitVec 32 := 4#32
  let v3 : BitVec 32 := Scalar.muli arg2 c4_i32
  let c0_i32_53 : BitVec 32 := 0#32
  let v161 : BitVec 32 := Scalar.addi v3 c0_i32_53
  let c128_i32_54 : BitVec 32 := 128#32
  let v162 : BitVec 32 := Scalar.muli v161 c128_i32_54
  v162
def k0_off3 (i : grid0.Coords) (c0_i32_53 : BitVec 32) : Fin 3 → Nat :=
  let c0_55 : Index := 0#32
  let arg2 : BitVec 32 := BitVec.ofNat 32 (i 2).val
  let c4_i32 : BitVec 32 := 4#32
  let v3 : BitVec 32 := Scalar.muli arg2 c4_i32
  let v161 : BitVec 32 := Scalar.addi v3 c0_i32_53
  let c128_i32_54 : BitVec 32 := 128#32
  let v162 : BitVec 32 := Scalar.muli v161 c128_i32_54
  let v163 : BitVec 32 := v162
  let v164 : Index := Scalar.indexCast v163
  let c0_56 : Index := 0#32
  ![0, v164.toNat, 0]
def k0_mult10 (i : grid0.Coords) : BitVec 32 :=
  let arg2 : BitVec 32 := BitVec.ofNat 32 (i 2).val
  let c4_i32 : BitVec 32 := 4#32
  let v3 : BitVec 32 := Scalar.muli arg2 c4_i32
  let c1_i32_107 : BitVec 32 := 1#32
  let v314 : BitVec 32 := Scalar.addi v3 c1_i32_107
  let c128_i32_108 : BitVec 32 := 128#32
  let v316 : BitVec 32 := Scalar.muli v314 c128_i32_108
  v316
def k0_mult11 (i : grid0.Coords) : BitVec 32 :=
  let arg2 : BitVec 32 := BitVec.ofNat 32 (i 2).val
  let c4_i32 : BitVec 32 := 4#32
  let v3 : BitVec 32 := Scalar.muli arg2 c4_i32
  let c2_i32 : BitVec 32 := 2#32
  let v496 : BitVec 32 := Scalar.addi v3 c2_i32
  let c128_i32_161 : BitVec 32 := 128#32
  let v498 : BitVec 32 := Scalar.muli v496 c128_i32_161
  v498
def k0_mult12 (i : grid0.Coords) : BitVec 32 :=
  let arg2 : BitVec 32 := BitVec.ofNat 32 (i 2).val
  let c4_i32 : BitVec 32 := 4#32
  let v3 : BitVec 32 := Scalar.muli arg2 c4_i32
  let c3_i32 : BitVec 32 := 3#32
  let v678 : BitVec 32 := Scalar.addi v3 c3_i32
  let c128_i32_214 : BitVec 32 := 128#32
  let v680 : BitVec 32 := Scalar.muli v678 c128_i32_214
  v680
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== ReferenceIdeal.lean ====
abbrev S4x2048x1024 : Shape := ⟨3, ![4, 2048, 1024]⟩
abbrev S4x2048x2048 : Shape := ⟨3, ![4, 2048, 2048]⟩
abbrev S4x2048x16x64 : Shape := ⟨4, ![4, 2048, 16, 64]⟩
abbrev S4x16x2048x2048 : Shape := ⟨4, ![4, 16, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x16x64x2048 : Shape := ⟨4, ![4, 16, 64, 2048]⟩
abbrev S4x16x2048x64 : Shape := ⟨4, ![4, 16, 2048, 64]⟩

abbrev nBuf : Space → Nat
  | .hbm => 182
  | .vmem => 0
  | .smem => 0
  | _ => 0

abbrev hbmTy0_0 (i : Nat) : BufTy := match i % 128 with
  | 0 => ⟨S4x2048x1024, .bf16⟩
  | 1 => ⟨S4x2048x2048, .bf16⟩
  | 2 => ⟨S4x2048x1024, .bf16⟩
  | 3 => ⟨S4x2048x1024, .f32⟩
  | 4 => ⟨S4x2048x1024, .f32⟩
  | 5 => ⟨S4x2048x1024, .f32⟩
  | 6 => ⟨S4x2048x2048, .f32⟩
  | 7 => ⟨S4x2048x1024, .f32⟩
  | 8 => ⟨S4x2048x1024, .f32⟩
  | 9 => ⟨S4x2048x1024, .f32⟩
  | 10 => ⟨S4x2048x16x64, .f32⟩
  | 11 => ⟨S4x2048x16x64, .f32⟩
  | 12 => ⟨S4x2048x16x64, .f32⟩
  | 13 => ⟨S4x16x2048x2048, .f32⟩
  | 14 => ⟨S_, .f32⟩
  | 15 => ⟨S4x16x2048x2048, .f32⟩
  | 16 => ⟨S4x16x2048x2048, .f32⟩
  | 17 => ⟨S2048, .i32⟩
  | 18 => ⟨S2048x1, .i32⟩
  | 19 => ⟨S2048, .i32⟩
  | 20 => ⟨S1x2048, .i32⟩
  | 21 => ⟨S2048x2048, .i32⟩
  | 22 => ⟨S2048x2048, .i32⟩
  | 23 => ⟨S2048x2048, .i1⟩
  | 24 => ⟨S4x16x2048x2048, .f32⟩
  | 25 => ⟨S_, .f32⟩
  | 26 => ⟨S4x16x2048x2048, .f32⟩
  | 27 => ⟨S4x16x2048x2048, .f32⟩
  | 28 => ⟨S4x16x2048x2048, .f32⟩
  | 29 => ⟨S4x16x2048x2048, .f32⟩
  | 30 => ⟨S4x16x2048x2048, .i1⟩
  | 31 => ⟨S4x16x2048x2048, .f32⟩
  | 32 => ⟨S4x16x2048x2048, .f32⟩
  | 33 => ⟨S4x16x2048x2048, .f32⟩
  | 34 => ⟨S4x16x2048x2048, .f32⟩
  | 35 => ⟨S4x16x2048x2048, .f32⟩
  | 36 => ⟨S4x16x2048x2048, .f32⟩
  | 37 => ⟨S4x16x2048x2048, .f32⟩
  | 38 => ⟨S4x16x2048x2048, .f32⟩
  | 39 => ⟨S_, .f32⟩
  | 40 => ⟨S4x16x2048x2048, .f32⟩
  | 41 => ⟨S4x16x2048x2048, .i1⟩
  | 42 => ⟨S_, .f32⟩
  | 43 => ⟨S4x16x2048x2048, .f32⟩
  | 44 => ⟨S4x16x2048x2048, .f32⟩
  | 45 => ⟨S_, .f32⟩
  | 46 => ⟨S4x16x2048x2048, .f32⟩
  | 47 => ⟨S4x16x2048x2048, .i1⟩
  | 48 => ⟨S_, .f32⟩
  | 49 => ⟨S4x16x2048x2048, .f32⟩
  | 50 => ⟨S4x16x2048x2048, .f32⟩
  | 51 => ⟨S4x16x2048x2048, .f32⟩
  | 52 => ⟨S4x16x2048x2048, .f32⟩
  | 53 => ⟨S_, .f32⟩
  | 54 => ⟨S_, .f32⟩
  | 55 => ⟨S_, .i1⟩
  | 56 => ⟨S_, .f32⟩
  | 57 => ⟨S_, .f32⟩
  | 58 => ⟨S_, .f32⟩
  | 59 => ⟨S_, .f32⟩
  | 60 => ⟨S4x16x2048x2048, .f32⟩
  | 61 => ⟨S4x16x2048x2048, .i1⟩
  | 62 => ⟨S_, .f32⟩
  | 63 => ⟨S4x16x2048x2048, .f32⟩
  | 64 => ⟨S4x16x2048x2048, .f32⟩
  | 65 => ⟨S4x16x2048x2048, .f32⟩
  | 66 => ⟨S4x16x2048x2048, .f32⟩
  | 67 => ⟨S4x16x2048x2048, .f32⟩
  | 68 => ⟨S_, .f32⟩
  | 69 => ⟨S4x16x2048x2048, .f32⟩
  | 70 => ⟨S4x16x2048x2048, .f32⟩
  | 71 => ⟨S4x16x2048x2048, .f32⟩
  | 72 => ⟨S4x16x2048x2048, .f32⟩
  | 73 => ⟨S4x16x2048x2048, .f32⟩
  | 74 => ⟨S_, .f32⟩
  | 75 => ⟨S4x16x2048x2048, .f32⟩
  | 76 => ⟨S4x16x2048x2048, .f32⟩
  | 77 => ⟨S4x16x2048x2048, .f32⟩
  | 78 => ⟨S4x16x2048x2048, .f32⟩
  | 79 => ⟨S4x16x2048x2048, .i1⟩
  | 80 => ⟨S4x16x2048x2048, .f32⟩
  | 81 => ⟨S4x16x2048x2048, .f32⟩
  | 82 => ⟨S4x16x2048x2048, .f32⟩
  | 83 => ⟨S4x16x2048x2048, .f32⟩
  | 84 => ⟨S4x16x2048x2048, .f32⟩
  | 85 => ⟨S4x16x2048x2048, .f32⟩
  | 86 => ⟨S4x16x2048x2048, .f32⟩
  | 87 => ⟨S4x16x2048x2048, .f32⟩
  | 88 => ⟨S_, .f32⟩
  | 89 => ⟨S4x16x2048x2048, .f32⟩
  | 90 => ⟨S4x16x2048x2048, .i1⟩
  | 91 => ⟨S_, .f32⟩
  | 92 => ⟨S4x16x2048x2048, .f32⟩
  | 93 => ⟨S4x16x2048x2048, .f32⟩
  | 94 => ⟨S_, .f32⟩
  | 95 => ⟨S4x16x2048x2048, .f32⟩
  | 96 => ⟨S4x16x2048x2048, .i1⟩
  | 97 => ⟨S_, .f32⟩
  | 98 => ⟨S4x16x2048x2048, .f32⟩
  | 99 => ⟨S4x16x2048x2048, .f32⟩
  | 100 => ⟨S4x16x2048x2048, .f32⟩
  | 101 => ⟨S4x16x2048x2048, .f32⟩
  | 102 => ⟨S_, .f32⟩
  | 103 => ⟨S_, .f32⟩
  | 104 => ⟨S_, .i1⟩
  | 105 => ⟨S_, .f32⟩
  | 106 => ⟨S_, .f32⟩
  | 107 => ⟨S_, .f32⟩
  | 108 => ⟨S_, .f32⟩
  | 109 => ⟨S4x16x2048x2048, .f32⟩
  | 110 => ⟨S4x16x2048x2048, .i1⟩
  | 111 => ⟨S_, .f32⟩
  | 112 => ⟨S4x16x2048x2048, .f32⟩
  | 113 => ⟨S4x16x2048x2048, .f32⟩
  | 114 => ⟨S4x16x2048x2048, .f32⟩
  | 115 => ⟨S4x16x2048x2048, .f32⟩
  | 116 => ⟨S4x16x2048x2048, .f32⟩
  | 117 => ⟨S_, .f32⟩
  | 118 => ⟨S4x16x2048x2048, .f32⟩
  | 119 => ⟨S4x16x2048x2048, .f32⟩
  | 120 => ⟨S4x16x2048x2048, .f32⟩
  | 121 => ⟨S_, .f32⟩
  | 122 => ⟨S_, .f32⟩
  | 123 => ⟨S4x16x2048x2048, .i1⟩
  | 124 => ⟨S4x16x2048x2048, .f32⟩
  | 125 => ⟨S4x16x2048x2048, .f32⟩
  | 126 => ⟨S_, .f32⟩
  | 127 => ⟨S4x16x2048x2048, .f32⟩
  | _ => ⟨S4x2048x1024, .bf16⟩

abbrev hbmTy0_1 (i : Nat) : BufTy := match i % 128 with
  | 0 => ⟨S_, .f32⟩
  | 1 => ⟨S_, .f32⟩
  | 2 => ⟨S4x16x2048x2048, .f32⟩
  | 3 => ⟨S4x16x2048x2048, .f32⟩
  | 4 => ⟨S4x16x2048x2048, .f32⟩
  | 5 => ⟨S4x16x2048x2048, .f32⟩
  | 6 => ⟨S_, .f32⟩
  | 7 => ⟨S_, .f32⟩
  | 8 => ⟨S4x16x2048x2048, .i1⟩
  | 9 => ⟨S4x16x2048x2048, .f32⟩
  | 10 => ⟨S4x16x2048x2048, .f32⟩
  | 11 => ⟨S_, .f32⟩
  | 12 => ⟨S4x16x2048x2048, .f32⟩
  | 13 => ⟨S4x16x64x2048, .f32⟩
  | 14 => ⟨S4x2048x16x64, .f32⟩
  | 15 => ⟨S4x2048x1024, .f32⟩
  | 16 => ⟨S4x2048x16x64, .f32⟩
  | 17 => ⟨S4x16x64x2048, .f32⟩
  | 18 => ⟨S4x16x2048x2048, .f32⟩
  | 19 => ⟨S4x16x64x2048, .f32⟩
  | 20 => ⟨S4x2048x16x64, .f32⟩
  | 21 => ⟨S_, .f32⟩
  | 22 => ⟨S4x16x2048x2048, .f32⟩
  | 23 => ⟨S4x16x2048x2048, .f32⟩
  | 24 => ⟨S4x16x2048x2048, .f32⟩
  | 25 => ⟨S4x16x2048x2048, .f32⟩
  | 26 => ⟨S_, .f32⟩
  | 27 => ⟨S_, .f32⟩
  | 28 => ⟨S4x16x2048x2048, .f32⟩
  | 29 => ⟨S4x16x2048x2048, .f32⟩
  | 30 => ⟨S_, .f32⟩
  | 31 => ⟨S4x16x2048x2048, .f32⟩
  | 32 => ⟨S4x16x2048x2048, .f32⟩
  | 33 => ⟨S4x16x2048x2048, .f32⟩
  | 34 => ⟨S4x16x2048x2048, .f32⟩
  | 35 => ⟨S4x16x2048x2048, .f32⟩
  | 36 => ⟨S4x16x2048x2048, .f32⟩
  | 37 => ⟨S4x16x2048x2048, .f32⟩
  | 38 => ⟨S4x16x2048x2048, .f32⟩
  | 39 => ⟨S4x16x2048x2048, .f32⟩
  | 40 => ⟨S4x16x2048x2048, .f32⟩
  | 41 => ⟨S_, .f32⟩
  | 42 => ⟨S4x16x2048x2048, .f32⟩
  | 43 => ⟨S4x16x2048x2048, .f32⟩
  | 44 => ⟨S4x16x2048x64, .f32⟩
  | 45 => ⟨S4x2048x16x64, .f32⟩
  | 46 => ⟨S4x16x2048x64, .f32⟩
  | 47 => ⟨S4x2048x16x64, .f32⟩
  | 48 => ⟨S4x2048x1024, .f32⟩
  | 49 => ⟨S4x2048x1024, .f32⟩
  | 50 => ⟨S4x2048x1024, .f32⟩
  | 51 => ⟨S4x2048x1024, .bf16⟩
  | 52 => ⟨S4x2048x1024, .f32⟩
  | 53 => ⟨S4x2048x1024, .f32⟩
  | _ => ⟨S4x2048x1024, .bf16⟩

abbrev hbmTy (i : Nat) : BufTy := match i / 128 with
  | 0 => hbmTy0_0 i
  | 1 => hbmTy0_1 i
  | _ => ⟨S4x2048x1024, .bf16⟩

abbrev bufTy : (tb : Table) → Fin (tcTables nBuf tb) → BufTy
  | .hbm, ⟨i, _⟩ => hbmTy i
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1_0 : Ref sig .tc := ⟨.hbm, 38, rfl⟩
abbrev main_call0_call0_cst_0 : Ref sig .tc := ⟨.hbm, 39, rfl⟩
abbrev main_call0_call0_v13 : Ref sig .tc := ⟨.hbm, 40, rfl⟩
abbrev main_call0_call0_v14 : Ref sig .tc := ⟨.hbm, 41, rfl⟩
abbrev main_call0_call0_cst_1 : Ref sig .tc := ⟨.hbm, 42, rfl⟩
abbrev main_call0_call0_v15 : Ref sig .tc := ⟨.hbm, 43, rfl⟩
abbrev main_call0_call0_v16 : Ref sig .tc := ⟨.hbm, 44, rfl⟩
abbrev main_call0_call0_cst_2 : Ref sig .tc := ⟨.hbm, 45, rfl⟩
abbrev main_call0_call0_v17 : Ref sig .tc := ⟨.hbm, 46, rfl⟩
abbrev main_call0_call0_v18 : Ref sig .tc := ⟨.hbm, 47, rfl⟩
abbrev main_call0_call0_cst_3 : Ref sig .tc := ⟨.hbm, 48, rfl⟩
abbrev main_call0_call0_v19 : Ref sig .tc := ⟨.hbm, 49, rfl⟩
abbrev main_call0_call0_v20 : Ref sig .tc := ⟨.hbm, 50, rfl⟩
abbrev main_call0_call0_v21 : Ref sig .tc := ⟨.hbm, 51, rfl⟩
abbrev main_v18_1 : Ref sig .tc := ⟨.hbm, 52, rfl⟩
abbrev main_call0_call0_cst_4 : Ref sig .tc := ⟨.hbm, 53, rfl⟩
abbrev main_call0_call0_cst_5 : Ref sig .tc := ⟨.hbm, 54, rfl⟩
abbrev main_call0_call0_v23 : Ref sig .tc := ⟨.hbm, 55, rfl⟩
abbrev main_call0_call0_cst_6 : Ref sig .tc := ⟨.hbm, 56, rfl⟩
abbrev main_call0_call0_cst_7 : Ref sig .tc := ⟨.hbm, 57, rfl⟩
abbrev main_call0_call0_v24 : Ref sig .tc := ⟨.hbm, 58, rfl⟩
abbrev main_call0_call0_cst_8 : Ref sig .tc := ⟨.hbm, 59, rfl⟩
abbrev main_call0_call0_v25 : Ref sig .tc := ⟨.hbm, 60, rfl⟩
abbrev main_call0_call0_v26 : Ref sig .tc := ⟨.hbm, 61, rfl⟩
abbrev main_call0_call0_cst_9 : Ref sig .tc := ⟨.hbm, 62, rfl⟩
abbrev main_call0_call0_v27 : Ref sig .tc := ⟨.hbm, 63, rfl⟩
abbrev main_call0_call0_v28 : Ref sig .tc := ⟨.hbm, 64, rfl⟩
abbrev main_call0_call0_v29 : Ref sig .tc := ⟨.hbm, 65, rfl⟩
abbrev main_call0_call0_v30 : Ref sig .tc := ⟨.hbm, 66, rfl⟩
abbrev main_call0_call0_v31 : Ref sig .tc := ⟨.hbm, 67, rfl⟩
abbrev main_call0_call0_cst_10 : Ref sig .tc := ⟨.hbm, 68, rfl⟩
abbrev main_call0_call0_v32 : Ref sig .tc := ⟨.hbm, 69, rfl⟩
abbrev main_v18_2 : Ref sig .tc := ⟨.hbm, 70, rfl⟩
abbrev main_v18_0 : Ref sig .tc := ⟨.hbm, 71, rfl⟩
abbrev main_v19 : Ref sig .tc := ⟨.hbm, 72, rfl⟩
abbrev main_call1_v0 : Ref sig .tc := ⟨.hbm, 73, rfl⟩
abbrev main_call1_call0_cst : Ref sig .tc := ⟨.hbm, 74, rfl⟩
abbrev main_call1_call0_v0 : Ref sig .tc := ⟨.hbm, 75, rfl⟩
abbrev main_call1_call0_v1 : Ref sig .tc := ⟨.hbm, 76, rfl⟩
abbrev main_call1_call0_v2 : Ref sig .tc := ⟨.hbm, 77, rfl⟩
abbrev main_call1_call0_v3 : Ref sig .tc := ⟨.hbm, 78, rfl⟩
abbrev main_call1_call0_v4 : Ref sig .tc := ⟨.hbm, 79, rfl⟩
abbrev main_call1_call0_v5 : Ref sig .tc := ⟨.hbm, 80, rfl⟩
abbrev main_call1_call0_v6 : Ref sig .tc := ⟨.hbm, 81, rfl⟩
abbrev main_call1_call0_v7 : Ref sig .tc := ⟨.hbm, 82, rfl⟩
abbrev main_call1_call0_v8 : Ref sig .tc := ⟨.hbm, 83, rfl⟩
abbrev main_call1_call0_v9 : Ref sig .tc := ⟨.hbm, 84, rfl⟩
abbrev main_call1_call0_v10 : Ref sig .tc := ⟨.hbm, 85, rfl⟩
abbrev main_call1_call0_v11 : Ref sig .tc := ⟨.hbm, 86, rfl⟩
abbrev main_call1_v1_0 : Ref sig .tc := ⟨.hbm, 87, rfl⟩
abbrev main_call1_call0_cst_0 : Ref sig .tc := ⟨.hbm, 88, rfl⟩
abbrev main_call1_call0_v13 : Ref sig .tc := ⟨.hbm, 89, rfl⟩
abbrev main_call1_call0_v14 : Ref sig .tc := ⟨.hbm, 90, rfl⟩
abbrev main_call1_call0_cst_1 : Ref sig .tc := ⟨.hbm, 91, rfl⟩
abbrev main_call1_call0_v15 : Ref sig .tc := ⟨.hbm, 92, rfl⟩
abbrev main_call1_call0_v16 : Ref sig .tc := ⟨.hbm, 93, rfl⟩
abbrev main_call1_call0_cst_2 : Ref sig .tc := ⟨.hbm, 94, rfl⟩
abbrev main_call1_call0_v17 : Ref sig .tc := ⟨.hbm, 95, rfl⟩
abbrev main_call1_call0_v18 : Ref sig .tc := ⟨.hbm, 96, rfl⟩
abbrev main_call1_call0_cst_3 : Ref sig .tc := ⟨.hbm, 97, rfl⟩
abbrev main_call1_call0_v19 : Ref sig .tc := ⟨.hbm, 98, rfl⟩
abbrev main_call1_call0_v20 : Ref sig .tc := ⟨.hbm, 99, rfl⟩
abbrev main_call1_call0_v21 : Ref sig .tc := ⟨.hbm, 100, rfl⟩
abbrev main_v20_1 : Ref sig .tc := ⟨.hbm, 101, rfl⟩
abbrev main_call1_call0_cst_4 : Ref sig .tc := ⟨.hbm, 102, rfl⟩
abbrev main_call1_call0_cst_5 : Ref sig .tc := ⟨.hbm, 103, rfl⟩
abbrev main_call1_call0_v23 : Ref sig .tc := ⟨.hbm, 104, rfl⟩
abbrev main_call1_call0_cst_6 : Ref sig .tc := ⟨.hbm, 105, rfl⟩
abbrev main_call1_call0_cst_7 : Ref sig .tc := ⟨.hbm, 106, rfl⟩
abbrev main_call1_call0_v24 : Ref sig .tc := ⟨.hbm, 107, rfl⟩
abbrev main_call1_call0_cst_8 : Ref sig .tc := ⟨.hbm, 108, rfl⟩
abbrev main_call1_call0_v25 : Ref sig .tc := ⟨.hbm, 109, rfl⟩
abbrev main_call1_call0_v26 : Ref sig .tc := ⟨.hbm, 110, rfl⟩
abbrev main_call1_call0_cst_9 : Ref sig .tc := ⟨.hbm, 111, rfl⟩
abbrev main_call1_call0_v27 : Ref sig .tc := ⟨.hbm, 112, rfl⟩
abbrev main_call1_call0_v28 : Ref sig .tc := ⟨.hbm, 113, rfl⟩
abbrev main_call1_call0_v29 : Ref sig .tc := ⟨.hbm, 114, rfl⟩
abbrev main_call1_call0_v30 : Ref sig .tc := ⟨.hbm, 115, rfl⟩
abbrev main_call1_call0_v31 : Ref sig .tc := ⟨.hbm, 116, rfl⟩
abbrev main_call1_call0_cst_10 : Ref sig .tc := ⟨.hbm, 117, rfl⟩
abbrev main_call1_call0_v32 : Ref sig .tc := ⟨.hbm, 118, rfl⟩
abbrev main_v20_2 : Ref sig .tc := ⟨.hbm, 119, rfl⟩
abbrev main_v20_0 : Ref sig .tc := ⟨.hbm, 120, rfl⟩
abbrev main_cst_0 : Ref sig .tc := ⟨.hbm, 121, rfl⟩
abbrev main_call2_v0 : Ref sig .tc := ⟨.hbm, 122, rfl⟩
abbrev main_v21_1 : Ref sig .tc := ⟨.hbm, 123, rfl⟩
abbrev main_call2_v2 : Ref sig .tc := ⟨.hbm, 124, rfl⟩
abbrev main_v21_0 : Ref sig .tc := ⟨.hbm, 125, rfl⟩
abbrev main_call2_cst : Ref sig .tc := ⟨.hbm, 126, rfl⟩
abbrev main_v21_2 : Ref sig .tc := ⟨.hbm, 127, rfl⟩
abbrev main_call3_cst : Ref sig .tc := ⟨.hbm, 128, rfl⟩
abbrev main_call3_v0 : Ref sig .tc := ⟨.hbm, 129, rfl⟩
abbrev main_v22 : Ref sig .tc := ⟨.hbm, 130, rfl⟩
abbrev main_v23 : Ref sig .tc := ⟨.hbm, 131, rfl⟩
abbrev main_v24 : Ref sig .tc := ⟨.hbm, 132, rfl⟩
abbrev main_v25 : Ref sig .tc := ⟨.hbm, 133, rfl⟩
abbrev main_cst_1 : Ref sig .tc := ⟨.hbm, 134, rfl⟩
abbrev main_call4_v0 : Ref sig .tc := ⟨.hbm, 135, rfl⟩
abbrev main_v26_1 : Ref sig .tc := ⟨.hbm, 136, rfl⟩
abbrev main_call4_v2 : Ref sig .tc := ⟨.hbm, 137, rfl⟩
abbrev main_v26_0 : Ref sig .tc := ⟨.hbm, 138, rfl⟩
abbrev main_call4_cst : Ref sig .tc := ⟨.hbm, 139, rfl⟩
abbrev main_v26_2 : Ref sig .tc := ⟨.hbm, 140, rfl⟩
abbrev main_v27 : Ref sig .tc := ⟨.hbm, 141, rfl⟩
abbrev main_v28 : Ref sig .tc := ⟨.hbm, 142, rfl⟩
abbrev main_v29 : Ref sig .tc := ⟨.hbm, 143, rfl⟩
abbrev main_v30 : Ref sig .tc := ⟨.hbm, 144, rfl⟩
abbrev main_v31 : Ref sig .tc := ⟨.hbm, 145, rfl⟩
abbrev main_v32 : Ref sig .tc := ⟨.hbm, 146, rfl⟩
abbrev main_v33 : Ref sig .tc := ⟨.hbm, 147, rfl⟩
abbrev main_v34 : Ref sig .tc := ⟨.hbm, 148, rfl⟩
abbrev main_call5_cst : Ref sig .tc := ⟨.hbm, 149, rfl⟩
abbrev main_call5_v0 : Ref sig .tc := ⟨.hbm, 150, rfl⟩
abbrev main_v35 : Ref sig .tc := ⟨.hbm, 151, rfl⟩
abbrev main_v36 : Ref sig .tc := ⟨.hbm, 152, rfl⟩
abbrev main_v37 : Ref sig .tc := ⟨.hbm, 153, rfl⟩
abbrev main_call6_cst : Ref sig .tc := ⟨.hbm, 154, rfl⟩
abbrev main_call6_v0 : Ref sig .tc := ⟨.hbm, 155, rfl⟩
abbrev main_v38 : Ref sig .tc := ⟨.hbm, 156, rfl⟩
abbrev main_v39 : Ref sig .tc := ⟨.hbm, 157, rfl⟩
abbrev main_call7_cst : Ref sig .tc := ⟨.hbm, 158, rfl⟩
abbrev main_call7_v0 : Ref sig .tc := ⟨.hbm, 159, rfl⟩
abbrev main_v40 : Ref sig .tc := ⟨.hbm, 160, rfl⟩
abbrev main_call8_v0 : Ref sig .tc := ⟨.hbm, 161, rfl⟩
abbrev main_call8_v1 : Ref sig .tc := ⟨.hbm, 162, rfl⟩
abbrev main_v41 : Ref sig .tc := ⟨.hbm, 163, rfl⟩
abbrev main_v42 : Ref sig .tc := ⟨.hbm, 164, rfl⟩
abbrev main_call9_v0 : Ref sig .tc := ⟨.hbm, 165, rfl⟩
abbrev main_call9_v1 : Ref sig .tc := ⟨.hbm, 166, rfl⟩
abbrev main_v43 : Ref sig .tc := ⟨.hbm, 167, rfl⟩
abbrev main_v44 : Ref sig .tc := ⟨.hbm, 168, rfl⟩
abbrev main_cst_2 : Ref sig .tc := ⟨.hbm, 169, rfl⟩
abbrev main_v45 : Ref sig .tc := ⟨.hbm, 170, rfl⟩
abbrev main_v46 : Ref sig .tc := ⟨.hbm, 171, rfl⟩
abbrev main_v47 : Ref sig .tc := ⟨.hbm, 172, rfl⟩
abbrev main_v48 : Ref sig .tc := ⟨.hbm, 173, rfl⟩
abbrev main_v49 : Ref sig .tc := ⟨.hbm, 174, rfl⟩
abbrev main_v50 : Ref sig .tc := ⟨.hbm, 175, rfl⟩
abbrev main_v51 : Ref sig .tc := ⟨.hbm, 176, rfl⟩
abbrev main_v52 : Ref sig .tc := ⟨.hbm, 177, rfl⟩
abbrev main_v53 : Ref sig .tc := ⟨.hbm, 178, rfl⟩
abbrev main_v54 : Ref sig .tc := ⟨.hbm, 179, rfl⟩
abbrev main_v55 : Ref sig .tc := ⟨.hbm, 180, rfl⟩
abbrev main_v56 : Ref sig .tc := ⟨.hbm, 181, rfl⟩

abbrev nD : Nat := 1
abbrev τ : Topo := Topo.v7x

variable {F : FTy → Type} [FloatOps F]
-- ==== Kernel2.lean ====
abbrev S2816x1024 : Shape := ⟨2, ![2816, 1024]⟩
abbrev S8192x1024 : Shape := ⟨2, ![8192, 1024]⟩
abbrev S8192x2816 : Shape := ⟨2, ![8192, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2816x1024, .bf16⟩
  | .hbm, ⟨1, _⟩ => ⟨S8192x1024, .bf16⟩
  | .hbm, ⟨2, _⟩ => ⟨S8192x2816, .f32⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .f32⟩
  | .local _ .vmem, ⟨5, _⟩ => ⟨S512x1408, .f32⟩
  | _, _ => ⟨S2816x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2816x1024 : Shape := ⟨2, ![2816, 1024]⟩
abbrev S8192x1024 : Shape := ⟨2, ![8192, 1024]⟩
abbrev S_ : Shape := ⟨0, ![]⟩
abbrev S8192x2816 : Shape := ⟨2, ![8192, 2816]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S2816x1024, .bf16⟩
  | .hbm, ⟨1, _⟩ => ⟨S8192x1024, .bf16⟩
  | .hbm, ⟨2, _⟩ => ⟨S_, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S8192x2816, .f32⟩
  | _, _ => ⟨S2816x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S8192x2816, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S1024x2816 : Shape := ⟨2, ![1024, 2816]⟩
abbrev S8192x2816 : Shape := ⟨2, ![8192, 2816]⟩
abbrev S8192x1024 : Shape := ⟨2, ![8192, 1024]⟩
abbrev S512x2816 : Shape := ⟨2, ![512, 2816]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1024x2816, .bf16⟩
  | .hbm, ⟨1, _⟩ => ⟨S8192x2816, .bf16⟩
  | .hbm, ⟨2, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S1024x2816, .bf16⟩
  | .local _ .vmem, ⟨3, _⟩ => ⟨S512x1024, .f32⟩
  | .local _ .vmem, ⟨4, _⟩ => ⟨S512x1024, .f32⟩
  | _, _ => ⟨S1024x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S1024x2816 : Shape := ⟨2, ![1024, 2816]⟩
abbrev S8192x2816 : Shape := ⟨2, ![8192, 2816]⟩
abbrev S_ : Shape := ⟨0, ![]⟩
abbrev S8192x1024 : Shape := ⟨2, ![8192, 1024]⟩
abbrev S2816x1024 : Shape := ⟨2, ![2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S1024x2816, .bf16⟩
  | .hbm, ⟨1, _⟩ => ⟨S8192x2816, .bf16⟩
  | .hbm, ⟨2, _⟩ => ⟨S_, .f32⟩
  | .hbm, ⟨3, _⟩ => ⟨S8192x1024, .f32⟩
  | .hbm, ⟨4, _⟩ => ⟨S1024x2816, .f32⟩
  | .hbm, ⟨5, _⟩ => ⟨S8192x2816, .f32⟩
  | .hbm, ⟨6, _⟩ => ⟨S8192x2816, .f32⟩
  | .hbm, ⟨7, _⟩ => ⟨S2816x1024, .f32⟩
  | .hbm, ⟨8, _⟩ => ⟨S1024x2816, .f32⟩
  | .hbm, ⟨9, _⟩ => ⟨S8192x1024, .f32⟩
  | _, _ => ⟨S1024x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S1024x2816 : Shape := ⟨2, ![1024, 2816]⟩
abbrev S8192x2816 : Shape := ⟨2, ![8192, 2816]⟩
abbrev S8192x1024 : Shape := ⟨2, ![8192, 1024]⟩
abbrev S512x2816 : Shape := ⟨2, ![512, 2816]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S1024x2816, .bf16⟩
  | .hbm, ⟨1, _⟩ => ⟨S8192x2816, .bf16⟩
  | .hbm, ⟨2, _⟩ => ⟨S8192x1024, .f32⟩
  | .hbm, ⟨3, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S1024x2816, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S1024x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S1024x2816 : Shape := ⟨2, ![1024, 2816]⟩
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩

abbrev nBuf : Space → Nat
  | .hbm => 12
  | .vmem => 0
  | .smem => 0
  | _ => 0

abbrev bufTy : (tb : Table) → Fin (tcTables nBuf tb) → BufTy
  | .hbm, ⟨0, _⟩ => ⟨S1024x2816, .bf16⟩
  | .hbm, ⟨1, _⟩ => ⟨S8192x2816, .bf16⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S1024x2816, .f32⟩
  | .hbm, ⟨6, _⟩ => ⟨S8192x2816, .f32⟩
  | .hbm, ⟨7, _⟩ => ⟨S8192x2816, .f32⟩
  | .hbm, ⟨8, _⟩ => ⟨S2816x1024, .f32⟩
  | .hbm, ⟨9, _⟩ => ⟨S1024x2816, .f32⟩
  | .hbm, ⟨10, _⟩ => ⟨S8192x1024, .f32⟩
  | .hbm, ⟨11, _⟩ => ⟨S8192x1024, .f32⟩
  | _, _ => ⟨S1024x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel6.lean ====
abbrev S8192x1024 : Shape := ⟨2, ![8192, 1024]⟩
abbrev S8192x2816 : Shape := ⟨2, ![8192, 2816]⟩
abbrev S1024x2816 : Shape := ⟨2, ![1024, 2816]⟩
abbrev S2048x512 : Shape := ⟨2, ![2048, 512]⟩
abbrev S2048x1408 : Shape := ⟨2, ![2048, 1408]⟩
abbrev S512x1408 : Shape := ⟨2, ![512, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S1024x2816, .f32⟩
  | .local _ .vmem, ⟨0, _⟩ => ⟨S2048x512, .bf16⟩
  | .local _ .vmem, ⟨1, _⟩ => ⟨S2048x512, .bf16⟩
  | .local _ .vmem, ⟨2, _⟩ => ⟨S2048x1408, .bf16⟩
  | .local _ .vmem, ⟨3, _⟩ => ⟨S2048x1408, .bf16⟩
  | .local _ .vmem, ⟨4, _⟩ => ⟨S512x1408, .f32⟩
  | .local _ .vmem, ⟨5, _⟩ => ⟨S512x1408, .f32⟩
  | .local _ .vmem, ⟨6, _⟩ => ⟨S512x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S_, .f32⟩
  | .hbm, ⟨3, _⟩ => ⟨S1024x2816, .f32⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S2816x1024, .f32⟩
  | .hbm, ⟨8, _⟩ => ⟨S1024x2816, .f32⟩
  | .hbm, ⟨9, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S1x1024, .f32⟩
  | .hbm, ⟨6, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 49
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Kernel8.lean ====
abbrev S8192x1024 : Shape := ⟨2, ![8192, 1024]⟩
abbrev S512x1024 : Shape := ⟨2, ![512, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .bf16⟩
  | .hbm, ⟨4, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference8Ideal.lean ====
abbrev S8192x1024 : Shape := ⟨2, ![8192, 1024]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel9.lean ====
abbrev S8192x1024 : Shape := ⟨2, ![8192, 1024]⟩
abbrev S1024x2816 : Shape := ⟨2, ![1024, 2816]⟩
abbrev S8192x2816 : Shape := ⟨2, ![8192, 2816]⟩
abbrev S512x1024 : Shape := ⟨2, ![512, 1024]⟩
abbrev S1024x1408 : Shape := ⟨2, ![1024, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S8192x2816, .f32⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S512x1408, .f32⟩
  | .local _ .vmem, ⟨5, _⟩ => ⟨S512x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S1024x2816 : Shape := ⟨2, ![1024, 2816]⟩
abbrev S8192x2816 : Shape := ⟨2, ![8192, 2816]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S8192x1024, .f32⟩
  | .hbm, ⟨3, _⟩ => ⟨S1024x2816, .f32⟩
  | .hbm, ⟨4, _⟩ => ⟨S8192x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel10.lean ====
abbrev S8192x2816 : Shape := ⟨2, ![8192, 2816]⟩
abbrev S2816x1024 : Shape := ⟨2, ![2816, 1024]⟩
abbrev S8192x1024 : Shape := ⟨2, ![8192, 1024]⟩
abbrev S512x2816 : Shape := ⟨2, ![512, 2816]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference10Ideal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel11.lean ====
abbrev S8192x1024 : Shape := ⟨2, ![8192, 1024]⟩
abbrev S1024x1024 : Shape := ⟨2, ![1024, 1024]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S1024x1024 : Shape := ⟨2, ![1024, 1024]⟩
abbrev S8192x1024 : Shape := ⟨2, ![8192, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1024x1024, .bf16⟩
  | .hbm, ⟨1, _⟩ => ⟨S8192x1024, .bf16⟩
  | .hbm, ⟨2, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S1024x1024 : Shape := ⟨2, ![1024, 1024]⟩
abbrev S8192x1024 : Shape := ⟨2, ![8192, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S8192x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S8192x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S2048x1024 : Shape := ⟨2, ![2048, 1024]⟩
abbrev S8192x1024 : Shape := ⟨2, ![8192, 1024]⟩
abbrev S8192x2048 : Shape := ⟨2, ![8192, 2048]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S8192x1024, .bf16⟩
  | .hbm, ⟨2, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S2048x1024 : Shape := ⟨2, ![2048, 1024]⟩
abbrev S8192x1024 : Shape := ⟨2, ![8192, 1024]⟩
abbrev S_ : Shape := ⟨0, ![]⟩
abbrev S8192x2048 : Shape := ⟨2, ![8192, 2048]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S8192x1024, .bf16⟩
  | .hbm, ⟨2, _⟩ => ⟨S_, .f32⟩
  | .hbm, ⟨3, _⟩ => ⟨S8192x2048, .f32⟩
  | .hbm, ⟨4, _⟩ => ⟨S2048x1024, .f32⟩
  | .hbm, ⟨5, _⟩ => ⟨S8192x1024, .f32⟩
  | .hbm, ⟨6, _⟩ => ⟨S8192x1024, .f32⟩
  | .hbm, ⟨7, _⟩ => ⟨S1024x2048, .f32⟩
  | .hbm, ⟨8, _⟩ => ⟨S2048x1024, .f32⟩
  | .hbm, ⟨9, _⟩ => ⟨S8192x2048, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel14.lean ====
abbrev S8192x2048 : Shape := ⟨2, ![8192, 2048]⟩
abbrev S8192x1024 : Shape := ⟨2, ![8192, 1024]⟩
abbrev S2048x1024 : Shape := ⟨2, ![2048, 1024]⟩
abbrev S2048x512 : Shape := ⟨2, ![2048, 512]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S_, .f32⟩
  | .hbm, ⟨3, _⟩ => ⟨S2048x1024, .f32⟩
  | .hbm, ⟨4, _⟩ => ⟨S8192x2048, .f32⟩
  | .hbm, ⟨5, _⟩ => ⟨S8192x1024, .f32⟩
  | .hbm, ⟨6, _⟩ => ⟨S8192x1024, .f32⟩
  | .hbm, ⟨7, _⟩ => ⟨S1024x2048, .f32⟩
  | .hbm, ⟨8, _⟩ => ⟨S2048x1024, .f32⟩
  | .hbm, ⟨9, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel15.lean ====
abbrev S8192x1024 : Shape := ⟨2, ![8192, 1024]⟩
abbrev S8192x2048 : Shape := ⟨2, ![8192, 2048]⟩
abbrev S1024x2048 : Shape := ⟨2, ![1024, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S_, .f32⟩
  | .hbm, ⟨3, _⟩ => ⟨S1024x2048, .f32⟩
  | .hbm, ⟨4, _⟩ => ⟨S8192x1024, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | .hbm, ⟨9, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel16.lean ====
abbrev S1024x2048 : Shape := ⟨2, ![1024, 2048]⟩
abbrev S8192x2048 : Shape := ⟨2, ![8192, 2048]⟩
abbrev S8192x1024 : Shape := ⟨2, ![8192, 1024]⟩
abbrev S512x2048 : Shape := ⟨2, ![512, 2048]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1024x2048, .bf16⟩
  | .hbm, ⟨1, _⟩ => ⟨S8192x2048, .bf16⟩
  | .hbm, ⟨2, _⟩ => ⟨S8192x1024, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S512x1024, .f32⟩
  | .local _ .vmem, ⟨4, _⟩ => ⟨S512x1024, .f32⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S1024x2048 : Shape := ⟨2, ![1024, 2048]⟩
abbrev S8192x2048 : Shape := ⟨2, ![8192, 2048]⟩
abbrev S_ : Shape := ⟨0, ![]⟩
abbrev S8192x1024 : Shape := ⟨2, ![8192, 1024]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S8192x2048, .bf16⟩
  | .hbm, ⟨2, _⟩ => ⟨S_, .f32⟩
  | .hbm, ⟨3, _⟩ => ⟨S8192x1024, .f32⟩
  | .hbm, ⟨4, _⟩ => ⟨S1024x2048, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | .hbm, ⟨9, _⟩ => ⟨S8192x1024, .f32⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel17.lean ====
abbrev S8192x1024 : Shape := ⟨2, ![8192, 1024]⟩
abbrev S8192x3072 : Shape := ⟨2, ![8192, 3072]⟩
abbrev S1024x3072 : Shape := ⟨2, ![1024, 3072]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x3072, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S_, .f32⟩
  | .hbm, ⟨3, _⟩ => ⟨S1024x3072, .f32⟩
  | .hbm, ⟨4, _⟩ => ⟨S8192x1024, .f32⟩
  | .hbm, ⟨5, _⟩ => ⟨S8192x3072, .f32⟩
  | .hbm, ⟨6, _⟩ => ⟨S8192x3072, .f32⟩
  | .hbm, ⟨7, _⟩ => ⟨S3072x1024, .f32⟩
  | .hbm, ⟨8, _⟩ => ⟨S1024x3072, .f32⟩
  | .hbm, ⟨9, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel18.lean ====
abbrev S1024x3072 : Shape := ⟨2, ![1024, 3072]⟩
abbrev S8192x3072 : Shape := ⟨2, ![8192, 3072]⟩
abbrev S8192x1024 : Shape := ⟨2, ![8192, 1024]⟩
abbrev S512x1024 : Shape := ⟨2, ![512, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S1024x3072, .bf16⟩
  | .hbm, ⟨1, _⟩ => ⟨S8192x3072, .bf16⟩
  | .hbm, ⟨2, _⟩ => ⟨S8192x1024, .f32⟩
  | .hbm, ⟨3, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S1024x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 1, 3], ![false, false, false]⟩

def k0_cond3 (i : grid0.Coords) : BitVec 1 :=
  let arg2 : BitVec 32 := BitVec.ofNat 32 (i 2).val
  let c2_i32_6 : BitVec 32 := 2#32
  let v11 : BitVec 1 := Scalar.cmpi .eq arg2 c2_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference18Ideal.lean ====
abbrev S1024x3072 : Shape := ⟨2, ![1024, 3072]⟩
abbrev S8192x3072 : Shape := ⟨2, ![8192, 3072]⟩
abbrev S8192x1024 : Shape := ⟨2, ![8192, 1024]⟩
abbrev S_ : Shape := ⟨0, ![]⟩
abbrev S3072x1024 : Shape := ⟨2, ![3072, 1024]⟩

abbrev nBuf : Space → Nat
  | .hbm => 12
  | .vmem => 0
  | .smem => 0
  | _ => 0

abbrev bufTy : (tb : Table) → Fin (tcTables nBuf tb) → BufTy
  | .hbm, ⟨0, _⟩ => ⟨S1024x3072, .bf16⟩
  | .hbm, ⟨1, _⟩ => ⟨S8192x3072, .bf16⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S1024x3072, .f32⟩
  | .hbm, ⟨6, _⟩ => ⟨S8192x3072, .f32⟩
  | .hbm, ⟨7, _⟩ => ⟨S8192x3072, .f32⟩
  | .hbm, ⟨8, _⟩ => ⟨S3072x1024, .f32⟩
  | .hbm, ⟨9, _⟩ => ⟨S1024x3072, .f32⟩
  | .hbm, ⟨10, _⟩ => ⟨S8192x1024, .f32⟩
  | .hbm, ⟨11, _⟩ => ⟨S8192x1024, .f32⟩
  | _, _ => ⟨S1024x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel19.lean ====
abbrev S4x2048x3072 : Shape := ⟨3, ![4, 2048, 3072]⟩
abbrev S8x3072 : Shape := ⟨2, ![8, 3072]⟩
abbrev S1x3072 : Shape := ⟨2, ![1, 3072]⟩
abbrev S1x512x512 : Shape := ⟨3, ![1, 512, 512]⟩
abbrev S1x8x512 : Shape := ⟨3, ![1, 8, 512]⟩
abbrev S8x512 : Shape := ⟨2, ![8, 512]⟩
abbrev S1x512 : Shape := ⟨2, ![1, 512]⟩
abbrev S512x512 : Shape := ⟨2, ![512, 512]⟩
abbrev S528x512 : Shape := ⟨2, ![528, 512]⟩
abbrev S520x512 : Shape := ⟨2, ![520, 512]⟩
abbrev S512 : Shape := ⟨1, ![512]⟩

abbrev nBuf : Space → Nat
  | .hbm => 7
  | .vmem => 20
  | .smem => 0
  | _ => 0

abbrev bufTy : (tb : Table) → Fin (tcTables nBuf tb) → BufTy
  | .hbm, ⟨0, _⟩ => ⟨S4x2048x3072, .f32⟩
  | .hbm, ⟨1, _⟩ => ⟨S4x2048x3072, .f32⟩
  | .hbm, ⟨2, _⟩ => ⟨S8x3072, .f32⟩
  | .hbm, ⟨3, _⟩ => ⟨S1x3072, .f32⟩
  | .hbm, ⟨4, _⟩ => ⟨S4x2048x3072, .bf16⟩
  | .hbm, ⟨5, _⟩ => ⟨S8x3072, .f32⟩
  | .hbm, ⟨6, _⟩ => ⟨S1x3072, .f32⟩
  | .local _ .vmem, ⟨0, _⟩ => ⟨S1x512x512, .f32⟩
  | .local _ .vmem, ⟨1, _⟩ => ⟨S1x512x512, .f32⟩
  | .local _ .vmem, ⟨2, _⟩ => ⟨S1x8x512, .f32⟩
  | .local _ .vmem, ⟨3, _⟩ => ⟨S1x8x512, .f32⟩
  | .local _ .vmem, ⟨4, _⟩ => ⟨S1x8x512, .f32⟩
  | .local _ .vmem, ⟨5, _⟩ => ⟨S1x8x512, .f32⟩
  | .local _ .vmem, ⟨6, _⟩ => ⟨S1x512x512, .f32⟩
  | .local _ .vmem, ⟨7, _⟩ => ⟨S1x512x512, .f32⟩
  | .local _ .vmem, ⟨8, _⟩ => ⟨S1x8x512, .f32⟩
  | .local _ .vmem, ⟨9, _⟩ => ⟨S1x8x512, .f32⟩
  | .local _ .vmem, ⟨10, _⟩ => ⟨S8x512, .f32⟩
  | .local _ .vmem, ⟨11, _⟩ => ⟨S8x512, .f32⟩
  | .local _ .vmem, ⟨12, _⟩ => ⟨S1x512, .f32⟩
  | .local _ .vmem, ⟨13, _⟩ => ⟨S1x512, .f32⟩
  | .local _ .vmem, ⟨14, _⟩ => ⟨S1x512x512, .bf16⟩
  | .local _ .vmem, ⟨15, _⟩ => ⟨S1x512x512, .bf16⟩
  | .local _ .vmem, ⟨16, _⟩ => ⟨S8x512, .f32⟩
  | .local _ .vmem, ⟨17, _⟩ => ⟨S8x512, .f32⟩
  | .local _ .vmem, ⟨18, _⟩ => ⟨S1x512, .f32⟩
  | .local _ .vmem, ⟨19, _⟩ => ⟨S1x512, .f32⟩
  | _, _ => ⟨S4x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![6, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg2 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![arg1.toNat, v2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  ![arg1.toNat, v2.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  ![arg1.toNat, v2.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]
-- ==== Reference19Ideal.lean ====
abbrev S4x2048x3072 : Shape := ⟨3, ![4, 2048, 3072]⟩
abbrev S8x3072 : Shape := ⟨2, ![8, 3072]⟩
abbrev S1x3072 : Shape := ⟨2, ![1, 3072]⟩
abbrev S_ : Shape := ⟨0, ![]⟩
abbrev S4x3x3072 : Shape := ⟨3, ![4, 3, 3072]⟩
abbrev S4x2051x3072 : Shape := ⟨3, ![4, 2051, 3072]⟩
abbrev S3072 : Shape := ⟨1, ![3072]⟩
abbrev S1x1x3072 : Shape := ⟨3, ![1, 1, 3072]⟩

abbrev nBuf : Space → Nat
  | .hbm => 126
  | .vmem => 0
  | .smem => 0
  | _ => 0

abbrev bufTy : (tb : Table) → Fin (tcTables nBuf tb) → BufTy
  | .hbm, ⟨0, _⟩ => ⟨S4x2048x3072, .f32⟩
  | .hbm, ⟨1, _⟩ => ⟨S4x2048x3072, .f32⟩
  | .hbm, ⟨2, _⟩ => ⟨S8x3072, .f32⟩
  | .hbm, ⟨3, _⟩ => ⟨S1x3072, .f32⟩
  | .hbm, ⟨4, _⟩ => ⟨S_, .f32⟩
  | .hbm, ⟨5, _⟩ => ⟨S4x3x3072, .f32⟩
  | .hbm, ⟨6, _⟩ => ⟨S4x2051x3072, .f32⟩
  | .hbm, ⟨7, _⟩ => ⟨S_, .f32⟩
  | .hbm, ⟨8, _⟩ => ⟨S4x3x3072, .f32⟩
  | .hbm, ⟨9, _⟩ => ⟨S1x3072, .f32⟩
  | .hbm, ⟨10, _⟩ => ⟨S3072, .f32⟩
  | .hbm, ⟨11, _⟩ => ⟨S4x2048x3072, .f32⟩
  | .hbm, ⟨12, _⟩ => ⟨S1x1x3072, .f32⟩
  | .hbm, ⟨13, _⟩ => ⟨S4x2048x3072, .f32⟩
  | .hbm, ⟨14, _⟩ => ⟨S4x2048x3072, .f32⟩
  | .hbm, ⟨15, _⟩ => ⟨S_, .f32⟩
  | .hbm, ⟨16, _⟩ => ⟨S4x2048x3072, .f32⟩
  | .hbm, ⟨17, _⟩ => ⟨S4x2048x3072, .f32⟩
  | .hbm, ⟨18, _⟩ => ⟨S1x3072, .f32⟩
  | .hbm, ⟨19, _⟩ => ⟨S3072, .f32⟩
  | .hbm, ⟨20, _⟩ => ⟨S4x2048x3072, .f32⟩
  | .hbm, ⟨21, _⟩ => ⟨S1x1x3072, .f32⟩
  | .hbm, ⟨22, _⟩ => ⟨S4x2048x3072, .f32⟩
  | .hbm, ⟨23, _⟩ => ⟨S4x2048x3072, .f32⟩
  | .hbm, ⟨24, _⟩ => ⟨S4x2048x3072, .f32⟩
  | .hbm, ⟨25, _⟩ => ⟨S1x3072, .f32⟩
  | .hbm, ⟨26, _⟩ => ⟨S3072, .f32⟩
  | .hbm, ⟨27, _⟩ => ⟨S4x2048x3072, .f32⟩
  | .hbm, ⟨28, _⟩ => ⟨S1x1x3072, .f32⟩
  | .hbm, ⟨29, _⟩ => ⟨S4x2048x3072, .f32⟩
  | .hbm, ⟨30, _⟩ => ⟨S4x2048x3072, .f32⟩
  | .hbm, ⟨31, _⟩ => ⟨S4x2048x3072, .f32⟩
  | .hbm, ⟨32, _⟩ => ⟨S1x3072, .f32⟩
  | .hbm, ⟨33, _⟩ => ⟨S3072, .f32⟩
  | .hbm, ⟨34, _⟩ => ⟨S4x2048x3072, .f32⟩
  | .hbm, ⟨35, _⟩ => ⟨S1x1x3072, .f32⟩
  | .hbm, ⟨36, _⟩ => ⟨S4x2048x3072, .f32⟩
  | .hbm, ⟨37, _⟩ => ⟨S4x2048x3072, .f32⟩
  | .hbm, ⟨38, _⟩ => ⟨S4x2048x3072, .f32⟩
  | .hbm, ⟨39, _⟩ => ⟨S1x1x3072, .f32⟩
  | .hbm, ⟨40, _⟩ => ⟨S4x2048x3072, .f32⟩
  | .hbm, ⟨41, _⟩ => ⟨S4x2048x3072, .f32⟩
  | .hbm, ⟨42, _⟩ => ⟨S4x2048x3072, .f32⟩
  | .hbm, ⟨43, _⟩ => ⟨S4x2048x3072, .f32⟩
  | .hbm, ⟨44, _⟩ => ⟨S_, .f32⟩
  | .hbm, ⟨45, _⟩ => ⟨S4x2048x3072, .f32⟩
  | .hbm, ⟨46, _⟩ => ⟨S4x2048x3072, .f32⟩
  | .hbm, ⟨47, _⟩ => ⟨S_, .f32⟩
  | .hbm, ⟨48, _⟩ => ⟨S4x2048x3072, .f32⟩
  | .hbm, ⟨49, _⟩ => ⟨S4x2048x3072, .f32⟩
  | .hbm, ⟨50, _⟩ => ⟨S_, .f32⟩
  | .hbm, ⟨51, _⟩ => ⟨S4x2048x3072, .f32⟩
  | .hbm, ⟨52, _⟩ => ⟨S4x2048x3072, .f32⟩
  | .hbm, ⟨53, _⟩ => ⟨S4x2048x3072, .f32⟩
  | .hbm, ⟨54, _⟩ => ⟨S4x2048x3072, .f32⟩
  | .hbm, ⟨55, _⟩ => ⟨S4x2048x3072, .f32⟩
  | .hbm, ⟨56, _⟩ => ⟨S4x2048x3072, .f32⟩
  | .hbm, ⟨57, _⟩ => ⟨S4x2048x3072, .f32⟩
  | .hbm, ⟨58, _⟩ => ⟨S4x2048x3072, .f32⟩
  | .hbm, ⟨59, _⟩ => ⟨S_, .f32⟩
  | .hbm, ⟨60, _⟩ => ⟨S3072, .f32⟩
  | .hbm, ⟨61, _⟩ => ⟨S1x1x3072, .f32⟩
  | .hbm, ⟨62, _⟩ => ⟨S_, .f32⟩
  | .hbm, ⟨63, _⟩ => ⟨S3072, .f32⟩
  | .hbm, ⟨64, _⟩ => ⟨S1x3072, .f32⟩
  | .hbm, ⟨65, _⟩ => ⟨S4x2048x3072, .f32⟩
  | .hbm, ⟨66, _⟩ => ⟨S4x2048x3072, .f32⟩
  | .hbm, ⟨67, _⟩ => ⟨S4x2048x3072, .f32⟩
  | .hbm, ⟨68, _⟩ => ⟨S_, .f32⟩
  | .hbm, ⟨69, _⟩ => ⟨S3072, .f32⟩
  | .hbm, ⟨70, _⟩ => ⟨S1x1x3072, .f32⟩
  | .hbm, ⟨71, _⟩ => ⟨S_, .f32⟩
  | .hbm, ⟨72, _⟩ => ⟨S3072, .f32⟩
  | .hbm, ⟨73, _⟩ => ⟨S_, .f32⟩
  | .hbm, ⟨74, _⟩ => ⟨S4x2051x3072, .f32⟩
  | .hbm, ⟨75, _⟩ => ⟨S1x3072, .f32⟩
  | .hbm, ⟨76, _⟩ => ⟨S_, .f32⟩
  | .hbm, ⟨77, _⟩ => ⟨S8x3072, .f32⟩
  | .hbm, ⟨78, _⟩ => ⟨S4x2048x3072, .f32⟩
  | .hbm, ⟨79, _⟩ => ⟨S4x2048x3072, .f32⟩
  | .hbm, ⟨80, _⟩ => ⟨S4x2048x3072, .f32⟩
  | .hbm, ⟨81, _⟩ => ⟨S_, .f32⟩
  | .hbm, ⟨82, _⟩ => ⟨S3072, .f32⟩
  | .hbm, ⟨83, _⟩ => ⟨S1x1x3072, .f32⟩
  | .hbm, ⟨84, _⟩ => ⟨S_, .f32⟩
  | .hbm, ⟨85, _⟩ => ⟨S3072, .f32⟩
  | .hbm, ⟨86, _⟩ => ⟨S_, .f32⟩
  | .hbm, ⟨87, _⟩ => ⟨S4x2051x3072, .f32⟩
  | .hbm, ⟨88, _⟩ => ⟨S4x2051x3072, .f32⟩
  | .hbm, ⟨89, _⟩ => ⟨S1x3072, .f32⟩
  | .hbm, ⟨90, _⟩ => ⟨S_, .f32⟩
  | .hbm, ⟨91, _⟩ => ⟨S8x3072, .f32⟩
  | .hbm, ⟨92, _⟩ => ⟨S8x3072, .f32⟩
  | .hbm, ⟨93, _⟩ => ⟨S4x2048x3072, .f32⟩
  | .hbm, ⟨94, _⟩ => ⟨S4x2048x3072, .f32⟩
  | .hbm, ⟨95, _⟩ => ⟨S4x2048x3072, .f32⟩
  | .hbm, ⟨96, _⟩ => ⟨S_, .f32⟩
  | .hbm, ⟨97, _⟩ => ⟨S3072, .f32⟩
  | .hbm, ⟨98, _⟩ => ⟨S1x1x3072, .f32⟩
  | .hbm, ⟨99, _⟩ => ⟨S_, .f32⟩
  | .hbm, ⟨100, _⟩ => ⟨S3072, .f32⟩
  | .hbm, ⟨101, _⟩ => ⟨S_, .f32⟩
  | .hbm, ⟨102, _⟩ => ⟨S4x2051x3072, .f32⟩
  | .hbm, ⟨103, _⟩ => ⟨S4x2051x3072, .f32⟩
  | .hbm, ⟨104, _⟩ => ⟨S1x3072, .f32⟩
  | .hbm, ⟨105, _⟩ => ⟨S_, .f32⟩
  | .hbm, ⟨106, _⟩ => ⟨S8x3072, .f32⟩
  | .hbm, ⟨107, _⟩ => ⟨S8x3072, .f32⟩
  | .hbm, ⟨108, _⟩ => ⟨S4x2048x3072, .f32⟩
  | .hbm, ⟨109, _⟩ => ⟨S4x2048x3072, .f32⟩
  | .hbm, ⟨110, _⟩ => ⟨S4x2048x3072, .f32⟩
  | .hbm, ⟨111, _⟩ => ⟨S_, .f32⟩
  | .hbm, ⟨112, _⟩ => ⟨S3072, .f32⟩
  | .hbm, ⟨113, _⟩ => ⟨S1x1x3072, .f32⟩
  | .hbm, ⟨114, _⟩ => ⟨S_, .f32⟩
  | .hbm, ⟨115, _⟩ => ⟨S3072, .f32⟩
  | .hbm, ⟨116, _⟩ => ⟨S_, .f32⟩
  | .hbm, ⟨117, _⟩ => ⟨S4x2051x3072, .f32⟩
  | .hbm, ⟨118, _⟩ => ⟨S4x2051x3072, .f32⟩
  | .hbm, ⟨119, _⟩ => ⟨S1x3072, .f32⟩
  | .hbm, ⟨120, _⟩ => ⟨S_, .f32⟩
  | .hbm, ⟨121, _⟩ => ⟨S8x3072, .f32⟩
  | .hbm, ⟨122, _⟩ => ⟨S8x3072, .f32⟩
  | .hbm, ⟨123, _⟩ => ⟨S4x3x3072, .f32⟩
  | .hbm, ⟨124, _⟩ => ⟨S4x2048x3072, .f32⟩
  | .hbm, ⟨125, _⟩ => ⟨S4x2048x3072, .bf16⟩
  | _, _ => ⟨S4x2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_v35_2 : Ref sig .tc := ⟨.hbm, 49, rfl⟩
abbrev main_call0_cst_1 : Ref sig .tc := ⟨.hbm, 50, rfl⟩
abbrev main_call0_v6 : Ref sig .tc := ⟨.hbm, 51, rfl⟩
abbrev main_call0_v7 : Ref sig .tc := ⟨.hbm, 52, rfl⟩
abbrev main_v35_1 : Ref sig .tc := ⟨.hbm, 53, rfl⟩
abbrev main_v35_0 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v36 : Ref sig .tc := ⟨.hbm, 58, rfl⟩
abbrev main_cst_2 : Ref sig .tc := ⟨.hbm, 59, rfl⟩
abbrev main_v37 : Ref sig .tc := ⟨.hbm, 60, rfl⟩
abbrev main_v38 : Ref sig .tc := ⟨.hbm, 61, rfl⟩
abbrev main_cst_3 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_4 : Ref sig .tc := ⟨.hbm, 68, rfl⟩
abbrev main_v44 : Ref sig .tc := ⟨.hbm, 69, rfl⟩
abbrev main_v45 : Ref sig .tc := ⟨.hbm, 70, rfl⟩
abbrev main_cst_5 : Ref sig .tc := ⟨.hbm, 71, rfl⟩
abbrev main_v46 : Ref sig .tc := ⟨.hbm, 72, rfl⟩
abbrev main_cst_6 : Ref sig .tc := ⟨.hbm, 73, rfl⟩
abbrev main_v47 : Ref sig .tc := ⟨.hbm, 74, rfl⟩
abbrev main_v48 : Ref sig .tc := ⟨.hbm, 75, rfl⟩
abbrev main_cst_7 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_8 : Ref sig .tc := ⟨.hbm, 81, rfl⟩
abbrev main_v53 : Ref sig .tc := ⟨.hbm, 82, rfl⟩
abbrev main_v54 : Ref sig .tc := ⟨.hbm, 83, rfl⟩
abbrev main_cst_9 : Ref sig .tc := ⟨.hbm, 84, rfl⟩
abbrev main_v55 : Ref sig .tc := ⟨.hbm, 85, rfl⟩
abbrev main_cst_10 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_11 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_12 : Ref sig .tc := ⟨.hbm, 96, rfl⟩
abbrev main_v64 : Ref sig .tc := ⟨.hbm, 97, rfl⟩
abbrev main_v65 : Ref sig .tc := ⟨.hbm, 98, rfl⟩
abbrev main_cst_13 : Ref sig .tc := ⟨.hbm, 99, rfl⟩
abbrev main_v66 : Ref sig .tc := ⟨.hbm, 100, rfl⟩
abbrev main_cst_14 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_15 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_16 : Ref sig .tc := ⟨.hbm, 111, rfl⟩
abbrev main_v75 : Ref sig .tc := ⟨.hbm, 112, rfl⟩
abbrev main_v76 : Ref sig .tc := ⟨.hbm, 113, rfl⟩
abbrev main_cst_17 : Ref sig .tc := ⟨.hbm, 114, rfl⟩
abbrev main_v77 : Ref sig .tc := ⟨.hbm, 115, rfl⟩
abbrev main_cst_18 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_cst_19 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩

abbrev nD : Nat := 1
abbrev τ : Topo := Topo.v7x

variable {F : FTy → Type} [FloatOps F]
-- ==== Kernel20.lean ====
abbrev S1024x1024 : Shape := ⟨2, ![1024, 1024]⟩
abbrev S8192x1024 : Shape := ⟨2, ![8192, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1024x1024, .bf16⟩
  | .hbm, ⟨1, _⟩ => ⟨S8192x1024, .bf16⟩
  | .hbm, ⟨2, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S1024x1024 : Shape := ⟨2, ![1024, 1024]⟩
abbrev S8192x1024 : Shape := ⟨2, ![8192, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S8192x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S8192x1024, .f32⟩
  | .hbm, ⟨10, _⟩ => ⟨S8192x1024, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel21.lean ====
abbrev S8192x1024 : Shape := ⟨2, ![8192, 1024]⟩
abbrev S1024x2048 : Shape := ⟨2, ![1024, 2048]⟩
abbrev S8192x2048 : Shape := ⟨2, ![8192, 2048]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .f32⟩
  | .hbm, ⟨3, _⟩ => ⟨S1024x2048, .f32⟩
  | .hbm, ⟨4, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel22.lean ====
abbrev S8192x1024 : Shape := ⟨2, ![8192, 1024]⟩
abbrev S1024x3072 : Shape := ⟨2, ![1024, 3072]⟩
abbrev S8192x3072 : Shape := ⟨2, ![8192, 3072]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x3072, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S8192x1024 : Shape := ⟨2, ![8192, 1024]⟩
abbrev S1024x3072 : Shape := ⟨2, ![1024, 3072]⟩
abbrev S8192x3072 : Shape := ⟨2, ![8192, 3072]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x1024, .f32⟩
  | .hbm, ⟨3, _⟩ => ⟨S1024x3072, .f32⟩
  | .hbm, ⟨4, _⟩ => ⟨S8192x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel23.lean ====
abbrev S8192x2048 : Shape := ⟨2, ![8192, 2048]⟩
abbrev S2048x1024 : Shape := ⟨2, ![2048, 1024]⟩
abbrev S8192x1024 : Shape := ⟨2, ![8192, 1024]⟩
abbrev S512x2048 : Shape := ⟨2, ![512, 2048]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .hbm, ⟨3, _⟩ => ⟨S8192x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference23Ideal.lean ====
abbrev S8192x2048 : Shape := ⟨2, ![8192, 2048]⟩
abbrev S2048x1024 : Shape := ⟨2, ![2048, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .hbm, ⟨3, _⟩ => ⟨S8192x2048, .f32⟩
  | .hbm, ⟨4, _⟩ => ⟨S2048x1024, .f32⟩
  | .hbm, ⟨5, _⟩ => ⟨S8192x1024, .f32⟩
  | .hbm, ⟨6, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel24.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel25.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference25Ideal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel26.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference26Ideal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel27.lean ====
abbrev S8192x1024 : Shape := ⟨2, ![8192, 1024]⟩
abbrev S1024x2048 : Shape := ⟨2, ![1024, 2048]⟩
abbrev S8192x2048 : Shape := ⟨2, ![8192, 2048]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference27Ideal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .f32⟩
  | .hbm, ⟨3, _⟩ => ⟨S1024x2048, .f32⟩
  | .hbm, ⟨4, _⟩ => ⟨S8192x2048, .f32⟩
  | .hbm, ⟨5, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Product.lean ====
module

public import Idealize.ShloMosaic.Lib.Pipeline.ValueKit
public import Idealize.ShloMosaic.Lib.Pipeline.ReadBack
public import Idealize.ShloMosaic.Lib.Pointwise

@[expose] public section

noncomputable section

open scoped BigOperators

/-! # Products whose contraction is cut into blocks -/

namespace Cert.Product

/-- Two sums with equal terms. -/
theorem sum_eq {n : ℕ} {f g : Fin n → EReal} (h : ∀ k, f k = g k) : ∑ k, f k = ∑ k, g k :=
  Finset.sum_congr rfl fun k _ => h k

/-- A run of four points: the first puts its term into the scratch, the next two add theirs, and the last writes the
    scratch and its own term out. The result is the sum of the four terms. -/
theorem run_sum {N : ℕ} {ι : Type} (o s : (n : ℕ) → n < N → ι → EReal) (term : Fin N → ι → EReal)
    (hA : ∀ t : Fin N, t.val % 4 = 0 → ∀ i, s t.val t.isLt i = term t i)
    (hB : ∀ t : Fin N, 1 ≤ t.val % 4 ∧ t.val % 4 ≤ 2 → ∀ i, s t.val t.isLt i = s (t.val - 1) (Nat.lt_of_le_of_lt (Nat.sub_le _ _) t.isLt) i + term t i)
    (hC : ∀ t : Fin N, t.val % 4 = 3 → ∀ i, o t.val t.isLt i = s (t.val - 1) (Nat.lt_of_le_of_lt (Nat.sub_le _ _) t.isLt) i + term t i)
    (t : Fin N) (ht : t.val % 4 = 3) (i : ι) :
    o t.val t.isLt i = ∑ k : Fin 4, term ⟨4 * (t.val / 4) + k.val, by have := t.isLt; omega⟩ i := by
  have h := Idealize.ShloMosaic.Pipeline.eq_sum_fin_of_reset_step_apply_of_flush
    (fun n h i => if n % 4 = 3 then o n h i else s n h i) 4 (fun _ => (0 : EReal)) term
    (fun t h0 i => by rw [if_neg (by omega), hA t h0, zero_add])
    (fun t h0 i => by
      rw [if_neg (show ¬(t.val - 1) % 4 = 3 by omega)]
      by_cases h3 : t.val % 4 = 3
      · rw [if_pos h3, hC t h3]
      · rw [if_neg h3, hB t (by omega)]) t ht i
  rwa [if_pos ht, zero_add] at h

end Cert.Product

end
-- ==== Proof.Matmul.lean ====
module

public import proofs.«01_k».proof.Proof.Product

@[expose] public section

noncomputable section

open scoped BigOperators

/-! # The gradients of a product, at any extents -/

namespace Cert.Matmul

open Idealize.ShloMosaic

/-- The gradient of the left factor: row `i` of the cotangent against row `j` of the weights. -/
def dLeft {M K N : ℕ} (w : FVec Ideal ⟨2, ![N, K]⟩ .bf16) (ct : FVec Ideal ⟨2, ![M, K]⟩ .bf16) : FVec Ideal ⟨2, ![M, N]⟩ .f32 := fun i =>
  ∑ k : Fin K, (ct (ix2 (i 0) k) : EReal) * w (ix2 (i 1) k)

/-- The gradient of the right factor: column `i` of the input against column `j` of the cotangent. -/
def dRight {M K N : ℕ} (x : FVec Ideal ⟨2, ![K, M]⟩ .bf16) (ct : FVec Ideal ⟨2, ![K, N]⟩ .bf16) : FVec Ideal ⟨2, ![M, N]⟩ .f32 := fun i =>
  ∑ k : Fin K, (x (ix2 k (i 0)) : EReal) * ct (ix2 k (i 1))

/-- A product in the forward pass: row `i` of the input against column `j` of the weights. -/
def forward {M K N : ℕ} (x : FVec Ideal ⟨2, ![M, K]⟩ .bf16) (w : FVec Ideal ⟨2, ![K, N]⟩ .bf16) : FVec Ideal ⟨2, ![M, N]⟩ .f32 := fun i =>
  ∑ k : Fin K, (x (ix2 (i 0) k) : EReal) * w (ix2 k (i 1))

/-- The same added to what was there. -/
def forwardAdd {M K N : ℕ} (x : FVec Ideal ⟨2, ![M, K]⟩ .bf16) (w : FVec Ideal ⟨2, ![K, N]⟩ .bf16) (h : FVec Ideal ⟨2, ![M, N]⟩ .f32) : FVec Ideal ⟨2, ![M, N]⟩ .f32 := fun i =>
  (h i : EReal) + forward x w i

/-- A result left in bf16. -/
def left16 {s : Shape} (x : FVec Ideal s .f32) : FVec Ideal s .bf16 := fun i => (x i : EReal)

/-- A run of three points: the first puts its term into the scratch, the second adds its own, and the last writes
    out the scratch, its own term and what was there before the run. -/
theorem run_three {N : ℕ} {ι : Type} (o s : (n : ℕ) → n < N → ι → EReal) (term old : Fin N → ι → EReal)
    (hA : ∀ t : Fin N, t.val % 3 = 0 → ∀ i, s t.val t.isLt i = term t i)
    (hB : ∀ t : Fin N, t.val % 3 = 1 → ∀ i, s t.val t.isLt i = s (t.val - 1) (Nat.lt_of_le_of_lt (Nat.sub_le _ _) t.isLt) i + term t i)
    (hC : ∀ t : Fin N, t.val % 3 = 2 → ∀ i, o t.val t.isLt i = s (t.val - 1) (Nat.lt_of_le_of_lt (Nat.sub_le _ _) t.isLt) i + term t i + old t i)
    (t : Fin N) (ht : t.val % 3 = 2) (i : ι) :
    o t.val t.isLt i = old t i + ∑ k : Fin 3, term ⟨3 * (t.val / 3) + k.val, by have := t.isLt; omega⟩ i := by
  have h1 : t.val - 1 < N := by omega
  have h2 : t.val - 1 - 1 < N := by omega
  rw [hC t ht, hB ⟨t.val - 1, h1⟩ (by show (t.val - 1) % 3 = 1; omega), hA ⟨t.val - 1 - 1, h2⟩ (by show (t.val - 1 - 1) % 3 = 0; omega), add_comm, Fin.sum_univ_three]
  have e0 : (⟨t.val - 1 - 1, h2⟩ : Fin N) = ⟨3 * (t.val / 3) + (0 : Fin 3).val, by have := t.isLt; omega⟩ := Fin.ext (show t.val - 1 - 1 = 3 * (t.val / 3) + 0 by omega)
  have e1 : (⟨t.val - 1, h1⟩ : Fin N) = ⟨3 * (t.val / 3) + (1 : Fin 3).val, by have := t.isLt; omega⟩ := Fin.ext (show t.val - 1 = 3 * (t.val / 3) + 1 by omega)
  have e2 : t = ⟨3 * (t.val / 3) + (2 : Fin 3).val, by have := t.isLt; omega⟩ := Fin.ext (show t.val = 3 * (t.val / 3) + 2 by omega)
  rw [e0, e1]
  exact congrArg (fun a => old t i + (_ + a)) (congrArg (fun a => term a i) e2)

end Cert.Matmul

end
-- ==== Proof.AttnProj.lean ====
module

public import proofs.«01_k».proof.Proof.Gen.Kernel20Ideal.Value
public import proofs.«01_k».proof.Proof.Gen.Reference20Ideal.Run
public import proofs.«01_k».proof.Proof.Gen.Kernel24Ideal.Value
public import proofs.«01_k».proof.Proof.Gen.Reference24Ideal.Run
public import proofs.«01_k».proof.Proof.Gen.Kernel25Ideal.Value
public import proofs.«01_k».proof.Proof.Gen.Reference25Ideal.Run
public import proofs.«01_k».proof.Proof.Gen.Kernel27Ideal.Value
public import proofs.«01_k».proof.Proof.Gen.Reference27Ideal.Run
public import proofs.«01_k».proof.Proof.Matmul
public import proofs.«01_k».proof.Proof.Product

@[expose] public section

set_option maxRecDepth 16384

noncomputable section

open scoped BigOperators
open Idealize.ShloMosaic Idealize.ShloMosaic.TcCoe Idealize.SL.Sem

/-! # The products of the attention's projections -/

namespace Cert.ODx

open Cert.Kernel20Ideal Cert.Kernel20Ideal.Gen

variable (m : (ℓ : Loc nD τ sig) → Idealize.ShloMosaic.Buf (Elt Ideal) ℓ) (c : Dev nD)

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel

/-- The gradient of the attention's output, through its output projection. -/
theorem kernel_eq : (dats m 0 c).arrAt 2 cfg0.N = Matmul.left16 (Matmul.dLeft (m ((c : Thread nD τ).loc main_arg0)) (m ((c : Thread nD τ).loc main_arg1))) := by
  refine (dats m 0 c).arrAt_eq_of_covers 2 _ (by decide +kernel) fun t hf y => ?_
  blk_simp
  rw [after0_2]
  frame_out
  unfold Matmul.left16 Matmul.dLeft k0_pay1
  pointwise
  refine Product.sum_eq fun k => ?_
  congr 1 <;> blk_ext [iblk, V, idx0 t, idx1 t, idx2 t]

/-- What the reference leaves. -/
theorem reference_eq (w : FVec Ideal S1024x1024 .bf16) (ct : FVec Ideal S8192x1024 .bf16) :
    truncf .bf16 (Host.dotGeneral Cert.Reference20Ideal.dot_S8192x1024_S1024x1024_S8192x1024_1_1_0_0_n_n none
      (extf .f32 ct Cert.Reference20Ideal.Gen.bitsLt_bf16_f32) (extf .f32 w Cert.Reference20Ideal.Gen.bitsLt_bf16_f32)) Cert.Reference20Ideal.Gen.bitsLt_bf16_f32 = Matmul.left16 (Matmul.dLeft w ct) := by
  funext i
  idx_vars i
  unfold Matmul.left16 Matmul.dLeft
  pointwise

end Cert.ODx

namespace Cert.QFwd

open Cert.Kernel24Ideal Cert.Kernel24Ideal.Gen

variable (m : (ℓ : Loc nD τ sig) → Idealize.ShloMosaic.Buf (Elt Ideal) ℓ) (c : Dev nD)

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel

/-- The queries. -/
theorem kernel_eq : (dats m 0 c).arrAt 2 cfg0.N = Matmul.left16 (Matmul.forward (m ((c : Thread nD τ).loc main_arg0)) (m ((c : Thread nD τ).loc main_arg1))) := by
  refine (dats m 0 c).arrAt_eq_of_covers 2 _ (by decide +kernel) fun t hf y => ?_
  blk_simp
  rw [after0_2]
  frame_out
  unfold Matmul.left16 Matmul.forward k0_pay1
  pointwise
  refine Product.sum_eq fun k => ?_
  congr 1 <;> blk_ext [iblk, V, idx0 t, idx1 t, idx2 t]

/-- What the reference leaves. -/
theorem reference_eq (x : FVec Ideal S8192x1024 .bf16) (w : FVec Ideal S1024x1024 .bf16) :
    truncf .bf16 (Host.dotGeneral Cert.Reference24Ideal.dot_S8192x1024_S1024x1024_S8192x1024_1_0_0_1_n_n none
      (extf .f32 x Cert.Reference24Ideal.Gen.bitsLt_bf16_f32) (extf .f32 w Cert.Reference24Ideal.Gen.bitsLt_bf16_f32)) Cert.Reference24Ideal.Gen.bitsLt_bf16_f32 = Matmul.left16 (Matmul.forward x w) := by
  funext i
  idx_vars i
  unfold Matmul.left16 Matmul.forward
  pointwise

end Cert.QFwd

namespace Cert.OFwd

open Cert.Kernel25Ideal Cert.Kernel25Ideal.Gen

variable (m : (ℓ : Loc nD τ sig) → Idealize.ShloMosaic.Buf (Elt Ideal) ℓ) (c : Dev nD)

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel
theorem idx3 : ∀ t : Fin cfg0.N, win0_3.index t = ![t.val, 0] := by decide +kernel

/-- The output projection, added to the residual stream. -/
theorem kernel_eq : (dats m 0 c).arrAt 3 cfg0.N = Matmul.forwardAdd (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  unfold Matmul.forwardAdd Matmul.forward k0_pay1
  pointwise
  refine (add_comm (G := EReal) _ _).trans (congrArg₂ (fun a b : EReal => a + b) ?_ (Product.sum_eq fun k => ?_))
  · blk_ext [iblk, V, idx2 t, idx3 t]
  · congr 1 <;> blk_ext [iblk, V, idx0 t, idx1 t, idx3 t]

/-- What the reference leaves. -/
theorem reference_eq (x : FVec Ideal S8192x1024 .bf16) (w : FVec Ideal S1024x1024 .bf16) (h : FVec Ideal S8192x1024 .f32) :
    addf h (Host.dotGeneral Cert.Reference25Ideal.dot_S8192x1024_S1024x1024_S8192x1024_1_0_0_1_n_n none
      (extf .f32 x Cert.Reference25Ideal.Gen.bitsLt_bf16_f32) (extf .f32 w Cert.Reference25Ideal.Gen.bitsLt_bf16_f32)) = Matmul.forwardAdd x w h := by
  funext i
  idx_vars i
  unfold Matmul.forwardAdd Matmul.forward
  pointwise

end Cert.OFwd

namespace Cert.KvFwd

open Cert.Kernel27Ideal Cert.Kernel27Ideal.Gen

variable (m : (ℓ : Loc nD τ sig) → Idealize.ShloMosaic.Buf (Elt Ideal) ℓ) (c : Dev nD)

theorem idx0 : ∀ t : Fin cfg0.N, win0_0.index t = ![t.val / 2, 0] := by decide +kernel
theorem idx1 : ∀ t : Fin cfg0.N, win0_1.index t = ![0, t.val % 2] := by decide +kernel
theorem idx2 : ∀ t : Fin cfg0.N, win0_2.index t = ![t.val / 2, t.val % 2] := by decide +kernel

/-- The shared keys and values. -/
theorem kernel_eq : (dats m 0 c).arrAt 2 cfg0.N = Matmul.left16 (Matmul.forward (m ((c : Thread nD τ).loc main_arg0)) (m ((c : Thread nD τ).loc main_arg1))) := by
  refine (dats m 0 c).arrAt_eq_of_covers 2 _ (by decide +kernel) fun t hf y => ?_
  blk_simp
  rw [after0_2]
  frame_out
  unfold Matmul.left16 Matmul.forward k0_pay1
  pointwise
  refine Product.sum_eq fun k => ?_
  congr 1 <;> blk_ext [iblk, V, idx0 t, idx1 t, idx2 t]

/-- What the reference leaves. -/
theorem reference_eq (x : FVec Ideal S8192x1024 .bf16) (w : FVec Ideal S1024x2048 .bf16) :
    truncf .bf16 (Host.dotGeneral Cert.Reference27Ideal.dot_S8192x1024_S1024x2048_S8192x2048_1_0_0_1_n_n none
      (extf .f32 x Cert.Reference27Ideal.Gen.bitsLt_bf16_f32) (extf .f32 w Cert.Reference27Ideal.Gen.bitsLt_bf16_f32)) Cert.Reference27Ideal.Gen.bitsLt_bf16_f32 = Matmul.left16 (Matmul.forward x w) := by
  funext i
  idx_vars i
  unfold Matmul.left16 Matmul.forward
  pointwise

end Cert.KvFwd

end
-- ==== Proof.MixerProj.lean ====
module

public import proofs.«01_k».proof.Proof.Gen.Kernel21Ideal.Value
public import proofs.«01_k».proof.Proof.Gen.Reference21Ideal.Run
public import proofs.«01_k».proof.Proof.Gen.Kernel22Ideal.Value
public import proofs.«01_k».proof.Proof.Gen.Reference22Ideal.Run
public import proofs.«01_k».proof.Proof.Gen.Kernel23Ideal.Value
public import proofs.«01_k».proof.Proof.Gen.Reference23Ideal.Run
public import proofs.«01_k».proof.Proof.Gen.Kernel26Ideal.Value
public import proofs.«01_k».proof.Proof.Gen.Reference26Ideal.Run
public import proofs.«01_k».proof.Proof.Matmul
public import proofs.«01_k».proof.Proof.Product

@[expose] public section

set_option maxRecDepth 16384

noncomputable section

open scoped BigOperators
open Idealize.ShloMosaic Idealize.ShloMosaic.TcCoe Idealize.SL.Sem

/-! # The products of the mixer's projections and of the embedding's gate, in the forward pass -/

namespace Cert.ZFwd

open Cert.Kernel21Ideal Cert.Kernel21Ideal.Gen

variable (m : (ℓ : Loc nD τ sig) → Idealize.ShloMosaic.Buf (Elt Ideal) ℓ) (c : Dev nD)

theorem idx0 : ∀ t : Fin cfg0.N, win0_0.index t = ![t.val / 2, 0] := by decide +kernel
theorem idx1 : ∀ t : Fin cfg0.N, win0_1.index t = ![0, t.val % 2] := by decide +kernel
theorem idx2 : ∀ t : Fin cfg0.N, win0_2.index t = ![t.val / 2, t.val % 2] := by decide +kernel

/-- The gate's part of the mixer's input projection. -/
theorem kernel_eq : (dats m 0 c).arrAt 2 cfg0.N = Matmul.forward (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold Matmul.forward k0_pay1
  pointwise
  refine Product.sum_eq fun k => ?_
  congr 1 <;> blk_ext [iblk, V, idx0 t, idx1 t, idx2 t]

/-- What the reference leaves. -/
theorem reference_eq (x : FVec Ideal S8192x1024 .bf16) (w : FVec Ideal S1024x2048 .bf16) :
    Host.dotGeneral Cert.Reference21Ideal.dot_S8192x1024_S1024x2048_S8192x2048_1_0_0_1_n_n none
      (extf .f32 x Cert.Reference21Ideal.Gen.bitsLt_bf16_f32) (extf .f32 w Cert.Reference21Ideal.Gen.bitsLt_bf16_f32) = Matmul.forward x w := by
  funext i
  idx_vars i
  unfold Matmul.forward
  pointwise

end Cert.ZFwd

namespace Cert.XbcFwd

open Cert.Kernel22Ideal Cert.Kernel22Ideal.Gen

variable (m : (ℓ : Loc nD τ sig) → Idealize.ShloMosaic.Buf (Elt Ideal) ℓ) (c : Dev nD)

theorem idx0 : ∀ t : Fin cfg0.N, win0_0.index t = ![t.val / 3, 0] := by decide +kernel
theorem idx1 : ∀ t : Fin cfg0.N, win0_1.index t = ![0, t.val % 3] := by decide +kernel
theorem idx2 : ∀ t : Fin cfg0.N, win0_2.index t = ![t.val / 3, t.val % 3] := by decide +kernel

/-- The convolution's part of the mixer's input projection. -/
theorem kernel_eq : (dats m 0 c).arrAt 2 cfg0.N = Matmul.forward (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold Matmul.forward k0_pay1
  pointwise
  refine Product.sum_eq fun k => ?_
  congr 1 <;> blk_ext [iblk, V, idx0 t, idx1 t, idx2 t]

/-- What the reference leaves. -/
theorem reference_eq (x : FVec Ideal S8192x1024 .bf16) (w : FVec Ideal S1024x3072 .bf16) :
    Host.dotGeneral Cert.Reference22Ideal.dot_S8192x1024_S1024x3072_S8192x3072_1_0_0_1_n_n none
      (extf .f32 x Cert.Reference22Ideal.Gen.bitsLt_bf16_f32) (extf .f32 w Cert.Reference22Ideal.Gen.bitsLt_bf16_f32) = Matmul.forward x w := by
  funext i
  idx_vars i
  unfold Matmul.forward
  pointwise

end Cert.XbcFwd

namespace Cert.OutFwd

open Cert.Kernel23Ideal Cert.Kernel23Ideal.Gen

variable (m : (ℓ : Loc nD τ sig) → Idealize.ShloMosaic.Buf (Elt Ideal) ℓ) (c : Dev nD)

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel
theorem idx3 : ∀ t : Fin cfg0.N, win0_3.index t = ![t.val, 0] := by decide +kernel

/-- The mixer's output projection, added to the residual stream. -/
theorem kernel_eq : (dats m 0 c).arrAt 3 cfg0.N = Matmul.forwardAdd (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  unfold Matmul.forwardAdd Matmul.forward k0_pay1
  pointwise
  refine (add_comm (G := EReal) _ _).trans (congrArg₂ (fun a b : EReal => a + b) ?_ (Product.sum_eq fun k => ?_))
  · blk_ext [iblk, V, idx2 t, idx3 t]
  · congr 1 <;> blk_ext [iblk, V, idx0 t, idx1 t, idx3 t]

/-- What the reference leaves. -/
theorem reference_eq (x : FVec Ideal S8192x2048 .bf16) (w : FVec Ideal S2048x1024 .bf16) (h : FVec Ideal S8192x1024 .f32) :
    addf h (Host.dotGeneral Cert.Reference23Ideal.dot_S8192x2048_S2048x1024_S8192x1024_1_0_0_1_n_n none
      (extf .f32 x Cert.Reference23Ideal.Gen.bitsLt_bf16_f32) (extf .f32 w Cert.Reference23Ideal.Gen.bitsLt_bf16_f32)) = Matmul.forwardAdd x w h := by
  funext i
  idx_vars i
  unfold Matmul.forwardAdd Matmul.forward
  pointwise

end Cert.OutFwd

namespace Cert.PleFwd

open Cert.Kernel26Ideal Cert.Kernel26Ideal.Gen

variable (m : (ℓ : Loc nD τ sig) → Idealize.ShloMosaic.Buf (Elt Ideal) ℓ) (c : Dev nD)

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel

/-- The embedding's gate. -/
theorem kernel_eq : (dats m 0 c).arrAt 2 cfg0.N = Matmul.forward (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold Matmul.forward k0_pay1
  pointwise
  refine Product.sum_eq fun k => ?_
  congr 1 <;> blk_ext [iblk, V, idx0 t, idx1 t, idx2 t]

/-- What the reference leaves. -/
theorem reference_eq (x : FVec Ideal S8192x1024 .bf16) (w : FVec Ideal S1024x1024 .bf16) :
    Host.dotGeneral Cert.Reference26Ideal.dot_S8192x1024_S1024x1024_S8192x1024_1_0_0_1_n_n none
      (extf .f32 x Cert.Reference26Ideal.Gen.bitsLt_bf16_f32) (extf .f32 w Cert.Reference26Ideal.Gen.bitsLt_bf16_f32) = Matmul.forward x w := by
  funext i
  idx_vars i
  unfold Matmul.forward
  pointwise

end Cert.PleFwd

end
-- ==== Proof.ConvGrad.lean ====
module

public import proofs.«01_k».proof.Proof.Gen.Kernel19Ideal.Value
public import proofs.«01_k».proof.Proof.Product

@[expose] public section

set_option maxRecDepth 16384

noncomputable section

open scoped BigOperators

/-! # The gradient of the convolution: what the kernel leaves -/

namespace Cert.Conv

open Idealize.ShloMosaic Idealize.ShloMosaic.TcCoe Idealize.SL.Sem Cert.Kernel19Ideal Cert.Kernel19Ideal.Gen
open Idealize.ShloMosaic.Pipeline (Dat)

variable (m : (ℓ : Loc nD τ sig) → Idealize.ShloMosaic.Buf (Elt Ideal) ℓ) (c : Dev nD)

/-- The entry `j` positions before position `p`; nothing comes before the first. -/
def before (u : FVec Ideal S4x2048x3072 .f32) (n : Fin 4) (p : ℕ) (k : Fin 3072) (j : ℕ) : EReal :=
  if h : j ≤ p ∧ p - j < 2048 then u (ix3 n ⟨p - j, h.2⟩ k) else 0

/-- The convolution with its bias, before the nonlinearity. -/
def pre (u : FVec Ideal S4x2048x3072 .f32) (w : FVec Ideal S8x3072 .f32) (b : FVec Ideal S1x3072 .f32) (n : Fin 4) (p : ℕ) (k : Fin 3072) : EReal :=
  b (ix2 0 k) + w (ix2 3 k) * before u n p k 0 + w (ix2 2 k) * before u n p k 1 + w (ix2 1 k) * before u n p k 2 + w (ix2 0 k) * before u n p k 3

/-- The derivative of `x * logistic x`. -/
def slope (x : EReal) : EReal := Ideal.logistic x * (1 + x * (1 - Ideal.logistic x))

/-- The gradient at the convolution's output; nothing comes after the last position. -/
def dpre (u d : FVec Ideal S4x2048x3072 .f32) (w : FVec Ideal S8x3072 .f32) (b : FVec Ideal S1x3072 .f32) (n : Fin 4) (p : ℕ) (k : Fin 3072) : EReal :=
  if h : p < 2048 then d (ix3 n ⟨p, h⟩ k) * slope (pre u w b n p k) else 0

/-- The gradient of the input. -/
def du (u d : FVec Ideal S4x2048x3072 .f32) (w : FVec Ideal S8x3072 .f32) (b : FVec Ideal S1x3072 .f32) : FVec Ideal S4x2048x3072 .bf16 := fun i =>
  w (ix2 3 (i 2)) * dpre u d w b (i 0) (i 1).val (i 2) + w (ix2 2 (i 2)) * dpre u d w b (i 0) ((i 1).val + 1) (i 2)
    + w (ix2 1 (i 2)) * dpre u d w b (i 0) ((i 1).val + 2) (i 2) + w (ix2 0 (i 2)) * dpre u d w b (i 0) ((i 1).val + 3) (i 2)

/-- The gradients of the taps and of the bias: sums over the sequences and the positions. -/
def dw (u d : FVec Ideal S4x2048x3072 .f32) (w : FVec Ideal S8x3072 .f32) (b : FVec Ideal S1x3072 .f32) : FVec Ideal S8x3072 .f32 := fun i =>
  if (i 0).val < 4 then ∑ n : Fin 4, ∑ p : Fin 2048, dpre u d w b n p.val (i 1) * before u n p.val (i 1) (3 - (i 0).val) else 0

def db (u d : FVec Ideal S4x2048x3072 .f32) (w : FVec Ideal S8x3072 .f32) (b : FVec Ideal S1x3072 .f32) : FVec Ideal S1x3072 .f32 := fun i =>
  ∑ n : Fin 4, ∑ p : Fin 2048, dpre u d w b n p.val (i 1)

theorem idx0 : ∀ t : Fin cfg0.N, win0_0.index t = ![t.val % 16 / 4, t.val % 4, t.val / 16] := by decide +kernel
theorem idx1 : ∀ t : Fin cfg0.N, win0_1.index t = ![t.val % 16 / 4, 64 * (t.val % 4) - 1, t.val / 16] := by decide +kernel
theorem idx2 : ∀ t : Fin cfg0.N, win0_2.index t = ![t.val % 16 / 4, min (64 * (t.val % 4) + 64) 255, t.val / 16] := by decide +kernel
theorem idx3 : ∀ t : Fin cfg0.N, win0_3.index t = ![t.val % 16 / 4, t.val % 4, t.val / 16] := by decide +kernel
theorem idx4 : ∀ t : Fin cfg0.N, win0_4.index t = ![t.val % 16 / 4, min (64 * (t.val % 4) + 64) 255, t.val / 16] := by decide +kernel
theorem idx5 : ∀ t : Fin cfg0.N, win0_5.index t = ![0, t.val / 16] := by decide +kernel
theorem idx6 : ∀ t : Fin cfg0.N, win0_6.index t = ![0, t.val / 16] := by decide +kernel
theorem idx7 : ∀ t : Fin cfg0.N, win0_7.index t = ![t.val % 16 / 4, t.val % 4, t.val / 16] := by decide +kernel
theorem idx8 : ∀ t : Fin cfg0.N, win0_8.index t = ![0, t.val / 16] := by decide +kernel
theorem idx9 : ∀ t : Fin cfg0.N, win0_9.index t = ![0, t.val / 16] := by decide +kernel
theorem row_block : ∀ t : Fin cfg0.N, ((grid0.coords t) 2).val = t.val % 4 := by decide +kernel

/-- What a point's blocks hold: the sequence, and the channel of lane `l`. -/
abbrev seq (t : Fin cfg0.N) : Fin 4 := ⟨t.val % 16 / 4, by omega⟩
abbrev chan (t : Fin cfg0.N) (l : Fin 512) : Fin 3072 := ⟨t.val / 16 * 512 + l.val, by have := t.isLt; have : cfg0.N = 96 := N_0; omega⟩

abbrev au : FVec Ideal S4x2048x3072 .f32 := m ((c : Thread nD τ).loc main_arg0)
abbrev ad : FVec Ideal S4x2048x3072 .f32 := m ((c : Thread nD τ).loc main_arg1)
abbrev aw : FVec Ideal S8x3072 .f32 := m ((c : Thread nD τ).loc main_arg2)
abbrev ab : FVec Ideal S1x3072 .f32 := m ((c : Thread nD τ).loc main_arg3)

theorem blk0 (t : Fin cfg0.N) (r l : Fin 512) : iblk m c 0 t (ix3 0 r l) = au m c (ix3 (seq t) ⟨t.val % 4 * 512 + r.val, by omega⟩ (chan t l)) := by
  blk_ext [iblk, V, idx0 t]
theorem blk1 (t : Fin cfg0.N) (r : Fin 8) (l : Fin 512) : iblk m c 1 t (ix3 0 r l) = au m c (ix3 (seq t) ⟨(64 * (t.val % 4) - 1) * 8 + r.val, by omega⟩ (chan t l)) := by
  blk_ext [iblk, V, idx1 t]
theorem blk2 (t : Fin cfg0.N) (r : Fin 8) (l : Fin 512) : iblk m c 2 t (ix3 0 r l) = au m c (ix3 (seq t) ⟨min (64 * (t.val % 4) + 64) 255 * 8 + r.val, by omega⟩ (chan t l)) := by
  blk_ext [iblk, V, idx2 t]
theorem blk3 (t : Fin cfg0.N) (r l : Fin 512) : iblk m c 3 t (ix3 0 r l) = ad m c (ix3 (seq t) ⟨t.val % 4 * 512 + r.val, by omega⟩ (chan t l)) := by
  blk_ext [iblk, V, idx3 t]
theorem blk4 (t : Fin cfg0.N) (r : Fin 8) (l : Fin 512) : iblk m c 4 t (ix3 0 r l) = ad m c (ix3 (seq t) ⟨min (64 * (t.val % 4) + 64) 255 * 8 + r.val, by omega⟩ (chan t l)) := by
  blk_ext [iblk, V, idx4 t]
theorem blk5 (t : Fin cfg0.N) (r : Fin 8) (l : Fin 512) : iblk m c 5 t (ix2 r l) = aw m c (ix2 r (chan t l)) := by
  blk_ext [iblk, V, idx5 t]
theorem blk6 (t : Fin cfg0.N) (l : Fin 512) : iblk m c 6 t (ix2 0 l) = ab m c (ix2 0 (chan t l)) := by
  blk_ext [iblk, V, idx6 t]

theorem select_first {α : Type} (a : ℕ) (ha : a < 4) (x y : α) : Scalar.select (Scalar.cmpi .eq (BitVec.ofNat 32 a) 0#32) x y = if a = 0 then x else y := by
  interval_cases a <;> rfl
theorem select_last {α : Type} (a : ℕ) (ha : a < 4) (x y : α) : Scalar.select (Scalar.cmpi .eq (BitVec.ofNat 32 a) 3#32) x y = if a = 3 then x else y := by
  interval_cases a <;> rfl

theorem at_position (x : FVec Ideal S4x2048x3072 .f32) (n : Fin 4) (p p' : Fin 2048) (k : Fin 3072) (h : p.val = p'.val) : (x (ix3 n p k) : EReal) = x (ix3 n p' k) :=
  congrArg (fun p => x (ix3 n p k)) (Fin.ext h)

/-- The rows a point reads, with the eight before and the eight after. -/
theorem ext_at (t : Fin cfg0.N) (r : Fin 528) (l : Fin 512) (q j : ℕ) (hq : t.val % 4 * 512 + q < 2048) (hr : r.val + j = q + 8) (hj : j ≤ 8) :
    (k0_pay4 (F := Ideal) (grid0.coords t) (iblk m c 1 t) (iblk m c 0 t) (iblk m c 2 t) (ix2 r l) : EReal)
      = before (au m c) (seq t) (t.val % 4 * 512 + q) (chan t l) j := by
  have hs := row_block t
  unfold k0_pay4
  pointwise
  unfold before
  by_cases h1 : r.val < 8
  · rw [dif_pos h1]
    refine (select_first _ (by omega) _ _).trans ?_
    by_cases h2 : ((grid0.coords t) 2).val = 0
    · rw [if_pos h2, dif_neg (by omega)]
    · rw [if_neg h2, dif_pos (by omega)]
      refine (blk1 m c t _ l).trans (at_position _ _ _ _ _ ?_)
      show (64 * (t.val % 4) - 1) * 8 + r.val = t.val % 4 * 512 + q - j
      omega
  · rw [dif_neg h1, dif_pos (c := j ≤ t.val % 4 * 512 + q ∧ t.val % 4 * 512 + q - j < 2048) (by omega)]
    by_cases h2 : r.val - 8 < 512
    · rw [dif_pos h2]
      refine (blk0 m c t _ l).trans (at_position _ _ _ _ _ ?_)
      show t.val % 4 * 512 + (r.val - 8) = t.val % 4 * 512 + q - j
      omega
    · rw [dif_neg h2]
      refine (blk2 m c t _ l).trans (at_position _ _ _ _ _ ?_)
      show min (64 * (t.val % 4) + 64) 255 * 8 + (r.val - 8 - 512) = t.val % 4 * 512 + q - j
      omega

/-- The taps' rows and the bias that a point reads. -/
structure Rows (t : Fin cfg0.N) (b0 w3 w2 w1 w0 : FVec Ideal S1x512 .f32) : Prop where
  bias : ∀ l : Fin 512, b0 (ix2 0 l) = ab m c (ix2 0 (chan t l))
  tap3 : ∀ l : Fin 512, w3 (ix2 0 l) = aw m c (ix2 3 (chan t l))
  tap2 : ∀ l : Fin 512, w2 (ix2 0 l) = aw m c (ix2 2 (chan t l))
  tap1 : ∀ l : Fin 512, w1 (ix2 0 l) = aw m c (ix2 1 (chan t l))
  tap0 : ∀ l : Fin 512, w0 (ix2 0 l) = aw m c (ix2 0 (chan t l))

/-- Rows of the gradient at the convolution's output. -/
def gradRows (t : Fin cfg0.N) (b0 w3 w2 w1 w0 : FVec Ideal S1x512 .f32) : FVec Ideal S520x512 .f32 :=
  k0_pay8 (F := Ideal) (BitVec.ofNat 32 ((grid0.coords t) 2).val) (k0_pay5 (F := Ideal) (grid0.coords t) (iblk m c 1 t) (iblk m c 0 t) (iblk m c 2 t) b0 w3 w2 w1)
    (k0_pay6 (F := Ideal) (grid0.coords t) (iblk m c 1 t) (iblk m c 0 t) (iblk m c 2 t)) (k0_pay7 (F := Ideal) w0) (iblk m c 3 t) (iblk m c 4 t)

variable {m c} in
theorem Rows.grad {t : Fin cfg0.N} {b0 w3 w2 w1 w0 : FVec Ideal S1x512 .f32} (H : Rows m c t b0 w3 w2 w1 w0) (q : Fin 520) (l : Fin 512) :
    (gradRows m c t b0 w3 w2 w1 w0 (ix2 q l) : EReal) = dpre (au m c) (ad m c) (aw m c) (ab m c) (seq t) (t.val % 4 * 512 + q.val) (chan t l) := by
  have hs := row_block t
  unfold gradRows k0_pay8
  pointwise
  unfold dpre
  by_cases hq : t.val % 4 * 512 + q.val < 2048
  · rw [dif_pos hq]
    unfold k0_pay5 k0_pay6 k0_pay7
    pointwise
    rw [ext_at m c t _ l q.val 0 hq (by simp only []; omega) (by omega), ext_at m c t _ l q.val 1 hq (by simp only []; omega) (by omega),
      ext_at m c t _ l q.val 2 hq (by simp only []; omega) (by omega), ext_at m c t _ l q.val 3 hq (by simp only []; omega) (by omega),
      H.bias, H.tap3, H.tap2, H.tap1, H.tap0]
    refine congrArg₂ (fun a b : EReal => a * b) ?_ rfl
    by_cases h1 : q.val < 512
    · rw [dif_pos h1]
      exact (blk3 m c t _ l).trans (at_position _ _ _ _ _ rfl)
    · rw [dif_neg h1]
      refine (select_last _ (by omega) _ _).trans ((if_neg (by omega)).trans ((blk4 m c t _ l).trans (at_position _ _ _ _ _ ?_)))
      show min (64 * (t.val % 4) + 64) 255 * 8 + (q.val - 512) = t.val % 4 * 512 + q.val
      omega
  · rw [dif_neg hq, dif_neg (by omega)]
    exact (congrArg (fun a : EReal => a * _) ((select_last _ (by omega) _ _).trans (if_pos (by omega)))).trans (zero_mul (M₀ := EReal) _)

/-- One row of a block of eight. -/
theorem ld_row (o : FVec Ideal S8x512 .f32) (k : Fin 8) (h : ∀ x, (![k.val, 0] : Fin 2 → ℕ) x + S1x512.size x ≤ S8x512.size x) (l : Fin 512) :
    (View.ld (Val := Elt Ideal) (e' := .f32) o (Rect.unit (s := S8x512) ![k.val, 0] S1x512.size h) (ix2 0 l) : EReal) = o (ix2 k l) :=
  congrArg o (funext fun x => Fin.ext (by
    fin_cases x
    · show k.val + 1 * 0 = k.val
      omega
    · show 0 + 1 * l.val = l.val
      omega))

/-- The taps' rows that a point reads. -/
abbrev tap (t : Fin cfg0.N) (k : ℕ) (h : ∀ x, (![k, 0] : Fin 2 → ℕ) x + S1x512.size x ≤ S8x512.size x) : FVec Ideal S1x512 .f32 :=
  View.ld (iblk m c 5 t) (Rect.unit (s := S8x512) ![k, 0] S1x512.size h)

theorem rows (t : Fin cfg0.N) : Rows m c t (iblk m c 6 t) (tap m c t 3 inb_S8x512_S1x512_3_0) (tap m c t 2 inb_S8x512_S1x512_2_0)
    (tap m c t 1 inb_S8x512_S1x512_1_0) (tap m c t 0 inb_S8x512_S1x512_0_0) where
  bias l := blk6 m c t l
  tap3 l := (ld_row (iblk m c 5 t) 3 _ l).trans (blk5 m c t 3 l)
  tap2 l := (ld_row (iblk m c 5 t) 2 _ l).trans (blk5 m c t 2 l)
  tap1 l := (ld_row (iblk m c 5 t) 1 _ l).trans (blk5 m c t 1 l)
  tap0 l := (ld_row (iblk m c 5 t) 0 _ l).trans (blk5 m c t 0 l)

/-- The rows that point `t` forms. -/
abbrev pointRows (t : Fin cfg0.N) : FVec Ideal S520x512 .f32 := gradRows m c t (iblk m c 6 t) (tap m c t 3 inb_S8x512_S1x512_3_0) (tap m c t 2 inb_S8x512_S1x512_2_0)
    (tap m c t 1 inb_S8x512_S1x512_1_0) (tap m c t 0 inb_S8x512_S1x512_0_0)

theorem grad_at (t : Fin cfg0.N) (x : Fin 520) (l : Fin 512) (p : ℕ) (hx : t.val % 4 * 512 + x.val = p) :
    (pointRows m c t (ix2 x l) : EReal) = dpre (au m c) (ad m c) (aw m c) (ab m c) (seq t) p (chan t l) := by
  subst hx
  exact (rows m c t).grad x l

variable {m c} in
/-- The block of the input's gradient. -/
theorem Rows.du {t : Fin cfg0.N} {b0 w3 w2 w1 w0 : FVec Ideal S1x512 .f32} (H : Rows m c t b0 w3 w2 w1 w0) (a b e : FVec Ideal S520x512 .f32) (v : BitVec 32)
    (x3 : FVec Ideal S1x512x512 .f32) (x4 : FVec Ideal S1x8x512 .f32) (G : FVec Ideal S520x512 .f32) (hG : k0_pay8 (F := Ideal) v a b e x3 x4 = G)
    (hg : ∀ (x : Fin 520) (l : Fin 512) (p : ℕ), t.val % 4 * 512 + x.val = p →
      (G (ix2 x l) : EReal) = dpre (au m c) (ad m c) (aw m c) (ab m c) (seq t) p (chan t l)) (q l : Fin 512) :
    (k0_pay11 (F := Ideal) (k0_pay9 (F := Ideal) v a b e x3 x4 w3 w2 w1) (k0_pay10 (F := Ideal) v a b e x3 x4 w0) (ix3 0 q l) : EReal)
      = Conv.du (au m c) (ad m c) (aw m c) (ab m c) (ix3 (seq t) ⟨t.val % 4 * 512 + q.val, by omega⟩ (chan t l)) := by
  unfold k0_pay11 k0_pay9 k0_pay10
  rw [hG]
  pointwise
  refine congrArg₂ (fun a b : EReal => a + b) (congrArg₂ (fun a b : EReal => a + b) (congrArg₂ (fun a b : EReal => a + b) ?_ ?_) ?_) ?_
  · exact congrArg₂ (fun a b : EReal => a * b) (H.tap3 l) (hg _ l (t.val % 4 * 512 + q.val) rfl)
  · refine congrArg₂ (fun a b : EReal => a * b) (H.tap2 l) (hg _ l (t.val % 4 * 512 + q.val + 1) ?_)
    show t.val % 4 * 512 + (q.val + 520 - 519) % 520 = _
    omega
  · refine congrArg₂ (fun a b : EReal => a * b) (H.tap1 l) (hg _ l (t.val % 4 * 512 + q.val + 2) ?_)
    show t.val % 4 * 512 + (q.val + 520 - 518) % 520 = _
    omega
  · refine congrArg₂ (fun a b : EReal => a * b) (H.tap0 l) (hg _ l (t.val % 4 * 512 + q.val + 3) ?_)
    show t.val % 4 * 512 + (q.val + 520 - 517) % 520 = _
    omega

theorem out7 (t : Fin cfg0.N) (q l : Fin 512) : ((outsAt0 m c t.val t.isLt).1 (ix3 0 q l) : EReal)
    = du (au m c) (ad m c) (aw m c) (ab m c) (ix3 (seq t) ⟨t.val % 4 * 512 + q.val, by omega⟩ (chan t l)) := by
  by_cases h : t.val % 16 = 0
  · rw [outsAt0_A m c t h]
    frame_out
    exact (rows m c t).du _ _ _ _ _ _ (pointRows m c t) rfl (grad_at m c t) q l
  · rw [outsAt0_B m c t h]
    frame_out
    exact (rows m c t).du _ _ _ _ _ _ (pointRows m c t) rfl (grad_at m c t) q l

theorem kernel_du : (dats m 0 c).arrAt 7 cfg0.N = du (au m c) (ad m c) (aw m c) (ab m c) := by
  refine (dats m 0 c).arrAt_eq_of_covers 7 _ (by decide +kernel) fun t hf y => ?_
  blk_simp
  rw [after0_7]
  idx_vars y
  obtain rfl : y0 = 0 := Subsingleton.elim _ _
  refine (out7 m c t y1 y2).trans ?_
  blk_ext [idx7 t]

end Cert.Conv

end
-- ==== Proof.ConvSum.lean ====
module

public import proofs.«01_k».proof.Proof.ConvGrad
public import proofs.«01_k».proof.Proof.Product
public import Idealize.ShloMosaic.Lib.WritesUnit
public import Idealize.ShloMosaic.Lib.VecWindow

@[expose] public section

set_option maxRecDepth 16384

noncomputable section

open scoped BigOperators

/-! # The gradient of the convolution: the sums over the points -/

namespace Cert.Conv

open Idealize.ShloMosaic Idealize.ShloMosaic.TcCoe Idealize.SL.Sem Cert.Kernel19Ideal Cert.Kernel19Ideal.Gen
open Idealize.ShloMosaic.Pipeline (Dat)

variable (m : (ℓ : Loc nD τ sig) → Idealize.ShloMosaic.Buf (Elt Ideal) ℓ) (c : Dev nD)

/-- What one point adds to a tap's gradient and to the bias's: sums over its rows. -/
abbrev tapTerm (t : Fin cfg0.N) (j : ℕ) (l : Fin 512) : EReal :=
  ∑ q : Fin 512, dpre (au m c) (ad m c) (aw m c) (ab m c) (seq t) (t.val % 4 * 512 + q.val) (chan t l) * before (au m c) (seq t) (t.val % 4 * 512 + q.val) (chan t l) j

abbrev biasTerm (t : Fin cfg0.N) (l : Fin 512) : EReal :=
  ∑ q : Fin 512, dpre (au m c) (ad m c) (aw m c) (ab m c) (seq t) (t.val % 4 * 512 + q.val) (chan t l)

section
variable (t : Fin cfg0.N) (G : FVec Ideal S520x512 .f32) (hG : G = pointRows m c t) (o : FVec Ideal S1x512 .f32) (l : Fin 512)
include hG

theorem row_term (x : Fin 520) (y : Fin 528) (q : Fin 512) (j : ℕ) (hx : x.val = q.val) (hy : y.val + j = q.val + 8) (hj : j ≤ 8) :
    G (ix2 x l) * k0_pay4 (F := Ideal) (grid0.coords t) (iblk m c 1 t) (iblk m c 0 t) (iblk m c 2 t) (ix2 y l)
      = dpre (au m c) (ad m c) (aw m c) (ab m c) (seq t) (t.val % 4 * 512 + q.val) (chan t l) * before (au m c) (seq t) (t.val % 4 * 512 + q.val) (chan t l) j := by
  subst hG
  exact congrArg₂ (fun a b : EReal => a * b) (grad_at m c t x l _ (by rw [hx])) (ext_at m c t y l q.val j (by omega) hy hj)

theorem row0 : (k0_pay15 (F := Ideal) (k0_pay4 (F := Ideal) (grid0.coords t) (iblk m c 1 t) (iblk m c 0 t) (iblk m c 2 t)) G o (ix2 0 l) : EReal)
    = o (ix2 0 l) + tapTerm m c t 3 l := by
  unfold k0_pay15 k0_pay14
  pointwise
  exact congrArg (fun a : EReal => o (ix2 0 l) + a) (Product.sum_eq fun q => row_term m c t G hG l _ _ q 3 (by simp only []) (by simp only []; omega) (by omega))

theorem row1 : (k0_pay16 (F := Ideal) (k0_pay4 (F := Ideal) (grid0.coords t) (iblk m c 1 t) (iblk m c 0 t) (iblk m c 2 t)) G o (ix2 0 l) : EReal)
    = o (ix2 0 l) + tapTerm m c t 2 l := by
  unfold k0_pay16 k0_pay14
  pointwise
  exact congrArg (fun a : EReal => o (ix2 0 l) + a) (Product.sum_eq fun q => row_term m c t G hG l _ _ q 2 (by simp only []) (by simp only []; omega) (by omega))

theorem row2 : (k0_pay1 (F := Ideal) (k0_pay17 (F := Ideal) o)
    (k0_pay18 (F := Ideal) (k0_pay4 (F := Ideal) (grid0.coords t) (iblk m c 1 t) (iblk m c 0 t) (iblk m c 2 t)) G) (ix2 0 l) : EReal)
    = o (ix2 0 l) + tapTerm m c t 1 l := by
  unfold k0_pay1 k0_pay17 k0_pay18 k0_pay14
  pointwise
  exact congrArg (fun a : EReal => o (ix2 0 l) + a) (Product.sum_eq fun q => row_term m c t G hG l _ _ q 1 (by simp only []) (by simp only []; omega) (by omega))

theorem row3 : (k0_pay2 (F := Ideal) (k0_pay4 (F := Ideal) (grid0.coords t) (iblk m c 1 t) (iblk m c 0 t) (iblk m c 2 t)) (k0_pay14 (F := Ideal) G) o (ix2 0 l) : EReal)
    = o (ix2 0 l) + tapTerm m c t 0 l := by
  unfold k0_pay2 k0_pay14
  pointwise
  exact congrArg (fun a : EReal => o (ix2 0 l) + a) (Product.sum_eq fun q => row_term m c t G hG l _ _ q 0 (by simp only []) (by simp only []; omega) (by omega))

theorem row_bias : (k0_pay3 (F := Ideal) (k0_pay14 (F := Ideal) G) o (ix2 0 l) : EReal) = o (ix2 0 l) + biasTerm m c t l := by
  unfold k0_pay3 k0_pay14
  pointwise
  exact congrArg (fun a : EReal => o (ix2 0 l) + a) (Product.sum_eq fun q => by rw [hG]; exact grad_at m c t _ l _ rfl)

end

/-- A store of one row. -/
theorem row_put {κ : Kind} {sp : Space} (a : View sig κ sp S8x512 .f32) (f : BufTy.Contents (Elt Ideal) a.ty) (k : ℕ)
    (inb : ∀ x, (![k, 0] : Fin 2 → ℕ) x + S1x512.size x ≤ S8x512.size x) (v : FVec Ideal S1x512 .f32) (L : List (View.Piece (Elt Ideal) S8x512 .f32)) (i : Fin 8) (l : Fin 512) :
    a.read (Elt Ideal) (a.writes (Elt Ideal) f (⟨Rect.unit (s := S8x512) ![k, 0] S1x512.size inb, v⟩ :: L)) (ix2 i l)
      = if i.val = k then v (ix2 0 l) else a.read (Elt Ideal) (a.writes (Elt Ideal) f L) (ix2 i l) := by
  by_cases h : i.val = k
  · rw [if_pos h, View.read_writes_cons_unit_of_mem a f inb v L (ix2 i l) (ix2 (0 : Fin 1) l) rfl (fun x => by
      fin_cases x
      · show i.val = k + 0
        omega
      · show l.val = 0 + l.val
        omega)]
  · rw [if_neg h, View.read_writes_cons_unit_of_not_mem a f inb v L (ix2 i l) rfl 0 (by
      show i.val < k ∨ k + 1 ≤ i.val
      omega)]

theorem out8B (t : Fin cfg0.N) (h : ¬ t.val % 16 = 0) (k : Fin 8) (l : Fin 512) : ((outsAt0 m c t.val t.isLt).2.1 (ix2 k l) : EReal)
    = (outsAt0 m c (t.val - 1) (by have := t.isLt; omega)).2.1 (ix2 k l) + if k.val < 4 then tapTerm m c t (3 - k.val) l else 0 := by
  rw [outsAt0_B m c t h]
  unfold out0_B_8
  frame_out
  rw [row_put, row_put, row_put, row_put]
  have h4 : k = 3 ∨ k = 2 ∨ k = 1 ∨ k = 0 ∨ 4 ≤ k.val := by omega
  rcases h4 with rfl | rfl | rfl | rfl | h4
  · exact (row3 m c t _ rfl _ l).trans (congrArg (fun a : EReal => a + tapTerm m c t 0 l) (ld_row _ 3 _ l))
  · exact (row2 m c t _ rfl _ l).trans (congrArg (fun a : EReal => a + tapTerm m c t 1 l) (ld_row _ 2 _ l))
  · exact (row1 m c t _ rfl _ l).trans (congrArg (fun a : EReal => a + tapTerm m c t 2 l) (ld_row _ 1 _ l))
  · exact (row0 m c t _ rfl _ l).trans (congrArg (fun a : EReal => a + tapTerm m c t 3 l) (ld_row _ 0 _ l))
  · rw [if_neg (by omega), if_neg (by omega), if_neg (by omega), if_neg (by omega), if_neg (by omega)]
    refine Eq.trans ?_ (add_zero (M := EReal) _).symm
    exact congrFun (Memref.IsWhole.read_unread _ _) _

/-- A read of one row. -/
theorem row_get {κ : Kind} {sp : Space} (a : View sig κ sp S8x512 .f32) (f : BufTy.Contents (Elt Ideal) a.ty) (k : Fin 8)
    (h : ∀ x, (![k.val, 0] : Fin 2 → ℕ) x + S1x512.size x ≤ S8x512.size x) (l : Fin 512) :
    View.readAt (Elt Ideal) a (Rect.unit (s := S8x512) ![k.val, 0] S1x512.size h).toLoadRect f (ix2 0 l) = a.read (Elt Ideal) f (ix2 k l) :=
  congrArg (a.read (Elt Ideal) f) (funext fun x => Fin.ext (by
    fin_cases x
    · show k.val + 1 * 0 = k.val
      omega
    · show 0 + 1 * l.val = l.val
      omega))

/-- A store of the whole block. -/
theorem whole_put {κ : Kind} {sp : Space} (a : View sig κ sp S8x512 .f32) (f : BufTy.Contents (Elt Ideal) a.ty)
    (inb : ∀ x, (![0, 0] : Fin 2 → ℕ) x + S8x512.size x ≤ S8x512.size x) (v : FVec Ideal S8x512 .f32) (L : List (View.Piece (Elt Ideal) S8x512 .f32)) (i : Fin 8) (l : Fin 512) :
    a.read (Elt Ideal) (a.writes (Elt Ideal) f (⟨Rect.unit (s := S8x512) ![0, 0] S8x512.size inb, v⟩ :: L)) (ix2 i l) = v (ix2 i l) :=
  View.read_writes_cons_unit_of_mem a f inb v L (ix2 i l) (ix2 i l) rfl (fun x => by
    fin_cases x
    · show i.val = 0 + i.val
      omega
    · show l.val = 0 + l.val
      omega)

theorem cleared (i : Fin 8) (l : Fin 512) : (k0_pay12 (F := Ideal) (ix2 i l) : EReal) = 0 := by
  unfold k0_pay12
  pointwise

section
variable {κ : Kind} {sp : Space} (a : View sig κ sp S8x512 .f32) (f : BufTy.Contents (Elt Ideal) a.ty) (z : FVec Ideal S8x512 .f32) (p0 p1 p2 p3 : FVec Ideal S1x512 .f32)
  (hz : ∀ x, (![0, 0] : Fin 2 → ℕ) x + S8x512.size x ≤ S8x512.size x) (h0 : ∀ x, (![0, 0] : Fin 2 → ℕ) x + S1x512.size x ≤ S8x512.size x)
  (h1 : ∀ x, (![1, 0] : Fin 2 → ℕ) x + S1x512.size x ≤ S8x512.size x) (h2 : ∀ x, (![2, 0] : Fin 2 → ℕ) x + S1x512.size x ≤ S8x512.size x)
  (h3 : ∀ x, (![3, 0] : Fin 2 → ℕ) x + S1x512.size x ≤ S8x512.size x) (k : Fin 8) (l : Fin 512)

/-- The rows' stores after a store of the whole block, one after the other. -/
abbrev stores0 : List (View.Piece (Elt Ideal) S8x512 .f32) := [⟨Rect.unit (s := S8x512) ![0, 0] S8x512.size hz, z⟩]
abbrev stores1 : List (View.Piece (Elt Ideal) S8x512 .f32) := ⟨Rect.unit (s := S8x512) ![0, 0] S1x512.size h0, p0⟩ :: stores0 z hz
abbrev stores2 : List (View.Piece (Elt Ideal) S8x512 .f32) := ⟨Rect.unit (s := S8x512) ![1, 0] S1x512.size h1, p1⟩ :: stores1 z p0 hz h0
abbrev stores3 : List (View.Piece (Elt Ideal) S8x512 .f32) := ⟨Rect.unit (s := S8x512) ![2, 0] S1x512.size h2, p2⟩ :: stores2 z p0 p1 hz h0 h1
abbrev stores4 : List (View.Piece (Elt Ideal) S8x512 .f32) := ⟨Rect.unit (s := S8x512) ![3, 0] S1x512.size h3, p3⟩ :: stores3 z p0 p1 p2 hz h0 h1 h2

theorem put4 : a.read (Elt Ideal) (a.writes (Elt Ideal) f (stores4 z p0 p1 p2 p3 hz h0 h1 h2 h3)) (ix2 k l)
    = if k.val = 3 then p3 (ix2 0 l) else if k.val = 2 then p2 (ix2 0 l) else if k.val = 1 then p1 (ix2 0 l) else if k.val = 0 then p0 (ix2 0 l) else z (ix2 k l) := by
  rw [row_put, row_put, row_put, row_put, whole_put]

theorem got0 : a.readAt (Elt Ideal) (Rect.unit (s := S8x512) ![0, 0] S1x512.size h0).toLoadRect (a.writes (Elt Ideal) f (stores0 z hz)) (ix2 0 l) = z (ix2 0 l) :=
  (row_get a _ 0 h0 l).trans (whole_put a f hz z [] 0 l)

theorem got1 : a.readAt (Elt Ideal) (Rect.unit (s := S8x512) ![1, 0] S1x512.size h1).toLoadRect (a.writes (Elt Ideal) f (stores1 z p0 hz h0)) (ix2 0 l) = z (ix2 1 l) :=
  (row_get a _ 1 h1 l).trans (by rw [row_put, whole_put]; exact if_neg (by decide))

theorem got2 : a.readAt (Elt Ideal) (Rect.unit (s := S8x512) ![2, 0] S1x512.size h2).toLoadRect (a.writes (Elt Ideal) f (stores2 z p0 p1 hz h0 h1)) (ix2 0 l) = z (ix2 2 l) :=
  (row_get a _ 2 h2 l).trans (by rw [row_put, row_put, whole_put]; exact (if_neg (by decide)).trans (if_neg (by decide)))

theorem got3 : a.readAt (Elt Ideal) (Rect.unit (s := S8x512) ![3, 0] S1x512.size h3).toLoadRect (a.writes (Elt Ideal) f (stores3 z p0 p1 p2 hz h0 h1 h2)) (ix2 0 l) = z (ix2 3 l) :=
  (row_get a _ 3 h3 l).trans (by rw [row_put, row_put, row_put, whole_put]; exact (if_neg (by decide)).trans ((if_neg (by decide)).trans (if_neg (by decide))))

end

theorem out8A (t : Fin cfg0.N) (h : t.val % 16 = 0) (k : Fin 8) (l : Fin 512) : ((outsAt0 m c t.val t.isLt).2.1 (ix2 k l) : EReal)
    = 0 + if k.val < 4 then tapTerm m c t (3 - k.val) l else 0 := by
  rw [outsAt0_A m c t h]
  frame_out
  refine (View.read_writes_junk_apply_eq_canon VO0_8 _ _).symm.trans ((put4 VO0_8 _ _ _ _ _ _ _ _ _ _ _ k l).trans ?_)
  have h4 : k = 3 ∨ k = 2 ∨ k = 1 ∨ k = 0 ∨ 4 ≤ k.val := by omega
  rcases h4 with rfl | rfl | rfl | rfl | h4
  · exact (row3 m c t _ rfl _ l).trans (congrArg (fun a : EReal => a + tapTerm m c t 0 l) ((got3 _ _ _ _ _ _ _ _ _ _ _ l).trans (cleared 3 l)))
  · exact (row2 m c t _ rfl _ l).trans (congrArg (fun a : EReal => a + tapTerm m c t 1 l) ((got2 _ _ _ _ _ _ _ _ _ l).trans (cleared 2 l)))
  · exact (row1 m c t _ rfl _ l).trans (congrArg (fun a : EReal => a + tapTerm m c t 2 l) ((got1 _ _ _ _ _ _ _ l).trans (cleared 1 l)))
  · exact (row0 m c t _ rfl _ l).trans (congrArg (fun a : EReal => a + tapTerm m c t 3 l) ((got0 _ _ _ _ _ l).trans (cleared 0 l)))
  · rw [if_neg (by omega), if_neg (by omega), if_neg (by omega), if_neg (by omega), if_neg (by omega)]
    exact (cleared k l).trans (add_zero (M := EReal) _).symm

theorem out9B (t : Fin cfg0.N) (h : ¬ t.val % 16 = 0) (l : Fin 512) : ((outsAt0 m c t.val t.isLt).2.2 (ix2 0 l) : EReal)
    = (outsAt0 m c (t.val - 1) (by have := t.isLt; omega)).2.2 (ix2 0 l) + biasTerm m c t l := by
  rw [outsAt0_B m c t h]
  frame_out
  exact row_bias m c t _ rfl _ l

theorem out9A (t : Fin cfg0.N) (h : t.val % 16 = 0) (l : Fin 512) : ((outsAt0 m c t.val t.isLt).2.2 (ix2 0 l) : EReal)
    = 0 + biasTerm m c t l := by
  rw [outsAt0_A m c t h]
  frame_out
  refine (row_bias m c t _ rfl _ l).trans ?_
  unfold k0_pay13
  pointwise

/-- What a run of sixteen points adds up to. -/
abbrev at_ (t : Fin cfg0.N) (s : Fin 16) : Fin cfg0.N := ⟨16 * (t.val / 16) + s.val, by have := t.isLt; have : cfg0.N = 96 := N_0; omega⟩

theorem out8 (t : Fin cfg0.N) (ht : t.val % 16 = 15) (y : S8x512.Idx) :
    ((outsAt0 m c t.val t.isLt).2.1 y : EReal) = ∑ s : Fin 16, if (y 0).val < 4 then tapTerm m c (at_ t s) (3 - (y 0).val) (y 1) else 0 := by
  refine (Idealize.ShloMosaic.Pipeline.eq_sum_fin_of_reset_step_apply_of_flush
    (fun n h => (outsAt0 m c n h).2.1) 16 (fun _ => (0 : EReal)) (fun t y => if (y 0).val < 4 then tapTerm m c t (3 - (y 0).val) (y 1) else 0)
    (fun t h i => ?_) (fun t h i => ?_) t ht y).trans (zero_add (M := EReal) _)
  · idx_vars i
    exact out8A m c t h i0 i1
  · idx_vars i
    exact out8B m c t h i0 i1

theorem out9 (t : Fin cfg0.N) (ht : t.val % 16 = 15) (y : S1x512.Idx) :
    ((outsAt0 m c t.val t.isLt).2.2 y : EReal) = ∑ s : Fin 16, biasTerm m c (at_ t s) (y 1) := by
  refine (Idealize.ShloMosaic.Pipeline.eq_sum_fin_of_reset_step_apply_of_flush
    (fun n h => (outsAt0 m c n h).2.2) 16 (fun _ => (0 : EReal)) (fun t y => biasTerm m c t (y 1))
    (fun t h i => ?_) (fun t h i => ?_) t ht y).trans (zero_add (M := EReal) _)
  · idx_vars i
    obtain rfl : i0 = 0 := Subsingleton.elim _ _
    exact out9A m c t h i1
  · idx_vars i
    obtain rfl : i0 = 0 := Subsingleton.elim _ _
    exact out9B m c t h i1

/-- A sum over sequences and positions, and over points and rows. -/
theorem sum_rows (g : Fin 4 → ℕ → EReal) (t : Fin cfg0.N) :
    ∑ s : Fin 16, ∑ q : Fin 512, g (seq (at_ t s)) ((at_ t s).val % 4 * 512 + q.val) = ∑ n : Fin 4, ∑ p : Fin 2048, g n p.val := by
  have e1 : ∑ s : Fin 16, ∑ q : Fin 512, g (seq (at_ t s)) ((at_ t s).val % 4 * 512 + q.val)
      = ∑ x : Fin 8192, g ⟨x.val / 2048, by omega⟩ (x.val % 2048) :=
    Fin.sum_mul_add_congr (M := EReal) fun s q hl => congrArg₂ g (Fin.ext (by
        show (16 * (t.val / 16) + s.val) % 16 / 4 = (s.val * 512 + q.val) / 2048
        omega)) (by
        show (16 * (t.val / 16) + s.val) % 4 * 512 + q.val = (s.val * 512 + q.val) % 2048
        omega)
  have e2 : ∑ n : Fin 4, ∑ p : Fin 2048, g n p.val = ∑ x : Fin 8192, g ⟨x.val / 2048, by omega⟩ (x.val % 2048) :=
    Fin.sum_mul_add_congr (M := EReal) fun n p hl => congrArg₂ g (Fin.ext (by
        show n.val = (n.val * 2048 + p.val) / 2048
        omega)) (by
        show p.val = (n.val * 2048 + p.val) % 2048
        omega)
  exact e1.trans e2.symm

theorem chan_at (t : Fin cfg0.N) (s : Fin 16) (l : Fin 512) : chan (at_ t s) l = chan t l :=
  Fin.ext (show (16 * (t.val / 16) + s.val) / 16 * 512 + l.val = t.val / 16 * 512 + l.val by omega)

/-- What the kernel leaves. -/
theorem kernel_dw : (dats m 0 c).arrAt 8 cfg0.N = dw (au m c) (ad m c) (aw m c) (ab m c) := by
  refine (dats m 0 c).arrAt_eq_of_covers 8 _ (by decide +kernel) fun t hf y => ?_
  blk_simp
  rw [after0_8]
  refine (out8 m c t ((flush0_8 t).mp hf) y).trans ?_
  idx_vars y
  have e : ∑ s : Fin 16, (if y0.val < 4 then tapTerm m c (at_ t s) (3 - y0.val) y1 else 0) = dw (au m c) (ad m c) (aw m c) (ab m c) (ix2 y0 (chan t y1)) := by
    unfold dw
    by_cases h : y0.val < 4
    · refine (Finset.sum_congr (M := EReal) rfl fun s _ => (if_pos h).trans ?_).trans
        ((sum_rows (fun n p => dpre (au m c) (ad m c) (aw m c) (ab m c) n p (chan t y1) * before (au m c) n p (chan t y1) (3 - y0.val)) t).trans
          (if_pos (c := ((ix2 y0 (chan t y1) : S8x3072.Idx) 0).val < 4) h).symm)
      unfold tapTerm
      rw [chan_at]
    · exact (Finset.sum_eq_zero (M := EReal) fun s _ => if_neg h).trans (if_neg (c := ((ix2 y0 (chan t y1) : S8x3072.Idx) 0).val < 4) h).symm
  refine e.trans ?_
  blk_ext [idx8 t]

theorem kernel_db : (dats m 0 c).arrAt 9 cfg0.N = db (au m c) (ad m c) (aw m c) (ab m c) := by
  refine (dats m 0 c).arrAt_eq_of_covers 9 _ (by decide +kernel) fun t hf y => ?_
  blk_simp
  rw [after0_9]
  refine (out9 m c t ((flush0_9 t).mp hf) y).trans ?_
  idx_vars y
  have e : ∑ s : Fin 16, biasTerm m c (at_ t s) y1 = db (au m c) (ad m c) (aw m c) (ab m c) (ix2 y0 (chan t y1)) := by
    unfold db biasTerm
    simp only [chan_at t]
    exact sum_rows (fun n p => dpre (au m c) (ad m c) (aw m c) (ab m c) n p (chan t y1)) t
  refine e.trans ?_
  blk_ext [idx9 t]

end Cert.Conv

end
-- ==== Proof.RefDefs.lean ====
module

public import proofs.«01_k».proof.Proof.Gen.ReferenceIdeal.Run
public import Idealize.ShloMosaic.Lib.Pointwise

@[expose] public section

set_option maxRecDepth 16384

noncomputable section

/-! # The reference's three results, named stage by stage -/

namespace Cert.RefVal

open Idealize.ShloMosaic Idealize.ShloMosaic.TcCoe Cert.ReferenceIdeal Cert.ReferenceIdeal.Gen

abbrev T4 := FVec Ideal S4x16x2048x2048 .f32
abbrev R4 := FVec Ideal S4x2048x16x64 .f32

def zero0 : FVec Ideal S_ .f32 := constant S_ .f32 0x00000000#32
def zero4 : T4 := broadcastInDim S4x16x2048x2048 ![] bcast_S_S4x16x2048x2048 zero0
def zero4' : T4 := broadcastInDim S4x16x2048x2048 ![] bcast_S_S4x16x2048x2048 (id zero0)
def inf4 : T4 := broadcastInDim S4x16x2048x2048 ![] bcast_S_S4x16x2048x2048 (constant S_ .f32 0x7F800000#32)
def eighth4 : T4 := broadcastInDim S4x16x2048x2048 ![] bcast_S_S4x16x2048x2048 (constant S_ .f32 0x3E000000#32)

/-- Heads of an array of 1024 columns. -/
def heads (x : FVec Ideal S4x2048x1024 .f32) : R4 := shapeCast _ x shapeCasts_S4x2048x1024_S4x2048x16x64
def rowsOf (x : FVec Ideal S4x2048x1024 .bf16) : R4 := heads (extf .f32 x bitsLt_bf16_f32)
def keysOf (x : FVec Ideal S4x2048x2048 .bf16) : R4 :=
  heads (extractStridedSlice S4x2048x1024 ![0, 0, 0] (extf .f32 x bitsLt_bf16_f32) slices_S4x2048x2048_S4x2048x1024_0_0_0)
def valsOf (x : FVec Ideal S4x2048x2048 .bf16) : R4 :=
  heads (extractStridedSlice S4x2048x1024 ![0, 0, 1024] (extf .f32 x bitsLt_bf16_f32) slices_S4x2048x2048_S4x2048x1024_0_0_1024)

def scores (q k : R4) : T4 :=
  mulf (Host.dotGeneral dot_S4x2048x16x64_S4x2048x16x64_S4x16x2048x2048_3_3_1_1_02_02 none q k) eighth4

def causal : IVec S4x16x2048x2048 1 :=
  broadcastInDim S4x16x2048x2048 ![2, 3] bcast_S2048x2048_S4x16x2048x2048_2_3
    (cmpi .sgt (broadcastInDim S2048x2048 ![0, 1] bcast_S2048x1_S2048x2048_0_1 (broadcastInDim S2048x1 ![0] bcast_S2048_S2048x1_0 (iotaInDim S2048 32 0)))
      (broadcastInDim S2048x2048 ![0, 1] bcast_S1x2048_S2048x2048_0_1 (broadcastInDim S1x2048 ![1] bcast_S2048_S1x2048_1 (iotaInDim S2048 32 0))))

def softT (x : T4) : T4 :=
  select (cmpf .une (subf x zero4) (subf x zero4)) (addf x zero4)
    (addf (maximumf x zero4) (Host.log1p (Host.exp (Host.negf (Host.absf (subf x zero4))))))

def logKeep (z : T4) : T4 := select causal (Host.negf (softT (Host.negf (Host.negf z)))) zero4'
def revSum (x : T4) : T4 :=
  Host.reduceWindowAdd ![1, 1, 1, 2048] ![1, 1, 1, 1] ![0, 0, 0, 0] ![0, 0, 0, 2047] x (broadcastInDim S_ ![] bcast_S_S_ zero0) reduceWindows_S4x16x2048x2048_S4x16x2048x2048_w1s1p0_0_w1s1p0_0_w1s1p0_0_w2048s1p0_2047 h_S_
def fwdSum (x : T4) : T4 :=
  Host.reduceWindowAdd ![1, 1, 1, 2048] ![1, 1, 1, 1] ![0, 0, 0, 2047] ![0, 0, 0, 0] x (broadcastInDim S_ ![] bcast_S_S_ zero0) reduceWindows_S4x16x2048x2048_S4x16x2048x2048_w1s1p0_0_w1s1p0_0_w1s1p0_0_w2048s1p2047_0 h_S_
def restT (x : T4) : T4 := subf (revSum x) x
def weight (z : T4) : T4 := Host.exp (addf (Host.negf (softT (Host.negf z))) (restT (logKeep z)))
def cot (v d : R4) : T4 :=
  select causal (Host.dotGeneral dot_S4x16x64x2048_S4x2048x16x64_S4x16x2048x2048_2_3_3_1_01_02 none (transpose S4x16x64x2048 [0, 2, 3, 1] d transposes_S4x2048x16x64_S4x16x64x2048_0_2_3_1) v) zero4
def resid (x y : T4) : T4 := Host.exp (subf (select (cmpf .oeq x inf4) zero4 x) (select (cmpf .oeq y inf4) zero4 y))
def dScore (z a : T4) : T4 :=
  mulf (addf (Host.negf (Host.negf (mulf (Host.negf (select causal (addf (Host.negf a) (fwdSum a)) zero4)) (resid (Host.negf (Host.negf z)) (softT (Host.negf (Host.negf z)))))))
    (Host.negf (mulf (Host.negf a) (resid (Host.negf z) (softT (Host.negf z)))))) eighth4

def cols (x : R4) : FVec Ideal S4x2048x1024 .f32 := shapeCast _ x shapeCasts_S4x2048x16x64_S4x2048x1024

def dqT (dz : T4) (k : R4) : R4 :=
  transpose S4x2048x16x64 [0, 2, 1, 3] (Host.dotGeneral dot_S4x16x2048x2048_S4x2048x16x64_S4x16x2048x64_3_1_2_3_01_02 none dz k) transposes_S4x16x2048x64_S4x2048x16x64_0_2_1_3
def dkT (dz : T4) (q : R4) : R4 :=
  transpose S4x2048x16x64 [0, 2, 1, 3] (Host.dotGeneral dot_S4x16x2048x2048_S4x2048x16x64_S4x16x2048x64_2_1_3_3_01_02 none dz q) transposes_S4x16x2048x64_S4x2048x16x64_0_2_1_3
def dvT (w : T4) (d : R4) : R4 :=
  transpose S4x2048x16x64 [0, 3, 1, 2] (Host.dotGeneral dot_S4x16x64x2048_S4x16x2048x2048_S4x16x64x2048_3_2_2_3_01_01 none (transpose S4x16x64x2048 [0, 2, 3, 1] d transposes_S4x2048x16x64_S4x16x64x2048_0_2_3_1) (select causal w zero4')) transposes_S4x16x64x2048_S4x2048x16x64_0_3_1_2

section
variable (m : (ℓ : Loc nD τ sig) → Idealize.ShloMosaic.Buf (Elt Ideal) ℓ) (c : Dev nD)

def A0 : FVec Ideal S4x2048x1024 .bf16 := m ((c.tc : Thread nD τ).loc main_arg0)
def A1 : FVec Ideal S4x2048x2048 .bf16 := m ((c.tc : Thread nD τ).loc main_arg1)
def A2 : FVec Ideal S4x2048x1024 .bf16 := m ((c.tc : Thread nD τ).loc main_arg2)
def A3 : FVec Ideal S4x2048x1024 .f32 := m ((c.tc : Thread nD τ).loc main_arg3)
def A4 : FVec Ideal S4x2048x1024 .f32 := m ((c.tc : Thread nD τ).loc main_arg4)

def zT (a0 : FVec Ideal S4x2048x1024 .bf16) (a1 : FVec Ideal S4x2048x2048 .bf16) : T4 := scores (rowsOf a0) (keysOf a1)
def aT (a0 : FVec Ideal S4x2048x1024 .bf16) (a1 : FVec Ideal S4x2048x2048 .bf16) (a2 : FVec Ideal S4x2048x1024 .bf16) : T4 :=
  mulf (cot (valsOf a1) (rowsOf a2)) (weight (zT a0 a1))
def dzT (a0 : FVec Ideal S4x2048x1024 .bf16) (a1 : FVec Ideal S4x2048x2048 .bf16) (a2 : FVec Ideal S4x2048x1024 .bf16) : T4 :=
  dScore (zT a0 a1) (aT a0 a1 a2)

theorem res54 : (Value.res_main_v54 m c : FVec Ideal S4x2048x1024 .bf16)
    = truncf .bf16 (cols (dqT (dzT (A0 m c) (A1 m c) (A2 m c)) (keysOf (A1 m c)))) bitsLt_bf16_f32 := by
  unfold Value.res_main_v54; rfl

theorem res55 : (Value.res_main_v55 m c : FVec Ideal S4x2048x1024 .f32)
    = addf (A3 m c) (cols (dkT (dzT (A0 m c) (A1 m c) (A2 m c)) (rowsOf (A0 m c)))) := by
  unfold Value.res_main_v55; rfl

theorem res56 : (Value.res_main_v56 m c : FVec Ideal S4x2048x1024 .f32)
    = addf (A4 m c) (cols (dvT (weight (zT (A0 m c) (A1 m c))) (rowsOf (A2 m c)))) := by
  unfold Value.res_main_v56; rfl

end

end Cert.RefVal
-- ==== Proof.Stick.lean ====
module

public import Mathlib.Analysis.SpecialFunctions.Log.Basic
public import Mathlib.Algebra.BigOperators.Intervals

@[expose] public section

noncomputable section

open scoped BigOperators

/-! # The stick-breaking weights of one head, over the real numbers

Rows `t` (queries) and columns `s` (keys) are natural numbers below `N`; `z t s` is the score and `g t s` the product
of the row's cotangent with the column's value vector. -/

namespace Cert.Stick

/-- `log (1 + exp z)`, as both programs spell it. -/
def soft (z : ℝ) : ℝ := max z 0 + Real.log (1 + Real.exp (-|z|))

theorem exp_soft (z : ℝ) : Real.exp (soft z) = 1 + Real.exp z := by
  have hpos : (0 : ℝ) < 1 + Real.exp (-|z|) := by positivity
  unfold soft
  rw [Real.exp_add, Real.exp_log hpos]
  rcases le_total 0 z with h | h
  · rw [max_eq_left h, abs_of_nonneg h, mul_add, ← Real.exp_add, mul_one, add_neg_cancel, Real.exp_zero, add_comm]
  · rw [max_eq_right h, abs_of_nonpos h, Real.exp_zero, one_mul, neg_neg]

theorem soft_neg (z : ℝ) : soft (-z) = soft z - z := by
  unfold soft
  rw [abs_neg]
  rcases le_total 0 z with h | h
  · rw [max_eq_left h, max_eq_right (neg_nonpos.mpr h)]; ring
  · rw [max_eq_right h, max_eq_left (neg_nonneg.mpr h)]; ring

theorem min_soft (z : ℝ) : min z 0 - Real.log (1 + Real.exp (-|z|)) = z - soft z := by
  unfold soft
  rcases le_total 0 z with h | h
  · rw [max_eq_left h, min_eq_right h]; ring
  · rw [max_eq_right h, min_eq_left h]; ring

theorem max_soft (z : ℝ) : 0 - max z 0 - Real.log (1 + Real.exp (-|z|)) = -soft z := by
  unfold soft; ring

/-- The logistic function and its complement add to one. -/
theorem logistic_add (z : ℝ) : Real.exp (z - soft z) + Real.exp (-soft z) = 1 := by
  rw [Real.exp_sub, Real.exp_neg, exp_soft]
  have : (1 + Real.exp z) ≠ 0 := by positivity
  field_simp
  ring

theorem logistic_neg (z : ℝ) : Real.exp (-z - soft (-z)) = 1 - Real.exp (z - soft z) := by
  rw [soft_neg, ← logistic_add z]
  rw [show -z - (soft z - z) = -soft z by ring]; ring

section Model

variable (N : ℕ) (z g : ℕ → ℕ → ℝ)

/-- The logarithm of what column `s` leaves of row `t`'s stick: nothing is taken at and above the diagonal. -/
def keep (t s : ℕ) : ℝ := if s < t then -soft (z t s) else 0

/-- The sum of a row's `keep` over the columns after `s`. -/
def rest (t s : ℕ) : ℝ := ∑ r ∈ Finset.range N, keep z t r - ∑ r ∈ Finset.range (s + 1), keep z t r

/-- The weight of column `s` in row `t`. -/
def wt (t s : ℕ) : ℝ := if s < t then Real.exp (z t s - soft (z t s) + rest N z t s) else 0

/-- The gradient of the weight's exponent. -/
def gw (t s : ℕ) : ℝ := g t s * wt N z t s

/-- The gradient of the score. -/
def dz (t s : ℕ) : ℝ :=
  if s < t then gw N z g t s * (1 - Real.exp (z t s - soft (z t s)))
    - (∑ r ∈ Finset.range s, gw N z g t r) * Real.exp (z t s - soft (z t s)) else 0

theorem wt_zero {t s : ℕ} (h : t ≤ s) : wt N z t s = 0 := if_neg (by omega)
theorem gw_zero {t s : ℕ} (h : t ≤ s) : gw N z g t s = 0 := by rw [gw, wt_zero N z h, mul_zero]
theorem dz_zero {t s : ℕ} (h : t ≤ s) : dz N z g t s = 0 := if_neg (by omega)
theorem keep_zero {t s : ℕ} (h : t ≤ s) : keep z t s = 0 := if_neg (by omega)

end Model

/-- A sum over the first `a + k` numbers, the last `n ≥ k` taken as one tile. -/
theorem sum_tile (f : ℕ → ℝ) (a n k : ℕ) (hk : k ≤ n) :
    ∑ s ∈ Finset.range (a + k), f s
      = ∑ s ∈ Finset.range a, f s + ∑ u : Fin n, if u.val < k then f (a + u.val) else 0 := by
  rw [Finset.sum_range_add]
  congr 1
  rw [Finset.sum_fin_eq_sum_range (n := n) (fun u : Fin n => if u.val < k then f (a + u.val) else 0)]
  rw [← Finset.sum_filter_add_sum_filter_not (Finset.range n) (fun u => u < k)]
  have h2 : ∑ x ∈ (Finset.range n).filter (fun u => ¬ u < k),
      (if h : x < n then (if (⟨x, h⟩ : Fin n).val < k then f (a + (⟨x, h⟩ : Fin n).val) else 0) else 0) = 0 := by
    refine Finset.sum_eq_zero fun x hx => ?_
    have := (Finset.mem_filter.mp hx).2
    by_cases h : x < n <;> simp [h, this]
  rw [h2, add_zero]
  have h3 : (Finset.range n).filter (fun u => u < k) = Finset.range k := by
    ext x; simp; omega
  rw [h3]
  refine Finset.sum_congr rfl fun x hx => ?_
  have hx := Finset.mem_range.mp hx
  rw [dif_pos (by omega)]; simp [hx]

/-- … and with the whole tile. -/
theorem sum_tile_all (f : ℕ → ℝ) (a n : ℕ) :
    ∑ s ∈ Finset.range (a + n), f s = ∑ s ∈ Finset.range a, f s + ∑ u : Fin n, f (a + u.val) := by
  rw [Finset.sum_range_add, Finset.sum_range (fun x => f (a + x))]

end Cert.Stick

end
-- ==== Proof.Tile.lean ====
module

public import proofs.«01_k».proof.Proof.Gen.KernelIdeal.Skeleton
public import Idealize.ShloMosaic.Lib.Pointwise

@[expose] public section

set_option maxRecDepth 16384

noncomputable section

/-! # One tile of 128 columns against `n` rows of one head

The vector operations of one tile, at any number of rows and with or without the causal mask. -/

namespace Cert.Tile

open Idealize.ShloMosaic

abbrev M (n k : ℕ) : Shape := ⟨2, ![n, k]⟩
abbrev L1 (n : ℕ) : Shape := ⟨1, ![n]⟩

/-- The shape facts of the operations on `n` rows. -/
structure Shp (n : ℕ) where
  nt : DotDims (M n 128) (M 128 128) (M n 128)
  nn : DotDims (M n 128) (M 128 128) (M n 128)
  tn : DotDims (M n 128) (M n 128) (M 128 128)
  bc : (M n 1).Broadcasts (M n 128)
  red : (M n 128).Reduces [1] (L1 n)
  col : (L1 n).ShapeCasts (M n 1)
  lt : FTy.bits .bf16 < FTy.bits .f32

variable {F : FTy → Type} [FloatOps F] {n : ℕ} (s : Shp n)

/-- The scores. -/
def score (qh : FVec F (M n 128) .bf16) (kj : FVec F (M 128 128) .bf16) : FVec F (M n 128) .f32 :=
  matmul s.nt none qh kj (constant (M n 128) .f32 0x00000000#32)

def zero (n k : ℕ) : FVec F (M n k) .f32 := broadcast (M n k) (Scalar.ofBits .f32 0x00000000#32)
def one (n k : ℕ) : FVec F (M n k) .f32 := broadcast (M n k) (Scalar.ofBits .f32 0x3F800000#32)

def l1p (z : FVec F (M n 128) .f32) : FVec F (M n 128) .f32 := log (addf (one n 128) (exp (subf (zero n 128) (absf z))))

/-- The mask, where there is one. -/
def msk (m : Option (IVec (M n 128) 1)) (x : FVec F (M n 128) .f32) : FVec F (M n 128) .f32 :=
  match m with
  | none => x
  | some m => select m x (zero n 128)

def lbeta (z : FVec F (M n 128) .f32) : FVec F (M n 128) .f32 := subf (minimumf z (zero n 128)) (l1p z)

def lkeep (m : Option (IVec (M n 128) 1)) (z : FVec F (M n 128) .f32) : FVec F (M n 128) .f32 :=
  msk m (subf (subf (zero n 128) (maximumf z (zero n 128))) (l1p z))

/-- The product with a 0/1 matrix, the operand in two parts. -/
def parts (x : FVec F (M n 128) .f32) (u : FVec F (M 128 128) .bf16) : FVec F (M n 128) .f32 :=
  addf (matmul s.nn none (truncf .bf16 x s.lt) u (constant (M n 128) .f32 0x00000000#32))
    (matmul s.nn none (truncf .bf16 (subf x (extf .f32 (truncf .bf16 x s.lt) s.lt)) s.lt) u
      (constant (M n 128) .f32 0x00000000#32))

def weight (m : Option (IVec (M n 128) 1)) (ule : FVec F (M 128 128) .bf16) (z : FVec F (M n 128) .f32)
    (lt run : FVec F (M n 1) .f32) : FVec F (M n 128) .f32 :=
  msk m (exp (addf (lbeta z) (subf (broadcastTo (M n 128) (subf lt run) s.bc) (parts s (lkeep m z) ule))))

def gweight (doh : FVec F (M n 128) .bf16) (vj : FVec F (M 128 128) .bf16) (w : FVec F (M n 128) .f32) :
    FVec F (M n 128) .f32 :=
  mulf (matmul s.nt none doh vj (constant (M n 128) .f32 0x00000000#32)) w

def dscore (m : Option (IVec (M n 128) 1)) (ult : FVec F (M 128 128) .bf16) (z a : FVec F (M n 128) .f32)
    (ra : FVec F (M n 1) .f32) : FVec F (M n 128) .bf16 :=
  truncf .bf16 (msk m (subf (mulf a (subf (one n 128) (exp (lbeta z))))
    (mulf (addf (broadcastTo (M n 128) ra s.bc) (parts s a ult)) (exp (lbeta z))))) s.lt

def accum (acc : FVec F (M n 128) .f32) (dz : FVec F (M n 128) .bf16) (kj : FVec F (M 128 128) .bf16) :
    FVec F (M n 128) .f32 :=
  addf acc (matmul s.nn none dz kj (constant (M n 128) .f32 0x00000000#32))

def addrow (r : FVec F (M n 1) .f32) (x : FVec F (M n 128) .f32) : FVec F (M n 1) .f32 :=
  addf r (shapeCast (M n 1) (multiReduction .add [1] (L1 n) x 0x00000000#32 s.red (.inl rfl) rfl) s.col)

def outer (x : FVec F (M n 128) .bf16) (y : FVec F (M n 128) .bf16) : FVec F (M 128 128) .f32 :=
  matmul s.tn none x y (constant (M 128 128) .f32 0x00000000#32)

/-- What a head carries from tile to tile: the query gradient, the sum of `log_keep`, the sum of the weights'
gradients. -/
structure Carry (F : FTy → Type) (n : ℕ) where
  acc : FVec F (M n 128) .f32
  run : FVec F (M n 1) .f32
  ra : FVec F (M n 1) .f32

/-- What a head's rows bring. -/
structure Rows (F : FTy → Type) (n : ℕ) where
  q : FVec F (M n 128) .bf16
  do_ : FVec F (M n 128) .bf16
  lt : FVec F (M n 1) .f32

variable (m : Option (IVec (M n 128) 1)) (ule ult : FVec F (M 128 128) .bf16) (r : Rows F n)
  (kj vj : FVec F (M 128 128) .bf16) (c : Carry F n)

def tw : FVec F (M n 128) .f32 := weight s m ule (score s r.q kj) r.lt c.run
def ta : FVec F (M n 128) .f32 := gweight s r.do_ vj (tw s m ule r kj c)
def td : FVec F (M n 128) .bf16 := dscore s m ult (score s r.q kj) (ta s m ule r kj vj c) c.ra
def next : Carry F n :=
  ⟨accum s c.acc (td s m ule ult r kj vj c) kj, addrow s c.run (lkeep m (score s r.q kj)), addrow s c.ra (ta s m ule r kj vj c)⟩
def dkt : FVec F (M 128 128) .f32 := outer s (td s m ule ult r kj vj c) r.q
def dvt : FVec F (M 128 128) .f32 := outer s (truncf .bf16 (tw s m ule r kj c) s.lt) r.do_

end Cert.Tile

end
-- ==== Proof.Trip.lean ====
module

public import proofs.«01_k».proof.Proof.Tile
public import proofs.«01_k».proof.Proof.Gen.KernelIdeal.Loops

@[expose] public section

set_option maxRecDepth 16384

noncomputable section

/-! # One trip of the kernel's loop as four tiles -/

namespace Cert.Tile

open Idealize.ShloMosaic Idealize.ShloMosaic.TcCoe Cert.KernelIdeal Cert.KernelIdeal.Gen

variable {F : FTy → Type} [FloatOps F]

def s512 : Shp 512 where
  nt := dot_S512x128_S128x128_S512x128_1_1_0_0_n_n
  nn := dot_S512x128_S128x128_S512x128_1_0_0_1_n_n
  tn := dot_S512x128_S512x128_S128x128_0_0_1_1_n_n
  bc := by decide
  red := by decide
  col := by decide
  lt := by decide

/-- What a grid point's tiles share. -/
structure Env (F : FTy → Type) where
  ule : FVec F (M 128 128) .bf16
  ult : FVec F (M 128 128) .bf16
  r0 : Rows F 512
  r1 : Rows F 512

variable (e : Env F)

/-- A block of 128 rows of a staged array. -/
def blk128 {φ : FTy} (x : FVec F S1x128x128 φ) : FVec F (M 128 128) φ := shapeCast (M 128 128) x (by decide)

/-- The two heads' carries after a whole tile. -/
def next2 (kj vj : FVec F (M 128 128) .bf16) (c : Carry F 512 × Carry F 512) : Carry F 512 × Carry F 512 :=
  (next s512 none e.ule e.ult e.r0 kj vj c.1, next s512 none e.ule e.ult e.r1 kj vj c.2)

def dk2 (kj vj : FVec F (M 128 128) .bf16) (c : Carry F 512 × Carry F 512) : FVec F (M 128 128) .f32 :=
  addf (dkt s512 none e.ule e.ult e.r0 kj vj c.1) (dkt s512 none e.ule e.ult e.r1 kj vj c.2)

def dv2 (kj : FVec F (M 128 128) .bf16) (c : Carry F 512 × Carry F 512) : FVec F (M 128 128) .f32 :=
  addf (dvt s512 none e.ule e.r0 kj c.1) (dvt s512 none e.ule e.r1 kj c.2)

def pack (c : Carry F 512 × Carry F 512) : FVec F S512x128 .f32 × FVec F S512x1 .f32 × FVec F S512x1 .f32 × FVec F S512x128 .f32 × FVec F S512x1 .f32 × FVec F S512x1 .f32 :=
  (c.1.acc, c.1.run, c.1.ra, c.2.acc, c.2.run, c.2.ra)

/-- The value added into a block of 128 rows. -/
def addBlk (x : Vec F S1x128x128 .f32) (d : FVec F (M 128 128) .f32) : Vec F S1x128x128 .f32 :=
  shapeCast S1x128x128 (addf (blk128 x) d) (by decide)

/-- The tile's columns at trip `k`, tile `u`. -/
abbrev rect1 (i : grid0.Coords) (k : Fin (k0_t1_loop i).trips) (u : Fin 4) : Rect S1x2048x128 :=
  Rect.unit (s := S1x2048x128) (k0_off1 i k (BitVec.ofNat 32 u)) S1x128x128.size (k0_off1_inb i k u)

section Trip

variable (c : Dev nD) (i : grid0.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x128 .f32) (harg6 : arg6.IsWhole) (arg7 : Memref sig .tc .vmem S1x512x128 .bf16) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x512x128 .bf16) (harg10 : arg10.IsWhole) (arg11 : Memref sig .tc .vmem S1x2048x128 .f32) (harg11 : arg11.IsWhole) (arg12 : Memref sig .tc .vmem S1x2048x128 .f32) (harg12 : arg12.IsWhole)
  (arg2 v3 : BitVec 32) (v10 v14 : FVec F S128x128 .bf16) (v46 v74 v76 v104 : FVec F S512x128 .bf16) (v130 : IVec S512x128 1)
  (v133 v135 : Vec F S1x512x1 .f32) (X4 : BufTy.Contents (Elt F) arg4.view.ty) (X5 : BufTy.Contents (Elt F) arg5.view.ty)

/-- The shared operands of a trip's tiles. -/
def env : Env F :=
  ⟨v10, v14, ⟨v46, v104, k0_pay259 v133⟩, ⟨v74, k0_pay258 v76 v130, k0_pay260 v135⟩⟩

variable (k : Fin (k0_t1_loop i).trips) (cr : Carry F 512 × Carry F 512)
  (f11 : BufTy.Contents (Elt F) arg11.view.ty) (f12 : BufTy.Contents (Elt F) arg12.view.ty)

def kb (u : Fin 4) : FVec F (M 128 128) .bf16 := blk128 (View.readAt (Elt F) arg4.view (rect1 i k u).toLoadRect X4)

/-- The carries before tile `u` of a trip. -/
def steps (e : Env F) (kj vj : Fin 4 → FVec F (M 128 128) .bf16) : ℕ → Carry F 512 × Carry F 512
  | 0 => cr
  | u + 1 => if h : u < 4 then next2 e (kj ⟨u, h⟩) (vj ⟨u, h⟩) (steps e kj vj u) else steps e kj vj u

set_option maxHeartbeats 4000000 in
theorem trip_res : tripR_k0_t1 (F := F) Variants.none c none i arg3 harg3 arg4 harg4 arg5 harg5 arg6 harg6 arg7 harg7 arg8 harg8 arg9 harg9 arg10 harg10 arg11 harg11 arg12 harg12 arg2 v3 v10 v14 v46 v74 v76 v104 v130 v133 v135 X4 X5 k (pack cr) f11 f12
    = pack (steps cr (env v10 v14 v46 v74 v76 v104 v130 v133 v135) (kb i arg4 X4 k) (kb i arg5 X5 k) 4) := by
  unfold tripR_k0_t1 trip_k0_t1
  rfl

/-- What tile `u` of a trip adds to the keys' gradient. -/
def dkAt (e : Env F) (kj vj : Fin 4 → FVec F (M 128 128) .bf16) (u : Fin 4) : FVec F (M 128 128) .f32 :=
  dk2 e (kj u) (vj u) (steps cr e kj vj u)

def dvAt (e : Env F) (kj vj : Fin 4 → FVec F (M 128 128) .bf16) (u : Fin 4) : FVec F (M 128 128) .f32 :=
  dv2 e (kj u) (steps cr e kj vj u)

/-- A trip's store of tile `u`. -/
def piece1 (a : Memref sig .tc .vmem S1x2048x128 .f32) (f : BufTy.Contents (Elt F) a.view.ty)
    (d : Fin 4 → FVec F (M 128 128) .f32) (u : Fin 4) : View.Piece (Elt F) S1x2048x128 .f32 :=
  ⟨rect1 i k u, addBlk (View.readAt (Elt F) a.view (rect1 i k u).toLoadRect f) (d u)⟩

set_option maxHeartbeats 4000000 in
theorem trip_pieces : tripL_k0_t1 (F := F) Variants.none c none i arg3 harg3 arg4 harg4 arg5 harg5 arg6 harg6 arg7 harg7 arg8 harg8 arg9 harg9 arg10 harg10 arg11 harg11 arg12 harg12 arg2 v3 v10 v14 v46 v74 v76 v104 v130 v133 v135 X4 X5 k (pack cr) f11 f12
    = ((let e := env v10 v14 v46 v74 v76 v104 v130 v133 v135
        let d := dkAt cr e (kb i arg4 X4 k) (kb i arg5 X5 k)
        [piece1 i k arg11 f11 d 3, piece1 i k arg11 f11 d 2, piece1 i k arg11 f11 d 1, piece1 i k arg11 f11 d 0]),
       (let e := env v10 v14 v46 v74 v76 v104 v130 v133 v135
        let d := dvAt cr e (kb i arg4 X4 k) (kb i arg5 X5 k)
        [piece1 i k arg12 f12 d 3, piece1 i k arg12 f12 d 2, piece1 i k arg12 f12 d 1, piece1 i k arg12 f12 d 0])) := by
  unfold tripL_k0_t1 trip_k0_t1
  rfl
end Trip

end Cert.Tile

end
-- ==== Proof.Body.lean ====
module

public import proofs.«01_k».proof.Proof.Trip
public import proofs.«01_k».proof.Proof.Gen.KernelIdeal.Frame.RunB

@[expose] public section

set_option maxRecDepth 16384

noncomputable section

/-! # One grid point of the kernel: the loop's tiles, then the four tiles on the diagonal -/

namespace Cert.Tile

open Idealize.ShloMosaic Idealize.ShloMosaic.TcCoe Cert.KernelIdeal Cert.KernelIdeal.Gen

variable {F : FTy → Type} [FloatOps F]

/-- The last `n` of 512 rows, the first `r` apart. -/
structure Cut (n r : ℕ) where
  sh : Shp n
  tl : (M 512 128).Slices ![r, 0] (M n 128)
  tl1 : (M 512 1).Slices ![r, 0] (M n 1)
  hd : (M 512 128).Slices ![0, 0] (M r 128)
  hd1 : (M 512 1).Slices ![0, 0] (M r 1)
  cc : Shape.Concatenates [M r 128, M n 128] (M 512 128) 0
  cc1 : Shape.Concatenates [M r 1, M n 1] (M 512 1) 0

section Cut

variable {n r : ℕ} (t : Cut n r)

def tail {α : Type} (x : (M 512 128).Idx → α) : (M n 128).Idx → α := extractStridedSlice (M n 128) ![r, 0] x t.tl
def tail1 {α : Type} (x : (M 512 1).Idx → α) : (M n 1).Idx → α := extractStridedSlice (M n 1) ![r, 0] x t.tl1

def tailRows (x : Rows F 512) : Rows F n := ⟨tail t x.q, tail t x.do_, tail1 t x.lt⟩
def tailCarry (x : Carry F 512) : Carry F n := ⟨tail t x.acc, tail1 t x.run, tail1 t x.ra⟩

def join (x : FVec F (M 512 128) .f32) (y : FVec F (M n 128) .f32) : FVec F (M 512 128) .f32 :=
  concatenate (M 512 128) 0 [⟨M r 128, extractStridedSlice (M r 128) ![0, 0] x t.hd⟩, ⟨M n 128, y⟩] t.cc
def join1 (x : FVec F (M 512 1) .f32) (y : FVec F (M n 1) .f32) : FVec F (M 512 1) .f32 :=
  concatenate (M 512 1) 0 [⟨M r 1, extractStridedSlice (M r 1) ![0, 0] x t.hd1⟩, ⟨M n 1, y⟩] t.cc1
def joinCarry (x : Carry F 512) (y : Carry F n) : Carry F 512 :=
  ⟨join t x.acc y.acc, join1 t x.run y.run, join1 t x.ra y.ra⟩

variable (mask : IVec (M 512 128) 1) (e : Env F) (kj vj : FVec F (M 128 128) .bf16) (c : Carry F 512 × Carry F 512)

def cutNext : Carry F 512 × Carry F 512 :=
  (joinCarry t c.1 (next t.sh (some (tail t mask)) e.ule e.ult (tailRows t e.r0) kj vj (tailCarry t c.1)),
   joinCarry t c.2 (next t.sh (some (tail t mask)) e.ule e.ult (tailRows t e.r1) kj vj (tailCarry t c.2)))
def cutDk : FVec F (M 128 128) .f32 :=
  addf (dkt t.sh (some (tail t mask)) e.ule e.ult (tailRows t e.r0) kj vj (tailCarry t c.1))
    (dkt t.sh (some (tail t mask)) e.ule e.ult (tailRows t e.r1) kj vj (tailCarry t c.2))
def cutDv : FVec F (M 128 128) .f32 :=
  addf (dvt t.sh (some (tail t mask)) e.ule (tailRows t e.r0) kj (tailCarry t c.1))
    (dvt t.sh (some (tail t mask)) e.ule (tailRows t e.r1) kj (tailCarry t c.2))

/-- The first tile on the diagonal takes all the rows. -/
def topNext : Carry F 512 × Carry F 512 :=
  (next s512 (some mask) e.ule e.ult e.r0 kj vj c.1, next s512 (some mask) e.ule e.ult e.r1 kj vj c.2)
def topDk : FVec F (M 128 128) .f32 :=
  addf (dkt s512 (some mask) e.ule e.ult e.r0 kj vj c.1) (dkt s512 (some mask) e.ule e.ult e.r1 kj vj c.2)
def topDv : FVec F (M 128 128) .f32 :=
  addf (dvt s512 (some mask) e.ule e.r0 kj c.1) (dvt s512 (some mask) e.ule e.r1 kj c.2)

end Cut

def c384 : Cut 384 128 where
  sh := ⟨dot_S384x128_S128x128_S384x128_1_1_0_0_n_n, dot_S384x128_S128x128_S384x128_1_0_0_1_n_n,
    dot_S384x128_S384x128_S128x128_0_0_1_1_n_n, by decide, by decide, by decide, by decide⟩
  tl := by decide
  tl1 := by decide
  hd := by decide
  hd1 := by decide
  cc := by decide
  cc1 := by decide

def c256 : Cut 256 256 where
  sh := ⟨dot_S256x128_S128x128_S256x128_1_1_0_0_n_n, dot_S256x128_S128x128_S256x128_1_0_0_1_n_n,
    dot_S256x128_S256x128_S128x128_0_0_1_1_n_n, by decide, by decide, by decide, by decide⟩
  tl := by decide
  tl1 := by decide
  hd := by decide
  hd1 := by decide
  cc := by decide
  cc1 := by decide

def c128 : Cut 128 384 where
  sh := ⟨dot_S128x128_S128x128_S128x128_1_1_0_0_n_n, dot_S128x128_S128x128_S128x128_1_0_0_1_n_n,
    dot_S128x128_S128x128_S128x128_0_0_1_1_n_n, by decide, by decide, by decide, by decide⟩
  tl := by decide
  tl1 := by decide
  hd := by decide
  hd1 := by decide
  cc := by decide
  cc1 := by decide

section Diag

variable (e : Env F) (kj vj : Fin 4 → FVec F (M 128 128) .bf16) (c : Carry F 512 × Carry F 512)

def diag1 : Carry F 512 × Carry F 512 := topNext k0_pay266 e (kj 0) (vj 0) c
def diag2 : Carry F 512 × Carry F 512 := cutNext c384 k0_pay267 e (kj 1) (vj 1) (diag1 e kj vj c)
def diag3 : Carry F 512 × Carry F 512 := cutNext c256 k0_pay268 e (kj 2) (vj 2) (diag2 e kj vj c)
def diag4 : Carry F 512 × Carry F 512 := cutNext c128 k0_pay269 e (kj 3) (vj 3) (diag3 e kj vj c)

def diagDk0 : FVec F (M 128 128) .f32 := topDk k0_pay266 e (kj 0) (vj 0) c
def diagDk1 : FVec F (M 128 128) .f32 := cutDk c384 k0_pay267 e (kj 1) (vj 1) (diag1 e kj vj c)
def diagDk2 : FVec F (M 128 128) .f32 := cutDk c256 k0_pay268 e (kj 2) (vj 2) (diag2 e kj vj c)
def diagDk3 : FVec F (M 128 128) .f32 := cutDk c128 k0_pay269 e (kj 3) (vj 3) (diag3 e kj vj c)
def diagDv0 : FVec F (M 128 128) .f32 := topDv k0_pay266 e (kj 0) c
def diagDv1 : FVec F (M 128 128) .f32 := cutDv c384 k0_pay267 e (kj 1) (diag1 e kj vj c)
def diagDv2 : FVec F (M 128 128) .f32 := cutDv c256 k0_pay268 e (kj 2) (diag2 e kj vj c)
def diagDv3 : FVec F (M 128 128) .f32 := cutDv c128 k0_pay269 e (kj 3) (diag3 e kj vj c)

end Diag

/-- The columns of the diagonal's tile `u`. -/
abbrev rect3 (i : grid0.Coords) (u : Fin 4) : Rect S1x2048x128 :=
  Rect.unit (s := S1x2048x128) (k0_off3 i (BitVec.ofNat 32 u)) S1x128x128.size (k0_off3_inb i u)

/-- A store that adds `d` into the rows of `r`, over the stores before it. -/
def putPiece (a : Memref sig .tc .vmem S1x2048x128 .f32) (f : BufTy.Contents (Elt F) a.view.ty)
    (i : grid0.Coords) (u : Fin 4) (d : FVec F (M 128 128) .f32) (L : List (View.Piece (Elt F) S1x2048x128 .f32)) :
    List (View.Piece (Elt F) S1x2048x128 .f32) :=
  ⟨rect3 i u, addBlk (View.readAt (Elt F) a.view (rect3 i u).toLoadRect (a.view.writes (Elt F) f L)) d⟩ :: L

def lane : IVec S512x128 32 := iota .tc S512x128 32 [1] iota_S512x128_d1_w32

/-- The query gradient's block from the two heads' sums. -/
def outq (c : Carry F 512 × Carry F 512) : FVec F S1x512x128 .bf16 :=
  k0_pay1 lane c.1.acc c.2.acc 64#32 (k0_pay410 lane) (k0_pay411 lane) 1#32 0#1

section Run

variable (c : Dev nD) (i : grid0.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x128 .f32) (harg6 : arg6.IsWhole) (arg7 : Memref sig .tc .vmem S1x512x128 .bf16) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x512x128 .bf16) (harg10 : arg10.IsWhole) (arg11 : Memref sig .tc .vmem S1x2048x128 .f32) (harg11 : arg11.IsWhole) (arg12 : Memref sig .tc .vmem S1x2048x128 .f32) (harg12 : arg12.IsWhole)

variable (vq vdo : FVec F S1x512x128 .bf16) (l0 l1 : Vec F S1x512x1 .f32)

def qh0 : FVec F S512x128 .bf16 := k0_pay250 (k0_pay246 vq) k0_pay247 k0_pay248 k0_pay249
def qh1 : FVec F S512x128 .bf16 := k0_pay251 lane (k0_pay246 vq)
def doAll : FVec F S512x128 .bf16 := k0_pay252 vdo
def doh0 : FVec F S512x128 .bf16 := k0_pay256 lane (k0_pay252 vdo) 64#32 (k0_pay253 lane) (k0_pay254 lane) (k0_pay255 lane)
def inHead1 : IVec S512x128 1 := k0_pay257 lane

def penv : Env F := env k0_pay244 k0_pay245 (qh0 vq) (qh1 vq) (doAll vdo) (doh0 vdo) inHead1 l0 l1

variable (X4 : BufTy.Contents (Elt F) arg4.view.ty) (X5 : BufTy.Contents (Elt F) arg5.view.ty)
  (G11 : BufTy.Contents (Elt F) arg11.view.ty) (G12 : BufTy.Contents (Elt F) arg12.view.ty)

def zeros : FVec F S512x128 .f32 × FVec F S512x1 .f32 × FVec F S512x1 .f32 × FVec F S512x128 .f32 × FVec F S512x1 .f32 × FVec F S512x1 .f32 :=
  (k0_pay262, k0_pay261, k0_pay261, k0_pay263, k0_pay261, k0_pay261)

def v3w : BitVec 32 := Scalar.muli (BitVec.ofNat 32 (i 2).val) 4#32

/-- The state after the loop. -/
def loop1 := st_k0_t1 (F := F) Variants.none c none i arg3 harg3 arg4 harg4 arg5 harg5 arg6 harg6 arg7 harg7 arg8 harg8 arg9 harg9 arg10 harg10 arg11 harg11 arg12 harg12 (BitVec.ofNat 32 (i 2).val) (v3w i) k0_pay244 k0_pay245 (qh0 vq) (qh1 vq) (doAll vdo) (doh0 vdo) inHead1 l0 l1 X4 X5 G11 G12 zeros
   (Scf.trips (k0_t1_loop i).lb (k0_t1_loop i).ub (k0_t1_loop i).st)

def unpack (x : FVec F S512x128 .f32 × FVec F S512x1 .f32 × FVec F S512x1 .f32 × FVec F S512x128 .f32 × FVec F S512x1 .f32 × FVec F S512x1 .f32) :
    Carry F 512 × Carry F 512 := (⟨x.1, x.2.1, x.2.2.1⟩, ⟨x.2.2.2.1, x.2.2.2.2.1, x.2.2.2.2.2⟩)

def v144w : BitVec 32 := Scalar.addi 0#32 (Scalar.muli (Scalar.divsi (Scalar.subi (BitVec.ofNat 32 (i 2).val) 0#32) 1#32) 1#32)

variable (K11 : BufTy.Contents (Elt F) arg11.view.ty) (K12 : BufTy.Contents (Elt F) arg12.view.ty)

/-- The state after the loop over what is left of the tiles' count, which is nothing. -/
def loop2 :=
  let S := loop1 c i arg3 harg3 arg4 harg4 arg5 harg5 arg6 harg6 arg7 harg7 arg8 harg8 arg9 harg9 arg10 harg10 arg11 harg11 arg12 harg12 vq vdo l0 l1 X4 X5 G11 G12
  st_k0_t2 (F := F) Variants.none c none i arg3 harg3 arg4 harg4 arg5 harg5 arg6 harg6 arg7 harg7 arg8 harg8 arg9 harg9 arg10 harg10 arg11 harg11 arg12 harg12 (BitVec.ofNat 32 (i 2).val) (v3w i) k0_pay244 k0_pay245 (qh0 vq) (qh1 vq) (doAll vdo) (doh0 vdo) inHead1 l0 l1 (v144w i) X4 X5
    K11 K12
    (S.1.1, S.1.2.1, S.1.2.2.1, S.1.2.2.2.1, S.1.2.2.2.2.1, S.1.2.2.2.2.2)
    (Scf.trips (k0_t2_loop i).lb (k0_t2_loop i).ub (k0_t2_loop i).st)

/-- The columns' blocks on the diagonal. -/
def kd (a : Memref sig .tc .vmem S1x2048x128 .bf16) (X : BufTy.Contents (Elt F) a.view.ty) (u : Fin 4) : FVec F (M 128 128) .bf16 :=
  blk128 (View.readAt (Elt F) a.view (rect3 i u).toLoadRect X)

variable (x0 : Vec F S1x512x128 .bf16) (x1 : Vec F S1x2048x128 .bf16) (x2 : Vec F S1x2048x128 .bf16) (x3 : Vec F S1x512x128 .f32) (x4 : Vec F S1x512x128 .bf16)

def ldq : FVec F S1x512x128 .bf16 := View.readAt (Elt F) arg3.view (Rect.unit (s := S1x512x128) ![0, 0, 0] S1x512x128.size inb_S1x512x128_S1x512x128_0_0_0).toLoadRect (harg3.unread x0)
def lddo : FVec F S1x512x128 .bf16 := View.readAt (Elt F) arg7.view (Rect.unit (s := S1x512x128) ![0, 0, 0] S1x512x128.size inb_S1x512x128_S1x512x128_0_0_0).toLoadRect (harg7.unread x4)
def ldl0 : Vec F S1x512x1 .f32 := View.readAt (Elt F) arg6.view (Rect.unit (s := S1x512x128) ![0, 0, 0] S1x512x1.size inb_S1x512x128_S1x512x1_0_0_0).toLoadRect (harg6.unread x3)
def ldl1 : Vec F S1x512x1 .f32 := View.readAt (Elt F) arg6.view (Rect.unit (s := S1x512x128) ![0, 0, 64] S1x512x1.size inb_S1x512x128_S1x512x1_0_0_64).toLoadRect (harg6.unread x3)

def after1 := loop1 c i arg3 harg3 arg4 harg4 arg5 harg5 arg6 harg6 arg7 harg7 arg8 harg8 arg9 harg9 arg10 harg10 arg11 harg11 arg12 harg12 (ldq arg3 harg3 x0) (lddo arg7 harg7 x4) (ldl0 arg6 harg6 x3) (ldl1 arg6 harg6 x3) (harg4.unread x1) (harg5.unread x2) G11 G12
def after2 := loop2 c i arg3 harg3 arg4 harg4 arg5 harg5 arg6 harg6 arg7 harg7 arg8 harg8 arg9 harg9 arg10 harg10 arg11 harg11 arg12 harg12 (ldq arg3 harg3 x0) (lddo arg7 harg7 x4) (ldl0 arg6 harg6 x3) (ldl1 arg6 harg6 x3) (harg4.unread x1) (harg5.unread x2) G11 G12 K11 K12
def genv : Env F := penv (ldq arg3 harg3 x0) (lddo arg7 harg7 x4) (ldl0 arg6 harg6 x3) (ldl1 arg6 harg6 x3)

/-- The diagonal's four stores into the keys' gradient. -/
def put11 (a : Memref sig .tc .vmem S1x2048x128 .f32) (f : BufTy.Contents (Elt F) a.view.ty) (e : Env F)
    (kj vj : Fin 4 → FVec F (M 128 128) .bf16) (cc : Carry F 512 × Carry F 512) (L : List (View.Piece (Elt F) S1x2048x128 .f32)) :
    List (View.Piece (Elt F) S1x2048x128 .f32) :=
  putPiece a f i 3 (diagDk3 e kj vj cc) (putPiece a f i 2 (diagDk2 e kj vj cc)
    (putPiece a f i 1 (diagDk1 e kj vj cc) (putPiece a f i 0 (diagDk0 e kj vj cc) L)))

/-- The diagonal's four stores into the values' gradient. -/
def put12 (a : Memref sig .tc .vmem S1x2048x128 .f32) (f : BufTy.Contents (Elt F) a.view.ty) (e : Env F)
    (kj vj : Fin 4 → FVec F (M 128 128) .bf16) (cc : Carry F 512 × Carry F 512) (L : List (View.Piece (Elt F) S1x2048x128 .f32)) :
    List (View.Piece (Elt F) S1x2048x128 .f32) :=
  putPiece a f i 3 (diagDv3 e kj vj cc) (putPiece a f i 2 (diagDv2 e kj vj cc)
    (putPiece a f i 1 (diagDv1 e kj vj cc) (putPiece a f i 0 (diagDv0 e kj cc) L)))

theorem trips1 : Scf.trips (k0_t1_loop i).lb (k0_t1_loop i).ub (k0_t1_loop i).st = (i 2).val :=
  (by decide : ∀ n : Fin 4, Scf.trips 0#32 (Scalar.addi 0#32 (Scalar.muli (Scalar.divsi (Scalar.subi (BitVec.ofNat 32 n.val) 0#32) 1#32) 1#32)) 1#32 = n.val) (i 2)

theorem trips2 : Scf.trips (k0_t2_loop i).lb (k0_t2_loop i).ub (k0_t2_loop i).st = 0 :=
  (by decide : ∀ n : Fin 4, Scf.trips (Scalar.addi 0#32 (Scalar.muli (Scalar.divsi (Scalar.subi (BitVec.ofNat 32 n.val) 0#32) 1#32) 1#32)) (Scalar.addi 0#32 (Scalar.subi (BitVec.ofNat 32 n.val) 0#32)) 1#32 = 0) (i 2)

theorem off3_eq (u : Fin 4) : k0_off3 i (BitVec.ofNat 32 u.val) = ![0, (4 * (i 2).val + u.val) * 128, 0] := by
  have h := (by decide : ∀ n u : Fin 4, (Scalar.indexCast (Scalar.muli (Scalar.addi (Scalar.muli (BitVec.ofNat 32 n.val) 4#32) (BitVec.ofNat 32 u.val)) 128#32)).toNat = (4 * n.val + u.val) * 128) (i 2) u
  exact congrArg (fun x => (![0, x, 0] : Fin 3 → ℕ)) h

theorem off1_eq (k : Fin (k0_t1_loop i).trips) (u : Fin 4) : k0_off1 i k (BitVec.ofNat 32 u.val) = ![0, (4 * k.val + u.val) * 128, 0] := by
  have hk : k.val < 4 := lt_of_lt_of_le k.2 (le_of_lt (lt_of_eq_of_lt (trips1 i) (i 2).2))
  have h := (by decide : ∀ n u : Fin 4, (Scalar.indexCast (Scalar.muli (Scalar.addi (Scalar.muli 4#32 (Scf.iv 0#32 1#32 n.val)) (BitVec.ofNat 32 u.val)) 128#32)).toNat = (4 * n.val + u.val) * 128) ⟨k.val, hk⟩ u
  exact congrArg (fun x => (![0, x, 0] : Fin 3 → ℕ)) h

theorem after2_eq : after2 c i arg3 harg3 arg4 harg4 arg5 harg5 arg6 harg6 arg7 harg7 arg8 harg8 arg9 harg9 arg10 harg10 arg11 harg11 arg12 harg12 G11 G12 K11 K12 x0 x1 x2 x3 x4 = ((after1 c i arg3 harg3 arg4 harg4 arg5 harg5 arg6 harg6 arg7 harg7 arg8 harg8 arg9 harg9 arg10 harg10 arg11 harg11 arg12 harg12 G11 G12 x0 x1 x2 x3 x4).1, [], []) := by
  unfold after2 loop2
  rw [trips2]
  rfl

/-- The first point of a block copies what is handed in. -/
def copy (a : Memref sig .tc .vmem S1x2048x128 .f32) (ha : a.IsWhole) (x : Vec F S1x2048x128 .f32) : View.Piece (Elt F) S1x2048x128 .f32 :=
  ⟨Rect.unit (s := S1x2048x128) ![0, 0, 0] S1x2048x128.size inb_S1x2048x128_S1x2048x128_0_0_0,
    k0_pay242 (View.readAt (Elt F) a.view (Rect.unit (s := S1x2048x128) ![0, 0, 0] S1x2048x128.size inb_S1x2048x128_S1x2048x128_0_0_0).toLoadRect (ha.unread x))⟩

variable (x5 x6 xo8 xo9 : Vec F S1x2048x128 .f32)

def GA (a b : Memref sig .tc .vmem S1x2048x128 .f32) (hb : b.IsWhole) (x : Vec F S1x2048x128 .f32) : BufTy.Contents (Elt F) a.view.ty :=
  a.view.writes (Elt F) a.view.junk [copy b hb x]

end Run

end Cert.Tile

end
-- ==== Proof.Reads.lean ====
module

public import proofs.«01_k».proof.Proof.Body
public import proofs.«01_k».proof.Proof.Stick
public import Idealize.ShloMosaic.Lib.Pointwise

@[expose] public section

set_option maxRecDepth 16384

noncomputable section

/-! # The tile's products and sums at an index -/

namespace Cert.Tile

open Idealize.ShloMosaic Idealize.ShloMosaic.TcCoe Cert.KernelIdeal Cert.KernelIdeal.Gen

/-- The operations on `n` rows, read at an index. -/
structure Reads {n : ℕ} (s : Shp n) : Prop where
  nt : ∀ (x : FVec Ideal (M n 128) .bf16) (y : FVec Ideal (M 128 128) .bf16) (r : Fin n) (u : Fin 128),
    matmul s.nt none x y (constant (M n 128) .f32 0x00000000#32) (ix2 r u) = ∑ k : Fin 128, x (ix2 r k) * y (ix2 u k)
  nn : ∀ (x : FVec Ideal (M n 128) .bf16) (y : FVec Ideal (M 128 128) .bf16) (r : Fin n) (u : Fin 128),
    matmul s.nn none x y (constant (M n 128) .f32 0x00000000#32) (ix2 r u) = ∑ k : Fin 128, x (ix2 r k) * y (ix2 k u)
  tn : ∀ (x y : FVec Ideal (M n 128) .bf16) (u l : Fin 128),
    matmul s.tn none x y (constant (M 128 128) .f32 0x00000000#32) (ix2 u l) = ∑ r : Fin n, x (ix2 r u) * y (ix2 r l)
  bc : ∀ (x : FVec Ideal (M n 1) .f32) (r : Fin n) (u : Fin 128), broadcastTo (M n 128) x s.bc (ix2 r u) = x (ix2 r 0)
  sum : ∀ (x : FVec Ideal (M n 128) .f32) (r : Fin n),
    shapeCast (M n 1) (multiReduction .add [1] (L1 n) x 0x00000000#32 s.red (.inl rfl) rfl) s.col (ix2 r 0) = ∑ k : Fin 128, x (ix2 r k)

theorem reads512 : Reads s512 where
  nt x y r u := by pointwise [s512]
  nn x y r u := by pointwise [s512]
  tn x y r u := by pointwise [s512]
  bc x r u := by pointwise [s512]
  sum x r := by pointwise [s512]

theorem reads384 : Reads c384.sh where
  nt x y r u := by pointwise [c384]
  nn x y r u := by pointwise [c384]
  tn x y r u := by pointwise [c384]
  bc x r u := by pointwise [c384]
  sum x r := by pointwise [c384]

theorem reads256 : Reads c256.sh where
  nt x y r u := by pointwise [c256]
  nn x y r u := by pointwise [c256]
  tn x y r u := by pointwise [c256]
  bc x r u := by pointwise [c256]
  sum x r := by pointwise [c256]

theorem reads128 : Reads c128.sh where
  nt x y r u := by pointwise [c128]
  nn x y r u := by pointwise [c128]
  tn x y r u := by pointwise [c128]
  bc x r u := by pointwise [c128]
  sum x r := by pointwise [c128]

/-- A cut's slices and joins, read at an index. -/
structure CutReads {n r : ℕ} (t : Cut n r) : Prop where
  tail : ∀ {α : Type} (x : (M 512 128).Idx → α) (a : Fin n) (l : Fin 128) (b : Fin 512) (_ : b.val = r + a.val), tail t x (ix2 a l) = x (ix2 b l)
  tail1 : ∀ {α : Type} (x : (M 512 1).Idx → α) (a : Fin n) (b : Fin 512) (_ : b.val = r + a.val), tail1 t x (ix2 a 0) = x (ix2 b 0)
  join : ∀ (x : FVec Ideal (M 512 128) .f32) (y : FVec Ideal (M n 128) .f32) (b : Fin 512) (l : Fin 128),
    (b.val < r → join t x y (ix2 b l) = x (ix2 b l)) ∧ ∀ a : Fin n, b.val = r + a.val → join t x y (ix2 b l) = y (ix2 a l)
  join1 : ∀ (x : FVec Ideal (M 512 1) .f32) (y : FVec Ideal (M n 1) .f32) (b : Fin 512),
    (b.val < r → join1 t x y (ix2 b 0) = x (ix2 b 0)) ∧ ∀ a : Fin n, b.val = r + a.val → join1 t x y (ix2 b 0) = y (ix2 a 0)

theorem cut384 : CutReads c384 where
  tail x a l b h := by
    pointwise [tail, c384]
    exact congrArg (fun b => x (ix2 b l)) (Fin.ext (by simp only [h]))
  tail1 x a b h := by
    pointwise [tail1, c384]
    exact congrArg (fun b => x (ix2 b 0)) (Fin.ext (by simp only [h]))
  join x y b l := by
    pointwise [join, c384]
    refine ⟨fun h => ?_, fun a h => ?_⟩
    · rw [dif_pos h]
    · rw [dif_neg (by omega)]
      exact congrArg (fun b => y (ix2 b l)) (Fin.ext (by simp only [h, Nat.add_sub_cancel_left]))
  join1 x y b := by
    pointwise [join1, c384]
    refine ⟨fun h => ?_, fun a h => ?_⟩
    · rw [dif_pos h]
    · rw [dif_neg (by omega)]
      exact congrArg (fun b => y (ix2 b 0)) (Fin.ext (by simp only [h, Nat.add_sub_cancel_left]))

theorem cut256 : CutReads c256 where
  tail x a l b h := by
    pointwise [tail, c256]
    exact congrArg (fun b => x (ix2 b l)) (Fin.ext (by simp only [h]))
  tail1 x a b h := by
    pointwise [tail1, c256]
    exact congrArg (fun b => x (ix2 b 0)) (Fin.ext (by simp only [h]))
  join x y b l := by
    pointwise [join, c256]
    refine ⟨fun h => ?_, fun a h => ?_⟩
    · rw [dif_pos h]
    · rw [dif_neg (by omega)]
      exact congrArg (fun b => y (ix2 b l)) (Fin.ext (by simp only [h, Nat.add_sub_cancel_left]))
  join1 x y b := by
    pointwise [join1, c256]
    refine ⟨fun h => ?_, fun a h => ?_⟩
    · rw [dif_pos h]
    · rw [dif_neg (by omega)]
      exact congrArg (fun b => y (ix2 b 0)) (Fin.ext (by simp only [h, Nat.add_sub_cancel_left]))

theorem cut128 : CutReads c128 where
  tail x a l b h := by
    pointwise [tail, c128]
    exact congrArg (fun b => x (ix2 b l)) (Fin.ext (by simp only [h]))
  tail1 x a b h := by
    pointwise [tail1, c128]
    exact congrArg (fun b => x (ix2 b 0)) (Fin.ext (by simp only [h]))
  join x y b l := by
    pointwise [join, c128]
    refine ⟨fun h => ?_, fun a h => ?_⟩
    · rw [dif_pos h]
    · rw [dif_neg (by omega)]
      exact congrArg (fun b => y (ix2 b l)) (Fin.ext (by simp only [h, Nat.add_sub_cancel_left]))
  join1 x y b := by
    pointwise [join1, c128]
    refine ⟨fun h => ?_, fun a h => ?_⟩
    · rw [dif_pos h]
    · rw [dif_neg (by omega)]
      exact congrArg (fun b => y (ix2 b 0)) (Fin.ext (by simp only [h, Nat.add_sub_cancel_left]))

end Cert.Tile

end
-- ==== Proof.Vals.lean ====
module

public import proofs.«01_k».proof.Proof.Reads

@[expose] public section

set_option maxRecDepth 16384

noncomputable section

open scoped BigOperators

/-! # What one tile computes, over the real numbers -/

namespace Cert.Tile

open Idealize.ShloMosaic Idealize.ShloMosaic.TcCoe Cert.KernelIdeal Cert.KernelIdeal.Gen Cert.Stick

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (a b : ℝ) : max (a : EReal) (b : EReal) = ((max a b : ℝ) : EReal) :=
  (EReal.coe_strictMono.monotone.map_max (a := a) (b := b)).symm
theorem coe_min (a b : ℝ) : min (a : EReal) (b : EReal) = ((min a b : ℝ) : EReal) :=
  (EReal.coe_strictMono.monotone.map_min (a := a) (b := b)).symm
theorem coe_abs (a : ℝ) : max (a : EReal) (-(a : EReal)) = ((|a| : ℝ) : EReal) := by
  rw [← EReal.coe_neg, coe_max]; rfl
theorem exp_coe (a : ℝ) : Ideal.exp (a : EReal) = ((Real.exp a : ℝ) : EReal) := rfl
theorem log_coe {a : ℝ} (h : 0 < a) : Ideal.log (a : EReal) = ((Real.log a : ℝ) : EReal) := if_neg (not_le.mpr h)

section Elem

variable {n : ℕ}

theorem l1p_coe {x : FVec Ideal (M n 128) .f32} {j : (M n 128).Idx} {a : ℝ} (h : x j = (a : EReal)) :
    l1p x j = ((Real.log (1 + Real.exp (-|a|)) : ℝ) : EReal) := by
  have e : l1p x j = Ideal.log (Ideal.ofBits .f32 0x3F800000#32 + Ideal.exp (Ideal.ofBits .f32 0x00000000#32 - max (x j) (-(x j)))) := rfl
  rw [e, h, Ideal.ofBits_one_f32, Ideal.ofBits_zero_f32, coe_abs, zero_sub, ← EReal.coe_neg, exp_coe, ← EReal.coe_one, ← EReal.coe_add,
    log_coe (by positivity)]

theorem lbeta_coe {x : FVec Ideal (M n 128) .f32} {j : (M n 128).Idx} {a : ℝ} (h : x j = (a : EReal)) :
    lbeta x j = ((a - soft a : ℝ) : EReal) := by
  have e : lbeta x j = min (x j) (Ideal.ofBits .f32 0x00000000#32) - l1p x j := rfl
  rw [e, l1p_coe h, h, Ideal.ofBits_zero_f32, ← EReal.coe_zero, coe_min, ← EReal.coe_sub, min_soft]

theorem lkeep_none {x : FVec Ideal (M n 128) .f32} {j : (M n 128).Idx} {a : ℝ} (h : x j = (a : EReal)) :
    lkeep none x j = ((-soft a : ℝ) : EReal) := by
  have e : lkeep none x j = Ideal.ofBits .f32 0x00000000#32 - max (x j) (Ideal.ofBits .f32 0x00000000#32) - l1p x j := rfl
  rw [e, l1p_coe h, h, Ideal.ofBits_zero_f32, ← EReal.coe_zero, coe_max, ← EReal.coe_sub, ← EReal.coe_sub, max_soft]

end Elem

/-- The mask of a tile whose rows begin at `t0` and whose columns begin at `s0`. -/
def MaskAt {n : ℕ} (m : Option (IVec (M n 128) 1)) (t0 s0 : ℕ) : Prop :=
  ∀ (x : FVec Ideal (M n 128) .f32) (r : Fin n) (u : Fin 128),
    msk m x (ix2 r u) = if s0 + u.val < t0 + r.val then x (ix2 r u) else 0

theorem mask_none {n : ℕ} {t0 s0 : ℕ} (h : s0 + 128 ≤ t0) : MaskAt (none : Option (IVec (M n 128) 1)) t0 s0 :=
  fun x r u => (if_pos (by have := u.2; omega)).symm

theorem mask_some {n : ℕ} {m : IVec (M n 128) 1} {t0 s0 : ℕ}
    (h : ∀ (r : Fin n) (u : Fin 128), m (ix2 r u) = if s0 + u.val < t0 + r.val then 1#1 else 0#1) : MaskAt (some m) t0 s0 := by
  intro x r u
  have e : msk (some m) x (ix2 r u) = Scalar.select (m (ix2 r u)) (x (ix2 r u)) (Ideal.ofBits .f32 0x00000000#32) := rfl
  rw [e, h, Ideal.ofBits_zero_f32]
  split <;> rfl

/-- One head's operands: queries, keys, values and cotangents by row and lane, and the number of columns. -/
structure Head where
  N : ℕ
  q : ℕ → Fin 128 → ℝ
  d : ℕ → Fin 128 → ℝ
  k : ℕ → Fin 128 → ℝ
  v : ℕ → Fin 128 → ℝ

namespace Head

variable (H : Head)

def z (t s : ℕ) : ℝ := ∑ l : Fin 128, H.q t l * H.k s l
def g (t s : ℕ) : ℝ := ∑ l : Fin 128, H.d t l * H.v s l
abbrev kp (t s : ℕ) : ℝ := keep H.z t s
abbrev w (t s : ℕ) : ℝ := wt H.N H.z t s
abbrev gv (t s : ℕ) : ℝ := gw H.N H.z H.g t s
abbrev dz (t s : ℕ) : ℝ := Stick.dz H.N H.z H.g t s

end Head

variable (H : Head) {n : ℕ}

structure RowsAt (r : Rows Ideal n) (t0 : ℕ) : Prop where
  q : ∀ (a : Fin n) (l : Fin 128), r.q (ix2 a l) = (H.q (t0 + a.val) l : EReal)
  d : ∀ (a : Fin n) (l : Fin 128), r.do_ (ix2 a l) = (H.d (t0 + a.val) l : EReal)
  lt : ∀ a : Fin n, r.lt (ix2 a 0) = ((∑ s ∈ Finset.range H.N, H.kp (t0 + a.val) s : ℝ) : EReal)

/-- A carry after the first `s0` columns. -/
structure CarryAt (c : Carry Ideal n) (t0 s0 : ℕ) : Prop where
  acc : ∀ (a : Fin n) (l : Fin 128), c.acc (ix2 a l) = ((∑ s ∈ Finset.range s0, H.dz (t0 + a.val) s * H.k s l : ℝ) : EReal)
  run : ∀ a : Fin n, c.run (ix2 a 0) = ((∑ s ∈ Finset.range s0, H.kp (t0 + a.val) s : ℝ) : EReal)
  ra : ∀ a : Fin n, c.ra (ix2 a 0) = ((∑ s ∈ Finset.range s0, H.gv (t0 + a.val) s : ℝ) : EReal)

def BlkAt (x : FVec Ideal (M 128 128) .bf16) (f : ℕ → Fin 128 → ℝ) (s0 : ℕ) : Prop :=
  ∀ u l : Fin 128, x (ix2 u l) = (f (s0 + u.val) l : EReal)

/-- The 0/1 matrices of the running sums. -/
def UleAt (x : FVec Ideal (M 128 128) .bf16) : Prop := ∀ k u : Fin 128, x (ix2 k u) = ((if k.val < u.val + 1 then 1 else 0 : ℝ) : EReal)
def UltAt (x : FVec Ideal (M 128 128) .bf16) : Prop := ∀ k u : Fin 128, x (ix2 k u) = ((if k.val < u.val then 1 else 0 : ℝ) : EReal)

section Tile

variable {s : Shp n} (hs : Reads s) {m : Option (IVec (M n 128) 1)} {ule ult : FVec Ideal (M 128 128) .bf16} {r : Rows Ideal n}
  {kj vj : FVec Ideal (M 128 128) .bf16} {c : Carry Ideal n} {t0 s0 : ℕ}
  (hm : MaskAt m t0 s0) (hule : UleAt ule) (hult : UltAt ult) (hr : RowsAt H r t0) (hk : BlkAt kj H.k s0) (hv : BlkAt vj H.v s0)
  (hc : CarryAt H c t0 s0)

include hs

theorem parts_coe {x : FVec Ideal (M n 128) .f32} {U : FVec Ideal (M 128 128) .bf16} {f : ℕ → ℝ} {a : Fin n} {u : Fin 128} {e : ℕ}
    (hx : ∀ k : Fin 128, x (ix2 a k) = (f k.val : EReal))
    (hU : ∀ k : Fin 128, U (ix2 k u) = ((if k.val < e then 1 else 0 : ℝ) : EReal)) :
    parts s x U (ix2 a u) = ((∑ k : Fin 128, if k.val < e then f k.val else 0 : ℝ) : EReal) := by
  have h : parts s x U (ix2 a u) = matmul s.nn none (truncf .bf16 x s.lt) U (constant (M n 128) .f32 0x00000000#32) (ix2 a u)
      + matmul s.nn none (truncf .bf16 (subf x (extf .f32 (truncf .bf16 x s.lt) s.lt)) s.lt) U
      (constant (M n 128) .f32 0x00000000#32) (ix2 a u) := rfl
  rw [h, hs.nn, hs.nn]
  have h1 : ∀ k : Fin 128, truncf .bf16 x s.lt (ix2 a k) * U (ix2 k u) = (((if k.val < e then f k.val else 0 : ℝ)) : EReal) := fun k => by
    have : truncf .bf16 x s.lt (ix2 a k) = x (ix2 a k) := rfl
    rw [this, hx, hU, ← EReal.coe_mul]
    split <;> simp
  have h2 : ∀ k : Fin 128, truncf .bf16 (subf x (extf .f32 (truncf .bf16 x s.lt) s.lt)) s.lt (ix2 a k) * U (ix2 k u) = ((0 : ℝ) : EReal) := fun k => by
    have : truncf .bf16 (subf x (extf .f32 (truncf .bf16 x s.lt) s.lt)) s.lt (ix2 a k) = x (ix2 a k) - x (ix2 a k) := rfl
    rw [this, hx, hU, ← EReal.coe_sub, ← EReal.coe_mul, sub_self, zero_mul]
  rw [Finset.sum_congr rfl fun k _ => h1 k, Finset.sum_congr rfl fun k _ => h2 k, ← coe_sum, ← coe_sum, ← EReal.coe_add]
  simp

include hr hk in
theorem score_at (a : Fin n) (u : Fin 128) : score s r.q kj (ix2 a u) = (H.z (t0 + a.val) (s0 + u.val) : EReal) := by
  unfold score
  rw [hs.nt, Head.z, coe_sum]
  exact Finset.sum_congr rfl fun l _ => by rw [hr.q, hk, EReal.coe_mul]

include hm hr hk in
theorem keep_at (a : Fin n) (u : Fin 128) : lkeep m (score s r.q kj) (ix2 a u) = (H.kp (t0 + a.val) (s0 + u.val) : EReal) := by
  have h : lkeep m (score s r.q kj) (ix2 a u) = if s0 + u.val < t0 + a.val then lkeep none (score s r.q kj) (ix2 a u) else 0 := hm _ a u
  rw [h, lkeep_none (score_at H hs hr hk a u), Head.kp, keep]
  split <;> rfl

include hm hule hr hk hc in
theorem tw_at (a : Fin n) (u : Fin 128) : tw s m ule r kj c (ix2 a u) = (H.w (t0 + a.val) (s0 + u.val) : EReal) := by
  have h := hm (exp (addf (lbeta (score s r.q kj)) (subf (broadcastTo (M n 128) (subf r.lt c.run) s.bc) (parts s (lkeep m (score s r.q kj)) ule)))) a u
  have h1 : exp (addf (lbeta (score s r.q kj)) (subf (broadcastTo (M n 128) (subf r.lt c.run) s.bc) (parts s (lkeep m (score s r.q kj)) ule))) (ix2 a u)
      = Ideal.exp (lbeta (score s r.q kj) (ix2 a u) + (broadcastTo (M n 128) (subf r.lt c.run) s.bc (ix2 a u) - parts s (lkeep m (score s r.q kj)) ule (ix2 a u))) := rfl
  have h2 : subf r.lt c.run (ix2 a 0) = r.lt (ix2 a 0) - c.run (ix2 a 0) := rfl
  unfold tw weight
  rw [h, h1, hs.bc, h2, hr.lt, hc.run, lbeta_coe (score_at H hs hr hk a u),
    parts_coe hs (f := fun k => H.kp (t0 + a.val) (s0 + k)) (fun k => keep_at H hs hm hr hk a k) (fun k => hule k u),
    ← EReal.coe_sub, ← EReal.coe_sub, ← EReal.coe_add, exp_coe, Head.w, wt, rest]
  have h3 := sum_tile (fun x => H.kp (t0 + a.val) x) s0 128 (u.val + 1) u.2
  rw [← add_assoc] at h3
  rw [h3]
  split
  · congr 3; ring
  · rfl

include hm hule hr hk hv hc in
theorem ta_at (a : Fin n) (u : Fin 128) : ta s m ule r kj vj c (ix2 a u) = (H.gv (t0 + a.val) (s0 + u.val) : EReal) := by
  have h : ta s m ule r kj vj c (ix2 a u) = matmul s.nt none r.do_ vj (constant (M n 128) .f32 0x00000000#32) (ix2 a u) * tw s m ule r kj c (ix2 a u) := rfl
  rw [h, hs.nt, tw_at H hs hm hule hr hk hc, Head.gv, gw, EReal.coe_mul]
  congr 1
  rw [Head.g, coe_sum]
  exact Finset.sum_congr rfl fun l _ => by rw [hr.d, hv, EReal.coe_mul]

include hm hule hult hr hk hv hc in
theorem td_at (a : Fin n) (u : Fin 128) : td s m ule ult r kj vj c (ix2 a u) = (H.dz (t0 + a.val) (s0 + u.val) : EReal) := by
  have h := hm (subf (mulf (ta s m ule r kj vj c) (subf (one n 128) (exp (lbeta (score s r.q kj)))))
    (mulf (addf (broadcastTo (M n 128) c.ra s.bc) (parts s (ta s m ule r kj vj c) ult)) (exp (lbeta (score s r.q kj))))) a u
  have h1 : subf (mulf (ta s m ule r kj vj c) (subf (one n 128) (exp (lbeta (score s r.q kj)))))
    (mulf (addf (broadcastTo (M n 128) c.ra s.bc) (parts s (ta s m ule r kj vj c) ult)) (exp (lbeta (score s r.q kj)))) (ix2 a u)
    = ta s m ule r kj vj c (ix2 a u) * (Ideal.ofBits .f32 0x3F800000#32 - Ideal.exp (lbeta (score s r.q kj) (ix2 a u)))
      - (broadcastTo (M n 128) c.ra s.bc (ix2 a u) + parts s (ta s m ule r kj vj c) ult (ix2 a u)) * Ideal.exp (lbeta (score s r.q kj) (ix2 a u)) := rfl
  refine (show td s m ule ult r kj vj c (ix2 a u) = _ from h).trans ?_
  rw [h1, hs.bc, hc.ra, lbeta_coe (score_at H hs hr hk a u), ta_at H hs hm hule hr hk hv hc, exp_coe, Ideal.ofBits_one_f32,
    parts_coe hs (f := fun k => H.gv (t0 + a.val) (s0 + k)) (fun k => ta_at H hs hm hule hr hk hv hc a k) (fun k => hult k u),
    ← EReal.coe_one, ← EReal.coe_sub, ← EReal.coe_mul, ← EReal.coe_add, ← EReal.coe_mul, ← EReal.coe_sub, Head.dz, Stick.dz,
    sum_tile (fun x => H.gv (t0 + a.val) x) s0 128 u.val u.2.le]
  split <;> rfl

include hm hule hult hr hk hv hc in
theorem next_at : CarryAt H (next s m ule ult r kj vj c) t0 (s0 + 128) where
  acc a l := by
    have h : (next s m ule ult r kj vj c).acc (ix2 a l) = c.acc (ix2 a l)
        + matmul s.nn none (td s m ule ult r kj vj c) kj (constant (M n 128) .f32 0x00000000#32) (ix2 a l) := rfl
    rw [h, hs.nn, hc.acc, sum_tile_all, EReal.coe_add, coe_sum Finset.univ]
    congr 1
    exact Finset.sum_congr rfl fun u _ => by rw [td_at H hs hm hule hult hr hk hv hc, hk, EReal.coe_mul]
  run a := by
    have h : (next s m ule ult r kj vj c).run (ix2 a 0) = c.run (ix2 a 0)
        + shapeCast (M n 1) (multiReduction .add [1] (L1 n) (lkeep m (score s r.q kj)) 0x00000000#32 s.red (.inl rfl) rfl) s.col (ix2 a 0) := rfl
    rw [h, hs.sum, hc.run, sum_tile_all, EReal.coe_add, coe_sum Finset.univ]
    congr 1
    exact Finset.sum_congr rfl fun u _ => keep_at H hs hm hr hk a u
  ra a := by
    have h : (next s m ule ult r kj vj c).ra (ix2 a 0) = c.ra (ix2 a 0)
        + shapeCast (M n 1) (multiReduction .add [1] (L1 n) (ta s m ule r kj vj c) 0x00000000#32 s.red (.inl rfl) rfl) s.col (ix2 a 0) := rfl
    rw [h, hs.sum, hc.ra, sum_tile_all, EReal.coe_add, coe_sum Finset.univ]
    congr 1
    exact Finset.sum_congr rfl fun u _ => ta_at H hs hm hule hr hk hv hc a u

include hm hule hult hr hk hv hc in
theorem dkt_at (u l : Fin 128) : dkt s m ule ult r kj vj c (ix2 u l)
    = ((∑ a ∈ Finset.range n, H.dz (t0 + a) (s0 + u.val) * H.q (t0 + a) l : ℝ) : EReal) := by
  unfold dkt outer
  rw [hs.tn, Finset.sum_range, coe_sum]
  exact Finset.sum_congr rfl fun a _ => by rw [td_at H hs hm hule hult hr hk hv hc, hr.q, EReal.coe_mul]

include hm hule hr hk hc in
theorem dvt_at (u l : Fin 128) : dvt s m ule r kj c (ix2 u l)
    = ((∑ a ∈ Finset.range n, H.w (t0 + a) (s0 + u.val) * H.d (t0 + a) l : ℝ) : EReal) := by
  unfold dvt outer
  rw [hs.tn, Finset.sum_range, coe_sum]
  refine Finset.sum_congr rfl fun a _ => ?_
  have h : truncf .bf16 (tw s m ule r kj c) s.lt (ix2 a u) = tw s m ule r kj c (ix2 a u) := rfl
  rw [h, tw_at H hs hm hule hr hk hc, hr.d, EReal.coe_mul]

end Tile

end Cert.Tile

end
-- ==== Proof.Pair.lean ====
module

public import proofs.«01_k».proof.Proof.Vals

@[expose] public section

set_option maxRecDepth 16384

noncomputable section

open scoped BigOperators

/-! # The two heads of a block, over the loop's tiles and the diagonal's -/

namespace Cert.Tile

open Idealize.ShloMosaic Idealize.ShloMosaic.TcCoe Cert.KernelIdeal Cert.KernelIdeal.Gen Cert.Stick

/-- The operands of a block of two heads: each head's queries and cotangents are zero in the other's lanes. -/
structure Ops where
  N : ℕ
  q : Fin 2 → ℕ → Fin 128 → ℝ
  d : Fin 2 → ℕ → Fin 128 → ℝ
  k : ℕ → Fin 128 → ℝ
  v : ℕ → Fin 128 → ℝ

namespace Ops

variable (X : Ops)

def head (h : Fin 2) : Head := ⟨X.N, X.q h, X.d h, X.k, X.v⟩

/-- What the rows `t0 …` add to the keys' and to the values' gradient. -/
def dkS (h : Fin 2) (t0 n s : ℕ) (l : Fin 128) : ℝ := ∑ a ∈ Finset.range n, (X.head h).dz (t0 + a) s * X.q h (t0 + a) l
def dvS (h : Fin 2) (t0 n s : ℕ) (l : Fin 128) : ℝ := ∑ a ∈ Finset.range n, (X.head h).w (t0 + a) s * X.d h (t0 + a) l
def dk (t0 n s : ℕ) (l : Fin 128) : ℝ := X.dkS 0 t0 n s l + X.dkS 1 t0 n s l
def dv (t0 n s : ℕ) (l : Fin 128) : ℝ := X.dvS 0 t0 n s l + X.dvS 1 t0 n s l

theorem dk_add (t0 n s : ℕ) (l : Fin 128) : X.dk 0 (t0 + n) s l = X.dk 0 t0 s l + X.dk t0 n s l := by
  simp only [dk, dkS, Finset.sum_range_add, zero_add]; ring
theorem dv_add (t0 n s : ℕ) (l : Fin 128) : X.dv 0 (t0 + n) s l = X.dv 0 t0 s l + X.dv t0 n s l := by
  simp only [dv, dvS, Finset.sum_range_add, zero_add]; ring

/-- The columns at and after the last row get nothing. -/
theorem dkS_zero (h : Fin 2) (t0 n s : ℕ) (l : Fin 128) (hs : t0 + n ≤ s) : X.dkS h t0 n s l = 0 :=
  Finset.sum_eq_zero fun a ha => by
    have := Finset.mem_range.mp ha
    rw [Head.dz, dz_zero _ _ _ (by omega), zero_mul]
theorem dvS_zero (h : Fin 2) (t0 n s : ℕ) (l : Fin 128) (hs : t0 + n ≤ s) : X.dvS h t0 n s l = 0 :=
  Finset.sum_eq_zero fun a ha => by
    have := Finset.mem_range.mp ha
    rw [Head.w, wt_zero _ _ (by omega), zero_mul]
theorem dk_zero (t0 n s : ℕ) (l : Fin 128) (hs : t0 + n ≤ s) : X.dk t0 n s l = 0 := by
  rw [dk, dkS_zero _ _ _ _ _ _ hs, dkS_zero _ _ _ _ _ _ hs, add_zero]
theorem dv_zero (t0 n s : ℕ) (l : Fin 128) (hs : t0 + n ≤ s) : X.dv t0 n s l = 0 := by
  rw [dv, dvS_zero _ _ _ _ _ _ hs, dvS_zero _ _ _ _ _ _ hs, add_zero]

/-- A cut's rows give what all the rows give. -/
theorem dkS_cut (h : Fin 2) (t0 r n s : ℕ) (l : Fin 128) (hs : t0 + r ≤ s) : X.dkS h t0 (r + n) s l = X.dkS h (t0 + r) n s l := by
  have h0 := X.dkS_zero h t0 r s l hs
  unfold dkS at h0 ⊢
  rw [Finset.sum_range_add, h0, zero_add]
  exact Finset.sum_congr rfl fun a _ => by rw [add_assoc]
theorem dvS_cut (h : Fin 2) (t0 r n s : ℕ) (l : Fin 128) (hs : t0 + r ≤ s) : X.dvS h t0 (r + n) s l = X.dvS h (t0 + r) n s l := by
  have h0 := X.dvS_zero h t0 r s l hs
  unfold dvS at h0 ⊢
  rw [Finset.sum_range_add, h0, zero_add]
  exact Finset.sum_congr rfl fun a _ => by rw [add_assoc]

end Ops

variable (X : Ops)

structure EnvAt (e : Env Ideal) (t0 : ℕ) : Prop where
  ule : UleAt e.ule
  ult : UltAt e.ult
  r0 : RowsAt (X.head 0) e.r0 t0
  r1 : RowsAt (X.head 1) e.r1 t0

def PairAt (c : Carry Ideal 512 × Carry Ideal 512) (t0 s0 : ℕ) : Prop := CarryAt (X.head 0) c.1 t0 s0 ∧ CarryAt (X.head 1) c.2 t0 s0

variable {X} {e : Env Ideal} {t0 s0 : ℕ} (he : EnvAt X e t0) {c : Carry Ideal 512 × Carry Ideal 512}

section Loop

variable {kj vj : Fin 4 → FVec Ideal (M 128 128) .bf16} (hk : ∀ u : Fin 4, BlkAt (kj u) X.k (s0 + 128 * u.val))
  (hv : ∀ u : Fin 4, BlkAt (vj u) X.v (s0 + 128 * u.val)) (hc : PairAt X c t0 s0) (h0 : s0 + 512 ≤ t0)

include he hk hv hc h0

theorem steps_at : ∀ u : ℕ, u ≤ 4 → PairAt X (steps c e kj vj u) t0 (s0 + 128 * u)
  | 0, _ => hc
  | u + 1, h => by
    have ih := steps_at u (by omega)
    have hu : u < 4 := h
    have hm : MaskAt (none : Option (IVec (M 512 128) 1)) t0 (s0 + 128 * u) := mask_none (by omega)
    rw [steps, dif_pos hu]
    exact ⟨next_at _ reads512 hm he.ule he.ult he.r0 (hk ⟨u, hu⟩) (hv ⟨u, hu⟩) ih.1,
      next_at _ reads512 hm he.ule he.ult he.r1 (hk ⟨u, hu⟩) (hv ⟨u, hu⟩) ih.2⟩

theorem dkAt_at (u : Fin 4) (a l : Fin 128) : dkAt c e kj vj u (ix2 a l) = (X.dk t0 512 (s0 + 128 * u.val + a.val) l : EReal) := by
  have ih := steps_at he hk hv hc h0 u.val u.2.le
  have hm : MaskAt (none : Option (IVec (M 512 128) 1)) t0 (s0 + 128 * u.val) := mask_none (by omega)
  have h : dkAt c e kj vj u (ix2 a l) = dkt s512 none e.ule e.ult e.r0 (kj u) (vj u) (steps c e kj vj u).1 (ix2 a l)
    + dkt s512 none e.ule e.ult e.r1 (kj u) (vj u) (steps c e kj vj u).2 (ix2 a l) := rfl
  rw [h, dkt_at _ reads512 hm he.ule he.ult he.r0 (hk u) (hv u) ih.1, dkt_at _ reads512 hm he.ule he.ult he.r1 (hk u) (hv u) ih.2, ← EReal.coe_add]
  rfl

theorem dvAt_at (u : Fin 4) (a l : Fin 128) : dvAt c e kj vj u (ix2 a l) = (X.dv t0 512 (s0 + 128 * u.val + a.val) l : EReal) := by
  have ih := steps_at he hk hv hc h0 u.val u.2.le
  have hm : MaskAt (none : Option (IVec (M 512 128) 1)) t0 (s0 + 128 * u.val) := mask_none (by omega)
  have h : dvAt c e kj vj u (ix2 a l) = dvt s512 none e.ule e.r0 (kj u) (steps c e kj vj u).1 (ix2 a l)
    + dvt s512 none e.ule e.r1 (kj u) (steps c e kj vj u).2 (ix2 a l) := rfl
  rw [h, dvt_at _ reads512 hm he.ule he.r0 (hk u) ih.1, dvt_at _ reads512 hm he.ule he.r1 (hk u) ih.2, ← EReal.coe_add]
  rfl

end Loop

/-- A mask of the diagonal whose columns begin `r` after its rows. -/
def Diag (mask : IVec (M 512 128) 1) (r : ℕ) : Prop := ∀ (b : Fin 512) (u : Fin 128), mask (ix2 b u) = if r + u.val < b.val then 1#1 else 0#1

section Top

variable {mask : IVec (M 512 128) 1} (hd : Diag mask 0) {kj vj : FVec Ideal (M 128 128) .bf16}
  (hk : BlkAt kj X.k t0) (hv : BlkAt vj X.v t0) (hc : PairAt X c t0 t0)

include hd in
theorem mask_top : MaskAt (some mask) t0 t0 := mask_some fun b u => by
  rw [hd b u, zero_add]; simp only [Nat.add_lt_add_iff_left]

include he hd hk hc

include hv in
theorem topNext_at : PairAt X (topNext mask e kj vj c) t0 (t0 + 128) :=
  ⟨next_at _ reads512 (mask_top hd) he.ule he.ult he.r0 hk hv hc.1, next_at _ reads512 (mask_top hd) he.ule he.ult he.r1 hk hv hc.2⟩

include hv in
theorem topDk_at (a l : Fin 128) : topDk mask e kj vj c (ix2 a l) = (X.dk t0 512 (t0 + a.val) l : EReal) := by
  have h : topDk mask e kj vj c (ix2 a l) = dkt s512 (some mask) e.ule e.ult e.r0 kj vj c.1 (ix2 a l)
    + dkt s512 (some mask) e.ule e.ult e.r1 kj vj c.2 (ix2 a l) := rfl
  rw [h, dkt_at _ reads512 (mask_top hd) he.ule he.ult he.r0 hk hv hc.1, dkt_at _ reads512 (mask_top hd) he.ule he.ult he.r1 hk hv hc.2, ← EReal.coe_add]
  rfl

theorem topDv_at (a l : Fin 128) : topDv mask e kj c (ix2 a l) = (X.dv t0 512 (t0 + a.val) l : EReal) := by
  have h : topDv mask e kj c (ix2 a l) = dvt s512 (some mask) e.ule e.r0 kj c.1 (ix2 a l)
    + dvt s512 (some mask) e.ule e.r1 kj c.2 (ix2 a l) := rfl
  rw [h, dvt_at _ reads512 (mask_top hd) he.ule he.r0 hk hc.1, dvt_at _ reads512 (mask_top hd) he.ule he.r1 hk hc.2, ← EReal.coe_add]
  rfl

end Top

theorem sum_more {f : ℕ → ℝ} {t m n : ℕ} (hf : ∀ s, t ≤ s → f s = 0) (h : t ≤ m) :
    ∑ s ∈ Finset.range m, f s = ∑ s ∈ Finset.range (m + n), f s := by
  rw [Finset.sum_range_add, Finset.sum_eq_zero (s := Finset.range n) fun x _ => hf _ (by omega), add_zero]

section Cut

variable {n r : ℕ} {t : Cut n r} (ht : CutReads t) (hs : Reads t.sh) (hn : r + n = 512)

include ht hn

theorem tailRows_at {H : Head} {x : Rows Ideal 512} (h : RowsAt H x t0) : RowsAt H (tailRows t x) (t0 + r) where
  q a l := by
    have := ht.tail x.q a l ⟨r + a.val, by omega⟩ rfl
    rw [show (tailRows t x).q (ix2 a l) = _ from this, h.q, add_assoc]
  d a l := by
    have := ht.tail x.do_ a l ⟨r + a.val, by omega⟩ rfl
    rw [show (tailRows t x).do_ (ix2 a l) = _ from this, h.d, add_assoc]
  lt a := by
    have := ht.tail1 x.lt a ⟨r + a.val, by omega⟩ rfl
    rw [show (tailRows t x).lt (ix2 a 0) = _ from this, h.lt, add_assoc]

theorem tailCarry_at {H : Head} {x : Carry Ideal 512} {s0 : ℕ} (h : CarryAt H x t0 s0) : CarryAt H (tailCarry t x) (t0 + r) s0 where
  acc a l := by
    have := ht.tail x.acc a l ⟨r + a.val, by omega⟩ rfl
    rw [show (tailCarry t x).acc (ix2 a l) = _ from this, h.acc, add_assoc]
  run a := by
    have := ht.tail1 x.run a ⟨r + a.val, by omega⟩ rfl
    rw [show (tailCarry t x).run (ix2 a 0) = _ from this, h.run, add_assoc]
  ra a := by
    have := ht.tail1 x.ra a ⟨r + a.val, by omega⟩ rfl
    rw [show (tailCarry t x).ra (ix2 a 0) = _ from this, h.ra, add_assoc]

/-- The rows above the cut get nothing from the columns after it. -/
theorem joinCarry_at {H : Head} {x : Carry Ideal 512} {y : Carry Ideal n} (hx : CarryAt H x t0 (t0 + r)) (hy : CarryAt H y (t0 + r) (t0 + r + 128)) :
    CarryAt H (joinCarry t x y) t0 (t0 + r + 128) where
  acc b l := by
    obtain ⟨h1, h2⟩ := ht.join x.acc y.acc b l
    by_cases hb : b.val < r
    · rw [show (joinCarry t x y).acc (ix2 b l) = _ from h1 hb, hx.acc]
      exact congrArg _ (sum_more (t := t0 + b.val) (fun s hs => by rw [Head.dz, dz_zero _ _ _ hs, zero_mul]) (by omega))
    · have e : b.val = r + (⟨b.val - r, by omega⟩ : Fin n).val := by simp only []; omega
      rw [show (joinCarry t x y).acc (ix2 b l) = _ from h2 _ e, hy.acc, show t0 + r + (⟨b.val - r, by omega⟩ : Fin n).val = t0 + b.val from by simp only []; omega]
  run b := by
    obtain ⟨h1, h2⟩ := ht.join1 x.run y.run b
    by_cases hb : b.val < r
    · rw [show (joinCarry t x y).run (ix2 b 0) = _ from h1 hb, hx.run]
      exact congrArg _ (sum_more (t := t0 + b.val) (fun s hs => keep_zero _ hs) (by omega))
    · have e : b.val = r + (⟨b.val - r, by omega⟩ : Fin n).val := by simp only []; omega
      rw [show (joinCarry t x y).run (ix2 b 0) = _ from h2 _ e, hy.run, show t0 + r + (⟨b.val - r, by omega⟩ : Fin n).val = t0 + b.val from by simp only []; omega]
  ra b := by
    obtain ⟨h1, h2⟩ := ht.join1 x.ra y.ra b
    by_cases hb : b.val < r
    · rw [show (joinCarry t x y).ra (ix2 b 0) = _ from h1 hb, hx.ra]
      exact congrArg _ (sum_more (t := t0 + b.val) (fun s hs => gw_zero _ _ _ hs) (by omega))
    · have e : b.val = r + (⟨b.val - r, by omega⟩ : Fin n).val := by simp only []; omega
      rw [show (joinCarry t x y).ra (ix2 b 0) = _ from h2 _ e, hy.ra, show t0 + r + (⟨b.val - r, by omega⟩ : Fin n).val = t0 + b.val from by simp only []; omega]

variable {mask : IVec (M 512 128) 1} (hd : Diag mask r) {kj vj : FVec Ideal (M 128 128) .bf16}
  (hk : BlkAt kj X.k (t0 + r)) (hv : BlkAt vj X.v (t0 + r)) (hc : PairAt X c t0 (t0 + r))

include hd in
theorem mask_cut : MaskAt (some (tail t mask)) (t0 + r) (t0 + r) := mask_some fun a u => by
  rw [ht.tail mask a u ⟨r + a.val, by omega⟩ rfl, hd]; simp only [Nat.add_lt_add_iff_left]

include he hs hd hk hc

include hv in
theorem cutNext_at : PairAt X (cutNext t mask e kj vj c) t0 (t0 + r + 128) :=
  ⟨joinCarry_at ht hn hc.1 (next_at _ hs (mask_cut ht hn hd) he.ule he.ult (tailRows_at ht hn he.r0) hk hv (tailCarry_at ht hn hc.1)),
    joinCarry_at ht hn hc.2 (next_at _ hs (mask_cut ht hn hd) he.ule he.ult (tailRows_at ht hn he.r1) hk hv (tailCarry_at ht hn hc.2))⟩

include hv in
theorem cutDk_at (a l : Fin 128) : cutDk t mask e kj vj c (ix2 a l) = (X.dk t0 512 (t0 + r + a.val) l : EReal) := by
  have h : cutDk t mask e kj vj c (ix2 a l) = dkt t.sh (some (tail t mask)) e.ule e.ult (tailRows t e.r0) kj vj (tailCarry t c.1) (ix2 a l)
    + dkt t.sh (some (tail t mask)) e.ule e.ult (tailRows t e.r1) kj vj (tailCarry t c.2) (ix2 a l) := rfl
  rw [h, dkt_at _ hs (mask_cut ht hn hd) he.ule he.ult (tailRows_at ht hn he.r0) hk hv (tailCarry_at ht hn hc.1),
    dkt_at _ hs (mask_cut ht hn hd) he.ule he.ult (tailRows_at ht hn he.r1) hk hv (tailCarry_at ht hn hc.2), ← EReal.coe_add,
    Ops.dk, ← hn, Ops.dkS_cut _ _ _ _ _ _ _ (by omega), Ops.dkS_cut _ _ _ _ _ _ _ (by omega)]
  rfl

theorem cutDv_at (a l : Fin 128) : cutDv t mask e kj c (ix2 a l) = (X.dv t0 512 (t0 + r + a.val) l : EReal) := by
  have h : cutDv t mask e kj c (ix2 a l) = dvt t.sh (some (tail t mask)) e.ule (tailRows t e.r0) kj (tailCarry t c.1) (ix2 a l)
    + dvt t.sh (some (tail t mask)) e.ule (tailRows t e.r1) kj (tailCarry t c.2) (ix2 a l) := rfl
  rw [h, dvt_at _ hs (mask_cut ht hn hd) he.ule (tailRows_at ht hn he.r0) hk (tailCarry_at ht hn hc.1),
    dvt_at _ hs (mask_cut ht hn hd) he.ule (tailRows_at ht hn he.r1) hk (tailCarry_at ht hn hc.2), ← EReal.coe_add,
    Ops.dv, ← hn, Ops.dvS_cut _ _ _ _ _ _ _ (by omega), Ops.dvS_cut _ _ _ _ _ _ _ (by omega)]
  rfl

end Cut

end Cert.Tile

end
-- ==== Proof.Consts.lean ====
module

public import proofs.«01_k».proof.Proof.Pair
public import Idealize.ShloMosaic.Lib.WordCmp

@[expose] public section

set_option maxRecDepth 16384

noncomputable section

/-! # The constants and masks of a grid point, at an index -/

namespace Cert.Tile

open Idealize.ShloMosaic Idealize.ShloMosaic.TcCoe Cert.KernelIdeal Cert.KernelIdeal.Gen

/-- The scale of the scores. -/
theorem eighth_bf16 : Ideal.ofBits .bf16 0x3E00#16 = ((1 / 8 : ℝ) : EReal) := by
  simp [Ideal.ofBits, Ideal.ieee, -EReal.coe_mul]; norm_num

theorem eighth_f32 : Ideal.ofBits .f32 0x3E000000#32 = ((1 / 8 : ℝ) : EReal) := by
  simp [Ideal.ofBits, Ideal.ieee, -EReal.coe_mul]; norm_num

theorem bit_int {p : Prop} [Decidable p] : ((((BitVec.ofBool (decide p)).setWidth 32).toInt : ℝ) : EReal) = ((if p then 1 else 0 : ℝ) : EReal) := by
  by_cases h : p
  · rw [if_pos h, decide_eq_true h, show ((BitVec.ofBool true).setWidth 32).toInt = 1 by decide]; simp
  · rw [if_neg h, decide_eq_false h, show ((BitVec.ofBool false).setWidth 32).toInt = 0 by decide]; simp

theorem toInt_small {a : ℕ} (h : a < 2 ^ 31) : (BitVec.ofNat 32 a).toInt = (a : ℤ) := WordCmp.toInt_ofNat_of_lt h

theorem ule_at : UleAt (k0_pay244 (F := Ideal)) := by
  intro k u
  pointwise [k0_pay244]
  rw [WordCmp.cmpi_sle_eq, toInt_small (by omega), toInt_small (by omega)]
  refine Eq.trans (show _ = (((BitVec.setWidth 32 _).toInt : ℝ) : EReal) from rfl) (bit_int.trans ?_)
  simp only [Nat.cast_le, Nat.lt_succ_iff]

theorem ult_at : UltAt (k0_pay245 (F := Ideal)) := by
  intro k u
  pointwise [k0_pay245]
  rw [WordCmp.cmpi_slt_eq, toInt_small (by omega), toInt_small (by omega)]
  refine Eq.trans (show _ = (((BitVec.setWidth 32 _).toInt : ℝ) : EReal) from rfl) (bit_int.trans ?_)
  simp only [Nat.cast_lt]

theorem bit_if {p : Prop} [Decidable p] : BitVec.ofBool (decide p) = if p then 1#1 else 0#1 := by
  by_cases h : p <;> simp [h]

theorem diag_of {b u r : ℕ} (hb : b < 512) (hu : u < 128) (hr : r < 512) :
    IntOp.cmpi .sgt (BitVec.ofNat 32 b) (IntOp.addi (BitVec.ofNat 32 u) (BitVec.ofNat 32 r)) = if r + u < b then 1#1 else 0#1 := by
  have h : IntOp.addi (BitVec.ofNat 32 u) (BitVec.ofNat 32 r) = BitVec.ofNat 32 (r + u) := by
    rw [add_comm r u]; exact (BitVec.ofNat_add ..).symm
  rw [h, WordCmp.cmpi_sgt_eq, toInt_small (by omega), toInt_small (by omega), bit_if]
  simp only [Nat.cast_lt]

theorem diag266 : Diag k0_pay266 0 := fun b u => by
  pointwise [k0_pay266]
  have := diag_of b.2 u.2 (r := 0) (by omega)
  simpa [IntOp.addi] using this
theorem diag267 : Diag k0_pay267 128 := fun b u => by
  pointwise [k0_pay267]
  exact diag_of b.2 u.2 (by omega)
theorem diag268 : Diag k0_pay268 256 := fun b u => by
  pointwise [k0_pay268]
  exact diag_of b.2 u.2 (by omega)
theorem diag269 : Diag k0_pay269 384 := fun b u => by
  pointwise [k0_pay269]
  exact diag_of b.2 u.2 (by omega)

theorem sel_if {α : Type} {c : BitVec 1} {p : Prop} [Decidable p] (h : c = if p then 1#1 else 0#1) (a b : α) :
    Scalar.select c a b = if p then a else b := by
  subst h; split <;> rfl

section Lanes

variable (x : FVec Ideal S1x512x128 .bf16) (a : Fin 512) (l : Fin 128)

theorem qh0_at : qh0 x (ix2 a l) = if l.val < 64 then x (ix3 0 a l) * ((1 / 8 : ℝ) : EReal) else 0 := by
  pointwise [qh0, k0_pay250, k0_pay246, k0_pay247, k0_pay248, k0_pay249]
  rw [eighth_bf16]
  exact sel_if (by revert l; decide +kernel) _ _

theorem qh1_at : qh1 x (ix2 a l) = if l.val < 64 then 0 else x (ix3 0 a l) * ((1 / 8 : ℝ) : EReal) := by
  pointwise [qh1, lane, k0_pay251, k0_pay246]
  rw [eighth_bf16, ← ite_not]
  exact sel_if (by revert l; decide +kernel) _ _

theorem doh0_at : doh0 x (ix2 a l) = if l.val < 64 then x (ix3 0 a l) else 0 := by
  pointwise [doh0, lane, k0_pay256, k0_pay252, k0_pay253, k0_pay254, k0_pay255]
  exact sel_if (by revert l; decide +kernel) _ _

theorem doh1_at : k0_pay258 (doAll x) inHead1 (ix2 a l) = if l.val < 64 then 0 else x (ix3 0 a l) := by
  pointwise [doAll, inHead1, lane, k0_pay258, k0_pay252, k0_pay257]
  rw [← ite_not]
  exact sel_if (by revert l; decide +kernel) _ _

theorem lt0_at (x : Vec Ideal S1x512x1 .f32) : k0_pay259 x (ix2 a 0) = x (ix3 0 a 0) := by pointwise [k0_pay259]
theorem lt1_at (x : Vec Ideal S1x512x1 .f32) : k0_pay260 x (ix2 a 0) = x (ix3 0 a 0) := by pointwise [k0_pay260]

theorem outq_at (c : Carry Ideal 512 × Carry Ideal 512) :
    outq c (ix3 0 a l) = (if l.val < 64 then c.1.acc (ix2 a l) else c.2.acc (ix2 a l)) * ((1 / 8 : ℝ) : EReal) := by
  pointwise [outq, lane, k0_pay1, k0_pay410, k0_pay411]
  rw [eighth_f32]
  congr 1
  exact sel_if (by revert l; decide +kernel) _ _

end Lanes

theorem blk128_at {φ : FTy} (x : FVec Ideal S1x128x128 φ) (u l : Fin 128) : blk128 x (ix2 u l) = x (ix3 0 u l) := by pointwise [blk128]
theorem addBlk_at (x : Vec Ideal S1x128x128 .f32) (d : FVec Ideal (M 128 128) .f32) (u l : Fin 128) :
    addBlk x d (ix3 0 u l) = x (ix3 0 u l) + d (ix2 u l) := by pointwise [addBlk, blk128]
theorem copy242_at (x : Vec Ideal S1x2048x128 .f32) (t : Fin 2048) (l : Fin 128) : k0_pay242 x (ix3 0 t l) = x (ix3 0 t l) := by pointwise [k0_pay242]

theorem zeros_at (X : Ops) (t0 : ℕ) : PairAt X (unpack (zeros (F := Ideal))) t0 0 := by
  have h1 : ∀ j, k0_pay261 (F := Ideal) j = ((0 : ℝ) : EReal) := fun j => Ideal.ofBits_zero_f32
  have h2 : ∀ j, k0_pay262 (F := Ideal) j = ((0 : ℝ) : EReal) := fun j => Ideal.ofBits_zero_f32
  have h3 : ∀ j, k0_pay263 (F := Ideal) j = ((0 : ℝ) : EReal) := fun j => Ideal.ofBits_zero_f32
  refine ⟨⟨fun a l => ?_, fun a => ?_, fun a => ?_⟩, ⟨fun a l => ?_, fun a => ?_, fun a => ?_⟩⟩ <;> rw [Finset.range_zero, Finset.sum_empty]
  · exact h2 (ix2 a l)
  · exact h1 (ix2 a 0)
  · exact h1 (ix2 a 0)
  · exact h3 (ix2 a l)
  · exact h1 (ix2 a 0)
  · exact h1 (ix2 a 0)

end Cert.Tile

end
-- ==== Proof.RefVal.lean ====
module

public import proofs.«01_k».proof.Proof.RefDefs
public import proofs.«01_k».proof.Proof.Stick
public import proofs.«01_k».proof.Proof.Consts

@[expose] public section

set_option maxRecDepth 16384

noncomputable section

open scoped BigOperators

/-! # The reference's stages, element by element -/

namespace Cert.RefVal

open Idealize.ShloMosaic Idealize.ShloMosaic.TcCoe Cert.ReferenceIdeal Cert.ReferenceIdeal.Gen Cert.Stick

theorem sel_if {p : Prop} [Decidable p] (a b : EReal) :
    Scalar.select (BitVec.ofBool (decide p)) a b = if p then a else b := by
  by_cases h : p <;> simp [h, Scalar.select]

theorem heads_at (x : FVec Ideal S4x2048x1024 .f32) (b : Fin 4) (t : Fin 2048) (h : Fin 16) (l : Fin 64) :
    heads x (ix4 b t h l) = x (ix3 b t ⟨64 * h.val + l.val, by omega⟩) := by
  unfold heads
  pointwise
  exact congrArg x (congrArg (ix3 b t) (Fin.ext (by show h.val * 64 + l.val = 64 * h.val + l.val; omega)))

theorem cols_at (x : R4) (b : Fin 4) (t : Fin 2048) (j : Fin 1024) :
    cols x (ix3 b t j) = x (ix4 b t ⟨j.val / 64, by omega⟩ ⟨j.val % 64, by omega⟩) := by
  unfold cols
  pointwise

theorem zero4_at (i : S4x16x2048x2048.Idx) : zero4 i = 0 := by
  unfold zero4 zero0; pointwise
theorem zero4'_at (i : S4x16x2048x2048.Idx) : zero4' i = 0 := by
  exact zero4_at i
theorem inf4_at (i : S4x16x2048x2048.Idx) : inf4 i = ⊤ := by
  unfold inf4; pointwise
  simp [Ideal.ofBits, Ideal.ieee]
theorem eighth4_at (i : S4x16x2048x2048.Idx) : eighth4 i = ((1 / 8 : ℝ) : EReal) := by
  unfold eighth4; pointwise
  exact Tile.eighth_f32
theorem causal_at (b : Fin 4) (h : Fin 16) (t s : Fin 2048) : causal (ix4 b h t s) = BitVec.ofBool (decide (s.val < t.val)) := by
  unfold causal; pointwise
  rw [WordCmp.cmpi_sgt_eq, Tile.toInt_small (by omega), Tile.toInt_small (by omega)]
  simp only [Nat.cast_lt]
theorem softT_at (x : T4) (i : S4x16x2048x2048.Idx) (r : ℝ) (h : x i = r) : softT x i = (soft r : ℝ) := by
  unfold softT; pointwise
  rw [zero4_at, h]
  have e0 : (r : EReal) - 0 = (r : ℝ) := by rw [sub_zero]
  have e1 : max (r : EReal) 0 = (max r 0 : ℝ) := by rw [← EReal.coe_zero, Tile.coe_max]
  have e2 : FloatOps.absf (F := Ideal) (φ := .f32) (r : EReal) = (|r| : ℝ) := by
    exact Tile.coe_abs r
  have e3 : Ideal.log1p ((Real.exp (-|r|) : ℝ) : EReal) = (Real.log (1 + Real.exp (-|r|)) : ℝ) := by
    have hp : (0 : ℝ) < 1 + Real.exp (-|r|) := by positivity
    show Ideal.log (((1 : ℝ) : EReal) + _) = _
    rw [← EReal.coe_add]
    exact if_neg (not_le.mpr hp)
  rw [if_neg (by simp), e0, e1, e2, ← EReal.coe_neg, show Ideal.exp ((-|r| : ℝ) : EReal) = (Real.exp (-|r|) : ℝ) from rfl, e3, ← EReal.coe_add]
  rfl
theorem resid_at (x y : T4) (i : S4x16x2048x2048.Idx) (r s : ℝ) (h : x i = r) (h' : y i = s) : resid x y i = (Real.exp (r - s) : ℝ) := by
  unfold resid; pointwise
  rw [zero4_at, h, h', inf4_at]
  rw [if_neg (EReal.coe_ne_top r), if_neg (EReal.coe_ne_top s), ← EReal.coe_sub]
  rfl
theorem scores_at (q k : R4) (b : Fin 4) (h : Fin 16) (t s : Fin 2048) :
    scores q k (ix4 b h t s) = (∑ l : Fin 64, q (ix4 b t h l) * k (ix4 b s h l)) * ((1 / 8 : ℝ) : EReal) := by
  unfold scores; pointwise
  rw [eighth4_at]
theorem cot_at (v d : R4) (b : Fin 4) (h : Fin 16) (t s : Fin 2048) :
    cot v d (ix4 b h t s) = if s.val < t.val then (∑ l : Fin 64, d (ix4 b t h l) * v (ix4 b s h l)) else 0 := by
  unfold cot; pointwise
  rw [causal_at, zero4_at]
  exact sel_if _ _
theorem dqT_at (dz : T4) (k : R4) (b : Fin 4) (t : Fin 2048) (h : Fin 16) (l : Fin 64) :
    dqT dz k (ix4 b t h l) = ∑ s : Fin 2048, dz (ix4 b h t s) * k (ix4 b s h l) := by
  unfold dqT; pointwise
theorem dkT_at (dz : T4) (k : R4) (b : Fin 4) (t : Fin 2048) (h : Fin 16) (l : Fin 64) :
    dkT dz k (ix4 b t h l) = ∑ s : Fin 2048, dz (ix4 b h s t) * k (ix4 b s h l) := by
  unfold dkT; pointwise
theorem dvT_at (dz : T4) (k : R4) (b : Fin 4) (t : Fin 2048) (h : Fin 16) (l : Fin 64) :
    dvT dz k (ix4 b t h l) = ∑ s : Fin 2048, k (ix4 b s h l) * (if t.val < s.val then dz (ix4 b h s t) else 0) := by
  unfold dvT; pointwise
  refine Finset.sum_congr rfl fun s _ => ?_
  rw [causal_at, zero4'_at]
  exact congrArg (k (ix4 b s h l) * ·) (sel_if _ _)

end Cert.RefVal
-- ==== Proof.Running.lean ====
module

public import Idealize.ShloMosaic.Lib.Pointwise
public import proofs.«01_k».proof.Proof.Vals

@[expose] public section

set_option maxRecDepth 16384

noncomputable section

open scoped BigOperators

/-! # Running sums along the last of four axes -/

namespace Cert.RefVal

open Idealize.ShloMosaic

theorem foldl_add {α : Type} (g : α → EReal) (L : List α) (v : EReal) :
    L.foldl (fun r n => r + g n) v = v + (L.map g).sum := by
  induction L generalizing v with
  | nil => simp
  | cons a L ih => rw [List.foldl_cons, ih, List.map_cons, List.sum_cons, add_assoc]

section
variable {B H T N : ℕ}

abbrev Sh (B H T N : ℕ) : Shape := ⟨4, ![B, H, T, N]⟩

/-- The element that a window's position meets, zero in the padding. -/
def cell (lo : Fin 4 → ℕ) (x : (Sh B H T N).Idx → EReal) (i : (Sh B H T N).Idx) (y : (Sh 1 1 1 N).Idx) : EReal :=
  if hin : ∀ a : Fin 4, lo a ≤ (i a).val * (![1, 1, 1, 1] : Fin 4 → ℕ) a + (y a).val
      ∧ (i a).val * (![1, 1, 1, 1] : Fin 4 → ℕ) a + (y a).val - lo a < (Sh B H T N).size a
  then x (fun a => ⟨(i a).val * (![1, 1, 1, 1] : Fin 4 → ℕ) a + (y a).val - lo a, (hin a).2⟩) else 0

theorem cell_pos (lo : Fin 4 → ℕ) (x : (Sh B H T N).Idx → EReal) (i : (Sh B H T N).Idx) (y : (Sh 1 1 1 N).Idx)
    (hin : ∀ a : Fin 4, lo a ≤ (i a).val * (![1, 1, 1, 1] : Fin 4 → ℕ) a + (y a).val
      ∧ (i a).val * (![1, 1, 1, 1] : Fin 4 → ℕ) a + (y a).val - lo a < (Sh B H T N).size a) :
    cell lo x i y = x (fun a => ⟨(i a).val * (![1, 1, 1, 1] : Fin 4 → ℕ) a + (y a).val - lo a, (hin a).2⟩) := dif_pos hin
theorem cell_neg (lo : Fin 4 → ℕ) (x : (Sh B H T N).Idx → EReal) (i : (Sh B H T N).Idx) (y : (Sh 1 1 1 N).Idx)
    (hin : ¬ ∀ a : Fin 4, lo a ≤ (i a).val * (![1, 1, 1, 1] : Fin 4 → ℕ) a + (y a).val
      ∧ (i a).val * (![1, 1, 1, 1] : Fin 4 → ℕ) a + (y a).val - lo a < (Sh B H T N).size a) :
    cell lo x i y = 0 := dif_neg hin

theorem window_fold (lo hi : Fin 4 → ℕ) (hw : (Sh B H T N).ReduceWindows (![1, 1, 1, N] : Fin 4 → ℕ) ![1, 1, 1, 1] lo hi (Sh B H T N))
    (x : (Sh B H T N).Idx → EReal) (i : (Sh B H T N).Idx) :
    Ideal.hostReduceWindowAdd (![1, 1, 1, N] : Fin 4 → ℕ) ![1, 1, 1, 1] lo hi hw x 0 i
      = (List.finRange (Sh 1 1 1 N).numel).foldl (fun r n => r + cell lo x i ((Sh 1 1 1 N).rowMajor.symm n)) 0 := by
  unfold Ideal.hostReduceWindowAdd Host.reduceWindow
  refine congrArg (fun g => List.foldl g (0 : EReal) (List.finRange (Sh 1 1 1 N).numel)) (funext fun r => funext fun n => congrArg (r + ·) ?_)
  split
  · next hin => exact (cell_pos lo x i ((Sh 1 1 1 N).rowMajor.symm n) hin).symm
  · next hin => exact (cell_neg lo x i ((Sh 1 1 1 N).rowMajor.symm n) hin).symm

theorem window_sum (lo hi : Fin 4 → ℕ) (hw : (Sh B H T N).ReduceWindows (![1, 1, 1, N] : Fin 4 → ℕ) ![1, 1, 1, 1] lo hi (Sh B H T N))
    (x : (Sh B H T N).Idx → EReal) (i : (Sh B H T N).Idx) :
    Ideal.hostReduceWindowAdd (![1, 1, 1, N] : Fin 4 → ℕ) ![1, 1, 1, 1] lo hi hw x 0 i = ∑ w : Fin N, cell lo x i (ix4 0 0 0 w) := by
  have e2 : ∑ y : (Sh 1 1 1 N).Idx, cell lo x i y = ∑ a : Fin 1, ∑ b : Fin 1, ∑ c : Fin 1, ∑ w : Fin N, cell lo x i (ix4 a b c w) := sum_idx4 _
  rw [window_fold, foldl_add (fun n => cell lo x i ((Sh 1 1 1 N).rowMajor.symm n)), zero_add, ← Fin.sum_univ_def,
    Equiv.sum_comp (Sh 1 1 1 N).rowMajor.symm (cell lo x i), e2, Fin.sum_univ_one, Fin.sum_univ_one, Fin.sum_univ_one]

theorem cell_rev (x : (Sh B H T N).Idx → EReal) (b : Fin B) (h : Fin H) (t : Fin T) (s w : Fin N) (f : ℕ → ℝ)
    (hx : ∀ r : Fin N, x (ix4 b h t r) = (f r.val : ℝ)) :
    cell ![0, 0, 0, 0] x (ix4 b h t s) (ix4 0 0 0 w) = ((if s.val + w.val < N then f (s.val + w.val) else 0 : ℝ) : EReal) := by
  unfold cell
  by_cases hw : s.val + w.val < N
  · rw [if_pos hw, ← hx ⟨s.val + w.val, hw⟩, dif_pos]
    · refine congrArg x (funext fun a => Fin.ext ?_)
      match a with
      | ⟨0, _⟩ => exact (by omega : b.val * 1 + 0 - 0 = b.val)
      | ⟨1, _⟩ => exact (by omega : h.val * 1 + 0 - 0 = h.val)
      | ⟨2, _⟩ => exact (by omega : t.val * 1 + 0 - 0 = t.val)
      | ⟨3, _⟩ => exact (by omega : s.val * 1 + w.val - 0 = s.val + w.val)
    · intro a
      match a with
      | ⟨0, _⟩ => exact (by omega : 0 ≤ b.val * 1 + 0 ∧ b.val * 1 + 0 - 0 < B)
      | ⟨1, _⟩ => exact (by omega : 0 ≤ h.val * 1 + 0 ∧ h.val * 1 + 0 - 0 < H)
      | ⟨2, _⟩ => exact (by omega : 0 ≤ t.val * 1 + 0 ∧ t.val * 1 + 0 - 0 < T)
      | ⟨3, _⟩ => exact (by omega : 0 ≤ s.val * 1 + w.val ∧ s.val * 1 + w.val - 0 < N)
  · rw [if_neg hw, dif_neg]
    · rfl
    · intro hin
      have h3 : s.val * 1 + w.val - 0 < N := (hin 3).2
      omega

theorem cell_fwd (M : ℕ) (hM : N = M + 1) (x : (Sh B H T N).Idx → EReal) (b : Fin B) (h : Fin H) (t : Fin T) (s w : Fin N) (f : ℕ → ℝ)
    (hx : ∀ r : Fin N, x (ix4 b h t r) = (f r.val : ℝ)) :
    cell ![0, 0, 0, M] x (ix4 b h t s) (ix4 0 0 0 w) = ((if M - s.val ≤ w.val then f (w.val - (M - s.val)) else 0 : ℝ) : EReal) := by
  unfold cell
  have hs := s.isLt
  have hl := w.isLt
  by_cases hw : M - s.val ≤ w.val
  · rw [if_pos hw, ← hx ⟨w.val - (M - s.val), by omega⟩, dif_pos]
    · refine congrArg x (funext fun a => Fin.ext ?_)
      match a with
      | ⟨0, _⟩ => exact (by omega : b.val * 1 + 0 - 0 = b.val)
      | ⟨1, _⟩ => exact (by omega : h.val * 1 + 0 - 0 = h.val)
      | ⟨2, _⟩ => exact (by omega : t.val * 1 + 0 - 0 = t.val)
      | ⟨3, _⟩ => exact (by omega : s.val * 1 + w.val - M = w.val - (M - s.val))
    · intro a
      match a with
      | ⟨0, _⟩ => exact (by omega : 0 ≤ b.val * 1 + 0 ∧ b.val * 1 + 0 - 0 < B)
      | ⟨1, _⟩ => exact (by omega : 0 ≤ h.val * 1 + 0 ∧ h.val * 1 + 0 - 0 < H)
      | ⟨2, _⟩ => exact (by omega : 0 ≤ t.val * 1 + 0 ∧ t.val * 1 + 0 - 0 < T)
      | ⟨3, _⟩ => exact (by omega : M ≤ s.val * 1 + w.val ∧ s.val * 1 + w.val - M < N)
  · rw [if_neg hw, dif_neg]
    · rfl
    · intro hin
      have h3 : M ≤ s.val * 1 + w.val := (hin 3).1
      omega

/-- The sum over the columns from `s` on. -/
theorem rev_sum (hi : Fin 4 → ℕ) (hw : (Sh B H T N).ReduceWindows (![1, 1, 1, N] : Fin 4 → ℕ) ![1, 1, 1, 1] ![0, 0, 0, 0] hi (Sh B H T N))
    (x : (Sh B H T N).Idx → EReal) (b : Fin B) (h : Fin H) (t : Fin T) (s : Fin N) (f : ℕ → ℝ)
    (hx : ∀ r : Fin N, x (ix4 b h t r) = (f r.val : ℝ)) :
    Ideal.hostReduceWindowAdd (![1, 1, 1, N] : Fin 4 → ℕ) ![1, 1, 1, 1] ![0, 0, 0, 0] hi hw x 0 (ix4 b h t s)
      = ((∑ r ∈ Finset.range N, f r - ∑ r ∈ Finset.range s.val, f r : ℝ) : EReal) := by
  rw [window_sum, Finset.sum_congr rfl fun w _ => cell_rev x b h t s w f hx, ← Tile.coe_sum]
  congr 1
  have hs : ∑ r ∈ Finset.range N, f r = ∑ r ∈ Finset.range s.val, f r + ∑ w ∈ Finset.range (N - s.val), f (s.val + w) := by
    rw [← Finset.sum_range_add, Nat.add_sub_cancel' s.isLt.le]
  rw [hs, add_sub_cancel_left, ← Finset.sum_range (fun w => if s.val + w < N then f (s.val + w) else 0), ← Finset.sum_filter]
  refine Finset.sum_congr ?_ fun _ _ => rfl
  ext w; simp; omega

/-- The sum over the columns up to and with `s`. -/
theorem fwd_sum (M : ℕ) (hM : N = M + 1) (hi : Fin 4 → ℕ)
    (hw : (Sh B H T N).ReduceWindows (![1, 1, 1, N] : Fin 4 → ℕ) ![1, 1, 1, 1] ![0, 0, 0, M] hi (Sh B H T N))
    (x : (Sh B H T N).Idx → EReal) (b : Fin B) (h : Fin H) (t : Fin T) (s : Fin N) (f : ℕ → ℝ)
    (hx : ∀ r : Fin N, x (ix4 b h t r) = (f r.val : ℝ)) :
    Ideal.hostReduceWindowAdd (![1, 1, 1, N] : Fin 4 → ℕ) ![1, 1, 1, 1] ![0, 0, 0, M] hi hw x 0 (ix4 b h t s)
      = ((∑ r ∈ Finset.range (s.val + 1), f r : ℝ) : EReal) := by
  rw [window_sum, Finset.sum_congr rfl fun w _ => cell_fwd M hM x b h t s w f hx, ← Tile.coe_sum]
  congr 1
  have hl := s.isLt
  have hs : N = (M - s.val) + (s.val + 1) := by omega
  rw [← Finset.sum_range (fun w => if M - s.val ≤ w then f (w - (M - s.val)) else 0),
    show Finset.range N = Finset.range ((M - s.val) + (s.val + 1)) by rw [← hs], Finset.sum_range_add]
  rw [Finset.sum_eq_zero (s := Finset.range (M - s.val)), zero_add]
  · refine Finset.sum_congr rfl fun w _ => ?_
    rw [if_pos (Nat.le_add_right _ _), Nat.add_sub_cancel_left]
  · intro w hw
    have := Finset.mem_range.mp hw
    rw [if_neg (by omega)]

end

end Cert.RefVal
-- ==== Proof.RefStage.lean ====
module

public import proofs.«01_k».proof.Proof.RefVal
public import proofs.«01_k».proof.Proof.Running

@[expose] public section

set_option maxRecDepth 16384

noncomputable section

open scoped BigOperators

/-! # One head of the reference against the model -/

namespace Cert.RefVal

open Idealize.ShloMosaic Idealize.ShloMosaic.TcCoe Cert.ReferenceIdeal Cert.ReferenceIdeal.Gen Cert.Stick

theorem init_at (j : S_.Idx) : (broadcastInDim S_ ![] bcast_S_S_ zero0 : FVec Ideal S_ .f32) j = 0 := by
  unfold zero0; pointwise

/-- One head of an array holds a function of row and column. -/
def Holds (x : T4) (b : Fin 4) (h : Fin 16) (f : ℕ → ℕ → ℝ) : Prop :=
  ∀ t s : Fin 2048, x (ix4 b h t s) = ((f t.val s.val : ℝ) : EReal)

variable {b : Fin 4} {h : Fin 16} {z g : ℕ → ℕ → ℝ}

theorem revSum_eq (x : T4) : revSum x = Ideal.hostReduceWindowAdd (![1, 1, 1, 2048] : Fin 4 → ℕ) ![1, 1, 1, 1] ![0, 0, 0, 0] ![0, 0, 0, 2047]
    reduceWindows_S4x16x2048x2048_S4x16x2048x2048_w1s1p0_0_w1s1p0_0_w1s1p0_0_w2048s1p0_2047 x 0 := by
  unfold revSum Host.reduceWindowAdd
  rw [Ideal.hostReduceWindowAdd_def, init_at]

theorem fwdSum_eq (x : T4) : fwdSum x = Ideal.hostReduceWindowAdd (![1, 1, 1, 2048] : Fin 4 → ℕ) ![1, 1, 1, 1] ![0, 0, 0, 2047] ![0, 0, 0, 0]
    reduceWindows_S4x16x2048x2048_S4x16x2048x2048_w1s1p0_0_w1s1p0_0_w1s1p0_0_w2048s1p2047_0 x 0 := by
  unfold fwdSum Host.reduceWindowAdd
  rw [Ideal.hostReduceWindowAdd_def, init_at]

theorem revSum_at {x : T4} {f : ℕ → ℕ → ℝ} (hx : Holds x b h f) :
    Holds (revSum x) b h fun t s => ∑ r ∈ Finset.range 2048, f t r - ∑ r ∈ Finset.range s, f t r := by
  intro t s
  rw [revSum_eq]
  exact rev_sum (B := 4) (H := 16) (T := 2048) (N := 2048) _ _ x b h t s (f t.val) (hx t)

theorem fwdSum_at {x : T4} {f : ℕ → ℕ → ℝ} (hx : Holds x b h f) :
    Holds (fwdSum x) b h fun t s => ∑ r ∈ Finset.range (s + 1), f t r := by
  intro t s
  rw [fwdSum_eq]
  exact fwd_sum (B := 4) (H := 16) (T := 2048) (N := 2048) 2047 (by rfl) _ _ x b h t s (f t.val) (hx t)

theorem neg_at {x : T4} {f : ℕ → ℕ → ℝ} (hx : Holds x b h f) : Holds (Host.negf x) b h fun t s => -f t s := by
  intro t s
  have e : (Host.negf x : T4) (ix4 b h t s) = -x (ix4 b h t s) := rfl
  rw [e, hx t s, ← EReal.coe_neg]
theorem add_at {x y : T4} {f f' : ℕ → ℕ → ℝ} (hx : Holds x b h f) (hy : Holds y b h f') : Holds (addf x y) b h fun t s => f t s + f' t s := by
  intro t s
  have e : (addf x y : T4) (ix4 b h t s) = x (ix4 b h t s) + y (ix4 b h t s) := rfl
  rw [e, hx t s, hy t s, ← EReal.coe_add]
theorem sub_at {x y : T4} {f f' : ℕ → ℕ → ℝ} (hx : Holds x b h f) (hy : Holds y b h f') : Holds (subf x y) b h fun t s => f t s - f' t s := by
  intro t s
  have e : (subf x y : T4) (ix4 b h t s) = x (ix4 b h t s) - y (ix4 b h t s) := rfl
  rw [e, hx t s, hy t s, ← EReal.coe_sub]
theorem mul_at {x y : T4} {f f' : ℕ → ℕ → ℝ} (hx : Holds x b h f) (hy : Holds y b h f') : Holds (mulf x y) b h fun t s => f t s * f' t s := by
  intro t s
  have e : (mulf x y : T4) (ix4 b h t s) = x (ix4 b h t s) * y (ix4 b h t s) := rfl
  rw [e, hx t s, hy t s, ← EReal.coe_mul]
theorem exp_at {x : T4} {f : ℕ → ℕ → ℝ} (hx : Holds x b h f) : Holds (Host.exp x) b h fun t s => Real.exp (f t s) := by
  intro t s
  have e : (Host.exp x : T4) (ix4 b h t s) = Ideal.exp (x (ix4 b h t s)) := rfl
  rw [e, hx t s]; rfl
theorem softs_at {x : T4} {f : ℕ → ℕ → ℝ} (hx : Holds x b h f) : Holds (softT x) b h fun t s => soft (f t s) :=
  fun t s => softT_at x _ _ (hx t s)
theorem resids_at {x y : T4} {f f' : ℕ → ℕ → ℝ} (hx : Holds x b h f) (hy : Holds y b h f') : Holds (resid x y) b h fun t s => Real.exp (f t s - f' t s) :=
  fun t s => resid_at x y _ _ _ (hx t s) (hy t s)
theorem mask_at {x y : T4} {f : ℕ → ℕ → ℝ} (hx : Holds x b h f) (hy : ∀ i, y i = 0) : Holds (select causal x y) b h fun t s => if s < t then f t s else 0 := by
  intro t s
  have e : (select causal x y : T4) (ix4 b h t s) = Scalar.select (causal (ix4 b h t s)) (x (ix4 b h t s)) (y (ix4 b h t s)) := rfl
  rw [e, causal_at, sel_if, hx t s, hy]
  by_cases c : s.val < t.val
  · rw [if_pos c]; exact congrArg Real.toEReal (if_pos c).symm
  · rw [if_neg c]; exact congrArg Real.toEReal (if_neg c).symm
theorem eighths_at : Holds eighth4 b h fun _ _ => 1 / 8 := fun _ _ => eighth4_at _

theorem Holds.of {x : T4} {f f' : ℕ → ℕ → ℝ} (hx : Holds x b h f) (e : ∀ t s, f t s = f' t s) : Holds x b h f' := by
  intro t s; rw [hx t s, e]

theorem logKeep_at {Z : T4} (hz : Holds Z b h z) : Holds (logKeep Z) b h (keep z) :=
  (mask_at (neg_at (softs_at (neg_at (neg_at hz)))) zero4'_at).of fun t s => by simp only [keep, neg_neg]

theorem restT_at {Z : T4} (hz : Holds Z b h z) : Holds (restT (logKeep Z)) b h (rest 2048 z) :=
  (sub_at (revSum_at (logKeep_at hz)) (logKeep_at hz)).of fun t s => by
    rw [rest, Finset.sum_range_succ _ s]; ring

theorem weight_at {Z : T4} (hz : Holds Z b h z) : Holds (weight Z) b h fun t s => Real.exp (z t s - soft (z t s) + rest 2048 z t s) :=
  (exp_at (add_at (neg_at (softs_at (neg_at hz))) (restT_at hz))).of fun t s => by
    rw [soft_neg]; congr 1; ring

theorem wtT_at {Z : T4} (hz : Holds Z b h z) : Holds (select causal (weight Z) zero4') b h (wt 2048 z) :=
  mask_at (weight_at hz) zero4'_at

theorem aT_at {Z G : T4} (hz : Holds Z b h z) (hg : Holds G b h fun t s => if s < t then g t s else 0) :
    Holds (mulf G (weight Z)) b h (gw 2048 z g) :=
  (mul_at hg (weight_at hz)).of fun t s => by
    unfold gw wt
    split <;> simp

theorem dScore_at {Z A : T4} (hz : Holds Z b h z) (ha : Holds A b h (gw 2048 z g)) :
    Holds (dScore Z A) b h fun t s => dz 2048 z g t s * (1 / 8) :=
  (mul_at (add_at (neg_at (neg_at (mul_at (neg_at (mask_at (add_at (neg_at ha) (fwdSum_at ha)) zero4_at))
      (resids_at (neg_at (neg_at hz)) (softs_at (neg_at (neg_at hz)))))))
    (neg_at (mul_at (neg_at ha) (resids_at (neg_at hz) (softs_at (neg_at hz)))))) eighths_at).of fun t s => by
    simp only [neg_neg, logistic_neg]
    by_cases hs : s < t
    · rw [if_pos hs, dz, if_pos hs, Finset.sum_range_succ _ s]; ring
    · rw [if_neg hs, dz_zero _ _ _ (not_lt.mp hs), gw_zero _ _ _ (not_lt.mp hs)]; ring

end Cert.RefVal
-- ==== Proof.Stores.lean ====
module

public import proofs.«01_k».proof.Proof.Consts
public import Idealize.ShloMosaic.Lib.WritesUnit
public import Idealize.ShloMosaic.Lib.VecWindow

@[expose] public section

set_option maxRecDepth 16384

noncomputable section

open scoped BigOperators

/-! # The stores into the keys' and the values' gradients -/

namespace Cert.Tile

open Idealize.ShloMosaic Idealize.ShloMosaic.TcCoe Cert.KernelIdeal Cert.KernelIdeal.Gen

abbrev Buf := Memref sig .tc .vmem S1x2048x128 .f32

/-- The value of a block of 2048 rows, row by row and lane by lane. -/
def Holds (a : Buf) (f : BufTy.Contents (Elt Ideal) a.view.ty) (B : ℕ → Fin 128 → EReal) : Prop :=
  ∀ (t : Fin 2048) (l : Fin 128), a.view.read (Elt Ideal) f (ix3 0 t l) = B t.val l

/-- `D` added in the rows `o …`, `n` of them. -/
def upd (B : ℕ → Fin 128 → EReal) (D : ℕ → Fin 128 → ℝ) (o n : ℕ) : ℕ → Fin 128 → EReal :=
  fun t l => if o ≤ t ∧ t < o + n then B t l + (D t l : EReal) else B t l

theorem upd_zero (B : ℕ → Fin 128 → EReal) (D : ℕ → Fin 128 → ℝ) (o : ℕ) : upd B D o 0 = B := by
  funext t l
  rw [upd, if_neg (by omega)]

theorem upd_upd (B : ℕ → Fin 128 → EReal) (D : ℕ → Fin 128 → ℝ) (n m : ℕ) : upd (upd B D 0 n) D n m = upd B D 0 (n + m) := by
  funext t l
  simp only [upd]
  split_ifs <;> first | rfl | omega

variable (a : Buf) {f : BufTy.Contents (Elt Ideal) a.view.ty}

/-- What a load of 128 rows reads. -/
theorem read_rows (g : BufTy.Contents (Elt Ideal) a.view.ty) {off : Fin 3 → ℕ} {inb : ∀ x, off x + S1x128x128.size x ≤ S1x2048x128.size x} {o : ℕ}
    (ho : off = ![0, o, 0]) (u l : Fin 128) (t : Fin 2048) (ht : t.val = o + u.val) :
    View.readAt (Elt Ideal) a.view (Rect.unit (s := S1x2048x128) off S1x128x128.size inb).toLoadRect g (ix3 0 u l)
      = a.view.read (Elt Ideal) g (ix3 0 t l) := by
  subst ho
  refine congrArg (a.view.read (Elt Ideal) g) (funext fun x => Fin.ext ?_)
  fin_cases x
  · rfl
  · show o + 1 * u.val = t.val
    omega
  · show 0 + 1 * l.val = l.val
    omega

/-- One store of 128 rows. -/
theorem put_holds {B : ℕ → Fin 128 → EReal} {D : ℕ → Fin 128 → ℝ} {o n o' : ℕ} {L : List (View.Piece (Elt Ideal) S1x2048x128 .f32)}
    (hL : Holds a (a.view.writes (Elt Ideal) f L) (upd B D o n)) {off : Fin 3 → ℕ} {inb : ∀ x, off x + S1x128x128.size x ≤ S1x2048x128.size x}
    (ho : off = ![0, o', 0]) (hn : o' = o + n) (g : BufTy.Contents (Elt Ideal) a.view.ty)
    (hg : ∀ (t : Fin 2048) (l : Fin 128), o + n ≤ t.val → a.view.read (Elt Ideal) g (ix3 0 t l) = B t.val l)
    {d : FVec Ideal (M 128 128) .f32} (hd : ∀ u l : Fin 128, d (ix2 u l) = (D (o + n + u.val) l : EReal)) :
    Holds a (a.view.writes (Elt Ideal) f (⟨Rect.unit (s := S1x2048x128) off S1x128x128.size inb,
      addBlk (View.readAt (Elt Ideal) a.view (Rect.unit (s := S1x2048x128) off S1x128x128.size inb).toLoadRect g) d⟩ :: L)) (upd B D o (n + 128)) := by
  intro t l
  subst hn
  have hin : o + n + 128 ≤ 2048 := by
    have := inb 1
    subst ho
    exact this
  by_cases h : o + n ≤ t.val ∧ t.val < o + n + 128
  · have hu : t.val - (o + n) < 128 := by omega
    rw [View.read_writes_cons_unit_of_mem a.view f inb _ L (ix3 0 t l) (ix3 (0 : Fin 1) (⟨t.val - (o + n), hu⟩ : Fin 128) l) ho (fun x => by
      fin_cases x
      · rfl
      · show t.val = o + n + (t.val - (o + n))
        omega
      · show l.val = 0 + l.val
        omega)]
    refine (addBlk_at _ d ⟨t.val - (o + n), hu⟩ l).trans ?_
    rw [read_rows a g ho ⟨t.val - (o + n), hu⟩ l t (by simp only []; omega), hg t l h.1, hd, upd, if_pos (by omega)]
    simp only [Nat.add_sub_cancel' h.1]
  · rw [View.read_writes_cons_unit_of_not_mem a.view f inb _ L (ix3 0 t l) ho 1 (by
      show t.val < o + n ∨ o + n + 128 ≤ t.val
      omega), hL t l, upd, upd]
    by_cases h2 : o ≤ t.val ∧ t.val < o + n
    · rw [if_pos h2, if_pos (by omega)]
    · rw [if_neg h2, if_neg (by omega)]

/-- A trip's four stores, each over what the trip found. -/
theorem trip_holds {B : ℕ → Fin 128 → EReal} {D : ℕ → Fin 128 → ℝ} {i : grid0.Coords} {k : Fin (k0_t1_loop i).trips} {L : List (View.Piece (Elt Ideal) S1x2048x128 .f32)}
    (hL : Holds a (a.view.writes (Elt Ideal) f L) (upd B D 0 (512 * k.val)))
    {d : Fin 4 → FVec Ideal (M 128 128) .f32} (hd : ∀ (u : Fin 4) (x l : Fin 128), d u (ix2 x l) = (D (512 * k.val + 128 * u.val + x.val) l : EReal)) :
    Holds a (a.view.writes (Elt Ideal) f ([piece1 i k a (a.view.writes (Elt Ideal) f L) d 3, piece1 i k a (a.view.writes (Elt Ideal) f L) d 2,
      piece1 i k a (a.view.writes (Elt Ideal) f L) d 1, piece1 i k a (a.view.writes (Elt Ideal) f L) d 0] ++ L)) (upd B D 0 (512 * (k.val + 1))) := by
  have hg : ∀ m : ℕ, 512 * k.val ≤ m → ∀ (t : Fin 2048) (l : Fin 128), 0 + m ≤ t.val → a.view.read (Elt Ideal) (a.view.writes (Elt Ideal) f L) (ix3 0 t l) = B t.val l :=
    fun m hm t l ht => by rw [hL t l, upd, if_neg (by omega)]
  have h0 := put_holds a hL (off1_eq i k 0) (inb := k0_off1_inb i k 0) (by show (4 * k.val + 0) * 128 = _; omega) _ (hg _ (by omega))
    (d := d 0) (fun x l => by rw [hd]; simp)
  have h1 := put_holds a h0 (off1_eq i k 1) (inb := k0_off1_inb i k 1) (by show (4 * k.val + 1) * 128 = _; omega) _ (hg _ (by omega))
    (d := d 1) (fun x l => by rw [hd]; simp)
  have h2 := put_holds a h1 (off1_eq i k 2) (inb := k0_off1_inb i k 2) (by show (4 * k.val + 2) * 128 = _; omega) _ (hg _ (by omega))
    (d := d 2) (fun x l => by rw [hd]; simp [add_assoc])
  have h3 := put_holds a h2 (off1_eq i k 3) (inb := k0_off1_inb i k 3) (by show (4 * k.val + 3) * 128 = _; omega) _ (hg _ (by omega))
    (d := d 3) (fun x l => by rw [hd]; simp [add_assoc])
  have e : 512 * k.val + 128 + 128 + 128 + 128 = 512 * (k.val + 1) := by omega
  rw [e] at h3
  exact h3

/-- The diagonal's four stores, each over what the ones before left. -/
theorem diag_holds {B : ℕ → Fin 128 → EReal} {D : ℕ → Fin 128 → ℝ} {i : grid0.Coords} {L : List (View.Piece (Elt Ideal) S1x2048x128 .f32)}
    (hL : Holds a (a.view.writes (Elt Ideal) f L) B)
    {d0 d1 d2 d3 : FVec Ideal (M 128 128) .f32} (hd0 : ∀ x l : Fin 128, d0 (ix2 x l) = (D (512 * (i 2).val + x.val) l : EReal))
    (hd1 : ∀ x l : Fin 128, d1 (ix2 x l) = (D (512 * (i 2).val + 128 + x.val) l : EReal))
    (hd2 : ∀ x l : Fin 128, d2 (ix2 x l) = (D (512 * (i 2).val + 256 + x.val) l : EReal))
    (hd3 : ∀ x l : Fin 128, d3 (ix2 x l) = (D (512 * (i 2).val + 384 + x.val) l : EReal)) :
    Holds a (a.view.writes (Elt Ideal) f (putPiece a f i 3 d3 (putPiece a f i 2 d2 (putPiece a f i 1 d1 (putPiece a f i 0 d0 L))))) (upd B D (512 * (i 2).val) 512) := by
  rw [← upd_zero B D (512 * (i 2).val)] at hL
  have hg : ∀ {m : ℕ} {G : BufTy.Contents (Elt Ideal) a.view.ty}, Holds a G (upd B D (512 * (i 2).val) m) → ∀ (t : Fin 2048) (l : Fin 128), 512 * (i 2).val + m ≤ t.val →
      a.view.read (Elt Ideal) G (ix3 0 t l) = B t.val l := fun h t l ht => by rw [h t l, upd, if_neg (by omega)]
  have h0 := put_holds a hL (off3_eq i 0) (inb := k0_off3_inb i 0) (by show (4 * (i 2).val + 0) * 128 = _; omega) _ (hg hL) (d := d0) (fun x l => by rw [hd0, add_zero])
  have h1 := put_holds a h0 (off3_eq i 1) (inb := k0_off3_inb i 1) (by show (4 * (i 2).val + 1) * 128 = _; omega) _ (hg h0) (d := d1) (fun x l => by rw [hd1])
  have h2 := put_holds a h1 (off3_eq i 2) (inb := k0_off3_inb i 2) (by show (4 * (i 2).val + 2) * 128 = _; omega) _ (hg h1) (d := d2) (fun x l => by rw [hd2])
  have h3 := put_holds a h2 (off3_eq i 3) (inb := k0_off3_inb i 3) (by show (4 * (i 2).val + 3) * 128 = _; omega) _ (hg h2) (d := d3) (fun x l => by rw [hd3])
  exact h3

end Cert.Tile

end
-- ==== Proof.PointA.lean ====
module

public import proofs.«01_k».proof.Proof.Body

@[expose] public section

set_option maxRecDepth 16384

noncomputable section

/-! # The run of one grid point, the first of a block -/

namespace Cert.Tile

open Idealize.ShloMosaic Idealize.ShloMosaic.TcCoe Cert.KernelIdeal Cert.KernelIdeal.Gen

variable {F : FTy → Type} [FloatOps F]

section RunA

variable (c : Dev nD) (i : grid0.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x128 .f32) (harg6 : arg6.IsWhole) (arg7 : Memref sig .tc .vmem S1x512x128 .bf16) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x512x128 .bf16) (harg10 : arg10.IsWhole) (arg11 : Memref sig .tc .vmem S1x2048x128 .f32) (harg11 : arg11.IsWhole) (arg12 : Memref sig .tc .vmem S1x2048x128 .f32) (harg12 : arg12.IsWhole)
  (x0 : Vec F S1x512x128 .bf16) (x1 : Vec F S1x2048x128 .bf16) (x2 : Vec F S1x2048x128 .bf16) (x3 : Vec F S1x512x128 .f32) (x4 : Vec F S1x512x128 .bf16)
  (x5 x6 xo8 xo9 : Vec F S1x2048x128 .f32)

theorem A_env : (⟨k0_pay244, k0_pay245, ⟨(kernelRun0_A.sl.r_1 c arg3 harg3 x0), (kernelRun0_A.sl.r_4 c arg7 harg7 x4), (kernelRun0_A.sl.r_6 c arg6 harg6 x3)⟩, ⟨(kernelRun0_A.sl.r_2 c arg3 harg3 x0), (kernelRun0_A.sl.r_5 c arg7 harg7 x4), (kernelRun0_A.sl.r_7 c arg6 harg6 x3)⟩⟩ : Env F) = genv arg3 harg3 arg6 harg6 arg7 harg7 x0 x3 x4 := rfl

theorem A_c0 : ((⟨(kernelRun0_A.sl.r_8 c i arg3 harg3 arg4 harg4 arg5 harg5 arg6 harg6 arg7 harg7 arg8 harg8 arg9 harg9 arg10 harg10 arg11 harg11 arg12 harg12 x0 x1 x2 x3 x4 x5 x6), (kernelRun0_A.sl.r_9 c i arg3 harg3 arg4 harg4 arg5 harg5 arg6 harg6 arg7 harg7 arg8 harg8 arg9 harg9 arg10 harg10 arg11 harg11 arg12 harg12 x0 x1 x2 x3 x4 x5 x6), (kernelRun0_A.sl.r_10 c i arg3 harg3 arg4 harg4 arg5 harg5 arg6 harg6 arg7 harg7 arg8 harg8 arg9 harg9 arg10 harg10 arg11 harg11 arg12 harg12 x0 x1 x2 x3 x4 x5 x6)⟩, ⟨(kernelRun0_A.sl.r_11 c i arg3 harg3 arg4 harg4 arg5 harg5 arg6 harg6 arg7 harg7 arg8 harg8 arg9 harg9 arg10 harg10 arg11 harg11 arg12 harg12 x0 x1 x2 x3 x4 x5 x6), (kernelRun0_A.sl.r_12 c i arg3 harg3 arg4 harg4 arg5 harg5 arg6 harg6 arg7 harg7 arg8 harg8 arg9 harg9 arg10 harg10 arg11 harg11 arg12 harg12 x0 x1 x2 x3 x4 x5 x6), (kernelRun0_A.sl.r_13 c i arg3 harg3 arg4 harg4 arg5 harg5 arg6 harg6 arg7 harg7 arg8 harg8 arg9 harg9 arg10 harg10 arg11 harg11 arg12 harg12 x0 x1 x2 x3 x4 x5 x6)⟩) : Carry F 512 × Carry F 512) = unpack (after2 c i arg3 harg3 arg4 harg4 arg5 harg5 arg6 harg6 arg7 harg7 arg8 harg8 arg9 harg9 arg10 harg10 arg11 harg11 arg12 harg12 (GA arg11 arg8 harg8 x5) (GA arg12 arg9 harg9 x6) (arg11.view.writes (Elt F) arg11.view.junk ((after1 c i arg3 harg3 arg4 harg4 arg5 harg5 arg6 harg6 arg7 harg7 arg8 harg8 arg9 harg9 arg10 harg10 arg11 harg11 arg12 harg12 (GA arg11 arg8 harg8 x5) (GA arg12 arg9 harg9 x6) x0 x1 x2 x3 x4).2.1 ++ [copy arg8 harg8 x5])) (arg12.view.writes (Elt F) arg12.view.junk ((after1 c i arg3 harg3 arg4 harg4 arg5 harg5 arg6 harg6 arg7 harg7 arg8 harg8 arg9 harg9 arg10 harg10 arg11 harg11 arg12 harg12 (GA arg11 arg8 harg8 x5) (GA arg12 arg9 harg9 x6) x0 x1 x2 x3 x4).2.2 ++ [copy arg9 harg9 x6])) x0 x1 x2 x3 x4).1 := by
  unfold kernelRun0_A.sl.r_8 kernelRun0_A.sl.r_9 kernelRun0_A.sl.r_10 kernelRun0_A.sl.r_11 kernelRun0_A.sl.r_12 kernelRun0_A.sl.r_13
  rfl

theorem A_c1 : ((⟨(kernelRun0_A.sl.r_21 c i arg3 harg3 arg4 harg4 arg5 harg5 arg6 harg6 arg7 harg7 arg8 harg8 arg9 harg9 arg10 harg10 arg11 harg11 arg12 harg12 x0 x1 x2 x3 x4 x5 x6), (kernelRun0_A.sl.r_22 c i arg3 harg3 arg4 harg4 arg5 harg5 arg6 harg6 arg7 harg7 arg8 harg8 arg9 harg9 arg10 harg10 arg11 harg11 arg12 harg12 x0 x1 x2 x3 x4 x5 x6), (kernelRun0_A.sl.r_23 c i arg3 harg3 arg4 harg4 arg5 harg5 arg6 harg6 arg7 harg7 arg8 harg8 arg9 harg9 arg10 harg10 arg11 harg11 arg12 harg12 x0 x1 x2 x3 x4 x5 x6)⟩, ⟨(kernelRun0_A.sl.r_31 c i arg3 harg3 arg4 harg4 arg5 harg5 arg6 harg6 arg7 harg7 arg8 harg8 arg9 harg9 arg10 harg10 arg11 harg11 arg12 harg12 x0 x1 x2 x3 x4 x5 x6), (kernelRun0_A.sl.r_32 c i arg3 harg3 arg4 harg4 arg5 harg5 arg6 harg6 arg7 harg7 arg8 harg8 arg9 harg9 arg10 harg10 arg11 harg11 arg12 harg12 x0 x1 x2 x3 x4 x5 x6), (kernelRun0_A.sl.r_33 c i arg3 harg3 arg4 harg4 arg5 harg5 arg6 harg6 arg7 harg7 arg8 harg8 arg9 harg9 arg10 harg10 arg11 harg11 arg12 harg12 x0 x1 x2 x3 x4 x5 x6)⟩) : Carry F 512 × Carry F 512) = topNext k0_pay266 (⟨k0_pay244, k0_pay245, ⟨(kernelRun0_A.sl.r_1 c arg3 harg3 x0), (kernelRun0_A.sl.r_4 c arg7 harg7 x4), (kernelRun0_A.sl.r_6 c arg6 harg6 x3)⟩, ⟨(kernelRun0_A.sl.r_2 c arg3 harg3 x0), (kernelRun0_A.sl.r_5 c arg7 harg7 x4), (kernelRun0_A.sl.r_7 c arg6 harg6 x3)⟩⟩ : Env F) (kd i arg4 (harg4.unread x1) 0) (kd i arg5 (harg5.unread x2) 0) ((⟨(kernelRun0_A.sl.r_8 c i arg3 harg3 arg4 harg4 arg5 harg5 arg6 harg6 arg7 harg7 arg8 harg8 arg9 harg9 arg10 harg10 arg11 harg11 arg12 harg12 x0 x1 x2 x3 x4 x5 x6), (kernelRun0_A.sl.r_9 c i arg3 harg3 arg4 harg4 arg5 harg5 arg6 harg6 arg7 harg7 arg8 harg8 arg9 harg9 arg10 harg10 arg11 harg11 arg12 harg12 x0 x1 x2 x3 x4 x5 x6), (kernelRun0_A.sl.r_10 c i arg3 harg3 arg4 harg4 arg5 harg5 arg6 harg6 arg7 harg7 arg8 harg8 arg9 harg9 arg10 harg10 arg11 harg11 arg12 harg12 x0 x1 x2 x3 x4 x5 x6)⟩, ⟨(kernelRun0_A.sl.r_11 c i arg3 harg3 arg4 harg4 arg5 harg5 arg6 harg6 arg7 harg7 arg8 harg8 arg9 harg9 arg10 harg10 arg11 harg11 arg12 harg12 x0 x1 x2 x3 x4 x5 x6), (kernelRun0_A.sl.r_12 c i arg3 harg3 arg4 harg4 arg5 harg5 arg6 harg6 arg7 harg7 arg8 harg8 arg9 harg9 arg10 harg10 arg11 harg11 arg12 harg12 x0 x1 x2 x3 x4 x5 x6), (kernelRun0_A.sl.r_13 c i arg3 harg3 arg4 harg4 arg5 harg5 arg6 harg6 arg7 harg7 arg8 harg8 arg9 harg9 arg10 harg10 arg11 harg11 arg12 harg12 x0 x1 x2 x3 x4 x5 x6)⟩) : Carry F 512 × Carry F 512) := by
  unfold kernelRun0_A.sl.r_33 kernelRun0_A.sl.r_31 kernelRun0_A.sl.r_23 kernelRun0_A.sl.r_21 kernelRun0_A.sl.r_28 kernelRun0_A.sl.r_32 kernelRun0_A.sl.r_18 kernelRun0_A.sl.r_22 kernelRun0_A.sl.r_19 kernelRun0_A.sl.r_30 kernelRun0_A.sl.r_26 kernelRun0_A.sl.r_29 kernelRun0_A.sl.r_27 kernelRun0_A.sl.r_16 kernelRun0_A.sl.r_20 kernelRun0_A.sl.r_14 kernelRun0_A.sl.r_15
  generalize (kernelRun0_A.sl.r_1 c arg3 harg3 x0) = y_r_1
  generalize (kernelRun0_A.sl.r_2 c arg3 harg3 x0) = y_r_2
  generalize (kernelRun0_A.sl.r_4 c arg7 harg7 x4) = y_r_4
  generalize (kernelRun0_A.sl.r_5 c arg7 harg7 x4) = y_r_5
  generalize (kernelRun0_A.sl.r_6 c arg6 harg6 x3) = y_r_6
  generalize (kernelRun0_A.sl.r_7 c arg6 harg6 x3) = y_r_7
  generalize (kernelRun0_A.sl.r_8 c i arg3 harg3 arg4 harg4 arg5 harg5 arg6 harg6 arg7 harg7 arg8 harg8 arg9 harg9 arg10 harg10 arg11 harg11 arg12 harg12 x0 x1 x2 x3 x4 x5 x6) = y_r_8
  generalize (kernelRun0_A.sl.r_9 c i arg3 harg3 arg4 harg4 arg5 harg5 arg6 harg6 arg7 harg7 arg8 harg8 arg9 harg9 arg10 harg10 arg11 harg11 arg12 harg12 x0 x1 x2 x3 x4 x5 x6) = y_r_9
  generalize (kernelRun0_A.sl.r_10 c i arg3 harg3 arg4 harg4 arg5 harg5 arg6 harg6 arg7 harg7 arg8 harg8 arg9 harg9 arg10 harg10 arg11 harg11 arg12 harg12 x0 x1 x2 x3 x4 x5 x6) = y_r_10
  generalize (kernelRun0_A.sl.r_11 c i arg3 harg3 arg4 harg4 arg5 harg5 arg6 harg6 arg7 harg7 arg8 harg8 arg9 harg9 arg10 harg10 arg11 harg11 arg12 harg12 x0 x1 x2 x3 x4 x5 x6) = y_r_11
  generalize (kernelRun0_A.sl.r_12 c i arg3 harg3 arg4 harg4 arg5 harg5 arg6 harg6 arg7 harg7 arg8 harg8 arg9 harg9 arg10 harg10 arg11 harg11 arg12 harg12 x0 x1 x2 x3 x4 x5 x6) = y_r_12
  generalize (kernelRun0_A.sl.r_13 c i arg3 harg3 arg4 harg4 arg5 harg5 arg6 harg6 arg7 harg7 arg8 harg8 arg9 harg9 arg10 harg10 arg11 harg11 arg12 harg12 x0 x1 x2 x3 x4 x5 x6) = y_r_13
  rfl

theorem A_H8_0 : (kernelRun0_A.sl.H8_1_1 c i arg3 harg3 arg4 harg4 arg5 harg5 arg6 harg6 arg7 harg7 arg8 harg8 arg9 harg9 arg10 harg10 arg11 harg11 arg12 harg12 x0 x1 x2 x3 x4 x5 x6) = putPiece arg11 arg11.view.junk i 0 (topDk k0_pay266 (⟨k0_pay244, k0_pay245, ⟨(kernelRun0_A.sl.r_1 c arg3 harg3 x0), (kernelRun0_A.sl.r_4 c arg7 harg7 x4), (kernelRun0_A.sl.r_6 c arg6 harg6 x3)⟩, ⟨(kernelRun0_A.sl.r_2 c arg3 harg3 x0), (kernelRun0_A.sl.r_5 c arg7 harg7 x4), (kernelRun0_A.sl.r_7 c arg6 harg6 x3)⟩⟩ : Env F) (kd i arg4 (harg4.unread x1) 0) (kd i arg5 (harg5.unread x2) 0) ((⟨(kernelRun0_A.sl.r_8 c i arg3 harg3 arg4 harg4 arg5 harg5 arg6 harg6 arg7 harg7 arg8 harg8 arg9 harg9 arg10 harg10 arg11 harg11 arg12 harg12 x0 x1 x2 x3 x4 x5 x6), (kernelRun0_A.sl.r_9 c i arg3 harg3 arg4 harg4 arg5 harg5 arg6 harg6 arg7 harg7 arg8 harg8 arg9 harg9 arg10 harg10 arg11 harg11 arg12 harg12 x0 x1 x2 x3 x4 x5 x6), (kernelRun0_A.sl.r_10 c i arg3 harg3 arg4 harg4 arg5 harg5 arg6 harg6 arg7 harg7 arg8 harg8 arg9 harg9 arg10 harg10 arg11 harg11 arg12 harg12 x0 x1 x2 x3 x4 x5 x6)⟩, ⟨(kernelRun0_A.sl.r_11 c i arg3 harg3 arg4 harg4 arg5 harg5 arg6 harg6 arg7 harg7 arg8 harg8 arg9 harg9 arg10 harg10 arg11 harg11 arg12 harg12 x0 x1 x2 x3 x4 x5 x6), (kernelRun0_A.sl.r_12 c i arg3 harg3 arg4 harg4 arg5 harg5 arg6 harg6 arg7 harg7 arg8 harg8 arg9 harg9 arg10 harg10 arg11 harg11 arg12 harg12 x0 x1 x2 x3 x4 x5 x6), (kernelRun0_A.sl.r_13 c i arg3 harg3 arg4 harg4 arg5 harg5 arg6 harg6 arg7 harg7 arg8 harg8 arg9 harg9 arg10 harg10 arg11 harg11 arg12 harg12 x0 x1 x2 x3 x4 x5 x6)⟩) : Carry F 512 × Carry F 512)) ((after2 c i arg3 harg3 arg4 harg4 arg5 harg5 arg6 harg6 arg7 harg7 arg8 harg8 arg9 harg9 arg10 harg10 arg11 harg11 arg12 harg12 (GA arg11 arg8 harg8 x5) (GA arg12 arg9 harg9 x6) (arg11.view.writes (Elt F) arg11.view.junk ((after1 c i arg3 harg3 arg4 harg4 arg5 harg5 arg6 harg6 arg7 harg7 arg8 harg8 arg9 harg9 arg10 harg10 arg11 harg11 arg12 harg12 (GA arg11 arg8 harg8 x5) (GA arg12 arg9 harg9 x6) x0 x1 x2 x3 x4).2.1 ++ [copy arg8 harg8 x5])) (arg12.view.writes (Elt F) arg12.view.junk ((after1 c i arg3 harg3 arg4 harg4 arg5 harg5 arg6 harg6 arg7 harg7 arg8 harg8 arg9 harg9 arg10 harg10 arg11 harg11 arg12 harg12 (GA arg11 arg8 harg8 x5) (GA arg12 arg9 harg9 x6) x0 x1 x2 x3 x4).2.2 ++ [copy arg9 harg9 x6])) x0 x1 x2 x3 x4).2.1 ++ ((after1 c i arg3 harg3 arg4 harg4 arg5 harg5 arg6 harg6 arg7 harg7 arg8 harg8 arg9 harg9 arg10 harg10 arg11 harg11 arg12 harg12 (GA arg11 arg8 harg8 x5) (GA arg12 arg9 harg9 x6) x0 x1 x2 x3 x4).2.1 ++ [copy arg8 harg8 x5])) := by
  unfold kernelRun0_A.sl.H8_1_1 kernelRun0_A.sl.r_35 kernelRun0_A.sl.r_24 kernelRun0_A.sl.r_18 kernelRun0_A.sl.r_19 kernelRun0_A.sl.r_28 kernelRun0_A.sl.v299 kernelRun0_A.sl.r_30 kernelRun0_A.sl.r_26 kernelRun0_A.sl.r_20 kernelRun0_A.sl.r_29 kernelRun0_A.sl.H9_1 kernelRun0_A.sl.r_14 kernelRun0_A.sl.r_15
  generalize (kernelRun0_A.sl.r_8 c i arg3 harg3 arg4 harg4 arg5 harg5 arg6 harg6 arg7 harg7 arg8 harg8 arg9 harg9 arg10 harg10 arg11 harg11 arg12 harg12 x0 x1 x2 x3 x4 x5 x6) = y_r_8
  generalize (kernelRun0_A.sl.r_9 c i arg3 harg3 arg4 harg4 arg5 harg5 arg6 harg6 arg7 harg7 arg8 harg8 arg9 harg9 arg10 harg10 arg11 harg11 arg12 harg12 x0 x1 x2 x3 x4 x5 x6) = y_r_9
  generalize (kernelRun0_A.sl.r_10 c i arg3 harg3 arg4 harg4 arg5 harg5 arg6 harg6 arg7 harg7 arg8 harg8 arg9 harg9 arg10 harg10 arg11 harg11 arg12 harg12 x0 x1 x2 x3 x4 x5 x6) = y_r_10
  generalize (kernelRun0_A.sl.r_11 c i arg3 harg3 arg4 harg4 arg5 harg5 arg6 harg6 arg7 harg7 arg8 harg8 arg9 harg9 arg10 harg10 arg11 harg11 arg12 harg12 x0 x1 x2 x3 x4 x5 x6) = y_r_11
  generalize (kernelRun0_A.sl.r_12 c i arg3 harg3 arg4 harg4 arg5 harg5 arg6 harg6 arg7 harg7 arg8 harg8 arg9 harg9 arg10 harg10 arg11 harg11 arg12 harg12 x0 x1 x2 x3 x4 x5 x6) = y_r_12
  generalize (kernelRun0_A.sl.r_13 c i arg3 harg3 arg4 harg4 arg5 harg5 arg6 harg6 arg7 harg7 arg8 harg8 arg9 harg9 arg10 harg10 arg11 harg11 arg12 harg12 x0 x1 x2 x3 x4 x5 x6) = y_r_13
  rfl

theorem A_H9_0 : (kernelRun0_A.sl.H9_1_1 c i arg3 harg3 arg4 harg4 arg5 harg5 arg6 harg6 arg7 harg7 arg8 harg8 arg9 harg9 arg10 harg10 arg11 harg11 arg12 harg12 x0 x1 x2 x3 x4 x5 x6) = putPiece arg12 arg12.view.junk i 0 (topDv k0_pay266 (⟨k0_pay244, k0_pay245, ⟨(kernelRun0_A.sl.r_1 c arg3 harg3 x0), (kernelRun0_A.sl.r_4 c arg7 harg7 x4), (kernelRun0_A.sl.r_6 c arg6 harg6 x3)⟩, ⟨(kernelRun0_A.sl.r_2 c arg3 harg3 x0), (kernelRun0_A.sl.r_5 c arg7 harg7 x4), (kernelRun0_A.sl.r_7 c arg6 harg6 x3)⟩⟩ : Env F) (kd i arg4 (harg4.unread x1) 0) ((⟨(kernelRun0_A.sl.r_8 c i arg3 harg3 arg4 harg4 arg5 harg5 arg6 harg6 arg7 harg7 arg8 harg8 arg9 harg9 arg10 harg10 arg11 harg11 arg12 harg12 x0 x1 x2 x3 x4 x5 x6), (kernelRun0_A.sl.r_9 c i arg3 harg3 arg4 harg4 arg5 harg5 arg6 harg6 arg7 harg7 arg8 harg8 arg9 harg9 arg10 harg10 arg11 harg11 arg12 harg12 x0 x1 x2 x3 x4 x5 x6), (kernelRun0_A.sl.r_10 c i arg3 harg3 arg4 harg4 arg5 harg5 arg6 harg6 arg7 harg7 arg8 harg8 arg9 harg9 arg10 harg10 arg11 harg11 arg12 harg12 x0 x1 x2 x3 x4 x5 x6)⟩, ⟨(kernelRun0_A.sl.r_11 c i arg3 harg3 arg4 harg4 arg5 harg5 arg6 harg6 arg7 harg7 arg8 harg8 arg9 harg9 arg10 harg10 arg11 harg11 arg12 harg12 x0 x1 x2 x3 x4 x5 x6), (kernelRun0_A.sl.r_12 c i arg3 harg3 arg4 harg4 arg5 harg5 arg6 harg6 arg7 harg7 arg8 harg8 arg9 harg9 arg10 harg10 arg11 harg11 arg12 harg12 x0 x1 x2 x3 x4 x5 x6), (kernelRun0_A.sl.r_13 c i arg3 harg3 arg4 harg4 arg5 harg5 arg6 harg6 arg7 harg7 arg8 harg8 arg9 harg9 arg10 harg10 arg11 harg11 arg12 harg12 x0 x1 x2 x3 x4 x5 x6)⟩) : Carry F 512 × Carry F 512)) ((after2 c i arg3 harg3 arg4 harg4 arg5 harg5 arg6 harg6 arg7 harg7 arg8 harg8 arg9 harg9 arg10 harg10 arg11 harg11 arg12 harg12 (GA arg11 arg8 harg8 x5) (GA arg12 arg9 harg9 x6) (arg11.view.writes (Elt F) arg11.view.junk ((after1 c i arg3 harg3 arg4 harg4 arg5 harg5 arg6 harg6 arg7 harg7 arg8 harg8 arg9 harg9 arg10 harg10 arg11 harg11 arg12 harg12 (GA arg11 arg8 harg8 x5) (GA arg12 arg9 harg9 x6) x0 x1 x2 x3 x4).2.1 ++ [copy arg8 harg8 x5])) (arg12.view.writes (Elt F) arg12.view.junk ((after1 c i arg3 harg3 arg4 harg4 arg5 harg5 arg6 harg6 arg7 harg7 arg8 harg8 arg9 harg9 arg10 harg10 arg11 harg11 arg12 harg12 (GA arg11 arg8 harg8 x5) (GA arg12 arg9 harg9 x6) x0 x1 x2 x3 x4).2.2 ++ [copy arg9 harg9 x6])) x0 x1 x2 x3 x4).2.2 ++ ((after1 c i arg3 harg3 arg4 harg4 arg5 harg5 arg6 harg6 arg7 harg7 arg8 harg8 arg9 harg9 arg10 harg10 arg11 harg11 arg12 harg12 (GA arg11 arg8 harg8 x5) (GA arg12 arg9 harg9 x6) x0 x1 x2 x3 x4).2.2 ++ [copy arg9 harg9 x6])) := by
  unfold kernelRun0_A.sl.H9_1_1 kernelRun0_A.sl.r_34 kernelRun0_A.sl.r_25 kernelRun0_A.sl.r_17 kernelRun0_A.sl.r_28 kernelRun0_A.sl.v307 kernelRun0_A.sl.r_30 kernelRun0_A.sl.r_26 kernelRun0_A.sl.r_29 kernelRun0_A.sl.H8_1 kernelRun0_A.sl.r_14
  generalize (kernelRun0_A.sl.r_8 c i arg3 harg3 arg4 harg4 arg5 harg5 arg6 harg6 arg7 harg7 arg8 harg8 arg9 harg9 arg10 harg10 arg11 harg11 arg12 harg12 x0 x1 x2 x3 x4 x5 x6) = y_r_8
  generalize (kernelRun0_A.sl.r_9 c i arg3 harg3 arg4 harg4 arg5 harg5 arg6 harg6 arg7 harg7 arg8 harg8 arg9 harg9 arg10 harg10 arg11 harg11 arg12 harg12 x0 x1 x2 x3 x4 x5 x6) = y_r_9
  generalize (kernelRun0_A.sl.r_10 c i arg3 harg3 arg4 harg4 arg5 harg5 arg6 harg6 arg7 harg7 arg8 harg8 arg9 harg9 arg10 harg10 arg11 harg11 arg12 harg12 x0 x1 x2 x3 x4 x5 x6) = y_r_10
  generalize (kernelRun0_A.sl.r_11 c i arg3 harg3 arg4 harg4 arg5 harg5 arg6 harg6 arg7 harg7 arg8 harg8 arg9 harg9 arg10 harg10 arg11 harg11 arg12 harg12 x0 x1 x2 x3 x4 x5 x6) = y_r_11
  generalize (kernelRun0_A.sl.r_12 c i arg3 harg3 arg4 harg4 arg5 harg5 arg6 harg6 arg7 harg7 arg8 harg8 arg9 harg9 arg10 harg10 arg11 harg11 arg12 harg12 x0 x1 x2 x3 x4 x5 x6) = y_r_12
  generalize (kernelRun0_A.sl.r_13 c i arg3 harg3 arg4 harg4 arg5 harg5 arg6 harg6 arg7 harg7 arg8 harg8 arg9 harg9 arg10 harg10 arg11 harg11 arg12 harg12 x0 x1 x2 x3 x4 x5 x6) = y_r_13
  rfl

theorem A_c2 : ((⟨(kernelRun0_A.sl.r_48 c i arg3 harg3 arg4 harg4 arg5 harg5 arg6 harg6 arg7 harg7 arg8 harg8 arg9 harg9 arg10 harg10 arg11 harg11 arg12 harg12 x0 x1 x2 x3 x4 x5 x6), (kernelRun0_A.sl.r_49 c i arg3 harg3 arg4 harg4 arg5 harg5 arg6 harg6 arg7 harg7 arg8 harg8 arg9 harg9 arg10 harg10 arg11 harg11 arg12 harg12 x0 x1 x2 x3 x4 x5 x6), (kernelRun0_A.sl.r_50 c i arg3 harg3 arg4 harg4 arg5 harg5 arg6 harg6 arg7 harg7 arg8 harg8 arg9 harg9 arg10 harg10 arg11 harg11 arg12 harg12 x0 x1 x2 x3 x4 x5 x6)⟩, ⟨(kernelRun0_A.sl.r_60 c i arg3 harg3 arg4 harg4 arg5 harg5 arg6 harg6 arg7 harg7 arg8 harg8 arg9 harg9 arg10 harg10 arg11 harg11 arg12 harg12 x0 x1 x2 x3 x4 x5 x6), (kernelRun0_A.sl.r_61 c i arg3 harg3 arg4 harg4 arg5 harg5 arg6 harg6 arg7 harg7 arg8 harg8 arg9 harg9 arg10 harg10 arg11 harg11 arg12 harg12 x0 x1 x2 x3 x4 x5 x6), (kernelRun0_A.sl.r_62 c i arg3 harg3 arg4 harg4 arg5 harg5 arg6 harg6 arg7 harg7 arg8 harg8 arg9 harg9 arg10 harg10 arg11 harg11 arg12 harg12 x0 x1 x2 x3 x4 x5 x6)⟩) : Carry F 512 × Carry F 512) = cutNext c384 k0_pay267 (⟨k0_pay244, k0_pay245, ⟨(kernelRun0_A.sl.r_1 c arg3 harg3 x0), (kernelRun0_A.sl.r_4 c arg7 harg7 x4), (kernelRun0_A.sl.r_6 c arg6 harg6 x3)⟩, ⟨(kernelRun0_A.sl.r_2 c arg3 harg3 x0), (kernelRun0_A.sl.r_5 c arg7 harg7 x4), (kernelRun0_A.sl.r_7 c arg6 harg6 x3)⟩⟩ : Env F) (kd i arg4 (harg4.unread x1) 1) (kd i arg5 (harg5.unread x2) 1) ((⟨(kernelRun0_A.sl.r_21 c i arg3 harg3 arg4 harg4 arg5 harg5 arg6 harg6 arg7 harg7 arg8 harg8 arg9 harg9 arg10 harg10 arg11 harg11 arg12 harg12 x0 x1 x2 x3 x4 x5 x6), (kernelRun0_A.sl.r_22 c i arg3 harg3 arg4 harg4 arg5 harg5 arg6 harg6 arg7 harg7 arg8 harg8 arg9 harg9 arg10 harg10 arg11 harg11 arg12 harg12 x0 x1 x2 x3 x4 x5 x6), (kernelRun0_A.sl.r_23 c i arg3 harg3 arg4 harg4 arg5 harg5 arg6 harg6 arg7 harg7 arg8 harg8 arg9 harg9 arg10 harg10 arg11 harg11 arg12 harg12 x0 x1 x2 x3 x4 x5 x6)⟩, ⟨(kernelRun0_A.sl.r_31 c i arg3 harg3 arg4 harg4 arg5 harg5 arg6 harg6 arg7 harg7 arg8 harg8 arg9 harg9 arg10 harg10 arg11 harg11 arg12 harg12 x0 x1 x2 x3 x4 x5 x6), (kernelRun0_A.sl.r_32 c i arg3 harg3 arg4 harg4 arg5 harg5 arg6 harg6 arg7 harg7 arg8 harg8 arg9 harg9 arg10 harg10 arg11 harg11 arg12 harg12 x0 x1 x2 x3 x4 x5 x6), (kernelRun0_A.sl.r_33 c i arg3 harg3 arg4 harg4 arg5 harg5 arg6 harg6 arg7 harg7 arg8 harg8 arg9 harg9 arg10 harg10 arg11 harg11 arg12 harg12 x0 x1 x2 x3 x4 x5 x6)⟩) : Carry F 512 × Carry F 512) := by
  unfold kernelRun0_A.sl.r_60 kernelRun0_A.sl.r_50 kernelRun0_A.sl.r_48 kernelRun0_A.sl.r_62 kernelRun0_A.sl.r_59 kernelRun0_A.sl.r_46 kernelRun0_A.sl.r_49 kernelRun0_A.sl.r_44 kernelRun0_A.sl.r_47 kernelRun0_A.sl.r_58 kernelRun0_A.sl.r_61 kernelRun0_A.sl.r_45 kernelRun0_A.sl.r_56 kernelRun0_A.sl.r_55 kernelRun0_A.sl.r_39 kernelRun0_A.sl.r_40 kernelRun0_A.sl.r_41 kernelRun0_A.sl.r_36 kernelRun0_A.sl.r_37
  generalize (kernelRun0_A.sl.r_1 c arg3 harg3 x0) = y_r_1
  generalize (kernelRun0_A.sl.r_2 c arg3 harg3 x0) = y_r_2
  generalize (kernelRun0_A.sl.r_4 c arg7 harg7 x4) = y_r_4
  generalize (kernelRun0_A.sl.r_5 c arg7 harg7 x4) = y_r_5
  generalize (kernelRun0_A.sl.r_6 c arg6 harg6 x3) = y_r_6
  generalize (kernelRun0_A.sl.r_7 c arg6 harg6 x3) = y_r_7
  generalize (kernelRun0_A.sl.r_21 c i arg3 harg3 arg4 harg4 arg5 harg5 arg6 harg6 arg7 harg7 arg8 harg8 arg9 harg9 arg10 harg10 arg11 harg11 arg12 harg12 x0 x1 x2 x3 x4 x5 x6) = y_r_21
  generalize (kernelRun0_A.sl.r_22 c i arg3 harg3 arg4 harg4 arg5 harg5 arg6 harg6 arg7 harg7 arg8 harg8 arg9 harg9 arg10 harg10 arg11 harg11 arg12 harg12 x0 x1 x2 x3 x4 x5 x6) = y_r_22
  generalize (kernelRun0_A.sl.r_23 c i arg3 harg3 arg4 harg4 arg5 harg5 arg6 harg6 arg7 harg7 arg8 harg8 arg9 harg9 arg10 harg10 arg11 harg11 arg12 harg12 x0 x1 x2 x3 x4 x5 x6) = y_r_23
  generalize (kernelRun0_A.sl.r_31 c i arg3 harg3 arg4 harg4 arg5 harg5 arg6 harg6 arg7 harg7 arg8 harg8 arg9 harg9 arg10 harg10 arg11 harg11 arg12 harg12 x0 x1 x2 x3 x4 x5 x6) = y_r_31
  generalize (kernelRun0_A.sl.r_32 c i arg3 harg3 arg4 harg4 arg5 harg5 arg6 harg6 arg7 harg7 arg8 harg8 arg9 harg9 arg10 harg10 arg11 harg11 arg12 harg12 x0 x1 x2 x3 x4 x5 x6) = y_r_32
  generalize (kernelRun0_A.sl.r_33 c i arg3 harg3 arg4 harg4 arg5 harg5 arg6 harg6 arg7 harg7 arg8 harg8 arg9 harg9 arg10 harg10 arg11 harg11 arg12 harg12 x0 x1 x2 x3 x4 x5 x6) = y_r_33
  rfl

theorem A_H8_1 : (kernelRun0_A.sl.H8_2 c i arg3 harg3 arg4 harg4 arg5 harg5 arg6 harg6 arg7 harg7 arg8 harg8 arg9 harg9 arg10 harg10 arg11 harg11 arg12 harg12 x0 x1 x2 x3 x4 x5 x6) = putPiece arg11 arg11.view.junk i 1 (cutDk c384 k0_pay267 (⟨k0_pay244, k0_pay245, ⟨(kernelRun0_A.sl.r_1 c arg3 harg3 x0), (kernelRun0_A.sl.r_4 c arg7 harg7 x4), (kernelRun0_A.sl.r_6 c arg6 harg6 x3)⟩, ⟨(kernelRun0_A.sl.r_2 c arg3 harg3 x0), (kernelRun0_A.sl.r_5 c arg7 harg7 x4), (kernelRun0_A.sl.r_7 c arg6 harg6 x3)⟩⟩ : Env F) (kd i arg4 (harg4.unread x1) 1) (kd i arg5 (harg5.unread x2) 1) ((⟨(kernelRun0_A.sl.r_21 c i arg3 harg3 arg4 harg4 arg5 harg5 arg6 harg6 arg7 harg7 arg8 harg8 arg9 harg9 arg10 harg10 arg11 harg11 arg12 harg12 x0 x1 x2 x3 x4 x5 x6), (kernelRun0_A.sl.r_22 c i arg3 harg3 arg4 harg4 arg5 harg5 arg6 harg6 arg7 harg7 arg8 harg8 arg9 harg9 arg10 harg10 arg11 harg11 arg12 harg12 x0 x1 x2 x3 x4 x5 x6), (kernelRun0_A.sl.r_23 c i arg3 harg3 arg4 harg4 arg5 harg5 arg6 harg6 arg7 harg7 arg8 harg8 arg9 harg9 arg10 harg10 arg11 harg11 arg12 harg12 x0 x1 x2 x3 x4 x5 x6)⟩, ⟨(kernelRun0_A.sl.r_31 c i arg3 harg3 arg4 harg4 arg5 harg5 arg6 harg6 arg7 harg7 arg8 harg8 arg9 harg9 arg10 harg10 arg11 harg11 arg12 harg12 x0 x1 x2 x3 x4 x5 x6), (kernelRun0_A.sl.r_32 c i arg3 harg3 arg4 harg4 arg5 harg5 arg6 harg6 arg7 harg7 arg8 harg8 arg9 harg9 arg10 harg10 arg11 harg11 arg12 harg12 x0 x1 x2 x3 x4 x5 x6), (kernelRun0_A.sl.r_33 c i arg3 harg3 arg4 harg4 arg5 harg5 arg6 harg6 arg7 harg7 arg8 harg8 arg9 harg9 arg10 harg10 arg11 harg11 arg12 harg12 x0 x1 x2 x3 x4 x5 x6)⟩) : Carry F 512 × Carry F 512)) (kernelRun0_A.sl.H8_1_1 c i arg3 harg3 arg4 harg4 arg5 harg5 arg6 harg6 arg7 harg7 arg8 harg8 arg9 harg9 arg10 harg10 arg11 harg11 arg12 harg12 x0 x1 x2 x3 x4 x5 x6) := by
  unfold kernelRun0_A.sl.H8_2 kernelRun0_A.sl.r_64 kernelRun0_A.sl.r_51 kernelRun0_A.sl.r_59 kernelRun0_A.sl.r_43 kernelRun0_A.sl.r_58 kernelRun0_A.sl.r_38 kernelRun0_A.sl.r_39 kernelRun0_A.sl.r_40 kernelRun0_A.sl.r_41 kernelRun0_A.sl.r_55 kernelRun0_A.sl.r_53 kernelRun0_A.sl.r_37 kernelRun0_A.sl.r_36
  generalize (kernelRun0_A.sl.r_21 c i arg3 harg3 arg4 harg4 arg5 harg5 arg6 harg6 arg7 harg7 arg8 harg8 arg9 harg9 arg10 harg10 arg11 harg11 arg12 harg12 x0 x1 x2 x3 x4 x5 x6) = y_r_21
  generalize (kernelRun0_A.sl.r_22 c i arg3 harg3 arg4 harg4 arg5 harg5 arg6 harg6 arg7 harg7 arg8 harg8 arg9 harg9 arg10 harg10 arg11 harg11 arg12 harg12 x0 x1 x2 x3 x4 x5 x6) = y_r_22
  generalize (kernelRun0_A.sl.r_23 c i arg3 harg3 arg4 harg4 arg5 harg5 arg6 harg6 arg7 harg7 arg8 harg8 arg9 harg9 arg10 harg10 arg11 harg11 arg12 harg12 x0 x1 x2 x3 x4 x5 x6) = y_r_23
  generalize (kernelRun0_A.sl.r_31 c i arg3 harg3 arg4 harg4 arg5 harg5 arg6 harg6 arg7 harg7 arg8 harg8 arg9 harg9 arg10 harg10 arg11 harg11 arg12 harg12 x0 x1 x2 x3 x4 x5 x6) = y_r_31
  generalize (kernelRun0_A.sl.r_32 c i arg3 harg3 arg4 harg4 arg5 harg5 arg6 harg6 arg7 harg7 arg8 harg8 arg9 harg9 arg10 harg10 arg11 harg11 arg12 harg12 x0 x1 x2 x3 x4 x5 x6) = y_r_32
  generalize (kernelRun0_A.sl.r_33 c i arg3 harg3 arg4 harg4 arg5 harg5 arg6 harg6 arg7 harg7 arg8 harg8 arg9 harg9 arg10 harg10 arg11 harg11 arg12 harg12 x0 x1 x2 x3 x4 x5 x6) = y_r_33
  generalize (kernelRun0_A.sl.r_1 c arg3 harg3 x0) = y_r_1
  generalize (kernelRun0_A.sl.r_2 c arg3 harg3 x0) = y_r_2
  generalize (kernelRun0_A.sl.r_4 c arg7 harg7 x4) = y_r_4
  generalize (kernelRun0_A.sl.r_5 c arg7 harg7 x4) = y_r_5
  generalize (kernelRun0_A.sl.r_6 c arg6 harg6 x3) = y_r_6
  generalize (kernelRun0_A.sl.r_7 c arg6 harg6 x3) = y_r_7
  rfl

theorem A_H9_1 : (kernelRun0_A.sl.H9_2 c i arg3 harg3 arg4 harg4 arg5 harg5 arg6 harg6 arg7 harg7 arg8 harg8 arg9 harg9 arg10 harg10 arg11 harg11 arg12 harg12 x0 x1 x2 x3 x4 x5 x6) = putPiece arg12 arg12.view.junk i 1 (cutDv c384 k0_pay267 (⟨k0_pay244, k0_pay245, ⟨(kernelRun0_A.sl.r_1 c arg3 harg3 x0), (kernelRun0_A.sl.r_4 c arg7 harg7 x4), (kernelRun0_A.sl.r_6 c arg6 harg6 x3)⟩, ⟨(kernelRun0_A.sl.r_2 c arg3 harg3 x0), (kernelRun0_A.sl.r_5 c arg7 harg7 x4), (kernelRun0_A.sl.r_7 c arg6 harg6 x3)⟩⟩ : Env F) (kd i arg4 (harg4.unread x1) 1) ((⟨(kernelRun0_A.sl.r_21 c i arg3 harg3 arg4 harg4 arg5 harg5 arg6 harg6 arg7 harg7 arg8 harg8 arg9 harg9 arg10 harg10 arg11 harg11 arg12 harg12 x0 x1 x2 x3 x4 x5 x6), (kernelRun0_A.sl.r_22 c i arg3 harg3 arg4 harg4 arg5 harg5 arg6 harg6 arg7 harg7 arg8 harg8 arg9 harg9 arg10 harg10 arg11 harg11 arg12 harg12 x0 x1 x2 x3 x4 x5 x6), (kernelRun0_A.sl.r_23 c i arg3 harg3 arg4 harg4 arg5 harg5 arg6 harg6 arg7 harg7 arg8 harg8 arg9 harg9 arg10 harg10 arg11 harg11 arg12 harg12 x0 x1 x2 x3 x4 x5 x6)⟩, ⟨(kernelRun0_A.sl.r_31 c i arg3 harg3 arg4 harg4 arg5 harg5 arg6 harg6 arg7 harg7 arg8 harg8 arg9 harg9 arg10 harg10 arg11 harg11 arg12 harg12 x0 x1 x2 x3 x4 x5 x6), (kernelRun0_A.sl.r_32 c i arg3 harg3 arg4 harg4 arg5 harg5 arg6 harg6 arg7 harg7 arg8 harg8 arg9 harg9 arg10 harg10 arg11 harg11 arg12 harg12 x0 x1 x2 x3 x4 x5 x6), (kernelRun0_A.sl.r_33 c i arg3 harg3 arg4 harg4 arg5 harg5 arg6 harg6 arg7 harg7 arg8 harg8 arg9 harg9 arg10 harg10 arg11 harg11 arg12 harg12 x0 x1 x2 x3 x4 x5 x6)⟩) : Carry F 512 × Carry F 512)) (kernelRun0_A.sl.H9_1_1 c i arg3 harg3 arg4 harg4 arg5 harg5 arg6 harg6 arg7 harg7 arg8 harg8 arg9 harg9 arg10 harg10 arg11 harg11 arg12 harg12 x0 x1 x2 x3 x4 x5 x6) := by
  unfold kernelRun0_A.sl.H9_2 kernelRun0_A.sl.r_63 kernelRun0_A.sl.r_52 kernelRun0_A.sl.r_57 kernelRun0_A.sl.r_42 kernelRun0_A.sl.r_54 kernelRun0_A.sl.r_39 kernelRun0_A.sl.r_41 kernelRun0_A.sl.r_40 kernelRun0_A.sl.r_36
  generalize (kernelRun0_A.sl.r_21 c i arg3 harg3 arg4 harg4 arg5 harg5 arg6 harg6 arg7 harg7 arg8 harg8 arg9 harg9 arg10 harg10 arg11 harg11 arg12 harg12 x0 x1 x2 x3 x4 x5 x6) = y_r_21
  generalize (kernelRun0_A.sl.r_22 c i arg3 harg3 arg4 harg4 arg5 harg5 arg6 harg6 arg7 harg7 arg8 harg8 arg9 harg9 arg10 harg10 arg11 harg11 arg12 harg12 x0 x1 x2 x3 x4 x5 x6) = y_r_22
  generalize (kernelRun0_A.sl.r_23 c i arg3 harg3 arg4 harg4 arg5 harg5 arg6 harg6 arg7 harg7 arg8 harg8 arg9 harg9 arg10 harg10 arg11 harg11 arg12 harg12 x0 x1 x2 x3 x4 x5 x6) = y_r_23
  generalize (kernelRun0_A.sl.r_31 c i arg3 harg3 arg4 harg4 arg5 harg5 arg6 harg6 arg7 harg7 arg8 harg8 arg9 harg9 arg10 harg10 arg11 harg11 arg12 harg12 x0 x1 x2 x3 x4 x5 x6) = y_r_31
  generalize (kernelRun0_A.sl.r_32 c i arg3 harg3 arg4 harg4 arg5 harg5 arg6 harg6 arg7 harg7 arg8 harg8 arg9 harg9 arg10 harg10 arg11 harg11 arg12 harg12 x0 x1 x2 x3 x4 x5 x6) = y_r_32
  generalize (kernelRun0_A.sl.r_33 c i arg3 harg3 arg4 harg4 arg5 harg5 arg6 harg6 arg7 harg7 arg8 harg8 arg9 harg9 arg10 harg10 arg11 harg11 arg12 harg12 x0 x1 x2 x3 x4 x5 x6) = y_r_33
  generalize (kernelRun0_A.sl.r_1 c arg3 harg3 x0) = y_r_1
  generalize (kernelRun0_A.sl.r_2 c arg3 harg3 x0) = y_r_2
  generalize (kernelRun0_A.sl.r_4 c arg7 harg7 x4) = y_r_4
  generalize (kernelRun0_A.sl.r_5 c arg7 harg7 x4) = y_r_5
  generalize (kernelRun0_A.sl.r_6 c arg6 harg6 x3) = y_r_6
  generalize (kernelRun0_A.sl.r_7 c arg6 harg6 x3) = y_r_7
  rfl

theorem A_c3 : ((⟨(kernelRun0_A.sl.r_77 c i arg3 harg3 arg4 harg4 arg5 harg5 arg6 harg6 arg7 harg7 arg8 harg8 arg9 harg9 arg10 harg10 arg11 harg11 arg12 harg12 x0 x1 x2 x3 x4 x5 x6), (kernelRun0_A.sl.r_79 c i arg3 harg3 arg4 harg4 arg5 harg5 arg6 harg6 arg7 harg7 arg8 harg8 arg9 harg9 arg10 harg10 arg11 harg11 arg12 harg12 x0 x1 x2 x3 x4 x5 x6), (kernelRun0_A.sl.r_80 c i arg3 harg3 arg4 harg4 arg5 harg5 arg6 harg6 arg7 harg7 arg8 harg8 arg9 harg9 arg10 harg10 arg11 harg11 arg12 harg12 x0 x1 x2 x3 x4 x5 x6)⟩, ⟨(kernelRun0_A.sl.r_92 c i arg3 harg3 arg4 harg4 arg5 harg5 arg6 harg6 arg7 harg7 arg8 harg8 arg9 harg9 arg10 harg10 arg11 harg11 arg12 harg12 x0 x1 x2 x3 x4 x5 x6), (kernelRun0_A.sl.r_93 c i arg3 harg3 arg4 harg4 arg5 harg5 arg6 harg6 arg7 harg7 arg8 harg8 arg9 harg9 arg10 harg10 arg11 harg11 arg12 harg12 x0 x1 x2 x3 x4 x5 x6), (kernelRun0_A.sl.r_94 c i arg3 harg3 arg4 harg4 arg5 harg5 arg6 harg6 arg7 harg7 arg8 harg8 arg9 harg9 arg10 harg10 arg11 harg11 arg12 harg12 x0 x1 x2 x3 x4 x5 x6)⟩) : Carry F 512 × Carry F 512) = cutNext c256 k0_pay268 (⟨k0_pay244, k0_pay245, ⟨(kernelRun0_A.sl.r_1 c arg3 harg3 x0), (kernelRun0_A.sl.r_4 c arg7 harg7 x4), (kernelRun0_A.sl.r_6 c arg6 harg6 x3)⟩, ⟨(kernelRun0_A.sl.r_2 c arg3 harg3 x0), (kernelRun0_A.sl.r_5 c arg7 harg7 x4), (kernelRun0_A.sl.r_7 c arg6 harg6 x3)⟩⟩ : Env F) (kd i arg4 (harg4.unread x1) 2) (kd i arg5 (harg5.unread x2) 2) ((⟨(kernelRun0_A.sl.r_48 c i arg3 harg3 arg4 harg4 arg5 harg5 arg6 harg6 arg7 harg7 arg8 harg8 arg9 harg9 arg10 harg10 arg11 harg11 arg12 harg12 x0 x1 x2 x3 x4 x5 x6), (kernelRun0_A.sl.r_49 c i arg3 harg3 arg4 harg4 arg5 harg5 arg6 harg6 arg7 harg7 arg8 harg8 arg9 harg9 arg10 harg10 arg11 harg11 arg12 harg12 x0 x1 x2 x3 x4 x5 x6), (kernelRun0_A.sl.r_50 c i arg3 harg3 arg4 harg4 arg5 harg5 arg6 harg6 arg7 harg7 arg8 harg8 arg9 harg9 arg10 harg10 arg11 harg11 arg12 harg12 x0 x1 x2 x3 x4 x5 x6)⟩, ⟨(kernelRun0_A.sl.r_60 c i arg3 harg3 arg4 harg4 arg5 harg5 arg6 harg6 arg7 harg7 arg8 harg8 arg9 harg9 arg10 harg10 arg11 harg11 arg12 harg12 x0 x1 x2 x3 x4 x5 x6), (kernelRun0_A.sl.r_61 c i arg3 harg3 arg4 harg4 arg5 harg5 arg6 harg6 arg7 harg7 arg8 harg8 arg9 harg9 arg10 harg10 arg11 harg11 arg12 harg12 x0 x1 x2 x3 x4 x5 x6), (kernelRun0_A.sl.r_62 c i arg3 harg3 arg4 harg4 arg5 harg5 arg6 harg6 arg7 harg7 arg8 harg8 arg9 harg9 arg10 harg10 arg11 harg11 arg12 harg12 x0 x1 x2 x3 x4 x5 x6)⟩) : Carry F 512 × Carry F 512) := by
  unfold kernelRun0_A.sl.r_80 kernelRun0_A.sl.r_92 kernelRun0_A.sl.r_76 kernelRun0_A.sl.r_79 kernelRun0_A.sl.r_77 kernelRun0_A.sl.r_94 kernelRun0_A.sl.r_89 kernelRun0_A.sl.r_72 kernelRun0_A.sl.r_75 kernelRun0_A.sl.r_78 kernelRun0_A.sl.r_88 kernelRun0_A.sl.r_93 kernelRun0_A.sl.r_91 kernelRun0_A.sl.r_90 kernelRun0_A.sl.r_86 kernelRun0_A.sl.r_85 kernelRun0_A.sl.r_69 kernelRun0_A.sl.r_68 kernelRun0_A.sl.r_70 kernelRun0_A.sl.r_71 kernelRun0_A.sl.r_66 kernelRun0_A.sl.r_65
  generalize (kernelRun0_A.sl.r_1 c arg3 harg3 x0) = y_r_1
  generalize (kernelRun0_A.sl.r_2 c arg3 harg3 x0) = y_r_2
  generalize (kernelRun0_A.sl.r_4 c arg7 harg7 x4) = y_r_4
  generalize (kernelRun0_A.sl.r_5 c arg7 harg7 x4) = y_r_5
  generalize (kernelRun0_A.sl.r_6 c arg6 harg6 x3) = y_r_6
  generalize (kernelRun0_A.sl.r_7 c arg6 harg6 x3) = y_r_7
  generalize (kernelRun0_A.sl.r_48 c i arg3 harg3 arg4 harg4 arg5 harg5 arg6 harg6 arg7 harg7 arg8 harg8 arg9 harg9 arg10 harg10 arg11 harg11 arg12 harg12 x0 x1 x2 x3 x4 x5 x6) = y_r_48
  generalize (kernelRun0_A.sl.r_49 c i arg3 harg3 arg4 harg4 arg5 harg5 arg6 harg6 arg7 harg7 arg8 harg8 arg9 harg9 arg10 harg10 arg11 harg11 arg12 harg12 x0 x1 x2 x3 x4 x5 x6) = y_r_49
  generalize (kernelRun0_A.sl.r_50 c i arg3 harg3 arg4 harg4 arg5 harg5 arg6 harg6 arg7 harg7 arg8 harg8 arg9 harg9 arg10 harg10 arg11 harg11 arg12 harg12 x0 x1 x2 x3 x4 x5 x6) = y_r_50
  generalize (kernelRun0_A.sl.r_60 c i arg3 harg3 arg4 harg4 arg5 harg5 arg6 harg6 arg7 harg7 arg8 harg8 arg9 harg9 arg10 harg10 arg11 harg11 arg12 harg12 x0 x1 x2 x3 x4 x5 x6) = y_r_60
  generalize (kernelRun0_A.sl.r_61 c i arg3 harg3 arg4 harg4 arg5 harg5 arg6 harg6 arg7 harg7 arg8 harg8 arg9 harg9 arg10 harg10 arg11 harg11 arg12 harg12 x0 x1 x2 x3 x4 x5 x6) = y_r_61
  generalize (kernelRun0_A.sl.r_62 c i arg3 harg3 arg4 harg4 arg5 harg5 arg6 harg6 arg7 harg7 arg8 harg8 arg9 harg9 arg10 harg10 arg11 harg11 arg12 harg12 x0 x1 x2 x3 x4 x5 x6) = y_r_62
  rfl

theorem A_H8_2 : (kernelRun0_A.sl.H8_3 c i arg3 harg3 arg4 harg4 arg5 harg5 arg6 harg6 arg7 harg7 arg8 harg8 arg9 harg9 arg10 harg10 arg11 harg11 arg12 harg12 x0 x1 x2 x3 x4 x5 x6) = putPiece arg11 arg11.view.junk i 2 (cutDk c256 k0_pay268 (⟨k0_pay244, k0_pay245, ⟨(kernelRun0_A.sl.r_1 c arg3 harg3 x0), (kernelRun0_A.sl.r_4 c arg7 harg7 x4), (kernelRun0_A.sl.r_6 c arg6 harg6 x3)⟩, ⟨(kernelRun0_A.sl.r_2 c arg3 harg3 x0), (kernelRun0_A.sl.r_5 c arg7 harg7 x4), (kernelRun0_A.sl.r_7 c arg6 harg6 x3)⟩⟩ : Env F) (kd i arg4 (harg4.unread x1) 2) (kd i arg5 (harg5.unread x2) 2) ((⟨(kernelRun0_A.sl.r_48 c i arg3 harg3 arg4 harg4 arg5 harg5 arg6 harg6 arg7 harg7 arg8 harg8 arg9 harg9 arg10 harg10 arg11 harg11 arg12 harg12 x0 x1 x2 x3 x4 x5 x6), (kernelRun0_A.sl.r_49 c i arg3 harg3 arg4 harg4 arg5 harg5 arg6 harg6 arg7 harg7 arg8 harg8 arg9 harg9 arg10 harg10 arg11 harg11 arg12 harg12 x0 x1 x2 x3 x4 x5 x6), (kernelRun0_A.sl.r_50 c i arg3 harg3 arg4 harg4 arg5 harg5 arg6 harg6 arg7 harg7 arg8 harg8 arg9 harg9 arg10 harg10 arg11 harg11 arg12 harg12 x0 x1 x2 x3 x4 x5 x6)⟩, ⟨(kernelRun0_A.sl.r_60 c i arg3 harg3 arg4 harg4 arg5 harg5 arg6 harg6 arg7 harg7 arg8 harg8 arg9 harg9 arg10 harg10 arg11 harg11 arg12 harg12 x0 x1 x2 x3 x4 x5 x6), (kernelRun0_A.sl.r_61 c i arg3 harg3 arg4 harg4 arg5 harg5 arg6 harg6 arg7 harg7 arg8 harg8 arg9 harg9 arg10 harg10 arg11 harg11 arg12 harg12 x0 x1 x2 x3 x4 x5 x6), (kernelRun0_A.sl.r_62 c i arg3 harg3 arg4 harg4 arg5 harg5 arg6 harg6 arg7 harg7 arg8 harg8 arg9 harg9 arg10 harg10 arg11 harg11 arg12 harg12 x0 x1 x2 x3 x4 x5 x6)⟩) : Carry F 512 × Carry F 512)) (kernelRun0_A.sl.H8_2 c i arg3 harg3 arg4 harg4 arg5 harg5 arg6 harg6 arg7 harg7 arg8 harg8 arg9 harg9 arg10 harg10 arg11 harg11 arg12 harg12 x0 x1 x2 x3 x4 x5 x6) := by
  unfold kernelRun0_A.sl.H8_3 kernelRun0_A.sl.r_81 kernelRun0_A.sl.r_74 kernelRun0_A.sl.r_72 kernelRun0_A.sl.r_89 kernelRun0_A.sl.r_91 kernelRun0_A.sl.r_88 kernelRun0_A.sl.r_90 kernelRun0_A.sl.r_83 kernelRun0_A.sl.r_67 kernelRun0_A.sl.r_69 kernelRun0_A.sl.r_68 kernelRun0_A.sl.r_70 kernelRun0_A.sl.r_85 kernelRun0_A.sl.r_71 kernelRun0_A.sl.r_66 kernelRun0_A.sl.r_65
  generalize (kernelRun0_A.sl.r_48 c i arg3 harg3 arg4 harg4 arg5 harg5 arg6 harg6 arg7 harg7 arg8 harg8 arg9 harg9 arg10 harg10 arg11 harg11 arg12 harg12 x0 x1 x2 x3 x4 x5 x6) = y_r_48
  generalize (kernelRun0_A.sl.r_49 c i arg3 harg3 arg4 harg4 arg5 harg5 arg6 harg6 arg7 harg7 arg8 harg8 arg9 harg9 arg10 harg10 arg11 harg11 arg12 harg12 x0 x1 x2 x3 x4 x5 x6) = y_r_49
  generalize (kernelRun0_A.sl.r_50 c i arg3 harg3 arg4 harg4 arg5 harg5 arg6 harg6 arg7 harg7 arg8 harg8 arg9 harg9 arg10 harg10 arg11 harg11 arg12 harg12 x0 x1 x2 x3 x4 x5 x6) = y_r_50
  generalize (kernelRun0_A.sl.r_60 c i arg3 harg3 arg4 harg4 arg5 harg5 arg6 harg6 arg7 harg7 arg8 harg8 arg9 harg9 arg10 harg10 arg11 harg11 arg12 harg12 x0 x1 x2 x3 x4 x5 x6) = y_r_60
  generalize (kernelRun0_A.sl.r_61 c i arg3 harg3 arg4 harg4 arg5 harg5 arg6 harg6 arg7 harg7 arg8 harg8 arg9 harg9 arg10 harg10 arg11 harg11 arg12 harg12 x0 x1 x2 x3 x4 x5 x6) = y_r_61
  generalize (kernelRun0_A.sl.r_62 c i arg3 harg3 arg4 harg4 arg5 harg5 arg6 harg6 arg7 harg7 arg8 harg8 arg9 harg9 arg10 harg10 arg11 harg11 arg12 harg12 x0 x1 x2 x3 x4 x5 x6) = y_r_62
  generalize (kernelRun0_A.sl.r_1 c arg3 harg3 x0) = y_r_1
  generalize (kernelRun0_A.sl.r_2 c arg3 harg3 x0) = y_r_2
  generalize (kernelRun0_A.sl.r_4 c arg7 harg7 x4) = y_r_4
  generalize (kernelRun0_A.sl.r_5 c arg7 harg7 x4) = y_r_5
  generalize (kernelRun0_A.sl.r_6 c arg6 harg6 x3) = y_r_6
  generalize (kernelRun0_A.sl.r_7 c arg6 harg6 x3) = y_r_7
  rfl

theorem A_H9_2 : (kernelRun0_A.sl.H9_3 c i arg3 harg3 arg4 harg4 arg5 harg5 arg6 harg6 arg7 harg7 arg8 harg8 arg9 harg9 arg10 harg10 arg11 harg11 arg12 harg12 x0 x1 x2 x3 x4 x5 x6) = putPiece arg12 arg12.view.junk i 2 (cutDv c256 k0_pay268 (⟨k0_pay244, k0_pay245, ⟨(kernelRun0_A.sl.r_1 c arg3 harg3 x0), (kernelRun0_A.sl.r_4 c arg7 harg7 x4), (kernelRun0_A.sl.r_6 c arg6 harg6 x3)⟩, ⟨(kernelRun0_A.sl.r_2 c arg3 harg3 x0), (kernelRun0_A.sl.r_5 c arg7 harg7 x4), (kernelRun0_A.sl.r_7 c arg6 harg6 x3)⟩⟩ : Env F) (kd i arg4 (harg4.unread x1) 2) ((⟨(kernelRun0_A.sl.r_48 c i arg3 harg3 arg4 harg4 arg5 harg5 arg6 harg6 arg7 harg7 arg8 harg8 arg9 harg9 arg10 harg10 arg11 harg11 arg12 harg12 x0 x1 x2 x3 x4 x5 x6), (kernelRun0_A.sl.r_49 c i arg3 harg3 arg4 harg4 arg5 harg5 arg6 harg6 arg7 harg7 arg8 harg8 arg9 harg9 arg10 harg10 arg11 harg11 arg12 harg12 x0 x1 x2 x3 x4 x5 x6), (kernelRun0_A.sl.r_50 c i arg3 harg3 arg4 harg4 arg5 harg5 arg6 harg6 arg7 harg7 arg8 harg8 arg9 harg9 arg10 harg10 arg11 harg11 arg12 harg12 x0 x1 x2 x3 x4 x5 x6)⟩, ⟨(kernelRun0_A.sl.r_60 c i arg3 harg3 arg4 harg4 arg5 harg5 arg6 harg6 arg7 harg7 arg8 harg8 arg9 harg9 arg10 harg10 arg11 harg11 arg12 harg12 x0 x1 x2 x3 x4 x5 x6), (kernelRun0_A.sl.r_61 c i arg3 harg3 arg4 harg4 arg5 harg5 arg6 harg6 arg7 harg7 arg8 harg8 arg9 harg9 arg10 harg10 arg11 harg11 arg12 harg12 x0 x1 x2 x3 x4 x5 x6), (kernelRun0_A.sl.r_62 c i arg3 harg3 arg4 harg4 arg5 harg5 arg6 harg6 arg7 harg7 arg8 harg8 arg9 harg9 arg10 harg10 arg11 harg11 arg12 harg12 x0 x1 x2 x3 x4 x5 x6)⟩) : Carry F 512 × Carry F 512)) (kernelRun0_A.sl.H9_2 c i arg3 harg3 arg4 harg4 arg5 harg5 arg6 harg6 arg7 harg7 arg8 harg8 arg9 harg9 arg10 harg10 arg11 harg11 arg12 harg12 x0 x1 x2 x3 x4 x5 x6) := by
  unfold kernelRun0_A.sl.H9_3 kernelRun0_A.sl.r_95 kernelRun0_A.sl.r_82 kernelRun0_A.sl.r_73 kernelRun0_A.sl.r_72 kernelRun0_A.sl.r_87 kernelRun0_A.sl.r_84 kernelRun0_A.sl.r_69 kernelRun0_A.sl.r_70 kernelRun0_A.sl.r_68 kernelRun0_A.sl.r_71 kernelRun0_A.sl.r_65
  generalize (kernelRun0_A.sl.r_48 c i arg3 harg3 arg4 harg4 arg5 harg5 arg6 harg6 arg7 harg7 arg8 harg8 arg9 harg9 arg10 harg10 arg11 harg11 arg12 harg12 x0 x1 x2 x3 x4 x5 x6) = y_r_48
  generalize (kernelRun0_A.sl.r_49 c i arg3 harg3 arg4 harg4 arg5 harg5 arg6 harg6 arg7 harg7 arg8 harg8 arg9 harg9 arg10 harg10 arg11 harg11 arg12 harg12 x0 x1 x2 x3 x4 x5 x6) = y_r_49
  generalize (kernelRun0_A.sl.r_50 c i arg3 harg3 arg4 harg4 arg5 harg5 arg6 harg6 arg7 harg7 arg8 harg8 arg9 harg9 arg10 harg10 arg11 harg11 arg12 harg12 x0 x1 x2 x3 x4 x5 x6) = y_r_50
  generalize (kernelRun0_A.sl.r_60 c i arg3 harg3 arg4 harg4 arg5 harg5 arg6 harg6 arg7 harg7 arg8 harg8 arg9 harg9 arg10 harg10 arg11 harg11 arg12 harg12 x0 x1 x2 x3 x4 x5 x6) = y_r_60
  generalize (kernelRun0_A.sl.r_61 c i arg3 harg3 arg4 harg4 arg5 harg5 arg6 harg6 arg7 harg7 arg8 harg8 arg9 harg9 arg10 harg10 arg11 harg11 arg12 harg12 x0 x1 x2 x3 x4 x5 x6) = y_r_61
  generalize (kernelRun0_A.sl.r_62 c i arg3 harg3 arg4 harg4 arg5 harg5 arg6 harg6 arg7 harg7 arg8 harg8 arg9 harg9 arg10 harg10 arg11 harg11 arg12 harg12 x0 x1 x2 x3 x4 x5 x6) = y_r_62
  generalize (kernelRun0_A.sl.r_1 c arg3 harg3 x0) = y_r_1
  generalize (kernelRun0_A.sl.r_2 c arg3 harg3 x0) = y_r_2
  generalize (kernelRun0_A.sl.r_4 c arg7 harg7 x4) = y_r_4
  generalize (kernelRun0_A.sl.r_5 c arg7 harg7 x4) = y_r_5
  generalize (kernelRun0_A.sl.r_6 c arg6 harg6 x3) = y_r_6
  generalize (kernelRun0_A.sl.r_7 c arg6 harg6 x3) = y_r_7
  rfl

theorem A_out : outq (cutNext c128 k0_pay269 (⟨k0_pay244, k0_pay245, ⟨(kernelRun0_A.sl.r_1 c arg3 harg3 x0), (kernelRun0_A.sl.r_4 c arg7 harg7 x4), (kernelRun0_A.sl.r_6 c arg6 harg6 x3)⟩, ⟨(kernelRun0_A.sl.r_2 c arg3 harg3 x0), (kernelRun0_A.sl.r_5 c arg7 harg7 x4), (kernelRun0_A.sl.r_7 c arg6 harg6 x3)⟩⟩ : Env F) (kd i arg4 (harg4.unread x1) 3) (kd i arg5 (harg5.unread x2) 3) ((⟨(kernelRun0_A.sl.r_77 c i arg3 harg3 arg4 harg4 arg5 harg5 arg6 harg6 arg7 harg7 arg8 harg8 arg9 harg9 arg10 harg10 arg11 harg11 arg12 harg12 x0 x1 x2 x3 x4 x5 x6), (kernelRun0_A.sl.r_79 c i arg3 harg3 arg4 harg4 arg5 harg5 arg6 harg6 arg7 harg7 arg8 harg8 arg9 harg9 arg10 harg10 arg11 harg11 arg12 harg12 x0 x1 x2 x3 x4 x5 x6), (kernelRun0_A.sl.r_80 c i arg3 harg3 arg4 harg4 arg5 harg5 arg6 harg6 arg7 harg7 arg8 harg8 arg9 harg9 arg10 harg10 arg11 harg11 arg12 harg12 x0 x1 x2 x3 x4 x5 x6)⟩, ⟨(kernelRun0_A.sl.r_92 c i arg3 harg3 arg4 harg4 arg5 harg5 arg6 harg6 arg7 harg7 arg8 harg8 arg9 harg9 arg10 harg10 arg11 harg11 arg12 harg12 x0 x1 x2 x3 x4 x5 x6), (kernelRun0_A.sl.r_93 c i arg3 harg3 arg4 harg4 arg5 harg5 arg6 harg6 arg7 harg7 arg8 harg8 arg9 harg9 arg10 harg10 arg11 harg11 arg12 harg12 x0 x1 x2 x3 x4 x5 x6), (kernelRun0_A.sl.r_94 c i arg3 harg3 arg4 harg4 arg5 harg5 arg6 harg6 arg7 harg7 arg8 harg8 arg9 harg9 arg10 harg10 arg11 harg11 arg12 harg12 x0 x1 x2 x3 x4 x5 x6)⟩) : Carry F 512 × Carry F 512)) = k0_pay1 lane (kernelRun0_A.sl.r_104 c i arg3 harg3 arg4 harg4 arg5 harg5 arg6 harg6 arg7 harg7 arg8 harg8 arg9 harg9 arg10 harg10 arg11 harg11 arg12 harg12 x0 x1 x2 x3 x4 x5 x6) (kernelRun0_A.sl.r_113 c i arg3 harg3 arg4 harg4 arg5 harg5 arg6 harg6 arg7 harg7 arg8 harg8 arg9 harg9 arg10 harg10 arg11 harg11 arg12 harg12 x0 x1 x2 x3 x4 x5 x6) 64#32 (k0_pay410 lane) (k0_pay411 lane) 1#32 0#1 := by
  unfold kernelRun0_A.sl.r_104 kernelRun0_A.sl.r_113 kernelRun0_A.sl.r_102 kernelRun0_A.sl.r_112 kernelRun0_A.sl.r_108 kernelRun0_A.sl.r_109 kernelRun0_A.sl.r_110 kernelRun0_A.sl.r_99 kernelRun0_A.sl.r_101 kernelRun0_A.sl.r_100 kernelRun0_A.sl.r_103 kernelRun0_A.sl.r_96 kernelRun0_A.sl.r_97
  generalize (kernelRun0_A.sl.r_1 c arg3 harg3 x0) = y_r_1
  generalize (kernelRun0_A.sl.r_2 c arg3 harg3 x0) = y_r_2
  generalize (kernelRun0_A.sl.r_4 c arg7 harg7 x4) = y_r_4
  generalize (kernelRun0_A.sl.r_5 c arg7 harg7 x4) = y_r_5
  generalize (kernelRun0_A.sl.r_6 c arg6 harg6 x3) = y_r_6
  generalize (kernelRun0_A.sl.r_7 c arg6 harg6 x3) = y_r_7
  generalize (kernelRun0_A.sl.r_77 c i arg3 harg3 arg4 harg4 arg5 harg5 arg6 harg6 arg7 harg7 arg8 harg8 arg9 harg9 arg10 harg10 arg11 harg11 arg12 harg12 x0 x1 x2 x3 x4 x5 x6) = y_r_77
  generalize (kernelRun0_A.sl.r_79 c i arg3 harg3 arg4 harg4 arg5 harg5 arg6 harg6 arg7 harg7 arg8 harg8 arg9 harg9 arg10 harg10 arg11 harg11 arg12 harg12 x0 x1 x2 x3 x4 x5 x6) = y_r_79
  generalize (kernelRun0_A.sl.r_80 c i arg3 harg3 arg4 harg4 arg5 harg5 arg6 harg6 arg7 harg7 arg8 harg8 arg9 harg9 arg10 harg10 arg11 harg11 arg12 harg12 x0 x1 x2 x3 x4 x5 x6) = y_r_80
  generalize (kernelRun0_A.sl.r_92 c i arg3 harg3 arg4 harg4 arg5 harg5 arg6 harg6 arg7 harg7 arg8 harg8 arg9 harg9 arg10 harg10 arg11 harg11 arg12 harg12 x0 x1 x2 x3 x4 x5 x6) = y_r_92
  generalize (kernelRun0_A.sl.r_93 c i arg3 harg3 arg4 harg4 arg5 harg5 arg6 harg6 arg7 harg7 arg8 harg8 arg9 harg9 arg10 harg10 arg11 harg11 arg12 harg12 x0 x1 x2 x3 x4 x5 x6) = y_r_93
  generalize (kernelRun0_A.sl.r_94 c i arg3 harg3 arg4 harg4 arg5 harg5 arg6 harg6 arg7 harg7 arg8 harg8 arg9 harg9 arg10 harg10 arg11 harg11 arg12 harg12 x0 x1 x2 x3 x4 x5 x6) = y_r_94
  rfl

theorem A_H8_3 (hc0 : cond0_0 i) : (kernelRun0_A c i arg3 harg3 arg4 harg4 arg5 harg5 arg6 harg6 arg7 harg7 arg8 harg8 arg9 harg9 arg10 harg10 arg11 harg11 arg12 harg12 hc0 x0 x1 x2 x3 x4 x5 x6).2.1 = putPiece arg11 arg11.view.junk i 3 (cutDk c128 k0_pay269 (⟨k0_pay244, k0_pay245, ⟨(kernelRun0_A.sl.r_1 c arg3 harg3 x0), (kernelRun0_A.sl.r_4 c arg7 harg7 x4), (kernelRun0_A.sl.r_6 c arg6 harg6 x3)⟩, ⟨(kernelRun0_A.sl.r_2 c arg3 harg3 x0), (kernelRun0_A.sl.r_5 c arg7 harg7 x4), (kernelRun0_A.sl.r_7 c arg6 harg6 x3)⟩⟩ : Env F) (kd i arg4 (harg4.unread x1) 3) (kd i arg5 (harg5.unread x2) 3) ((⟨(kernelRun0_A.sl.r_77 c i arg3 harg3 arg4 harg4 arg5 harg5 arg6 harg6 arg7 harg7 arg8 harg8 arg9 harg9 arg10 harg10 arg11 harg11 arg12 harg12 x0 x1 x2 x3 x4 x5 x6), (kernelRun0_A.sl.r_79 c i arg3 harg3 arg4 harg4 arg5 harg5 arg6 harg6 arg7 harg7 arg8 harg8 arg9 harg9 arg10 harg10 arg11 harg11 arg12 harg12 x0 x1 x2 x3 x4 x5 x6), (kernelRun0_A.sl.r_80 c i arg3 harg3 arg4 harg4 arg5 harg5 arg6 harg6 arg7 harg7 arg8 harg8 arg9 harg9 arg10 harg10 arg11 harg11 arg12 harg12 x0 x1 x2 x3 x4 x5 x6)⟩, ⟨(kernelRun0_A.sl.r_92 c i arg3 harg3 arg4 harg4 arg5 harg5 arg6 harg6 arg7 harg7 arg8 harg8 arg9 harg9 arg10 harg10 arg11 harg11 arg12 harg12 x0 x1 x2 x3 x4 x5 x6), (kernelRun0_A.sl.r_93 c i arg3 harg3 arg4 harg4 arg5 harg5 arg6 harg6 arg7 harg7 arg8 harg8 arg9 harg9 arg10 harg10 arg11 harg11 arg12 harg12 x0 x1 x2 x3 x4 x5 x6), (kernelRun0_A.sl.r_94 c i arg3 harg3 arg4 harg4 arg5 harg5 arg6 harg6 arg7 harg7 arg8 harg8 arg9 harg9 arg10 harg10 arg11 harg11 arg12 harg12 x0 x1 x2 x3 x4 x5 x6)⟩) : Carry F 512 × Carry F 512)) (kernelRun0_A.sl.H8_3 c i arg3 harg3 arg4 harg4 arg5 harg5 arg6 harg6 arg7 harg7 arg8 harg8 arg9 harg9 arg10 harg10 arg11 harg11 arg12 harg12 x0 x1 x2 x3 x4 x5 x6) := by
  unfold kernelRun0_A
  dsimp only
  simp only [kernelRun0_A.sl.r_104, kernelRun0_A.sl.r_105, kernelRun0_A.sl.r_106, kernelRun0_A.sl.r_102, kernelRun0_A.sl.r_113, kernelRun0_A.sl.r_112, kernelRun0_A.sl.r_111, kernelRun0_A.sl.r_99, kernelRun0_A.sl.r_101, kernelRun0_A.sl.r_100, kernelRun0_A.sl.r_103, kernelRun0_A.sl.r_98, kernelRun0_A.sl.r_108, kernelRun0_A.sl.r_109, kernelRun0_A.sl.r_110, kernelRun0_A.sl.r_107, kernelRun0_A.sl.r_96, kernelRun0_A.sl.r_97, kernelRun0_A.sl.v4]
  generalize (kernelRun0_A.sl.r_1 c arg3 harg3 x0) = y_r_1
  generalize (kernelRun0_A.sl.r_2 c arg3 harg3 x0) = y_r_2
  generalize (kernelRun0_A.sl.r_4 c arg7 harg7 x4) = y_r_4
  generalize (kernelRun0_A.sl.r_5 c arg7 harg7 x4) = y_r_5
  generalize (kernelRun0_A.sl.r_6 c arg6 harg6 x3) = y_r_6
  generalize (kernelRun0_A.sl.r_7 c arg6 harg6 x3) = y_r_7
  generalize (kernelRun0_A.sl.r_77 c i arg3 harg3 arg4 harg4 arg5 harg5 arg6 harg6 arg7 harg7 arg8 harg8 arg9 harg9 arg10 harg10 arg11 harg11 arg12 harg12 x0 x1 x2 x3 x4 x5 x6) = y_r_77
  generalize (kernelRun0_A.sl.r_79 c i arg3 harg3 arg4 harg4 arg5 harg5 arg6 harg6 arg7 harg7 arg8 harg8 arg9 harg9 arg10 harg10 arg11 harg11 arg12 harg12 x0 x1 x2 x3 x4 x5 x6) = y_r_79
  generalize (kernelRun0_A.sl.r_80 c i arg3 harg3 arg4 harg4 arg5 harg5 arg6 harg6 arg7 harg7 arg8 harg8 arg9 harg9 arg10 harg10 arg11 harg11 arg12 harg12 x0 x1 x2 x3 x4 x5 x6) = y_r_80
  generalize (kernelRun0_A.sl.r_92 c i arg3 harg3 arg4 harg4 arg5 harg5 arg6 harg6 arg7 harg7 arg8 harg8 arg9 harg9 arg10 harg10 arg11 harg11 arg12 harg12 x0 x1 x2 x3 x4 x5 x6) = y_r_92
  generalize (kernelRun0_A.sl.r_93 c i arg3 harg3 arg4 harg4 arg5 harg5 arg6 harg6 arg7 harg7 arg8 harg8 arg9 harg9 arg10 harg10 arg11 harg11 arg12 harg12 x0 x1 x2 x3 x4 x5 x6) = y_r_93
  generalize (kernelRun0_A.sl.r_94 c i arg3 harg3 arg4 harg4 arg5 harg5 arg6 harg6 arg7 harg7 arg8 harg8 arg9 harg9 arg10 harg10 arg11 harg11 arg12 harg12 x0 x1 x2 x3 x4 x5 x6) = y_r_94
  rfl

theorem A_H9_3 (hc0 : cond0_0 i) : (kernelRun0_A c i arg3 harg3 arg4 harg4 arg5 harg5 arg6 harg6 arg7 harg7 arg8 harg8 arg9 harg9 arg10 harg10 arg11 harg11 arg12 harg12 hc0 x0 x1 x2 x3 x4 x5 x6).2.2.1 = putPiece arg12 arg12.view.junk i 3 (cutDv c128 k0_pay269 (⟨k0_pay244, k0_pay245, ⟨(kernelRun0_A.sl.r_1 c arg3 harg3 x0), (kernelRun0_A.sl.r_4 c arg7 harg7 x4), (kernelRun0_A.sl.r_6 c arg6 harg6 x3)⟩, ⟨(kernelRun0_A.sl.r_2 c arg3 harg3 x0), (kernelRun0_A.sl.r_5 c arg7 harg7 x4), (kernelRun0_A.sl.r_7 c arg6 harg6 x3)⟩⟩ : Env F) (kd i arg4 (harg4.unread x1) 3) ((⟨(kernelRun0_A.sl.r_77 c i arg3 harg3 arg4 harg4 arg5 harg5 arg6 harg6 arg7 harg7 arg8 harg8 arg9 harg9 arg10 harg10 arg11 harg11 arg12 harg12 x0 x1 x2 x3 x4 x5 x6), (kernelRun0_A.sl.r_79 c i arg3 harg3 arg4 harg4 arg5 harg5 arg6 harg6 arg7 harg7 arg8 harg8 arg9 harg9 arg10 harg10 arg11 harg11 arg12 harg12 x0 x1 x2 x3 x4 x5 x6), (kernelRun0_A.sl.r_80 c i arg3 harg3 arg4 harg4 arg5 harg5 arg6 harg6 arg7 harg7 arg8 harg8 arg9 harg9 arg10 harg10 arg11 harg11 arg12 harg12 x0 x1 x2 x3 x4 x5 x6)⟩, ⟨(kernelRun0_A.sl.r_92 c i arg3 harg3 arg4 harg4 arg5 harg5 arg6 harg6 arg7 harg7 arg8 harg8 arg9 harg9 arg10 harg10 arg11 harg11 arg12 harg12 x0 x1 x2 x3 x4 x5 x6), (kernelRun0_A.sl.r_93 c i arg3 harg3 arg4 harg4 arg5 harg5 arg6 harg6 arg7 harg7 arg8 harg8 arg9 harg9 arg10 harg10 arg11 harg11 arg12 harg12 x0 x1 x2 x3 x4 x5 x6), (kernelRun0_A.sl.r_94 c i arg3 harg3 arg4 harg4 arg5 harg5 arg6 harg6 arg7 harg7 arg8 harg8 arg9 harg9 arg10 harg10 arg11 harg11 arg12 harg12 x0 x1 x2 x3 x4 x5 x6)⟩) : Carry F 512 × Carry F 512)) (kernelRun0_A.sl.H9_3 c i arg3 harg3 arg4 harg4 arg5 harg5 arg6 harg6 arg7 harg7 arg8 harg8 arg9 harg9 arg10 harg10 arg11 harg11 arg12 harg12 x0 x1 x2 x3 x4 x5 x6) := by
  unfold kernelRun0_A
  dsimp only
  simp only [kernelRun0_A.sl.r_104, kernelRun0_A.sl.r_105, kernelRun0_A.sl.r_106, kernelRun0_A.sl.r_102, kernelRun0_A.sl.r_113, kernelRun0_A.sl.r_112, kernelRun0_A.sl.r_111, kernelRun0_A.sl.r_99, kernelRun0_A.sl.r_101, kernelRun0_A.sl.r_100, kernelRun0_A.sl.r_103, kernelRun0_A.sl.r_98, kernelRun0_A.sl.r_108, kernelRun0_A.sl.r_109, kernelRun0_A.sl.r_110, kernelRun0_A.sl.r_107, kernelRun0_A.sl.r_96, kernelRun0_A.sl.r_97, kernelRun0_A.sl.v4]
  generalize (kernelRun0_A.sl.r_1 c arg3 harg3 x0) = y_r_1
  generalize (kernelRun0_A.sl.r_2 c arg3 harg3 x0) = y_r_2
  generalize (kernelRun0_A.sl.r_4 c arg7 harg7 x4) = y_r_4
  generalize (kernelRun0_A.sl.r_5 c arg7 harg7 x4) = y_r_5
  generalize (kernelRun0_A.sl.r_6 c arg6 harg6 x3) = y_r_6
  generalize (kernelRun0_A.sl.r_7 c arg6 harg6 x3) = y_r_7
  generalize (kernelRun0_A.sl.r_77 c i arg3 harg3 arg4 harg4 arg5 harg5 arg6 harg6 arg7 harg7 arg8 harg8 arg9 harg9 arg10 harg10 arg11 harg11 arg12 harg12 x0 x1 x2 x3 x4 x5 x6) = y_r_77
  generalize (kernelRun0_A.sl.r_79 c i arg3 harg3 arg4 harg4 arg5 harg5 arg6 harg6 arg7 harg7 arg8 harg8 arg9 harg9 arg10 harg10 arg11 harg11 arg12 harg12 x0 x1 x2 x3 x4 x5 x6) = y_r_79
  generalize (kernelRun0_A.sl.r_80 c i arg3 harg3 arg4 harg4 arg5 harg5 arg6 harg6 arg7 harg7 arg8 harg8 arg9 harg9 arg10 harg10 arg11 harg11 arg12 harg12 x0 x1 x2 x3 x4 x5 x6) = y_r_80
  generalize (kernelRun0_A.sl.r_92 c i arg3 harg3 arg4 harg4 arg5 harg5 arg6 harg6 arg7 harg7 arg8 harg8 arg9 harg9 arg10 harg10 arg11 harg11 arg12 harg12 x0 x1 x2 x3 x4 x5 x6) = y_r_92
  generalize (kernelRun0_A.sl.r_93 c i arg3 harg3 arg4 harg4 arg5 harg5 arg6 harg6 arg7 harg7 arg8 harg8 arg9 harg9 arg10 harg10 arg11 harg11 arg12 harg12 x0 x1 x2 x3 x4 x5 x6) = y_r_93
  generalize (kernelRun0_A.sl.r_94 c i arg3 harg3 arg4 harg4 arg5 harg5 arg6 harg6 arg7 harg7 arg8 harg8 arg9 harg9 arg10 harg10 arg11 harg11 arg12 harg12 x0 x1 x2 x3 x4 x5 x6) = y_r_94
  rfl

theorem A_d0 : ((⟨(kernelRun0_A.sl.r_8 c i arg3 harg3 arg4 harg4 arg5 harg5 arg6 harg6 arg7 harg7 arg8 harg8 arg9 harg9 arg10 harg10 arg11 harg11 arg12 harg12 x0 x1 x2 x3 x4 x5 x6), (kernelRun0_A.sl.r_9 c i arg3 harg3 arg4 harg4 arg5 harg5 arg6 harg6 arg7 harg7 arg8 harg8 arg9 harg9 arg10 harg10 arg11 harg11 arg12 harg12 x0 x1 x2 x3 x4 x5 x6), (kernelRun0_A.sl.r_10 c i arg3 harg3 arg4 harg4 arg5 harg5 arg6 harg6 arg7 harg7 arg8 harg8 arg9 harg9 arg10 harg10 arg11 harg11 arg12 harg12 x0 x1 x2 x3 x4 x5 x6)⟩, ⟨(kernelRun0_A.sl.r_11 c i arg3 harg3 arg4 harg4 arg5 harg5 arg6 harg6 arg7 harg7 arg8 harg8 arg9 harg9 arg10 harg10 arg11 harg11 arg12 harg12 x0 x1 x2 x3 x4 x5 x6), (kernelRun0_A.sl.r_12 c i arg3 harg3 arg4 harg4 arg5 harg5 arg6 harg6 arg7 harg7 arg8 harg8 arg9 harg9 arg10 harg10 arg11 harg11 arg12 harg12 x0 x1 x2 x3 x4 x5 x6), (kernelRun0_A.sl.r_13 c i arg3 harg3 arg4 harg4 arg5 harg5 arg6 harg6 arg7 harg7 arg8 harg8 arg9 harg9 arg10 harg10 arg11 harg11 arg12 harg12 x0 x1 x2 x3 x4 x5 x6)⟩) : Carry F 512 × Carry F 512) = (unpack (after1 c i arg3 harg3 arg4 harg4 arg5 harg5 arg6 harg6 arg7 harg7 arg8 harg8 arg9 harg9 arg10 harg10 arg11 harg11 arg12 harg12 (GA arg11 arg8 harg8 x5) (GA arg12 arg9 harg9 x6) x0 x1 x2 x3 x4).1) := by
  rw [A_c0, after2_eq]

theorem A_d1 : ((⟨(kernelRun0_A.sl.r_21 c i arg3 harg3 arg4 harg4 arg5 harg5 arg6 harg6 arg7 harg7 arg8 harg8 arg9 harg9 arg10 harg10 arg11 harg11 arg12 harg12 x0 x1 x2 x3 x4 x5 x6), (kernelRun0_A.sl.r_22 c i arg3 harg3 arg4 harg4 arg5 harg5 arg6 harg6 arg7 harg7 arg8 harg8 arg9 harg9 arg10 harg10 arg11 harg11 arg12 harg12 x0 x1 x2 x3 x4 x5 x6), (kernelRun0_A.sl.r_23 c i arg3 harg3 arg4 harg4 arg5 harg5 arg6 harg6 arg7 harg7 arg8 harg8 arg9 harg9 arg10 harg10 arg11 harg11 arg12 harg12 x0 x1 x2 x3 x4 x5 x6)⟩, ⟨(kernelRun0_A.sl.r_31 c i arg3 harg3 arg4 harg4 arg5 harg5 arg6 harg6 arg7 harg7 arg8 harg8 arg9 harg9 arg10 harg10 arg11 harg11 arg12 harg12 x0 x1 x2 x3 x4 x5 x6), (kernelRun0_A.sl.r_32 c i arg3 harg3 arg4 harg4 arg5 harg5 arg6 harg6 arg7 harg7 arg8 harg8 arg9 harg9 arg10 harg10 arg11 harg11 arg12 harg12 x0 x1 x2 x3 x4 x5 x6), (kernelRun0_A.sl.r_33 c i arg3 harg3 arg4 harg4 arg5 harg5 arg6 harg6 arg7 harg7 arg8 harg8 arg9 harg9 arg10 harg10 arg11 harg11 arg12 harg12 x0 x1 x2 x3 x4 x5 x6)⟩) : Carry F 512 × Carry F 512) = diag1 (genv arg3 harg3 arg6 harg6 arg7 harg7 x0 x3 x4) (kd i arg4 (harg4.unread x1)) (kd i arg5 (harg5.unread x2)) (unpack (after1 c i arg3 harg3 arg4 harg4 arg5 harg5 arg6 harg6 arg7 harg7 arg8 harg8 arg9 harg9 arg10 harg10 arg11 harg11 arg12 harg12 (GA arg11 arg8 harg8 x5) (GA arg12 arg9 harg9 x6) x0 x1 x2 x3 x4).1) := by
  rw [A_c1, A_env, A_d0]
  rfl

theorem A_d2 : ((⟨(kernelRun0_A.sl.r_48 c i arg3 harg3 arg4 harg4 arg5 harg5 arg6 harg6 arg7 harg7 arg8 harg8 arg9 harg9 arg10 harg10 arg11 harg11 arg12 harg12 x0 x1 x2 x3 x4 x5 x6), (kernelRun0_A.sl.r_49 c i arg3 harg3 arg4 harg4 arg5 harg5 arg6 harg6 arg7 harg7 arg8 harg8 arg9 harg9 arg10 harg10 arg11 harg11 arg12 harg12 x0 x1 x2 x3 x4 x5 x6), (kernelRun0_A.sl.r_50 c i arg3 harg3 arg4 harg4 arg5 harg5 arg6 harg6 arg7 harg7 arg8 harg8 arg9 harg9 arg10 harg10 arg11 harg11 arg12 harg12 x0 x1 x2 x3 x4 x5 x6)⟩, ⟨(kernelRun0_A.sl.r_60 c i arg3 harg3 arg4 harg4 arg5 harg5 arg6 harg6 arg7 harg7 arg8 harg8 arg9 harg9 arg10 harg10 arg11 harg11 arg12 harg12 x0 x1 x2 x3 x4 x5 x6), (kernelRun0_A.sl.r_61 c i arg3 harg3 arg4 harg4 arg5 harg5 arg6 harg6 arg7 harg7 arg8 harg8 arg9 harg9 arg10 harg10 arg11 harg11 arg12 harg12 x0 x1 x2 x3 x4 x5 x6), (kernelRun0_A.sl.r_62 c i arg3 harg3 arg4 harg4 arg5 harg5 arg6 harg6 arg7 harg7 arg8 harg8 arg9 harg9 arg10 harg10 arg11 harg11 arg12 harg12 x0 x1 x2 x3 x4 x5 x6)⟩) : Carry F 512 × Carry F 512) = diag2 (genv arg3 harg3 arg6 harg6 arg7 harg7 x0 x3 x4) (kd i arg4 (harg4.unread x1)) (kd i arg5 (harg5.unread x2)) (unpack (after1 c i arg3 harg3 arg4 harg4 arg5 harg5 arg6 harg6 arg7 harg7 arg8 harg8 arg9 harg9 arg10 harg10 arg11 harg11 arg12 harg12 (GA arg11 arg8 harg8 x5) (GA arg12 arg9 harg9 x6) x0 x1 x2 x3 x4).1) := by
  rw [A_c2, A_env, A_d1]
  rfl

theorem A_d3 : ((⟨(kernelRun0_A.sl.r_77 c i arg3 harg3 arg4 harg4 arg5 harg5 arg6 harg6 arg7 harg7 arg8 harg8 arg9 harg9 arg10 harg10 arg11 harg11 arg12 harg12 x0 x1 x2 x3 x4 x5 x6), (kernelRun0_A.sl.r_79 c i arg3 harg3 arg4 harg4 arg5 harg5 arg6 harg6 arg7 harg7 arg8 harg8 arg9 harg9 arg10 harg10 arg11 harg11 arg12 harg12 x0 x1 x2 x3 x4 x5 x6), (kernelRun0_A.sl.r_80 c i arg3 harg3 arg4 harg4 arg5 harg5 arg6 harg6 arg7 harg7 arg8 harg8 arg9 harg9 arg10 harg10 arg11 harg11 arg12 harg12 x0 x1 x2 x3 x4 x5 x6)⟩, ⟨(kernelRun0_A.sl.r_92 c i arg3 harg3 arg4 harg4 arg5 harg5 arg6 harg6 arg7 harg7 arg8 harg8 arg9 harg9 arg10 harg10 arg11 harg11 arg12 harg12 x0 x1 x2 x3 x4 x5 x6), (kernelRun0_A.sl.r_93 c i arg3 harg3 arg4 harg4 arg5 harg5 arg6 harg6 arg7 harg7 arg8 harg8 arg9 harg9 arg10 harg10 arg11 harg11 arg12 harg12 x0 x1 x2 x3 x4 x5 x6), (kernelRun0_A.sl.r_94 c i arg3 harg3 arg4 harg4 arg5 harg5 arg6 harg6 arg7 harg7 arg8 harg8 arg9 harg9 arg10 harg10 arg11 harg11 arg12 harg12 x0 x1 x2 x3 x4 x5 x6)⟩) : Carry F 512 × Carry F 512) = diag3 (genv arg3 harg3 arg6 harg6 arg7 harg7 x0 x3 x4) (kd i arg4 (harg4.unread x1)) (kd i arg5 (harg5.unread x2)) (unpack (after1 c i arg3 harg3 arg4 harg4 arg5 harg5 arg6 harg6 arg7 harg7 arg8 harg8 arg9 harg9 arg10 harg10 arg11 harg11 arg12 harg12 (GA arg11 arg8 harg8 x5) (GA arg12 arg9 harg9 x6) x0 x1 x2 x3 x4).1) := by
  rw [A_c3, A_env, A_d2]
  rfl

theorem A_run10 (hc0 : cond0_0 i) : (kernelRun0_A c i arg3 harg3 arg4 harg4 arg5 harg5 arg6 harg6 arg7 harg7 arg8 harg8 arg9 harg9 arg10 harg10 arg11 harg11 arg12 harg12 hc0 x0 x1 x2 x3 x4 x5 x6).1 = [⟨Rect.unit (s := S1x512x128) ![0, 0, 0] S1x512x128.size inb_S1x512x128_S1x512x128_0_0_0, outq (diag4 (genv arg3 harg3 arg6 harg6 arg7 harg7 x0 x3 x4) (kd i arg4 (harg4.unread x1)) (kd i arg5 (harg5.unread x2)) (unpack (after1 c i arg3 harg3 arg4 harg4 arg5 harg5 arg6 harg6 arg7 harg7 arg8 harg8 arg9 harg9 arg10 harg10 arg11 harg11 arg12 harg12 (GA arg11 arg8 harg8 x5) (GA arg12 arg9 harg9 x6) x0 x1 x2 x3 x4).1))⟩] := by
  have h := A_out (F := F) c i arg3 harg3 arg4 harg4 arg5 harg5 arg6 harg6 arg7 harg7 arg8 harg8 arg9 harg9 arg10 harg10 arg11 harg11 arg12 harg12 x0 x1 x2 x3 x4 x5 x6
  rw [A_env, A_d3] at h
  unfold diag4
  rw [h]
  unfold kernelRun0_A
  rfl

theorem A_run11 (hc0 : cond0_0 i) : (kernelRun0_A c i arg3 harg3 arg4 harg4 arg5 harg5 arg6 harg6 arg7 harg7 arg8 harg8 arg9 harg9 arg10 harg10 arg11 harg11 arg12 harg12 hc0 x0 x1 x2 x3 x4 x5 x6).2.1 = put11 i arg11 arg11.view.junk (genv arg3 harg3 arg6 harg6 arg7 harg7 x0 x3 x4) (kd i arg4 (harg4.unread x1)) (kd i arg5 (harg5.unread x2)) (unpack (after1 c i arg3 harg3 arg4 harg4 arg5 harg5 arg6 harg6 arg7 harg7 arg8 harg8 arg9 harg9 arg10 harg10 arg11 harg11 arg12 harg12 (GA arg11 arg8 harg8 x5) (GA arg12 arg9 harg9 x6) x0 x1 x2 x3 x4).1) ((after1 c i arg3 harg3 arg4 harg4 arg5 harg5 arg6 harg6 arg7 harg7 arg8 harg8 arg9 harg9 arg10 harg10 arg11 harg11 arg12 harg12 (GA arg11 arg8 harg8 x5) (GA arg12 arg9 harg9 x6) x0 x1 x2 x3 x4).2.1 ++ [copy arg8 harg8 x5]) := by
  rw [A_H8_3, A_H8_2, A_H8_1, A_H8_0, A_env, A_d3, A_d2, A_d1, A_d0, after2_eq]
  rfl

theorem A_run12 (hc0 : cond0_0 i) : (kernelRun0_A c i arg3 harg3 arg4 harg4 arg5 harg5 arg6 harg6 arg7 harg7 arg8 harg8 arg9 harg9 arg10 harg10 arg11 harg11 arg12 harg12 hc0 x0 x1 x2 x3 x4 x5 x6).2.2.1 = put12 i arg12 arg12.view.junk (genv arg3 harg3 arg6 harg6 arg7 harg7 x0 x3 x4) (kd i arg4 (harg4.unread x1)) (kd i arg5 (harg5.unread x2)) (unpack (after1 c i arg3 harg3 arg4 harg4 arg5 harg5 arg6 harg6 arg7 harg7 arg8 harg8 arg9 harg9 arg10 harg10 arg11 harg11 arg12 harg12 (GA arg11 arg8 harg8 x5) (GA arg12 arg9 harg9 x6) x0 x1 x2 x3 x4).1) ((after1 c i arg3 harg3 arg4 harg4 arg5 harg5 arg6 harg6 arg7 harg7 arg8 harg8 arg9 harg9 arg10 harg10 arg11 harg11 arg12 harg12 (GA arg11 arg8 harg8 x5) (GA arg12 arg9 harg9 x6) x0 x1 x2 x3 x4).2.2 ++ [copy arg9 harg9 x6]) := by
  rw [A_H9_3, A_H9_2, A_H9_1, A_H9_0, A_env, A_d3, A_d2, A_d1, A_d0, after2_eq]
  rfl

end RunA

end Cert.Tile

end
-- ==== Proof.PointB.lean ====
module

public import proofs.«01_k».proof.Proof.Body

@[expose] public section

set_option maxRecDepth 16384

noncomputable section

/-! # The run of one grid point, not the first of a block -/

namespace Cert.Tile

open Idealize.ShloMosaic Idealize.ShloMosaic.TcCoe Cert.KernelIdeal Cert.KernelIdeal.Gen

variable {F : FTy → Type} [FloatOps F]

section RunB

variable (c : Dev nD) (i : grid0.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x128 .f32) (harg6 : arg6.IsWhole) (arg7 : Memref sig .tc .vmem S1x512x128 .bf16) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x512x128 .bf16) (harg10 : arg10.IsWhole) (arg11 : Memref sig .tc .vmem S1x2048x128 .f32) (harg11 : arg11.IsWhole) (arg12 : Memref sig .tc .vmem S1x2048x128 .f32) (harg12 : arg12.IsWhole)
  (x0 : Vec F S1x512x128 .bf16) (x1 : Vec F S1x2048x128 .bf16) (x2 : Vec F S1x2048x128 .bf16) (x3 : Vec F S1x512x128 .f32) (x4 : Vec F S1x512x128 .bf16)
  (x5 x6 xo8 xo9 : Vec F S1x2048x128 .f32)

theorem B_env : (⟨k0_pay244, k0_pay245, ⟨(kernelRun0_B.sl.r_1 c arg3 harg3 x0), (kernelRun0_B.sl.r_4 c arg7 harg7 x4), (kernelRun0_B.sl.r_6 c arg6 harg6 x3)⟩, ⟨(kernelRun0_B.sl.r_2 c arg3 harg3 x0), (kernelRun0_B.sl.r_5 c arg7 harg7 x4), (kernelRun0_B.sl.r_7 c arg6 harg6 x3)⟩⟩ : Env F) = genv arg3 harg3 arg6 harg6 arg7 harg7 x0 x3 x4 := rfl

theorem B_c0 : ((⟨(kernelRun0_B.sl.r_8 c i arg3 harg3 arg4 harg4 arg5 harg5 arg6 harg6 arg7 harg7 arg8 harg8 arg9 harg9 arg10 harg10 arg11 harg11 arg12 harg12 x0 x1 x2 x3 x4 xo8 xo9), (kernelRun0_B.sl.r_9 c i arg3 harg3 arg4 harg4 arg5 harg5 arg6 harg6 arg7 harg7 arg8 harg8 arg9 harg9 arg10 harg10 arg11 harg11 arg12 harg12 x0 x1 x2 x3 x4 xo8 xo9), (kernelRun0_B.sl.r_10 c i arg3 harg3 arg4 harg4 arg5 harg5 arg6 harg6 arg7 harg7 arg8 harg8 arg9 harg9 arg10 harg10 arg11 harg11 arg12 harg12 x0 x1 x2 x3 x4 xo8 xo9)⟩, ⟨(kernelRun0_B.sl.r_11 c i arg3 harg3 arg4 harg4 arg5 harg5 arg6 harg6 arg7 harg7 arg8 harg8 arg9 harg9 arg10 harg10 arg11 harg11 arg12 harg12 x0 x1 x2 x3 x4 xo8 xo9), (kernelRun0_B.sl.r_12 c i arg3 harg3 arg4 harg4 arg5 harg5 arg6 harg6 arg7 harg7 arg8 harg8 arg9 harg9 arg10 harg10 arg11 harg11 arg12 harg12 x0 x1 x2 x3 x4 xo8 xo9), (kernelRun0_B.sl.r_13 c i arg3 harg3 arg4 harg4 arg5 harg5 arg6 harg6 arg7 harg7 arg8 harg8 arg9 harg9 arg10 harg10 arg11 harg11 arg12 harg12 x0 x1 x2 x3 x4 xo8 xo9)⟩) : Carry F 512 × Carry F 512) = unpack (after2 c i arg3 harg3 arg4 harg4 arg5 harg5 arg6 harg6 arg7 harg7 arg8 harg8 arg9 harg9 arg10 harg10 arg11 harg11 arg12 harg12 (harg11.unread xo8) (harg12.unread xo9) (arg11.view.writes (Elt F) (harg11.unread xo8) (after1 c i arg3 harg3 arg4 harg4 arg5 harg5 arg6 harg6 arg7 harg7 arg8 harg8 arg9 harg9 arg10 harg10 arg11 harg11 arg12 harg12 (harg11.unread xo8) (harg12.unread xo9) x0 x1 x2 x3 x4).2.1) (arg12.view.writes (Elt F) (harg12.unread xo9) (after1 c i arg3 harg3 arg4 harg4 arg5 harg5 arg6 harg6 arg7 harg7 arg8 harg8 arg9 harg9 arg10 harg10 arg11 harg11 arg12 harg12 (harg11.unread xo8) (harg12.unread xo9) x0 x1 x2 x3 x4).2.2) x0 x1 x2 x3 x4).1 := by
  unfold kernelRun0_B.sl.r_8 kernelRun0_B.sl.r_9 kernelRun0_B.sl.r_10 kernelRun0_B.sl.r_11 kernelRun0_B.sl.r_12 kernelRun0_B.sl.r_13
  rfl

theorem B_c1 : ((⟨(kernelRun0_B.sl.r_21 c i arg3 harg3 arg4 harg4 arg5 harg5 arg6 harg6 arg7 harg7 arg8 harg8 arg9 harg9 arg10 harg10 arg11 harg11 arg12 harg12 x0 x1 x2 x3 x4 xo8 xo9), (kernelRun0_B.sl.r_22 c i arg3 harg3 arg4 harg4 arg5 harg5 arg6 harg6 arg7 harg7 arg8 harg8 arg9 harg9 arg10 harg10 arg11 harg11 arg12 harg12 x0 x1 x2 x3 x4 xo8 xo9), (kernelRun0_B.sl.r_23 c i arg3 harg3 arg4 harg4 arg5 harg5 arg6 harg6 arg7 harg7 arg8 harg8 arg9 harg9 arg10 harg10 arg11 harg11 arg12 harg12 x0 x1 x2 x3 x4 xo8 xo9)⟩, ⟨(kernelRun0_B.sl.r_31 c i arg3 harg3 arg4 harg4 arg5 harg5 arg6 harg6 arg7 harg7 arg8 harg8 arg9 harg9 arg10 harg10 arg11 harg11 arg12 harg12 x0 x1 x2 x3 x4 xo8 xo9), (kernelRun0_B.sl.r_32 c i arg3 harg3 arg4 harg4 arg5 harg5 arg6 harg6 arg7 harg7 arg8 harg8 arg9 harg9 arg10 harg10 arg11 harg11 arg12 harg12 x0 x1 x2 x3 x4 xo8 xo9), (kernelRun0_B.sl.r_33 c i arg3 harg3 arg4 harg4 arg5 harg5 arg6 harg6 arg7 harg7 arg8 harg8 arg9 harg9 arg10 harg10 arg11 harg11 arg12 harg12 x0 x1 x2 x3 x4 xo8 xo9)⟩) : Carry F 512 × Carry F 512) = topNext k0_pay266 (⟨k0_pay244, k0_pay245, ⟨(kernelRun0_B.sl.r_1 c arg3 harg3 x0), (kernelRun0_B.sl.r_4 c arg7 harg7 x4), (kernelRun0_B.sl.r_6 c arg6 harg6 x3)⟩, ⟨(kernelRun0_B.sl.r_2 c arg3 harg3 x0), (kernelRun0_B.sl.r_5 c arg7 harg7 x4), (kernelRun0_B.sl.r_7 c arg6 harg6 x3)⟩⟩ : Env F) (kd i arg4 (harg4.unread x1) 0) (kd i arg5 (harg5.unread x2) 0) ((⟨(kernelRun0_B.sl.r_8 c i arg3 harg3 arg4 harg4 arg5 harg5 arg6 harg6 arg7 harg7 arg8 harg8 arg9 harg9 arg10 harg10 arg11 harg11 arg12 harg12 x0 x1 x2 x3 x4 xo8 xo9), (kernelRun0_B.sl.r_9 c i arg3 harg3 arg4 harg4 arg5 harg5 arg6 harg6 arg7 harg7 arg8 harg8 arg9 harg9 arg10 harg10 arg11 harg11 arg12 harg12 x0 x1 x2 x3 x4 xo8 xo9), (kernelRun0_B.sl.r_10 c i arg3 harg3 arg4 harg4 arg5 harg5 arg6 harg6 arg7 harg7 arg8 harg8 arg9 harg9 arg10 harg10 arg11 harg11 arg12 harg12 x0 x1 x2 x3 x4 xo8 xo9)⟩, ⟨(kernelRun0_B.sl.r_11 c i arg3 harg3 arg4 harg4 arg5 harg5 arg6 harg6 arg7 harg7 arg8 harg8 arg9 harg9 arg10 harg10 arg11 harg11 arg12 harg12 x0 x1 x2 x3 x4 xo8 xo9), (kernelRun0_B.sl.r_12 c i arg3 harg3 arg4 harg4 arg5 harg5 arg6 harg6 arg7 harg7 arg8 harg8 arg9 harg9 arg10 harg10 arg11 harg11 arg12 harg12 x0 x1 x2 x3 x4 xo8 xo9), (kernelRun0_B.sl.r_13 c i arg3 harg3 arg4 harg4 arg5 harg5 arg6 harg6 arg7 harg7 arg8 harg8 arg9 harg9 arg10 harg10 arg11 harg11 arg12 harg12 x0 x1 x2 x3 x4 xo8 xo9)⟩) : Carry F 512 × Carry F 512) := by
  unfold kernelRun0_B.sl.r_33 kernelRun0_B.sl.r_31 kernelRun0_B.sl.r_23 kernelRun0_B.sl.r_21 kernelRun0_B.sl.r_28 kernelRun0_B.sl.r_32 kernelRun0_B.sl.r_18 kernelRun0_B.sl.r_22 kernelRun0_B.sl.r_19 kernelRun0_B.sl.r_30 kernelRun0_B.sl.r_26 kernelRun0_B.sl.r_29 kernelRun0_B.sl.r_27 kernelRun0_B.sl.r_16 kernelRun0_B.sl.r_20 kernelRun0_B.sl.r_14 kernelRun0_B.sl.r_15
  generalize (kernelRun0_B.sl.r_1 c arg3 harg3 x0) = y_r_1
  generalize (kernelRun0_B.sl.r_2 c arg3 harg3 x0) = y_r_2
  generalize (kernelRun0_B.sl.r_4 c arg7 harg7 x4) = y_r_4
  generalize (kernelRun0_B.sl.r_5 c arg7 harg7 x4) = y_r_5
  generalize (kernelRun0_B.sl.r_6 c arg6 harg6 x3) = y_r_6
  generalize (kernelRun0_B.sl.r_7 c arg6 harg6 x3) = y_r_7
  generalize (kernelRun0_B.sl.r_8 c i arg3 harg3 arg4 harg4 arg5 harg5 arg6 harg6 arg7 harg7 arg8 harg8 arg9 harg9 arg10 harg10 arg11 harg11 arg12 harg12 x0 x1 x2 x3 x4 xo8 xo9) = y_r_8
  generalize (kernelRun0_B.sl.r_9 c i arg3 harg3 arg4 harg4 arg5 harg5 arg6 harg6 arg7 harg7 arg8 harg8 arg9 harg9 arg10 harg10 arg11 harg11 arg12 harg12 x0 x1 x2 x3 x4 xo8 xo9) = y_r_9
  generalize (kernelRun0_B.sl.r_10 c i arg3 harg3 arg4 harg4 arg5 harg5 arg6 harg6 arg7 harg7 arg8 harg8 arg9 harg9 arg10 harg10 arg11 harg11 arg12 harg12 x0 x1 x2 x3 x4 xo8 xo9) = y_r_10
  generalize (kernelRun0_B.sl.r_11 c i arg3 harg3 arg4 harg4 arg5 harg5 arg6 harg6 arg7 harg7 arg8 harg8 arg9 harg9 arg10 harg10 arg11 harg11 arg12 harg12 x0 x1 x2 x3 x4 xo8 xo9) = y_r_11
  generalize (kernelRun0_B.sl.r_12 c i arg3 harg3 arg4 harg4 arg5 harg5 arg6 harg6 arg7 harg7 arg8 harg8 arg9 harg9 arg10 harg10 arg11 harg11 arg12 harg12 x0 x1 x2 x3 x4 xo8 xo9) = y_r_12
  generalize (kernelRun0_B.sl.r_13 c i arg3 harg3 arg4 harg4 arg5 harg5 arg6 harg6 arg7 harg7 arg8 harg8 arg9 harg9 arg10 harg10 arg11 harg11 arg12 harg12 x0 x1 x2 x3 x4 xo8 xo9) = y_r_13
  rfl

theorem B_H8_0 : (kernelRun0_B.sl.H8_1 c i arg3 harg3 arg4 harg4 arg5 harg5 arg6 harg6 arg7 harg7 arg8 harg8 arg9 harg9 arg10 harg10 arg11 harg11 arg12 harg12 x0 x1 x2 x3 x4 xo8 xo9) = putPiece arg11 (harg11.unread xo8) i 0 (topDk k0_pay266 (⟨k0_pay244, k0_pay245, ⟨(kernelRun0_B.sl.r_1 c arg3 harg3 x0), (kernelRun0_B.sl.r_4 c arg7 harg7 x4), (kernelRun0_B.sl.r_6 c arg6 harg6 x3)⟩, ⟨(kernelRun0_B.sl.r_2 c arg3 harg3 x0), (kernelRun0_B.sl.r_5 c arg7 harg7 x4), (kernelRun0_B.sl.r_7 c arg6 harg6 x3)⟩⟩ : Env F) (kd i arg4 (harg4.unread x1) 0) (kd i arg5 (harg5.unread x2) 0) ((⟨(kernelRun0_B.sl.r_8 c i arg3 harg3 arg4 harg4 arg5 harg5 arg6 harg6 arg7 harg7 arg8 harg8 arg9 harg9 arg10 harg10 arg11 harg11 arg12 harg12 x0 x1 x2 x3 x4 xo8 xo9), (kernelRun0_B.sl.r_9 c i arg3 harg3 arg4 harg4 arg5 harg5 arg6 harg6 arg7 harg7 arg8 harg8 arg9 harg9 arg10 harg10 arg11 harg11 arg12 harg12 x0 x1 x2 x3 x4 xo8 xo9), (kernelRun0_B.sl.r_10 c i arg3 harg3 arg4 harg4 arg5 harg5 arg6 harg6 arg7 harg7 arg8 harg8 arg9 harg9 arg10 harg10 arg11 harg11 arg12 harg12 x0 x1 x2 x3 x4 xo8 xo9)⟩, ⟨(kernelRun0_B.sl.r_11 c i arg3 harg3 arg4 harg4 arg5 harg5 arg6 harg6 arg7 harg7 arg8 harg8 arg9 harg9 arg10 harg10 arg11 harg11 arg12 harg12 x0 x1 x2 x3 x4 xo8 xo9), (kernelRun0_B.sl.r_12 c i arg3 harg3 arg4 harg4 arg5 harg5 arg6 harg6 arg7 harg7 arg8 harg8 arg9 harg9 arg10 harg10 arg11 harg11 arg12 harg12 x0 x1 x2 x3 x4 xo8 xo9), (kernelRun0_B.sl.r_13 c i arg3 harg3 arg4 harg4 arg5 harg5 arg6 harg6 arg7 harg7 arg8 harg8 arg9 harg9 arg10 harg10 arg11 harg11 arg12 harg12 x0 x1 x2 x3 x4 xo8 xo9)⟩) : Carry F 512 × Carry F 512)) ((after2 c i arg3 harg3 arg4 harg4 arg5 harg5 arg6 harg6 arg7 harg7 arg8 harg8 arg9 harg9 arg10 harg10 arg11 harg11 arg12 harg12 (harg11.unread xo8) (harg12.unread xo9) (arg11.view.writes (Elt F) (harg11.unread xo8) (after1 c i arg3 harg3 arg4 harg4 arg5 harg5 arg6 harg6 arg7 harg7 arg8 harg8 arg9 harg9 arg10 harg10 arg11 harg11 arg12 harg12 (harg11.unread xo8) (harg12.unread xo9) x0 x1 x2 x3 x4).2.1) (arg12.view.writes (Elt F) (harg12.unread xo9) (after1 c i arg3 harg3 arg4 harg4 arg5 harg5 arg6 harg6 arg7 harg7 arg8 harg8 arg9 harg9 arg10 harg10 arg11 harg11 arg12 harg12 (harg11.unread xo8) (harg12.unread xo9) x0 x1 x2 x3 x4).2.2) x0 x1 x2 x3 x4).2.1 ++ (after1 c i arg3 harg3 arg4 harg4 arg5 harg5 arg6 harg6 arg7 harg7 arg8 harg8 arg9 harg9 arg10 harg10 arg11 harg11 arg12 harg12 (harg11.unread xo8) (harg12.unread xo9) x0 x1 x2 x3 x4).2.1) := by
  unfold kernelRun0_B.sl.H8_1 kernelRun0_B.sl.r_35 kernelRun0_B.sl.r_24 kernelRun0_B.sl.r_18 kernelRun0_B.sl.r_19 kernelRun0_B.sl.r_28 kernelRun0_B.sl.v299 kernelRun0_B.sl.r_30 kernelRun0_B.sl.r_26 kernelRun0_B.sl.r_20 kernelRun0_B.sl.r_29 kernelRun0_B.sl.r_14 kernelRun0_B.sl.r_15
  generalize (kernelRun0_B.sl.r_8 c i arg3 harg3 arg4 harg4 arg5 harg5 arg6 harg6 arg7 harg7 arg8 harg8 arg9 harg9 arg10 harg10 arg11 harg11 arg12 harg12 x0 x1 x2 x3 x4 xo8 xo9) = y_r_8
  generalize (kernelRun0_B.sl.r_9 c i arg3 harg3 arg4 harg4 arg5 harg5 arg6 harg6 arg7 harg7 arg8 harg8 arg9 harg9 arg10 harg10 arg11 harg11 arg12 harg12 x0 x1 x2 x3 x4 xo8 xo9) = y_r_9
  generalize (kernelRun0_B.sl.r_10 c i arg3 harg3 arg4 harg4 arg5 harg5 arg6 harg6 arg7 harg7 arg8 harg8 arg9 harg9 arg10 harg10 arg11 harg11 arg12 harg12 x0 x1 x2 x3 x4 xo8 xo9) = y_r_10
  generalize (kernelRun0_B.sl.r_11 c i arg3 harg3 arg4 harg4 arg5 harg5 arg6 harg6 arg7 harg7 arg8 harg8 arg9 harg9 arg10 harg10 arg11 harg11 arg12 harg12 x0 x1 x2 x3 x4 xo8 xo9) = y_r_11
  generalize (kernelRun0_B.sl.r_12 c i arg3 harg3 arg4 harg4 arg5 harg5 arg6 harg6 arg7 harg7 arg8 harg8 arg9 harg9 arg10 harg10 arg11 harg11 arg12 harg12 x0 x1 x2 x3 x4 xo8 xo9) = y_r_12
  generalize (kernelRun0_B.sl.r_13 c i arg3 harg3 arg4 harg4 arg5 harg5 arg6 harg6 arg7 harg7 arg8 harg8 arg9 harg9 arg10 harg10 arg11 harg11 arg12 harg12 x0 x1 x2 x3 x4 xo8 xo9) = y_r_13
  rfl

theorem B_H9_0 : (kernelRun0_B.sl.H9_1 c i arg3 harg3 arg4 harg4 arg5 harg5 arg6 harg6 arg7 harg7 arg8 harg8 arg9 harg9 arg10 harg10 arg11 harg11 arg12 harg12 x0 x1 x2 x3 x4 xo8 xo9) = putPiece arg12 (harg12.unread xo9) i 0 (topDv k0_pay266 (⟨k0_pay244, k0_pay245, ⟨(kernelRun0_B.sl.r_1 c arg3 harg3 x0), (kernelRun0_B.sl.r_4 c arg7 harg7 x4), (kernelRun0_B.sl.r_6 c arg6 harg6 x3)⟩, ⟨(kernelRun0_B.sl.r_2 c arg3 harg3 x0), (kernelRun0_B.sl.r_5 c arg7 harg7 x4), (kernelRun0_B.sl.r_7 c arg6 harg6 x3)⟩⟩ : Env F) (kd i arg4 (harg4.unread x1) 0) ((⟨(kernelRun0_B.sl.r_8 c i arg3 harg3 arg4 harg4 arg5 harg5 arg6 harg6 arg7 harg7 arg8 harg8 arg9 harg9 arg10 harg10 arg11 harg11 arg12 harg12 x0 x1 x2 x3 x4 xo8 xo9), (kernelRun0_B.sl.r_9 c i arg3 harg3 arg4 harg4 arg5 harg5 arg6 harg6 arg7 harg7 arg8 harg8 arg9 harg9 arg10 harg10 arg11 harg11 arg12 harg12 x0 x1 x2 x3 x4 xo8 xo9), (kernelRun0_B.sl.r_10 c i arg3 harg3 arg4 harg4 arg5 harg5 arg6 harg6 arg7 harg7 arg8 harg8 arg9 harg9 arg10 harg10 arg11 harg11 arg12 harg12 x0 x1 x2 x3 x4 xo8 xo9)⟩, ⟨(kernelRun0_B.sl.r_11 c i arg3 harg3 arg4 harg4 arg5 harg5 arg6 harg6 arg7 harg7 arg8 harg8 arg9 harg9 arg10 harg10 arg11 harg11 arg12 harg12 x0 x1 x2 x3 x4 xo8 xo9), (kernelRun0_B.sl.r_12 c i arg3 harg3 arg4 harg4 arg5 harg5 arg6 harg6 arg7 harg7 arg8 harg8 arg9 harg9 arg10 harg10 arg11 harg11 arg12 harg12 x0 x1 x2 x3 x4 xo8 xo9), (kernelRun0_B.sl.r_13 c i arg3 harg3 arg4 harg4 arg5 harg5 arg6 harg6 arg7 harg7 arg8 harg8 arg9 harg9 arg10 harg10 arg11 harg11 arg12 harg12 x0 x1 x2 x3 x4 xo8 xo9)⟩) : Carry F 512 × Carry F 512)) ((after2 c i arg3 harg3 arg4 harg4 arg5 harg5 arg6 harg6 arg7 harg7 arg8 harg8 arg9 harg9 arg10 harg10 arg11 harg11 arg12 harg12 (harg11.unread xo8) (harg12.unread xo9) (arg11.view.writes (Elt F) (harg11.unread xo8) (after1 c i arg3 harg3 arg4 harg4 arg5 harg5 arg6 harg6 arg7 harg7 arg8 harg8 arg9 harg9 arg10 harg10 arg11 harg11 arg12 harg12 (harg11.unread xo8) (harg12.unread xo9) x0 x1 x2 x3 x4).2.1) (arg12.view.writes (Elt F) (harg12.unread xo9) (after1 c i arg3 harg3 arg4 harg4 arg5 harg5 arg6 harg6 arg7 harg7 arg8 harg8 arg9 harg9 arg10 harg10 arg11 harg11 arg12 harg12 (harg11.unread xo8) (harg12.unread xo9) x0 x1 x2 x3 x4).2.2) x0 x1 x2 x3 x4).2.2 ++ (after1 c i arg3 harg3 arg4 harg4 arg5 harg5 arg6 harg6 arg7 harg7 arg8 harg8 arg9 harg9 arg10 harg10 arg11 harg11 arg12 harg12 (harg11.unread xo8) (harg12.unread xo9) x0 x1 x2 x3 x4).2.2) := by
  unfold kernelRun0_B.sl.H9_1 kernelRun0_B.sl.r_34 kernelRun0_B.sl.r_25 kernelRun0_B.sl.r_17 kernelRun0_B.sl.r_28 kernelRun0_B.sl.v307 kernelRun0_B.sl.r_30 kernelRun0_B.sl.r_26 kernelRun0_B.sl.r_29 kernelRun0_B.sl.r_14
  generalize (kernelRun0_B.sl.r_8 c i arg3 harg3 arg4 harg4 arg5 harg5 arg6 harg6 arg7 harg7 arg8 harg8 arg9 harg9 arg10 harg10 arg11 harg11 arg12 harg12 x0 x1 x2 x3 x4 xo8 xo9) = y_r_8
  generalize (kernelRun0_B.sl.r_9 c i arg3 harg3 arg4 harg4 arg5 harg5 arg6 harg6 arg7 harg7 arg8 harg8 arg9 harg9 arg10 harg10 arg11 harg11 arg12 harg12 x0 x1 x2 x3 x4 xo8 xo9) = y_r_9
  generalize (kernelRun0_B.sl.r_10 c i arg3 harg3 arg4 harg4 arg5 harg5 arg6 harg6 arg7 harg7 arg8 harg8 arg9 harg9 arg10 harg10 arg11 harg11 arg12 harg12 x0 x1 x2 x3 x4 xo8 xo9) = y_r_10
  generalize (kernelRun0_B.sl.r_11 c i arg3 harg3 arg4 harg4 arg5 harg5 arg6 harg6 arg7 harg7 arg8 harg8 arg9 harg9 arg10 harg10 arg11 harg11 arg12 harg12 x0 x1 x2 x3 x4 xo8 xo9) = y_r_11
  generalize (kernelRun0_B.sl.r_12 c i arg3 harg3 arg4 harg4 arg5 harg5 arg6 harg6 arg7 harg7 arg8 harg8 arg9 harg9 arg10 harg10 arg11 harg11 arg12 harg12 x0 x1 x2 x3 x4 xo8 xo9) = y_r_12
  generalize (kernelRun0_B.sl.r_13 c i arg3 harg3 arg4 harg4 arg5 harg5 arg6 harg6 arg7 harg7 arg8 harg8 arg9 harg9 arg10 harg10 arg11 harg11 arg12 harg12 x0 x1 x2 x3 x4 xo8 xo9) = y_r_13
  rfl

theorem B_c2 : ((⟨(kernelRun0_B.sl.r_48 c i arg3 harg3 arg4 harg4 arg5 harg5 arg6 harg6 arg7 harg7 arg8 harg8 arg9 harg9 arg10 harg10 arg11 harg11 arg12 harg12 x0 x1 x2 x3 x4 xo8 xo9), (kernelRun0_B.sl.r_49 c i arg3 harg3 arg4 harg4 arg5 harg5 arg6 harg6 arg7 harg7 arg8 harg8 arg9 harg9 arg10 harg10 arg11 harg11 arg12 harg12 x0 x1 x2 x3 x4 xo8 xo9), (kernelRun0_B.sl.r_50 c i arg3 harg3 arg4 harg4 arg5 harg5 arg6 harg6 arg7 harg7 arg8 harg8 arg9 harg9 arg10 harg10 arg11 harg11 arg12 harg12 x0 x1 x2 x3 x4 xo8 xo9)⟩, ⟨(kernelRun0_B.sl.r_60 c i arg3 harg3 arg4 harg4 arg5 harg5 arg6 harg6 arg7 harg7 arg8 harg8 arg9 harg9 arg10 harg10 arg11 harg11 arg12 harg12 x0 x1 x2 x3 x4 xo8 xo9), (kernelRun0_B.sl.r_61 c i arg3 harg3 arg4 harg4 arg5 harg5 arg6 harg6 arg7 harg7 arg8 harg8 arg9 harg9 arg10 harg10 arg11 harg11 arg12 harg12 x0 x1 x2 x3 x4 xo8 xo9), (kernelRun0_B.sl.r_62 c i arg3 harg3 arg4 harg4 arg5 harg5 arg6 harg6 arg7 harg7 arg8 harg8 arg9 harg9 arg10 harg10 arg11 harg11 arg12 harg12 x0 x1 x2 x3 x4 xo8 xo9)⟩) : Carry F 512 × Carry F 512) = cutNext c384 k0_pay267 (⟨k0_pay244, k0_pay245, ⟨(kernelRun0_B.sl.r_1 c arg3 harg3 x0), (kernelRun0_B.sl.r_4 c arg7 harg7 x4), (kernelRun0_B.sl.r_6 c arg6 harg6 x3)⟩, ⟨(kernelRun0_B.sl.r_2 c arg3 harg3 x0), (kernelRun0_B.sl.r_5 c arg7 harg7 x4), (kernelRun0_B.sl.r_7 c arg6 harg6 x3)⟩⟩ : Env F) (kd i arg4 (harg4.unread x1) 1) (kd i arg5 (harg5.unread x2) 1) ((⟨(kernelRun0_B.sl.r_21 c i arg3 harg3 arg4 harg4 arg5 harg5 arg6 harg6 arg7 harg7 arg8 harg8 arg9 harg9 arg10 harg10 arg11 harg11 arg12 harg12 x0 x1 x2 x3 x4 xo8 xo9), (kernelRun0_B.sl.r_22 c i arg3 harg3 arg4 harg4 arg5 harg5 arg6 harg6 arg7 harg7 arg8 harg8 arg9 harg9 arg10 harg10 arg11 harg11 arg12 harg12 x0 x1 x2 x3 x4 xo8 xo9), (kernelRun0_B.sl.r_23 c i arg3 harg3 arg4 harg4 arg5 harg5 arg6 harg6 arg7 harg7 arg8 harg8 arg9 harg9 arg10 harg10 arg11 harg11 arg12 harg12 x0 x1 x2 x3 x4 xo8 xo9)⟩, ⟨(kernelRun0_B.sl.r_31 c i arg3 harg3 arg4 harg4 arg5 harg5 arg6 harg6 arg7 harg7 arg8 harg8 arg9 harg9 arg10 harg10 arg11 harg11 arg12 harg12 x0 x1 x2 x3 x4 xo8 xo9), (kernelRun0_B.sl.r_32 c i arg3 harg3 arg4 harg4 arg5 harg5 arg6 harg6 arg7 harg7 arg8 harg8 arg9 harg9 arg10 harg10 arg11 harg11 arg12 harg12 x0 x1 x2 x3 x4 xo8 xo9), (kernelRun0_B.sl.r_33 c i arg3 harg3 arg4 harg4 arg5 harg5 arg6 harg6 arg7 harg7 arg8 harg8 arg9 harg9 arg10 harg10 arg11 harg11 arg12 harg12 x0 x1 x2 x3 x4 xo8 xo9)⟩) : Carry F 512 × Carry F 512) := by
  unfold kernelRun0_B.sl.r_60 kernelRun0_B.sl.r_50 kernelRun0_B.sl.r_48 kernelRun0_B.sl.r_62 kernelRun0_B.sl.r_59 kernelRun0_B.sl.r_46 kernelRun0_B.sl.r_49 kernelRun0_B.sl.r_44 kernelRun0_B.sl.r_47 kernelRun0_B.sl.r_58 kernelRun0_B.sl.r_61 kernelRun0_B.sl.r_45 kernelRun0_B.sl.r_56 kernelRun0_B.sl.r_55 kernelRun0_B.sl.r_39 kernelRun0_B.sl.r_40 kernelRun0_B.sl.r_41 kernelRun0_B.sl.r_36 kernelRun0_B.sl.r_37
  generalize (kernelRun0_B.sl.r_1 c arg3 harg3 x0) = y_r_1
  generalize (kernelRun0_B.sl.r_2 c arg3 harg3 x0) = y_r_2
  generalize (kernelRun0_B.sl.r_4 c arg7 harg7 x4) = y_r_4
  generalize (kernelRun0_B.sl.r_5 c arg7 harg7 x4) = y_r_5
  generalize (kernelRun0_B.sl.r_6 c arg6 harg6 x3) = y_r_6
  generalize (kernelRun0_B.sl.r_7 c arg6 harg6 x3) = y_r_7
  generalize (kernelRun0_B.sl.r_21 c i arg3 harg3 arg4 harg4 arg5 harg5 arg6 harg6 arg7 harg7 arg8 harg8 arg9 harg9 arg10 harg10 arg11 harg11 arg12 harg12 x0 x1 x2 x3 x4 xo8 xo9) = y_r_21
  generalize (kernelRun0_B.sl.r_22 c i arg3 harg3 arg4 harg4 arg5 harg5 arg6 harg6 arg7 harg7 arg8 harg8 arg9 harg9 arg10 harg10 arg11 harg11 arg12 harg12 x0 x1 x2 x3 x4 xo8 xo9) = y_r_22
  generalize (kernelRun0_B.sl.r_23 c i arg3 harg3 arg4 harg4 arg5 harg5 arg6 harg6 arg7 harg7 arg8 harg8 arg9 harg9 arg10 harg10 arg11 harg11 arg12 harg12 x0 x1 x2 x3 x4 xo8 xo9) = y_r_23
  generalize (kernelRun0_B.sl.r_31 c i arg3 harg3 arg4 harg4 arg5 harg5 arg6 harg6 arg7 harg7 arg8 harg8 arg9 harg9 arg10 harg10 arg11 harg11 arg12 harg12 x0 x1 x2 x3 x4 xo8 xo9) = y_r_31
  generalize (kernelRun0_B.sl.r_32 c i arg3 harg3 arg4 harg4 arg5 harg5 arg6 harg6 arg7 harg7 arg8 harg8 arg9 harg9 arg10 harg10 arg11 harg11 arg12 harg12 x0 x1 x2 x3 x4 xo8 xo9) = y_r_32
  generalize (kernelRun0_B.sl.r_33 c i arg3 harg3 arg4 harg4 arg5 harg5 arg6 harg6 arg7 harg7 arg8 harg8 arg9 harg9 arg10 harg10 arg11 harg11 arg12 harg12 x0 x1 x2 x3 x4 xo8 xo9) = y_r_33
  rfl

theorem B_H8_1 : (kernelRun0_B.sl.H8_2 c i arg3 harg3 arg4 harg4 arg5 harg5 arg6 harg6 arg7 harg7 arg8 harg8 arg9 harg9 arg10 harg10 arg11 harg11 arg12 harg12 x0 x1 x2 x3 x4 xo8 xo9) = putPiece arg11 (harg11.unread xo8) i 1 (cutDk c384 k0_pay267 (⟨k0_pay244, k0_pay245, ⟨(kernelRun0_B.sl.r_1 c arg3 harg3 x0), (kernelRun0_B.sl.r_4 c arg7 harg7 x4), (kernelRun0_B.sl.r_6 c arg6 harg6 x3)⟩, ⟨(kernelRun0_B.sl.r_2 c arg3 harg3 x0), (kernelRun0_B.sl.r_5 c arg7 harg7 x4), (kernelRun0_B.sl.r_7 c arg6 harg6 x3)⟩⟩ : Env F) (kd i arg4 (harg4.unread x1) 1) (kd i arg5 (harg5.unread x2) 1) ((⟨(kernelRun0_B.sl.r_21 c i arg3 harg3 arg4 harg4 arg5 harg5 arg6 harg6 arg7 harg7 arg8 harg8 arg9 harg9 arg10 harg10 arg11 harg11 arg12 harg12 x0 x1 x2 x3 x4 xo8 xo9), (kernelRun0_B.sl.r_22 c i arg3 harg3 arg4 harg4 arg5 harg5 arg6 harg6 arg7 harg7 arg8 harg8 arg9 harg9 arg10 harg10 arg11 harg11 arg12 harg12 x0 x1 x2 x3 x4 xo8 xo9), (kernelRun0_B.sl.r_23 c i arg3 harg3 arg4 harg4 arg5 harg5 arg6 harg6 arg7 harg7 arg8 harg8 arg9 harg9 arg10 harg10 arg11 harg11 arg12 harg12 x0 x1 x2 x3 x4 xo8 xo9)⟩, ⟨(kernelRun0_B.sl.r_31 c i arg3 harg3 arg4 harg4 arg5 harg5 arg6 harg6 arg7 harg7 arg8 harg8 arg9 harg9 arg10 harg10 arg11 harg11 arg12 harg12 x0 x1 x2 x3 x4 xo8 xo9), (kernelRun0_B.sl.r_32 c i arg3 harg3 arg4 harg4 arg5 harg5 arg6 harg6 arg7 harg7 arg8 harg8 arg9 harg9 arg10 harg10 arg11 harg11 arg12 harg12 x0 x1 x2 x3 x4 xo8 xo9), (kernelRun0_B.sl.r_33 c i arg3 harg3 arg4 harg4 arg5 harg5 arg6 harg6 arg7 harg7 arg8 harg8 arg9 harg9 arg10 harg10 arg11 harg11 arg12 harg12 x0 x1 x2 x3 x4 xo8 xo9)⟩) : Carry F 512 × Carry F 512)) (kernelRun0_B.sl.H8_1 c i arg3 harg3 arg4 harg4 arg5 harg5 arg6 harg6 arg7 harg7 arg8 harg8 arg9 harg9 arg10 harg10 arg11 harg11 arg12 harg12 x0 x1 x2 x3 x4 xo8 xo9) := by
  unfold kernelRun0_B.sl.H8_2 kernelRun0_B.sl.r_64 kernelRun0_B.sl.r_51 kernelRun0_B.sl.r_59 kernelRun0_B.sl.r_43 kernelRun0_B.sl.r_58 kernelRun0_B.sl.r_38 kernelRun0_B.sl.r_39 kernelRun0_B.sl.r_40 kernelRun0_B.sl.r_41 kernelRun0_B.sl.r_55 kernelRun0_B.sl.r_53 kernelRun0_B.sl.r_37 kernelRun0_B.sl.r_36
  generalize (kernelRun0_B.sl.r_21 c i arg3 harg3 arg4 harg4 arg5 harg5 arg6 harg6 arg7 harg7 arg8 harg8 arg9 harg9 arg10 harg10 arg11 harg11 arg12 harg12 x0 x1 x2 x3 x4 xo8 xo9) = y_r_21
  generalize (kernelRun0_B.sl.r_22 c i arg3 harg3 arg4 harg4 arg5 harg5 arg6 harg6 arg7 harg7 arg8 harg8 arg9 harg9 arg10 harg10 arg11 harg11 arg12 harg12 x0 x1 x2 x3 x4 xo8 xo9) = y_r_22
  generalize (kernelRun0_B.sl.r_23 c i arg3 harg3 arg4 harg4 arg5 harg5 arg6 harg6 arg7 harg7 arg8 harg8 arg9 harg9 arg10 harg10 arg11 harg11 arg12 harg12 x0 x1 x2 x3 x4 xo8 xo9) = y_r_23
  generalize (kernelRun0_B.sl.r_31 c i arg3 harg3 arg4 harg4 arg5 harg5 arg6 harg6 arg7 harg7 arg8 harg8 arg9 harg9 arg10 harg10 arg11 harg11 arg12 harg12 x0 x1 x2 x3 x4 xo8 xo9) = y_r_31
  generalize (kernelRun0_B.sl.r_32 c i arg3 harg3 arg4 harg4 arg5 harg5 arg6 harg6 arg7 harg7 arg8 harg8 arg9 harg9 arg10 harg10 arg11 harg11 arg12 harg12 x0 x1 x2 x3 x4 xo8 xo9) = y_r_32
  generalize (kernelRun0_B.sl.r_33 c i arg3 harg3 arg4 harg4 arg5 harg5 arg6 harg6 arg7 harg7 arg8 harg8 arg9 harg9 arg10 harg10 arg11 harg11 arg12 harg12 x0 x1 x2 x3 x4 xo8 xo9) = y_r_33
  generalize (kernelRun0_B.sl.r_1 c arg3 harg3 x0) = y_r_1
  generalize (kernelRun0_B.sl.r_2 c arg3 harg3 x0) = y_r_2
  generalize (kernelRun0_B.sl.r_4 c arg7 harg7 x4) = y_r_4
  generalize (kernelRun0_B.sl.r_5 c arg7 harg7 x4) = y_r_5
  generalize (kernelRun0_B.sl.r_6 c arg6 harg6 x3) = y_r_6
  generalize (kernelRun0_B.sl.r_7 c arg6 harg6 x3) = y_r_7
  rfl

theorem B_H9_1 : (kernelRun0_B.sl.H9_2 c i arg3 harg3 arg4 harg4 arg5 harg5 arg6 harg6 arg7 harg7 arg8 harg8 arg9 harg9 arg10 harg10 arg11 harg11 arg12 harg12 x0 x1 x2 x3 x4 xo8 xo9) = putPiece arg12 (harg12.unread xo9) i 1 (cutDv c384 k0_pay267 (⟨k0_pay244, k0_pay245, ⟨(kernelRun0_B.sl.r_1 c arg3 harg3 x0), (kernelRun0_B.sl.r_4 c arg7 harg7 x4), (kernelRun0_B.sl.r_6 c arg6 harg6 x3)⟩, ⟨(kernelRun0_B.sl.r_2 c arg3 harg3 x0), (kernelRun0_B.sl.r_5 c arg7 harg7 x4), (kernelRun0_B.sl.r_7 c arg6 harg6 x3)⟩⟩ : Env F) (kd i arg4 (harg4.unread x1) 1) ((⟨(kernelRun0_B.sl.r_21 c i arg3 harg3 arg4 harg4 arg5 harg5 arg6 harg6 arg7 harg7 arg8 harg8 arg9 harg9 arg10 harg10 arg11 harg11 arg12 harg12 x0 x1 x2 x3 x4 xo8 xo9), (kernelRun0_B.sl.r_22 c i arg3 harg3 arg4 harg4 arg5 harg5 arg6 harg6 arg7 harg7 arg8 harg8 arg9 harg9 arg10 harg10 arg11 harg11 arg12 harg12 x0 x1 x2 x3 x4 xo8 xo9), (kernelRun0_B.sl.r_23 c i arg3 harg3 arg4 harg4 arg5 harg5 arg6 harg6 arg7 harg7 arg8 harg8 arg9 harg9 arg10 harg10 arg11 harg11 arg12 harg12 x0 x1 x2 x3 x4 xo8 xo9)⟩, ⟨(kernelRun0_B.sl.r_31 c i arg3 harg3 arg4 harg4 arg5 harg5 arg6 harg6 arg7 harg7 arg8 harg8 arg9 harg9 arg10 harg10 arg11 harg11 arg12 harg12 x0 x1 x2 x3 x4 xo8 xo9), (kernelRun0_B.sl.r_32 c i arg3 harg3 arg4 harg4 arg5 harg5 arg6 harg6 arg7 harg7 arg8 harg8 arg9 harg9 arg10 harg10 arg11 harg11 arg12 harg12 x0 x1 x2 x3 x4 xo8 xo9), (kernelRun0_B.sl.r_33 c i arg3 harg3 arg4 harg4 arg5 harg5 arg6 harg6 arg7 harg7 arg8 harg8 arg9 harg9 arg10 harg10 arg11 harg11 arg12 harg12 x0 x1 x2 x3 x4 xo8 xo9)⟩) : Carry F 512 × Carry F 512)) (kernelRun0_B.sl.H9_1 c i arg3 harg3 arg4 harg4 arg5 harg5 arg6 harg6 arg7 harg7 arg8 harg8 arg9 harg9 arg10 harg10 arg11 harg11 arg12 harg12 x0 x1 x2 x3 x4 xo8 xo9) := by
  unfold kernelRun0_B.sl.H9_2 kernelRun0_B.sl.r_63 kernelRun0_B.sl.r_52 kernelRun0_B.sl.r_57 kernelRun0_B.sl.r_42 kernelRun0_B.sl.r_54 kernelRun0_B.sl.r_39 kernelRun0_B.sl.r_41 kernelRun0_B.sl.r_40 kernelRun0_B.sl.r_36
  generalize (kernelRun0_B.sl.r_21 c i arg3 harg3 arg4 harg4 arg5 harg5 arg6 harg6 arg7 harg7 arg8 harg8 arg9 harg9 arg10 harg10 arg11 harg11 arg12 harg12 x0 x1 x2 x3 x4 xo8 xo9) = y_r_21
  generalize (kernelRun0_B.sl.r_22 c i arg3 harg3 arg4 harg4 arg5 harg5 arg6 harg6 arg7 harg7 arg8 harg8 arg9 harg9 arg10 harg10 arg11 harg11 arg12 harg12 x0 x1 x2 x3 x4 xo8 xo9) = y_r_22
  generalize (kernelRun0_B.sl.r_23 c i arg3 harg3 arg4 harg4 arg5 harg5 arg6 harg6 arg7 harg7 arg8 harg8 arg9 harg9 arg10 harg10 arg11 harg11 arg12 harg12 x0 x1 x2 x3 x4 xo8 xo9) = y_r_23
  generalize (kernelRun0_B.sl.r_31 c i arg3 harg3 arg4 harg4 arg5 harg5 arg6 harg6 arg7 harg7 arg8 harg8 arg9 harg9 arg10 harg10 arg11 harg11 arg12 harg12 x0 x1 x2 x3 x4 xo8 xo9) = y_r_31
  generalize (kernelRun0_B.sl.r_32 c i arg3 harg3 arg4 harg4 arg5 harg5 arg6 harg6 arg7 harg7 arg8 harg8 arg9 harg9 arg10 harg10 arg11 harg11 arg12 harg12 x0 x1 x2 x3 x4 xo8 xo9) = y_r_32
  generalize (kernelRun0_B.sl.r_33 c i arg3 harg3 arg4 harg4 arg5 harg5 arg6 harg6 arg7 harg7 arg8 harg8 arg9 harg9 arg10 harg10 arg11 harg11 arg12 harg12 x0 x1 x2 x3 x4 xo8 xo9) = y_r_33
  generalize (kernelRun0_B.sl.r_1 c arg3 harg3 x0) = y_r_1
  generalize (kernelRun0_B.sl.r_2 c arg3 harg3 x0) = y_r_2
  generalize (kernelRun0_B.sl.r_4 c arg7 harg7 x4) = y_r_4
  generalize (kernelRun0_B.sl.r_5 c arg7 harg7 x4) = y_r_5
  generalize (kernelRun0_B.sl.r_6 c arg6 harg6 x3) = y_r_6
  generalize (kernelRun0_B.sl.r_7 c arg6 harg6 x3) = y_r_7
  rfl

theorem B_c3 : ((⟨(kernelRun0_B.sl.r_77 c i arg3 harg3 arg4 harg4 arg5 harg5 arg6 harg6 arg7 harg7 arg8 harg8 arg9 harg9 arg10 harg10 arg11 harg11 arg12 harg12 x0 x1 x2 x3 x4 xo8 xo9), (kernelRun0_B.sl.r_79 c i arg3 harg3 arg4 harg4 arg5 harg5 arg6 harg6 arg7 harg7 arg8 harg8 arg9 harg9 arg10 harg10 arg11 harg11 arg12 harg12 x0 x1 x2 x3 x4 xo8 xo9), (kernelRun0_B.sl.r_80 c i arg3 harg3 arg4 harg4 arg5 harg5 arg6 harg6 arg7 harg7 arg8 harg8 arg9 harg9 arg10 harg10 arg11 harg11 arg12 harg12 x0 x1 x2 x3 x4 xo8 xo9)⟩, ⟨(kernelRun0_B.sl.r_92 c i arg3 harg3 arg4 harg4 arg5 harg5 arg6 harg6 arg7 harg7 arg8 harg8 arg9 harg9 arg10 harg10 arg11 harg11 arg12 harg12 x0 x1 x2 x3 x4 xo8 xo9), (kernelRun0_B.sl.r_93 c i arg3 harg3 arg4 harg4 arg5 harg5 arg6 harg6 arg7 harg7 arg8 harg8 arg9 harg9 arg10 harg10 arg11 harg11 arg12 harg12 x0 x1 x2 x3 x4 xo8 xo9), (kernelRun0_B.sl.r_94 c i arg3 harg3 arg4 harg4 arg5 harg5 arg6 harg6 arg7 harg7 arg8 harg8 arg9 harg9 arg10 harg10 arg11 harg11 arg12 harg12 x0 x1 x2 x3 x4 xo8 xo9)⟩) : Carry F 512 × Carry F 512) = cutNext c256 k0_pay268 (⟨k0_pay244, k0_pay245, ⟨(kernelRun0_B.sl.r_1 c arg3 harg3 x0), (kernelRun0_B.sl.r_4 c arg7 harg7 x4), (kernelRun0_B.sl.r_6 c arg6 harg6 x3)⟩, ⟨(kernelRun0_B.sl.r_2 c arg3 harg3 x0), (kernelRun0_B.sl.r_5 c arg7 harg7 x4), (kernelRun0_B.sl.r_7 c arg6 harg6 x3)⟩⟩ : Env F) (kd i arg4 (harg4.unread x1) 2) (kd i arg5 (harg5.unread x2) 2) ((⟨(kernelRun0_B.sl.r_48 c i arg3 harg3 arg4 harg4 arg5 harg5 arg6 harg6 arg7 harg7 arg8 harg8 arg9 harg9 arg10 harg10 arg11 harg11 arg12 harg12 x0 x1 x2 x3 x4 xo8 xo9), (kernelRun0_B.sl.r_49 c i arg3 harg3 arg4 harg4 arg5 harg5 arg6 harg6 arg7 harg7 arg8 harg8 arg9 harg9 arg10 harg10 arg11 harg11 arg12 harg12 x0 x1 x2 x3 x4 xo8 xo9), (kernelRun0_B.sl.r_50 c i arg3 harg3 arg4 harg4 arg5 harg5 arg6 harg6 arg7 harg7 arg8 harg8 arg9 harg9 arg10 harg10 arg11 harg11 arg12 harg12 x0 x1 x2 x3 x4 xo8 xo9)⟩, ⟨(kernelRun0_B.sl.r_60 c i arg3 harg3 arg4 harg4 arg5 harg5 arg6 harg6 arg7 harg7 arg8 harg8 arg9 harg9 arg10 harg10 arg11 harg11 arg12 harg12 x0 x1 x2 x3 x4 xo8 xo9), (kernelRun0_B.sl.r_61 c i arg3 harg3 arg4 harg4 arg5 harg5 arg6 harg6 arg7 harg7 arg8 harg8 arg9 harg9 arg10 harg10 arg11 harg11 arg12 harg12 x0 x1 x2 x3 x4 xo8 xo9), (kernelRun0_B.sl.r_62 c i arg3 harg3 arg4 harg4 arg5 harg5 arg6 harg6 arg7 harg7 arg8 harg8 arg9 harg9 arg10 harg10 arg11 harg11 arg12 harg12 x0 x1 x2 x3 x4 xo8 xo9)⟩) : Carry F 512 × Carry F 512) := by
  unfold kernelRun0_B.sl.r_80 kernelRun0_B.sl.r_92 kernelRun0_B.sl.r_76 kernelRun0_B.sl.r_79 kernelRun0_B.sl.r_77 kernelRun0_B.sl.r_94 kernelRun0_B.sl.r_89 kernelRun0_B.sl.r_72 kernelRun0_B.sl.r_75 kernelRun0_B.sl.r_78 kernelRun0_B.sl.r_88 kernelRun0_B.sl.r_93 kernelRun0_B.sl.r_91 kernelRun0_B.sl.r_90 kernelRun0_B.sl.r_86 kernelRun0_B.sl.r_85 kernelRun0_B.sl.r_69 kernelRun0_B.sl.r_68 kernelRun0_B.sl.r_70 kernelRun0_B.sl.r_71 kernelRun0_B.sl.r_66 kernelRun0_B.sl.r_65
  generalize (kernelRun0_B.sl.r_1 c arg3 harg3 x0) = y_r_1
  generalize (kernelRun0_B.sl.r_2 c arg3 harg3 x0) = y_r_2
  generalize (kernelRun0_B.sl.r_4 c arg7 harg7 x4) = y_r_4
  generalize (kernelRun0_B.sl.r_5 c arg7 harg7 x4) = y_r_5
  generalize (kernelRun0_B.sl.r_6 c arg6 harg6 x3) = y_r_6
  generalize (kernelRun0_B.sl.r_7 c arg6 harg6 x3) = y_r_7
  generalize (kernelRun0_B.sl.r_48 c i arg3 harg3 arg4 harg4 arg5 harg5 arg6 harg6 arg7 harg7 arg8 harg8 arg9 harg9 arg10 harg10 arg11 harg11 arg12 harg12 x0 x1 x2 x3 x4 xo8 xo9) = y_r_48
  generalize (kernelRun0_B.sl.r_49 c i arg3 harg3 arg4 harg4 arg5 harg5 arg6 harg6 arg7 harg7 arg8 harg8 arg9 harg9 arg10 harg10 arg11 harg11 arg12 harg12 x0 x1 x2 x3 x4 xo8 xo9) = y_r_49
  generalize (kernelRun0_B.sl.r_50 c i arg3 harg3 arg4 harg4 arg5 harg5 arg6 harg6 arg7 harg7 arg8 harg8 arg9 harg9 arg10 harg10 arg11 harg11 arg12 harg12 x0 x1 x2 x3 x4 xo8 xo9) = y_r_50
  generalize (kernelRun0_B.sl.r_60 c i arg3 harg3 arg4 harg4 arg5 harg5 arg6 harg6 arg7 harg7 arg8 harg8 arg9 harg9 arg10 harg10 arg11 harg11 arg12 harg12 x0 x1 x2 x3 x4 xo8 xo9) = y_r_60
  generalize (kernelRun0_B.sl.r_61 c i arg3 harg3 arg4 harg4 arg5 harg5 arg6 harg6 arg7 harg7 arg8 harg8 arg9 harg9 arg10 harg10 arg11 harg11 arg12 harg12 x0 x1 x2 x3 x4 xo8 xo9) = y_r_61
  generalize (kernelRun0_B.sl.r_62 c i arg3 harg3 arg4 harg4 arg5 harg5 arg6 harg6 arg7 harg7 arg8 harg8 arg9 harg9 arg10 harg10 arg11 harg11 arg12 harg12 x0 x1 x2 x3 x4 xo8 xo9) = y_r_62
  rfl

theorem B_H8_2 : (kernelRun0_B.sl.H8_3 c i arg3 harg3 arg4 harg4 arg5 harg5 arg6 harg6 arg7 harg7 arg8 harg8 arg9 harg9 arg10 harg10 arg11 harg11 arg12 harg12 x0 x1 x2 x3 x4 xo8 xo9) = putPiece arg11 (harg11.unread xo8) i 2 (cutDk c256 k0_pay268 (⟨k0_pay244, k0_pay245, ⟨(kernelRun0_B.sl.r_1 c arg3 harg3 x0), (kernelRun0_B.sl.r_4 c arg7 harg7 x4), (kernelRun0_B.sl.r_6 c arg6 harg6 x3)⟩, ⟨(kernelRun0_B.sl.r_2 c arg3 harg3 x0), (kernelRun0_B.sl.r_5 c arg7 harg7 x4), (kernelRun0_B.sl.r_7 c arg6 harg6 x3)⟩⟩ : Env F) (kd i arg4 (harg4.unread x1) 2) (kd i arg5 (harg5.unread x2) 2) ((⟨(kernelRun0_B.sl.r_48 c i arg3 harg3 arg4 harg4 arg5 harg5 arg6 harg6 arg7 harg7 arg8 harg8 arg9 harg9 arg10 harg10 arg11 harg11 arg12 harg12 x0 x1 x2 x3 x4 xo8 xo9), (kernelRun0_B.sl.r_49 c i arg3 harg3 arg4 harg4 arg5 harg5 arg6 harg6 arg7 harg7 arg8 harg8 arg9 harg9 arg10 harg10 arg11 harg11 arg12 harg12 x0 x1 x2 x3 x4 xo8 xo9), (kernelRun0_B.sl.r_50 c i arg3 harg3 arg4 harg4 arg5 harg5 arg6 harg6 arg7 harg7 arg8 harg8 arg9 harg9 arg10 harg10 arg11 harg11 arg12 harg12 x0 x1 x2 x3 x4 xo8 xo9)⟩, ⟨(kernelRun0_B.sl.r_60 c i arg3 harg3 arg4 harg4 arg5 harg5 arg6 harg6 arg7 harg7 arg8 harg8 arg9 harg9 arg10 harg10 arg11 harg11 arg12 harg12 x0 x1 x2 x3 x4 xo8 xo9), (kernelRun0_B.sl.r_61 c i arg3 harg3 arg4 harg4 arg5 harg5 arg6 harg6 arg7 harg7 arg8 harg8 arg9 harg9 arg10 harg10 arg11 harg11 arg12 harg12 x0 x1 x2 x3 x4 xo8 xo9), (kernelRun0_B.sl.r_62 c i arg3 harg3 arg4 harg4 arg5 harg5 arg6 harg6 arg7 harg7 arg8 harg8 arg9 harg9 arg10 harg10 arg11 harg11 arg12 harg12 x0 x1 x2 x3 x4 xo8 xo9)⟩) : Carry F 512 × Carry F 512)) (kernelRun0_B.sl.H8_2 c i arg3 harg3 arg4 harg4 arg5 harg5 arg6 harg6 arg7 harg7 arg8 harg8 arg9 harg9 arg10 harg10 arg11 harg11 arg12 harg12 x0 x1 x2 x3 x4 xo8 xo9) := by
  unfold kernelRun0_B.sl.H8_3 kernelRun0_B.sl.r_81 kernelRun0_B.sl.r_74 kernelRun0_B.sl.r_72 kernelRun0_B.sl.r_89 kernelRun0_B.sl.r_91 kernelRun0_B.sl.r_88 kernelRun0_B.sl.r_90 kernelRun0_B.sl.r_83 kernelRun0_B.sl.r_67 kernelRun0_B.sl.r_69 kernelRun0_B.sl.r_68 kernelRun0_B.sl.r_70 kernelRun0_B.sl.r_85 kernelRun0_B.sl.r_71 kernelRun0_B.sl.r_66 kernelRun0_B.sl.r_65
  generalize (kernelRun0_B.sl.r_48 c i arg3 harg3 arg4 harg4 arg5 harg5 arg6 harg6 arg7 harg7 arg8 harg8 arg9 harg9 arg10 harg10 arg11 harg11 arg12 harg12 x0 x1 x2 x3 x4 xo8 xo9) = y_r_48
  generalize (kernelRun0_B.sl.r_49 c i arg3 harg3 arg4 harg4 arg5 harg5 arg6 harg6 arg7 harg7 arg8 harg8 arg9 harg9 arg10 harg10 arg11 harg11 arg12 harg12 x0 x1 x2 x3 x4 xo8 xo9) = y_r_49
  generalize (kernelRun0_B.sl.r_50 c i arg3 harg3 arg4 harg4 arg5 harg5 arg6 harg6 arg7 harg7 arg8 harg8 arg9 harg9 arg10 harg10 arg11 harg11 arg12 harg12 x0 x1 x2 x3 x4 xo8 xo9) = y_r_50
  generalize (kernelRun0_B.sl.r_60 c i arg3 harg3 arg4 harg4 arg5 harg5 arg6 harg6 arg7 harg7 arg8 harg8 arg9 harg9 arg10 harg10 arg11 harg11 arg12 harg12 x0 x1 x2 x3 x4 xo8 xo9) = y_r_60
  generalize (kernelRun0_B.sl.r_61 c i arg3 harg3 arg4 harg4 arg5 harg5 arg6 harg6 arg7 harg7 arg8 harg8 arg9 harg9 arg10 harg10 arg11 harg11 arg12 harg12 x0 x1 x2 x3 x4 xo8 xo9) = y_r_61
  generalize (kernelRun0_B.sl.r_62 c i arg3 harg3 arg4 harg4 arg5 harg5 arg6 harg6 arg7 harg7 arg8 harg8 arg9 harg9 arg10 harg10 arg11 harg11 arg12 harg12 x0 x1 x2 x3 x4 xo8 xo9) = y_r_62
  generalize (kernelRun0_B.sl.r_1 c arg3 harg3 x0) = y_r_1
  generalize (kernelRun0_B.sl.r_2 c arg3 harg3 x0) = y_r_2
  generalize (kernelRun0_B.sl.r_4 c arg7 harg7 x4) = y_r_4
  generalize (kernelRun0_B.sl.r_5 c arg7 harg7 x4) = y_r_5
  generalize (kernelRun0_B.sl.r_6 c arg6 harg6 x3) = y_r_6
  generalize (kernelRun0_B.sl.r_7 c arg6 harg6 x3) = y_r_7
  rfl

theorem B_H9_2 : (kernelRun0_B.sl.H9_3 c i arg3 harg3 arg4 harg4 arg5 harg5 arg6 harg6 arg7 harg7 arg8 harg8 arg9 harg9 arg10 harg10 arg11 harg11 arg12 harg12 x0 x1 x2 x3 x4 xo8 xo9) = putPiece arg12 (harg12.unread xo9) i 2 (cutDv c256 k0_pay268 (⟨k0_pay244, k0_pay245, ⟨(kernelRun0_B.sl.r_1 c arg3 harg3 x0), (kernelRun0_B.sl.r_4 c arg7 harg7 x4), (kernelRun0_B.sl.r_6 c arg6 harg6 x3)⟩, ⟨(kernelRun0_B.sl.r_2 c arg3 harg3 x0), (kernelRun0_B.sl.r_5 c arg7 harg7 x4), (kernelRun0_B.sl.r_7 c arg6 harg6 x3)⟩⟩ : Env F) (kd i arg4 (harg4.unread x1) 2) ((⟨(kernelRun0_B.sl.r_48 c i arg3 harg3 arg4 harg4 arg5 harg5 arg6 harg6 arg7 harg7 arg8 harg8 arg9 harg9 arg10 harg10 arg11 harg11 arg12 harg12 x0 x1 x2 x3 x4 xo8 xo9), (kernelRun0_B.sl.r_49 c i arg3 harg3 arg4 harg4 arg5 harg5 arg6 harg6 arg7 harg7 arg8 harg8 arg9 harg9 arg10 harg10 arg11 harg11 arg12 harg12 x0 x1 x2 x3 x4 xo8 xo9), (kernelRun0_B.sl.r_50 c i arg3 harg3 arg4 harg4 arg5 harg5 arg6 harg6 arg7 harg7 arg8 harg8 arg9 harg9 arg10 harg10 arg11 harg11 arg12 harg12 x0 x1 x2 x3 x4 xo8 xo9)⟩, ⟨(kernelRun0_B.sl.r_60 c i arg3 harg3 arg4 harg4 arg5 harg5 arg6 harg6 arg7 harg7 arg8 harg8 arg9 harg9 arg10 harg10 arg11 harg11 arg12 harg12 x0 x1 x2 x3 x4 xo8 xo9), (kernelRun0_B.sl.r_61 c i arg3 harg3 arg4 harg4 arg5 harg5 arg6 harg6 arg7 harg7 arg8 harg8 arg9 harg9 arg10 harg10 arg11 harg11 arg12 harg12 x0 x1 x2 x3 x4 xo8 xo9), (kernelRun0_B.sl.r_62 c i arg3 harg3 arg4 harg4 arg5 harg5 arg6 harg6 arg7 harg7 arg8 harg8 arg9 harg9 arg10 harg10 arg11 harg11 arg12 harg12 x0 x1 x2 x3 x4 xo8 xo9)⟩) : Carry F 512 × Carry F 512)) (kernelRun0_B.sl.H9_2 c i arg3 harg3 arg4 harg4 arg5 harg5 arg6 harg6 arg7 harg7 arg8 harg8 arg9 harg9 arg10 harg10 arg11 harg11 arg12 harg12 x0 x1 x2 x3 x4 xo8 xo9) := by
  unfold kernelRun0_B.sl.H9_3 kernelRun0_B.sl.r_95 kernelRun0_B.sl.r_82 kernelRun0_B.sl.r_73 kernelRun0_B.sl.r_72 kernelRun0_B.sl.r_87 kernelRun0_B.sl.r_84 kernelRun0_B.sl.r_69 kernelRun0_B.sl.r_70 kernelRun0_B.sl.r_68 kernelRun0_B.sl.r_71 kernelRun0_B.sl.r_65
  generalize (kernelRun0_B.sl.r_48 c i arg3 harg3 arg4 harg4 arg5 harg5 arg6 harg6 arg7 harg7 arg8 harg8 arg9 harg9 arg10 harg10 arg11 harg11 arg12 harg12 x0 x1 x2 x3 x4 xo8 xo9) = y_r_48
  generalize (kernelRun0_B.sl.r_49 c i arg3 harg3 arg4 harg4 arg5 harg5 arg6 harg6 arg7 harg7 arg8 harg8 arg9 harg9 arg10 harg10 arg11 harg11 arg12 harg12 x0 x1 x2 x3 x4 xo8 xo9) = y_r_49
  generalize (kernelRun0_B.sl.r_50 c i arg3 harg3 arg4 harg4 arg5 harg5 arg6 harg6 arg7 harg7 arg8 harg8 arg9 harg9 arg10 harg10 arg11 harg11 arg12 harg12 x0 x1 x2 x3 x4 xo8 xo9) = y_r_50
  generalize (kernelRun0_B.sl.r_60 c i arg3 harg3 arg4 harg4 arg5 harg5 arg6 harg6 arg7 harg7 arg8 harg8 arg9 harg9 arg10 harg10 arg11 harg11 arg12 harg12 x0 x1 x2 x3 x4 xo8 xo9) = y_r_60
  generalize (kernelRun0_B.sl.r_61 c i arg3 harg3 arg4 harg4 arg5 harg5 arg6 harg6 arg7 harg7 arg8 harg8 arg9 harg9 arg10 harg10 arg11 harg11 arg12 harg12 x0 x1 x2 x3 x4 xo8 xo9) = y_r_61
  generalize (kernelRun0_B.sl.r_62 c i arg3 harg3 arg4 harg4 arg5 harg5 arg6 harg6 arg7 harg7 arg8 harg8 arg9 harg9 arg10 harg10 arg11 harg11 arg12 harg12 x0 x1 x2 x3 x4 xo8 xo9) = y_r_62
  generalize (kernelRun0_B.sl.r_1 c arg3 harg3 x0) = y_r_1
  generalize (kernelRun0_B.sl.r_2 c arg3 harg3 x0) = y_r_2
  generalize (kernelRun0_B.sl.r_4 c arg7 harg7 x4) = y_r_4
  generalize (kernelRun0_B.sl.r_5 c arg7 harg7 x4) = y_r_5
  generalize (kernelRun0_B.sl.r_6 c arg6 harg6 x3) = y_r_6
  generalize (kernelRun0_B.sl.r_7 c arg6 harg6 x3) = y_r_7
  rfl

theorem B_out : outq (cutNext c128 k0_pay269 (⟨k0_pay244, k0_pay245, ⟨(kernelRun0_B.sl.r_1 c arg3 harg3 x0), (kernelRun0_B.sl.r_4 c arg7 harg7 x4), (kernelRun0_B.sl.r_6 c arg6 harg6 x3)⟩, ⟨(kernelRun0_B.sl.r_2 c arg3 harg3 x0), (kernelRun0_B.sl.r_5 c arg7 harg7 x4), (kernelRun0_B.sl.r_7 c arg6 harg6 x3)⟩⟩ : Env F) (kd i arg4 (harg4.unread x1) 3) (kd i arg5 (harg5.unread x2) 3) ((⟨(kernelRun0_B.sl.r_77 c i arg3 harg3 arg4 harg4 arg5 harg5 arg6 harg6 arg7 harg7 arg8 harg8 arg9 harg9 arg10 harg10 arg11 harg11 arg12 harg12 x0 x1 x2 x3 x4 xo8 xo9), (kernelRun0_B.sl.r_79 c i arg3 harg3 arg4 harg4 arg5 harg5 arg6 harg6 arg7 harg7 arg8 harg8 arg9 harg9 arg10 harg10 arg11 harg11 arg12 harg12 x0 x1 x2 x3 x4 xo8 xo9), (kernelRun0_B.sl.r_80 c i arg3 harg3 arg4 harg4 arg5 harg5 arg6 harg6 arg7 harg7 arg8 harg8 arg9 harg9 arg10 harg10 arg11 harg11 arg12 harg12 x0 x1 x2 x3 x4 xo8 xo9)⟩, ⟨(kernelRun0_B.sl.r_92 c i arg3 harg3 arg4 harg4 arg5 harg5 arg6 harg6 arg7 harg7 arg8 harg8 arg9 harg9 arg10 harg10 arg11 harg11 arg12 harg12 x0 x1 x2 x3 x4 xo8 xo9), (kernelRun0_B.sl.r_93 c i arg3 harg3 arg4 harg4 arg5 harg5 arg6 harg6 arg7 harg7 arg8 harg8 arg9 harg9 arg10 harg10 arg11 harg11 arg12 harg12 x0 x1 x2 x3 x4 xo8 xo9), (kernelRun0_B.sl.r_94 c i arg3 harg3 arg4 harg4 arg5 harg5 arg6 harg6 arg7 harg7 arg8 harg8 arg9 harg9 arg10 harg10 arg11 harg11 arg12 harg12 x0 x1 x2 x3 x4 xo8 xo9)⟩) : Carry F 512 × Carry F 512)) = k0_pay1 lane (kernelRun0_B.sl.r_104 c i arg3 harg3 arg4 harg4 arg5 harg5 arg6 harg6 arg7 harg7 arg8 harg8 arg9 harg9 arg10 harg10 arg11 harg11 arg12 harg12 x0 x1 x2 x3 x4 xo8 xo9) (kernelRun0_B.sl.r_113 c i arg3 harg3 arg4 harg4 arg5 harg5 arg6 harg6 arg7 harg7 arg8 harg8 arg9 harg9 arg10 harg10 arg11 harg11 arg12 harg12 x0 x1 x2 x3 x4 xo8 xo9) 64#32 (k0_pay410 lane) (k0_pay411 lane) 1#32 0#1 := by
  unfold kernelRun0_B.sl.r_104 kernelRun0_B.sl.r_113 kernelRun0_B.sl.r_102 kernelRun0_B.sl.r_112 kernelRun0_B.sl.r_108 kernelRun0_B.sl.r_109 kernelRun0_B.sl.r_110 kernelRun0_B.sl.r_99 kernelRun0_B.sl.r_101 kernelRun0_B.sl.r_100 kernelRun0_B.sl.r_103 kernelRun0_B.sl.r_96 kernelRun0_B.sl.r_97
  generalize (kernelRun0_B.sl.r_1 c arg3 harg3 x0) = y_r_1
  generalize (kernelRun0_B.sl.r_2 c arg3 harg3 x0) = y_r_2
  generalize (kernelRun0_B.sl.r_4 c arg7 harg7 x4) = y_r_4
  generalize (kernelRun0_B.sl.r_5 c arg7 harg7 x4) = y_r_5
  generalize (kernelRun0_B.sl.r_6 c arg6 harg6 x3) = y_r_6
  generalize (kernelRun0_B.sl.r_7 c arg6 harg6 x3) = y_r_7
  generalize (kernelRun0_B.sl.r_77 c i arg3 harg3 arg4 harg4 arg5 harg5 arg6 harg6 arg7 harg7 arg8 harg8 arg9 harg9 arg10 harg10 arg11 harg11 arg12 harg12 x0 x1 x2 x3 x4 xo8 xo9) = y_r_77
  generalize (kernelRun0_B.sl.r_79 c i arg3 harg3 arg4 harg4 arg5 harg5 arg6 harg6 arg7 harg7 arg8 harg8 arg9 harg9 arg10 harg10 arg11 harg11 arg12 harg12 x0 x1 x2 x3 x4 xo8 xo9) = y_r_79
  generalize (kernelRun0_B.sl.r_80 c i arg3 harg3 arg4 harg4 arg5 harg5 arg6 harg6 arg7 harg7 arg8 harg8 arg9 harg9 arg10 harg10 arg11 harg11 arg12 harg12 x0 x1 x2 x3 x4 xo8 xo9) = y_r_80
  generalize (kernelRun0_B.sl.r_92 c i arg3 harg3 arg4 harg4 arg5 harg5 arg6 harg6 arg7 harg7 arg8 harg8 arg9 harg9 arg10 harg10 arg11 harg11 arg12 harg12 x0 x1 x2 x3 x4 xo8 xo9) = y_r_92
  generalize (kernelRun0_B.sl.r_93 c i arg3 harg3 arg4 harg4 arg5 harg5 arg6 harg6 arg7 harg7 arg8 harg8 arg9 harg9 arg10 harg10 arg11 harg11 arg12 harg12 x0 x1 x2 x3 x4 xo8 xo9) = y_r_93
  generalize (kernelRun0_B.sl.r_94 c i arg3 harg3 arg4 harg4 arg5 harg5 arg6 harg6 arg7 harg7 arg8 harg8 arg9 harg9 arg10 harg10 arg11 harg11 arg12 harg12 x0 x1 x2 x3 x4 xo8 xo9) = y_r_94
  rfl

theorem B_H8_3 (hc0 : ¬cond0_0 i) : (kernelRun0_B c i arg3 harg3 arg4 harg4 arg5 harg5 arg6 harg6 arg7 harg7 arg8 harg8 arg9 harg9 arg10 harg10 arg11 harg11 arg12 harg12 hc0 x0 x1 x2 x3 x4 x5 x6 xo8 xo9).2.1 = putPiece arg11 (harg11.unread xo8) i 3 (cutDk c128 k0_pay269 (⟨k0_pay244, k0_pay245, ⟨(kernelRun0_B.sl.r_1 c arg3 harg3 x0), (kernelRun0_B.sl.r_4 c arg7 harg7 x4), (kernelRun0_B.sl.r_6 c arg6 harg6 x3)⟩, ⟨(kernelRun0_B.sl.r_2 c arg3 harg3 x0), (kernelRun0_B.sl.r_5 c arg7 harg7 x4), (kernelRun0_B.sl.r_7 c arg6 harg6 x3)⟩⟩ : Env F) (kd i arg4 (harg4.unread x1) 3) (kd i arg5 (harg5.unread x2) 3) ((⟨(kernelRun0_B.sl.r_77 c i arg3 harg3 arg4 harg4 arg5 harg5 arg6 harg6 arg7 harg7 arg8 harg8 arg9 harg9 arg10 harg10 arg11 harg11 arg12 harg12 x0 x1 x2 x3 x4 xo8 xo9), (kernelRun0_B.sl.r_79 c i arg3 harg3 arg4 harg4 arg5 harg5 arg6 harg6 arg7 harg7 arg8 harg8 arg9 harg9 arg10 harg10 arg11 harg11 arg12 harg12 x0 x1 x2 x3 x4 xo8 xo9), (kernelRun0_B.sl.r_80 c i arg3 harg3 arg4 harg4 arg5 harg5 arg6 harg6 arg7 harg7 arg8 harg8 arg9 harg9 arg10 harg10 arg11 harg11 arg12 harg12 x0 x1 x2 x3 x4 xo8 xo9)⟩, ⟨(kernelRun0_B.sl.r_92 c i arg3 harg3 arg4 harg4 arg5 harg5 arg6 harg6 arg7 harg7 arg8 harg8 arg9 harg9 arg10 harg10 arg11 harg11 arg12 harg12 x0 x1 x2 x3 x4 xo8 xo9), (kernelRun0_B.sl.r_93 c i arg3 harg3 arg4 harg4 arg5 harg5 arg6 harg6 arg7 harg7 arg8 harg8 arg9 harg9 arg10 harg10 arg11 harg11 arg12 harg12 x0 x1 x2 x3 x4 xo8 xo9), (kernelRun0_B.sl.r_94 c i arg3 harg3 arg4 harg4 arg5 harg5 arg6 harg6 arg7 harg7 arg8 harg8 arg9 harg9 arg10 harg10 arg11 harg11 arg12 harg12 x0 x1 x2 x3 x4 xo8 xo9)⟩) : Carry F 512 × Carry F 512)) (kernelRun0_B.sl.H8_3 c i arg3 harg3 arg4 harg4 arg5 harg5 arg6 harg6 arg7 harg7 arg8 harg8 arg9 harg9 arg10 harg10 arg11 harg11 arg12 harg12 x0 x1 x2 x3 x4 xo8 xo9) := by
  unfold kernelRun0_B
  dsimp only
  simp only [kernelRun0_B.sl.r_104, kernelRun0_B.sl.r_105, kernelRun0_B.sl.r_106, kernelRun0_B.sl.r_102, kernelRun0_B.sl.r_113, kernelRun0_B.sl.r_112, kernelRun0_B.sl.r_111, kernelRun0_B.sl.r_99, kernelRun0_B.sl.r_101, kernelRun0_B.sl.r_100, kernelRun0_B.sl.r_103, kernelRun0_B.sl.r_98, kernelRun0_B.sl.r_108, kernelRun0_B.sl.r_109, kernelRun0_B.sl.r_110, kernelRun0_B.sl.r_107, kernelRun0_B.sl.r_96, kernelRun0_B.sl.r_97, kernelRun0_B.sl.v4]
  generalize (kernelRun0_B.sl.r_1 c arg3 harg3 x0) = y_r_1
  generalize (kernelRun0_B.sl.r_2 c arg3 harg3 x0) = y_r_2
  generalize (kernelRun0_B.sl.r_4 c arg7 harg7 x4) = y_r_4
  generalize (kernelRun0_B.sl.r_5 c arg7 harg7 x4) = y_r_5
  generalize (kernelRun0_B.sl.r_6 c arg6 harg6 x3) = y_r_6
  generalize (kernelRun0_B.sl.r_7 c arg6 harg6 x3) = y_r_7
  generalize (kernelRun0_B.sl.r_77 c i arg3 harg3 arg4 harg4 arg5 harg5 arg6 harg6 arg7 harg7 arg8 harg8 arg9 harg9 arg10 harg10 arg11 harg11 arg12 harg12 x0 x1 x2 x3 x4 xo8 xo9) = y_r_77
  generalize (kernelRun0_B.sl.r_79 c i arg3 harg3 arg4 harg4 arg5 harg5 arg6 harg6 arg7 harg7 arg8 harg8 arg9 harg9 arg10 harg10 arg11 harg11 arg12 harg12 x0 x1 x2 x3 x4 xo8 xo9) = y_r_79
  generalize (kernelRun0_B.sl.r_80 c i arg3 harg3 arg4 harg4 arg5 harg5 arg6 harg6 arg7 harg7 arg8 harg8 arg9 harg9 arg10 harg10 arg11 harg11 arg12 harg12 x0 x1 x2 x3 x4 xo8 xo9) = y_r_80
  generalize (kernelRun0_B.sl.r_92 c i arg3 harg3 arg4 harg4 arg5 harg5 arg6 harg6 arg7 harg7 arg8 harg8 arg9 harg9 arg10 harg10 arg11 harg11 arg12 harg12 x0 x1 x2 x3 x4 xo8 xo9) = y_r_92
  generalize (kernelRun0_B.sl.r_93 c i arg3 harg3 arg4 harg4 arg5 harg5 arg6 harg6 arg7 harg7 arg8 harg8 arg9 harg9 arg10 harg10 arg11 harg11 arg12 harg12 x0 x1 x2 x3 x4 xo8 xo9) = y_r_93
  generalize (kernelRun0_B.sl.r_94 c i arg3 harg3 arg4 harg4 arg5 harg5 arg6 harg6 arg7 harg7 arg8 harg8 arg9 harg9 arg10 harg10 arg11 harg11 arg12 harg12 x0 x1 x2 x3 x4 xo8 xo9) = y_r_94
  rfl

theorem B_H9_3 (hc0 : ¬cond0_0 i) : (kernelRun0_B c i arg3 harg3 arg4 harg4 arg5 harg5 arg6 harg6 arg7 harg7 arg8 harg8 arg9 harg9 arg10 harg10 arg11 harg11 arg12 harg12 hc0 x0 x1 x2 x3 x4 x5 x6 xo8 xo9).2.2.1 = putPiece arg12 (harg12.unread xo9) i 3 (cutDv c128 k0_pay269 (⟨k0_pay244, k0_pay245, ⟨(kernelRun0_B.sl.r_1 c arg3 harg3 x0), (kernelRun0_B.sl.r_4 c arg7 harg7 x4), (kernelRun0_B.sl.r_6 c arg6 harg6 x3)⟩, ⟨(kernelRun0_B.sl.r_2 c arg3 harg3 x0), (kernelRun0_B.sl.r_5 c arg7 harg7 x4), (kernelRun0_B.sl.r_7 c arg6 harg6 x3)⟩⟩ : Env F) (kd i arg4 (harg4.unread x1) 3) ((⟨(kernelRun0_B.sl.r_77 c i arg3 harg3 arg4 harg4 arg5 harg5 arg6 harg6 arg7 harg7 arg8 harg8 arg9 harg9 arg10 harg10 arg11 harg11 arg12 harg12 x0 x1 x2 x3 x4 xo8 xo9), (kernelRun0_B.sl.r_79 c i arg3 harg3 arg4 harg4 arg5 harg5 arg6 harg6 arg7 harg7 arg8 harg8 arg9 harg9 arg10 harg10 arg11 harg11 arg12 harg12 x0 x1 x2 x3 x4 xo8 xo9), (kernelRun0_B.sl.r_80 c i arg3 harg3 arg4 harg4 arg5 harg5 arg6 harg6 arg7 harg7 arg8 harg8 arg9 harg9 arg10 harg10 arg11 harg11 arg12 harg12 x0 x1 x2 x3 x4 xo8 xo9)⟩, ⟨(kernelRun0_B.sl.r_92 c i arg3 harg3 arg4 harg4 arg5 harg5 arg6 harg6 arg7 harg7 arg8 harg8 arg9 harg9 arg10 harg10 arg11 harg11 arg12 harg12 x0 x1 x2 x3 x4 xo8 xo9), (kernelRun0_B.sl.r_93 c i arg3 harg3 arg4 harg4 arg5 harg5 arg6 harg6 arg7 harg7 arg8 harg8 arg9 harg9 arg10 harg10 arg11 harg11 arg12 harg12 x0 x1 x2 x3 x4 xo8 xo9), (kernelRun0_B.sl.r_94 c i arg3 harg3 arg4 harg4 arg5 harg5 arg6 harg6 arg7 harg7 arg8 harg8 arg9 harg9 arg10 harg10 arg11 harg11 arg12 harg12 x0 x1 x2 x3 x4 xo8 xo9)⟩) : Carry F 512 × Carry F 512)) (kernelRun0_B.sl.H9_3 c i arg3 harg3 arg4 harg4 arg5 harg5 arg6 harg6 arg7 harg7 arg8 harg8 arg9 harg9 arg10 harg10 arg11 harg11 arg12 harg12 x0 x1 x2 x3 x4 xo8 xo9) := by
  unfold kernelRun0_B
  dsimp only
  simp only [kernelRun0_B.sl.r_104, kernelRun0_B.sl.r_105, kernelRun0_B.sl.r_106, kernelRun0_B.sl.r_102, kernelRun0_B.sl.r_113, kernelRun0_B.sl.r_112, kernelRun0_B.sl.r_111, kernelRun0_B.sl.r_99, kernelRun0_B.sl.r_101, kernelRun0_B.sl.r_100, kernelRun0_B.sl.r_103, kernelRun0_B.sl.r_98, kernelRun0_B.sl.r_108, kernelRun0_B.sl.r_109, kernelRun0_B.sl.r_110, kernelRun0_B.sl.r_107, kernelRun0_B.sl.r_96, kernelRun0_B.sl.r_97, kernelRun0_B.sl.v4]
  generalize (kernelRun0_B.sl.r_1 c arg3 harg3 x0) = y_r_1
  generalize (kernelRun0_B.sl.r_2 c arg3 harg3 x0) = y_r_2
  generalize (kernelRun0_B.sl.r_4 c arg7 harg7 x4) = y_r_4
  generalize (kernelRun0_B.sl.r_5 c arg7 harg7 x4) = y_r_5
  generalize (kernelRun0_B.sl.r_6 c arg6 harg6 x3) = y_r_6
  generalize (kernelRun0_B.sl.r_7 c arg6 harg6 x3) = y_r_7
  generalize (kernelRun0_B.sl.r_77 c i arg3 harg3 arg4 harg4 arg5 harg5 arg6 harg6 arg7 harg7 arg8 harg8 arg9 harg9 arg10 harg10 arg11 harg11 arg12 harg12 x0 x1 x2 x3 x4 xo8 xo9) = y_r_77
  generalize (kernelRun0_B.sl.r_79 c i arg3 harg3 arg4 harg4 arg5 harg5 arg6 harg6 arg7 harg7 arg8 harg8 arg9 harg9 arg10 harg10 arg11 harg11 arg12 harg12 x0 x1 x2 x3 x4 xo8 xo9) = y_r_79
  generalize (kernelRun0_B.sl.r_80 c i arg3 harg3 arg4 harg4 arg5 harg5 arg6 harg6 arg7 harg7 arg8 harg8 arg9 harg9 arg10 harg10 arg11 harg11 arg12 harg12 x0 x1 x2 x3 x4 xo8 xo9) = y_r_80
  generalize (kernelRun0_B.sl.r_92 c i arg3 harg3 arg4 harg4 arg5 harg5 arg6 harg6 arg7 harg7 arg8 harg8 arg9 harg9 arg10 harg10 arg11 harg11 arg12 harg12 x0 x1 x2 x3 x4 xo8 xo9) = y_r_92
  generalize (kernelRun0_B.sl.r_93 c i arg3 harg3 arg4 harg4 arg5 harg5 arg6 harg6 arg7 harg7 arg8 harg8 arg9 harg9 arg10 harg10 arg11 harg11 arg12 harg12 x0 x1 x2 x3 x4 xo8 xo9) = y_r_93
  generalize (kernelRun0_B.sl.r_94 c i arg3 harg3 arg4 harg4 arg5 harg5 arg6 harg6 arg7 harg7 arg8 harg8 arg9 harg9 arg10 harg10 arg11 harg11 arg12 harg12 x0 x1 x2 x3 x4 xo8 xo9) = y_r_94
  rfl

theorem B_d0 : ((⟨(kernelRun0_B.sl.r_8 c i arg3 harg3 arg4 harg4 arg5 harg5 arg6 harg6 arg7 harg7 arg8 harg8 arg9 harg9 arg10 harg10 arg11 harg11 arg12 harg12 x0 x1 x2 x3 x4 xo8 xo9), (kernelRun0_B.sl.r_9 c i arg3 harg3 arg4 harg4 arg5 harg5 arg6 harg6 arg7 harg7 arg8 harg8 arg9 harg9 arg10 harg10 arg11 harg11 arg12 harg12 x0 x1 x2 x3 x4 xo8 xo9), (kernelRun0_B.sl.r_10 c i arg3 harg3 arg4 harg4 arg5 harg5 arg6 harg6 arg7 harg7 arg8 harg8 arg9 harg9 arg10 harg10 arg11 harg11 arg12 harg12 x0 x1 x2 x3 x4 xo8 xo9)⟩, ⟨(kernelRun0_B.sl.r_11 c i arg3 harg3 arg4 harg4 arg5 harg5 arg6 harg6 arg7 harg7 arg8 harg8 arg9 harg9 arg10 harg10 arg11 harg11 arg12 harg12 x0 x1 x2 x3 x4 xo8 xo9), (kernelRun0_B.sl.r_12 c i arg3 harg3 arg4 harg4 arg5 harg5 arg6 harg6 arg7 harg7 arg8 harg8 arg9 harg9 arg10 harg10 arg11 harg11 arg12 harg12 x0 x1 x2 x3 x4 xo8 xo9), (kernelRun0_B.sl.r_13 c i arg3 harg3 arg4 harg4 arg5 harg5 arg6 harg6 arg7 harg7 arg8 harg8 arg9 harg9 arg10 harg10 arg11 harg11 arg12 harg12 x0 x1 x2 x3 x4 xo8 xo9)⟩) : Carry F 512 × Carry F 512) = (unpack (after1 c i arg3 harg3 arg4 harg4 arg5 harg5 arg6 harg6 arg7 harg7 arg8 harg8 arg9 harg9 arg10 harg10 arg11 harg11 arg12 harg12 (harg11.unread xo8) (harg12.unread xo9) x0 x1 x2 x3 x4).1) := by
  rw [B_c0, after2_eq]

theorem B_d1 : ((⟨(kernelRun0_B.sl.r_21 c i arg3 harg3 arg4 harg4 arg5 harg5 arg6 harg6 arg7 harg7 arg8 harg8 arg9 harg9 arg10 harg10 arg11 harg11 arg12 harg12 x0 x1 x2 x3 x4 xo8 xo9), (kernelRun0_B.sl.r_22 c i arg3 harg3 arg4 harg4 arg5 harg5 arg6 harg6 arg7 harg7 arg8 harg8 arg9 harg9 arg10 harg10 arg11 harg11 arg12 harg12 x0 x1 x2 x3 x4 xo8 xo9), (kernelRun0_B.sl.r_23 c i arg3 harg3 arg4 harg4 arg5 harg5 arg6 harg6 arg7 harg7 arg8 harg8 arg9 harg9 arg10 harg10 arg11 harg11 arg12 harg12 x0 x1 x2 x3 x4 xo8 xo9)⟩, ⟨(kernelRun0_B.sl.r_31 c i arg3 harg3 arg4 harg4 arg5 harg5 arg6 harg6 arg7 harg7 arg8 harg8 arg9 harg9 arg10 harg10 arg11 harg11 arg12 harg12 x0 x1 x2 x3 x4 xo8 xo9), (kernelRun0_B.sl.r_32 c i arg3 harg3 arg4 harg4 arg5 harg5 arg6 harg6 arg7 harg7 arg8 harg8 arg9 harg9 arg10 harg10 arg11 harg11 arg12 harg12 x0 x1 x2 x3 x4 xo8 xo9), (kernelRun0_B.sl.r_33 c i arg3 harg3 arg4 harg4 arg5 harg5 arg6 harg6 arg7 harg7 arg8 harg8 arg9 harg9 arg10 harg10 arg11 harg11 arg12 harg12 x0 x1 x2 x3 x4 xo8 xo9)⟩) : Carry F 512 × Carry F 512) = diag1 (genv arg3 harg3 arg6 harg6 arg7 harg7 x0 x3 x4) (kd i arg4 (harg4.unread x1)) (kd i arg5 (harg5.unread x2)) (unpack (after1 c i arg3 harg3 arg4 harg4 arg5 harg5 arg6 harg6 arg7 harg7 arg8 harg8 arg9 harg9 arg10 harg10 arg11 harg11 arg12 harg12 (harg11.unread xo8) (harg12.unread xo9) x0 x1 x2 x3 x4).1) := by
  rw [B_c1, B_env, B_d0]
  rfl

theorem B_d2 : ((⟨(kernelRun0_B.sl.r_48 c i arg3 harg3 arg4 harg4 arg5 harg5 arg6 harg6 arg7 harg7 arg8 harg8 arg9 harg9 arg10 harg10 arg11 harg11 arg12 harg12 x0 x1 x2 x3 x4 xo8 xo9), (kernelRun0_B.sl.r_49 c i arg3 harg3 arg4 harg4 arg5 harg5 arg6 harg6 arg7 harg7 arg8 harg8 arg9 harg9 arg10 harg10 arg11 harg11 arg12 harg12 x0 x1 x2 x3 x4 xo8 xo9), (kernelRun0_B.sl.r_50 c i arg3 harg3 arg4 harg4 arg5 harg5 arg6 harg6 arg7 harg7 arg8 harg8 arg9 harg9 arg10 harg10 arg11 harg11 arg12 harg12 x0 x1 x2 x3 x4 xo8 xo9)⟩, ⟨(kernelRun0_B.sl.r_60 c i arg3 harg3 arg4 harg4 arg5 harg5 arg6 harg6 arg7 harg7 arg8 harg8 arg9 harg9 arg10 harg10 arg11 harg11 arg12 harg12 x0 x1 x2 x3 x4 xo8 xo9), (kernelRun0_B.sl.r_61 c i arg3 harg3 arg4 harg4 arg5 harg5 arg6 harg6 arg7 harg7 arg8 harg8 arg9 harg9 arg10 harg10 arg11 harg11 arg12 harg12 x0 x1 x2 x3 x4 xo8 xo9), (kernelRun0_B.sl.r_62 c i arg3 harg3 arg4 harg4 arg5 harg5 arg6 harg6 arg7 harg7 arg8 harg8 arg9 harg9 arg10 harg10 arg11 harg11 arg12 harg12 x0 x1 x2 x3 x4 xo8 xo9)⟩) : Carry F 512 × Carry F 512) = diag2 (genv arg3 harg3 arg6 harg6 arg7 harg7 x0 x3 x4) (kd i arg4 (harg4.unread x1)) (kd i arg5 (harg5.unread x2)) (unpack (after1 c i arg3 harg3 arg4 harg4 arg5 harg5 arg6 harg6 arg7 harg7 arg8 harg8 arg9 harg9 arg10 harg10 arg11 harg11 arg12 harg12 (harg11.unread xo8) (harg12.unread xo9) x0 x1 x2 x3 x4).1) := by
  rw [B_c2, B_env, B_d1]
  rfl

theorem B_d3 : ((⟨(kernelRun0_B.sl.r_77 c i arg3 harg3 arg4 harg4 arg5 harg5 arg6 harg6 arg7 harg7 arg8 harg8 arg9 harg9 arg10 harg10 arg11 harg11 arg12 harg12 x0 x1 x2 x3 x4 xo8 xo9), (kernelRun0_B.sl.r_79 c i arg3 harg3 arg4 harg4 arg5 harg5 arg6 harg6 arg7 harg7 arg8 harg8 arg9 harg9 arg10 harg10 arg11 harg11 arg12 harg12 x0 x1 x2 x3 x4 xo8 xo9), (kernelRun0_B.sl.r_80 c i arg3 harg3 arg4 harg4 arg5 harg5 arg6 harg6 arg7 harg7 arg8 harg8 arg9 harg9 arg10 harg10 arg11 harg11 arg12 harg12 x0 x1 x2 x3 x4 xo8 xo9)⟩, ⟨(kernelRun0_B.sl.r_92 c i arg3 harg3 arg4 harg4 arg5 harg5 arg6 harg6 arg7 harg7 arg8 harg8 arg9 harg9 arg10 harg10 arg11 harg11 arg12 harg12 x0 x1 x2 x3 x4 xo8 xo9), (kernelRun0_B.sl.r_93 c i arg3 harg3 arg4 harg4 arg5 harg5 arg6 harg6 arg7 harg7 arg8 harg8 arg9 harg9 arg10 harg10 arg11 harg11 arg12 harg12 x0 x1 x2 x3 x4 xo8 xo9), (kernelRun0_B.sl.r_94 c i arg3 harg3 arg4 harg4 arg5 harg5 arg6 harg6 arg7 harg7 arg8 harg8 arg9 harg9 arg10 harg10 arg11 harg11 arg12 harg12 x0 x1 x2 x3 x4 xo8 xo9)⟩) : Carry F 512 × Carry F 512) = diag3 (genv arg3 harg3 arg6 harg6 arg7 harg7 x0 x3 x4) (kd i arg4 (harg4.unread x1)) (kd i arg5 (harg5.unread x2)) (unpack (after1 c i arg3 harg3 arg4 harg4 arg5 harg5 arg6 harg6 arg7 harg7 arg8 harg8 arg9 harg9 arg10 harg10 arg11 harg11 arg12 harg12 (harg11.unread xo8) (harg12.unread xo9) x0 x1 x2 x3 x4).1) := by
  rw [B_c3, B_env, B_d2]
  rfl

theorem B_run10 (hc0 : ¬cond0_0 i) : (kernelRun0_B c i arg3 harg3 arg4 harg4 arg5 harg5 arg6 harg6 arg7 harg7 arg8 harg8 arg9 harg9 arg10 harg10 arg11 harg11 arg12 harg12 hc0 x0 x1 x2 x3 x4 x5 x6 xo8 xo9).1 = [⟨Rect.unit (s := S1x512x128) ![0, 0, 0] S1x512x128.size inb_S1x512x128_S1x512x128_0_0_0, outq (diag4 (genv arg3 harg3 arg6 harg6 arg7 harg7 x0 x3 x4) (kd i arg4 (harg4.unread x1)) (kd i arg5 (harg5.unread x2)) (unpack (after1 c i arg3 harg3 arg4 harg4 arg5 harg5 arg6 harg6 arg7 harg7 arg8 harg8 arg9 harg9 arg10 harg10 arg11 harg11 arg12 harg12 (harg11.unread xo8) (harg12.unread xo9) x0 x1 x2 x3 x4).1))⟩] := by
  have h := B_out (F := F) c i arg3 harg3 arg4 harg4 arg5 harg5 arg6 harg6 arg7 harg7 arg8 harg8 arg9 harg9 arg10 harg10 arg11 harg11 arg12 harg12 x0 x1 x2 x3 x4 xo8 xo9
  rw [B_env, B_d3] at h
  unfold diag4
  rw [h]
  unfold kernelRun0_B
  rfl

theorem B_run11 (hc0 : ¬cond0_0 i) : (kernelRun0_B c i arg3 harg3 arg4 harg4 arg5 harg5 arg6 harg6 arg7 harg7 arg8 harg8 arg9 harg9 arg10 harg10 arg11 harg11 arg12 harg12 hc0 x0 x1 x2 x3 x4 x5 x6 xo8 xo9).2.1 = put11 i arg11 (harg11.unread xo8) (genv arg3 harg3 arg6 harg6 arg7 harg7 x0 x3 x4) (kd i arg4 (harg4.unread x1)) (kd i arg5 (harg5.unread x2)) (unpack (after1 c i arg3 harg3 arg4 harg4 arg5 harg5 arg6 harg6 arg7 harg7 arg8 harg8 arg9 harg9 arg10 harg10 arg11 harg11 arg12 harg12 (harg11.unread xo8) (harg12.unread xo9) x0 x1 x2 x3 x4).1) (after1 c i arg3 harg3 arg4 harg4 arg5 harg5 arg6 harg6 arg7 harg7 arg8 harg8 arg9 harg9 arg10 harg10 arg11 harg11 arg12 harg12 (harg11.unread xo8) (harg12.unread xo9) x0 x1 x2 x3 x4).2.1 := by
  rw [B_H8_3, B_H8_2, B_H8_1, B_H8_0, B_env, B_d3, B_d2, B_d1, B_d0, after2_eq]
  rfl

theorem B_run12 (hc0 : ¬cond0_0 i) : (kernelRun0_B c i arg3 harg3 arg4 harg4 arg5 harg5 arg6 harg6 arg7 harg7 arg8 harg8 arg9 harg9 arg10 harg10 arg11 harg11 arg12 harg12 hc0 x0 x1 x2 x3 x4 x5 x6 xo8 xo9).2.2.1 = put12 i arg12 (harg12.unread xo9) (genv arg3 harg3 arg6 harg6 arg7 harg7 x0 x3 x4) (kd i arg4 (harg4.unread x1)) (kd i arg5 (harg5.unread x2)) (unpack (after1 c i arg3 harg3 arg4 harg4 arg5 harg5 arg6 harg6 arg7 harg7 arg8 harg8 arg9 harg9 arg10 harg10 arg11 harg11 arg12 harg12 (harg11.unread xo8) (harg12.unread xo9) x0 x1 x2 x3 x4).1) (after1 c i arg3 harg3 arg4 harg4 arg5 harg5 arg6 harg6 arg7 harg7 arg8 harg8 arg9 harg9 arg10 harg10 arg11 harg11 arg12 harg12 (harg11.unread xo8) (harg12.unread xo9) x0 x1 x2 x3 x4).2.2 := by
  rw [B_H9_3, B_H9_2, B_H9_1, B_H9_0, B_env, B_d3, B_d2, B_d1, B_d0, after2_eq]
  rfl

end RunB

end Cert.Tile

end
-- ==== Proof.Point.lean ====
module

public import proofs.«01_k».proof.Proof.Stores
public import proofs.«01_k».proof.Proof.PointA
public import proofs.«01_k».proof.Proof.PointB

@[expose] public section

set_option maxRecDepth 16384

noncomputable section

open scoped BigOperators

/-! # What one grid point leaves -/

namespace Cert.Tile

open Idealize.ShloMosaic Idealize.ShloMosaic.TcCoe Cert.KernelIdeal Cert.KernelIdeal.Gen Cert.Stick

/-- The operands of a block's two heads from the rows of the queries, the keys, the values and the cotangents. -/
def mkOps (N : ℕ) (Q D K V : ℕ → Fin 128 → ℝ) : Ops where
  N := N
  q h t l := if h = 0 then (if l.val < 64 then Q t l * (1 / 8) else 0) else (if l.val < 64 then 0 else Q t l * (1 / 8))
  d h t l := if h = 0 then (if l.val < 64 then D t l else 0) else (if l.val < 64 then 0 else D t l)
  k := K
  v := V

/-- A grid point's blocks. -/
structure InAt (N : ℕ) (Q D K V : ℕ → Fin 128 → ℝ) (t0 : ℕ) (x0 : Vec Ideal S1x512x128 .bf16) (x1 x2 : Vec Ideal S1x2048x128 .bf16)
    (x3 : Vec Ideal S1x512x128 .f32) (x4 : Vec Ideal S1x512x128 .bf16) : Prop where
  q : ∀ (a : Fin 512) (l : Fin 128), x0 (ix3 0 a l) = (Q (t0 + a.val) l : EReal)
  k : ∀ (s : Fin 2048) (l : Fin 128), x1 (ix3 0 s l) = (K s.val l : EReal)
  v : ∀ (s : Fin 2048) (l : Fin 128), x2 (ix3 0 s l) = (V s.val l : EReal)
  lt0 : ∀ a : Fin 512, x3 (ix3 0 a 0) = ((∑ s ∈ Finset.range N, ((mkOps N Q D K V).head 0).kp (t0 + a.val) s : ℝ) : EReal)
  lt1 : ∀ a : Fin 512, x3 (ix3 0 a 64) = ((∑ s ∈ Finset.range N, ((mkOps N Q D K V).head 1).kp (t0 + a.val) s : ℝ) : EReal)
  d : ∀ (a : Fin 512) (l : Fin 128), x4 (ix3 0 a l) = (D (t0 + a.val) l : EReal)

/-- 128 rows of a block as a tile's operand. -/
theorem blk_at (a : Memref sig .tc .vmem S1x2048x128 .bf16) (ha : a.IsWhole) {x : Vec Ideal S1x2048x128 .bf16} {K : ℕ → Fin 128 → ℝ}
    (hx : ∀ (s : Fin 2048) (l : Fin 128), x (ix3 0 s l) = (K s.val l : EReal)) {off : Fin 3 → ℕ}
    {inb : ∀ y, off y + S1x128x128.size y ≤ S1x2048x128.size y} {o o' : ℕ} (ho : off = ![0, o', 0]) (e : o' = o) :
    BlkAt (blk128 (View.readAt (Elt Ideal) a.view (Rect.unit (s := S1x2048x128) off S1x128x128.size inb).toLoadRect (ha.unread x))) K o := by
  intro u l
  subst ho e
  have hin : o' + 128 ≤ 2048 := inb 1
  rw [blk128_at, View.readAt_eq_ld, ha.read_unread, ← hx ⟨o' + u.val, by omega⟩ l]
  refine congrArg x (funext fun y => Fin.ext ?_)
  fin_cases y
  · rfl
  · show o' + 1 * u.val = o' + u.val
    omega
  · show 0 + 1 * l.val = l.val
    omega

section Run

variable (c : Dev nD) (i : grid0.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x128 .f32) (harg6 : arg6.IsWhole) (arg7 : Memref sig .tc .vmem S1x512x128 .bf16) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x512x128 .bf16) (harg10 : arg10.IsWhole) (arg11 : Memref sig .tc .vmem S1x2048x128 .f32) (harg11 : arg11.IsWhole) (arg12 : Memref sig .tc .vmem S1x2048x128 .f32) (harg12 : arg12.IsWhole)
  {N : ℕ} {Q D K V : ℕ → Fin 128 → ℝ} {x0 : Vec Ideal S1x512x128 .bf16} {x1 x2 : Vec Ideal S1x2048x128 .bf16}
  {x3 : Vec Ideal S1x512x128 .f32} {x4 : Vec Ideal S1x512x128 .bf16} {t0 : ℕ} (hx : InAt N Q D K V t0 x0 x1 x2 x3 x4)

include hx

theorem env_at : EnvAt (mkOps N Q D K V) (genv arg3 harg3 arg6 harg6 arg7 harg7 x0 x3 x4) t0 where
  ule := ule_at
  ult := ult_at
  r0 := by
    refine ⟨fun a l => ?_, fun a l => ?_, fun a => ?_⟩
    · refine (qh0_at (ldq arg3 harg3 x0) a l).trans ?_
      have e : ldq arg3 harg3 x0 = x0 := (View.readAt_full _ _ _).trans (harg3.read_unread x0)
      rw [e, hx.q]
      show _ = (((if l.val < 64 then Q (t0 + a.val) l * (1 / 8) else 0 : ℝ)) : EReal)
      split <;> simp only [EReal.coe_mul, EReal.coe_zero]
    · refine (doh0_at (lddo arg7 harg7 x4) a l).trans ?_
      have e : lddo arg7 harg7 x4 = x4 := (View.readAt_full _ _ _).trans (harg7.read_unread x4)
      rw [e, hx.d]
      show _ = (((if l.val < 64 then D (t0 + a.val) l else 0 : ℝ)) : EReal)
      split <;> simp only [EReal.coe_zero]
    · refine (lt0_at a (ldl0 arg6 harg6 x3)).trans (Eq.trans ?_ (hx.lt0 a))
      refine (congrFun (View.readAt_eq_ld _ _ _) _).trans ?_
      rw [harg6.read_unread]
      refine congrArg x3 (funext fun y => Fin.ext ?_)
      fin_cases y
      · rfl
      · show 0 + 1 * a.val = a.val
        omega
      · rfl
  r1 := by
    refine ⟨fun a l => ?_, fun a l => ?_, fun a => ?_⟩
    · refine (qh1_at (ldq arg3 harg3 x0) a l).trans ?_
      have e : ldq arg3 harg3 x0 = x0 := (View.readAt_full _ _ _).trans (harg3.read_unread x0)
      rw [e, hx.q]
      show _ = (((if l.val < 64 then 0 else Q (t0 + a.val) l * (1 / 8) : ℝ)) : EReal)
      split <;> simp only [EReal.coe_mul, EReal.coe_zero]
    · refine (doh1_at (lddo arg7 harg7 x4) a l).trans ?_
      have e : lddo arg7 harg7 x4 = x4 := (View.readAt_full _ _ _).trans (harg7.read_unread x4)
      rw [e, hx.d]
      show _ = (((if l.val < 64 then 0 else D (t0 + a.val) l : ℝ)) : EReal)
      split <;> simp only [EReal.coe_zero]
    · refine (lt1_at a (ldl1 arg6 harg6 x3)).trans (Eq.trans ?_ (hx.lt1 a))
      refine (congrFun (View.readAt_eq_ld _ _ _) _).trans ?_
      rw [harg6.read_unread]
      refine congrArg x3 (funext fun y => Fin.ext ?_)
      fin_cases y
      · rfl
      · show 0 + 1 * a.val = a.val
        omega
      · rfl

variable (ht : t0 = 512 * (i 2).val) {G11 : BufTy.Contents (Elt Ideal) arg11.view.ty} {G12 : BufTy.Contents (Elt Ideal) arg12.view.ty}
  {B11 B12 : ℕ → Fin 128 → EReal} (h11 : Holds arg11 G11 B11) (h12 : Holds arg12 G12 B12)

include ht h11 h12

/-- The loop's state after `n` trips. -/
theorem loop_at : ∀ n : ℕ, n ≤ (i 2).val →
    (let S := st_k0_t1 (F := Ideal) Variants.none c none i arg3 harg3 arg4 harg4 arg5 harg5 arg6 harg6 arg7 harg7 arg8 harg8 arg9 harg9 arg10 harg10 arg11 harg11 arg12 harg12 (BitVec.ofNat 32 (i 2).val) (v3w i) k0_pay244 k0_pay245 (qh0 (ldq arg3 harg3 x0)) (qh1 (ldq arg3 harg3 x0)) (doAll (lddo arg7 harg7 x4)) (doh0 (lddo arg7 harg7 x4)) inHead1 (ldl0 arg6 harg6 x3) (ldl1 arg6 harg6 x3) (harg4.unread x1) (harg5.unread x2) G11 G12 zeros n
     PairAt (mkOps N Q D K V) (unpack S.1) t0 (512 * n) ∧ Holds arg11 (arg11.view.writes (Elt Ideal) G11 S.2.1) (upd B11 ((mkOps N Q D K V).dk t0 512) 0 (512 * n))
       ∧ Holds arg12 (arg12.view.writes (Elt Ideal) G12 S.2.2) (upd B12 ((mkOps N Q D K V).dv t0 512) 0 (512 * n)))
  | 0, _ => ⟨zeros_at _ t0, by rw [Nat.mul_zero, upd_zero]; exact h11, by rw [Nat.mul_zero, upd_zero]; exact h12⟩
  | n + 1, hn => by
    have ih := loop_at n (by omega)
    have hk : n < (k0_t1_loop i).trips := lt_of_lt_of_eq hn (trips1 i).symm
    rw [st_k0_t1_succ (k := ⟨n, hk⟩)]
    simp only [] at ih ⊢
    generalize st_k0_t1 (F := Ideal) Variants.none c none i arg3 harg3 arg4 harg4 arg5 harg5 arg6 harg6 arg7 harg7 arg8 harg8 arg9 harg9 arg10 harg10 arg11 harg11 arg12 harg12 (BitVec.ofNat 32 (i 2).val) (v3w i) k0_pay244 k0_pay245 (qh0 (ldq arg3 harg3 x0)) (qh1 (ldq arg3 harg3 x0)) (doAll (lddo arg7 harg7 x4)) (doh0 (lddo arg7 harg7 x4)) inHead1 (ldl0 arg6 harg6 x3) (ldl1 arg6 harg6 x3) (harg4.unread x1) (harg5.unread x2) G11 G12 zeros n = S at ih ⊢
    obtain ⟨ic, i11, i12⟩ := ih
    have hp : S.1 = pack (unpack S.1) := rfl
    have hpc := trip_pieces (F := Ideal) c i arg3 harg3 arg4 harg4 arg5 harg5 arg6 harg6 arg7 harg7 arg8 harg8 arg9 harg9 arg10 harg10 arg11 harg11 arg12 harg12 (BitVec.ofNat 32 (i 2).val) (v3w i) k0_pay244 k0_pay245 (qh0 (ldq arg3 harg3 x0)) (qh1 (ldq arg3 harg3 x0)) (doAll (lddo arg7 harg7 x4)) (doh0 (lddo arg7 harg7 x4)) inHead1 (ldl0 arg6 harg6 x3) (ldl1 arg6 harg6 x3) (harg4.unread x1) (harg5.unread x2) ⟨n, hk⟩ (unpack S.1) (arg11.view.writes (Elt Ideal) G11 S.2.1) (arg12.view.writes (Elt Ideal) G12 S.2.2)
    have hp1 := congrArg Prod.fst hpc
    have hp2 := congrArg Prod.snd hpc
    simp only [] at hp1 hp2
    rw [hp, trip_res, hp1, hp2]
    have he := env_at (hx := hx) (arg3 := arg3) (harg3 := harg3) (arg6 := arg6) (harg6 := harg6) (arg7 := arg7) (harg7 := harg7)
    have hkb : ∀ u : Fin 4, BlkAt (kb i arg4 (harg4.unread x1) ⟨n, hk⟩ u) (mkOps N Q D K V).k (512 * n + 128 * u.val) :=
      fun u => blk_at arg4 harg4 hx.k (off1_eq i ⟨n, hk⟩ u) (by simp only []; omega)
    have hvb : ∀ u : Fin 4, BlkAt (kb i arg5 (harg5.unread x2) ⟨n, hk⟩ u) (mkOps N Q D K V).v (512 * n + 128 * u.val) :=
      fun u => blk_at arg5 harg5 hx.v (off1_eq i ⟨n, hk⟩ u) (by simp only []; omega)
    refine ⟨?_, ?_, ?_⟩
    · exact steps_at he hkb hvb ic (by omega) 4 le_rfl
    · exact trip_holds arg11 i11 (fun u a l => dkAt_at he hkb hvb ic (by omega) u a l)
    · exact trip_holds arg12 i12 (fun u a l => dvAt_at he hkb hvb ic (by omega) u a l)

omit h11 h12 in
theorem kd_at (a : Memref sig .tc .vmem S1x2048x128 .bf16) (ha : a.IsWhole) {x : Vec Ideal S1x2048x128 .bf16} {K : ℕ → Fin 128 → ℝ}
    (h : ∀ (s : Fin 2048) (l : Fin 128), x (ix3 0 s l) = (K s.val l : EReal)) (u : Fin 4) : BlkAt (kd i a (ha.unread x) u) K (t0 + 128 * u.val) :=
  blk_at a ha h (off3_eq i u) (by omega)

/-- What the point leaves: the query gradient's block and the two accumulators. -/
theorem point_at {L11 L12 : List (View.Piece (Elt Ideal) S1x2048x128 .f32)} {f11 : BufTy.Contents (Elt Ideal) arg11.view.ty} {f12 : BufTy.Contents (Elt Ideal) arg12.view.ty}
    (e11 : G11 = arg11.view.writes (Elt Ideal) f11 L11) (e12 : G12 = arg12.view.writes (Elt Ideal) f12 L12) :
    (let S := after1 c i arg3 harg3 arg4 harg4 arg5 harg5 arg6 harg6 arg7 harg7 arg8 harg8 arg9 harg9 arg10 harg10 arg11 harg11 arg12 harg12 G11 G12 x0 x1 x2 x3 x4
     let e := genv arg3 harg3 arg6 harg6 arg7 harg7 x0 x3 x4
     let kj := kd i arg4 (harg4.unread x1)
     let vj := kd i arg5 (harg5.unread x2)
     PairAt (mkOps N Q D K V) (diag4 e kj vj (unpack S.1)) t0 (t0 + 512)
      ∧ Holds arg11 (arg11.view.writes (Elt Ideal) f11 (put11 i arg11 f11 e kj vj (unpack S.1) (S.2.1 ++ L11))) (upd B11 ((mkOps N Q D K V).dk t0 512) 0 (t0 + 512))
      ∧ Holds arg12 (arg12.view.writes (Elt Ideal) f12 (put12 i arg12 f12 e kj vj (unpack S.1) (S.2.2 ++ L12))) (upd B12 ((mkOps N Q D K V).dv t0 512) 0 (t0 + 512))) := by
  have hl := loop_at c i arg3 harg3 arg4 harg4 arg5 harg5 arg6 harg6 arg7 harg7 arg8 harg8 arg9 harg9 arg10 harg10 arg11 harg11 arg12 harg12 hx ht h11 h12 (i 2).val le_rfl
  have ea : after1 c i arg3 harg3 arg4 harg4 arg5 harg5 arg6 harg6 arg7 harg7 arg8 harg8 arg9 harg9 arg10 harg10 arg11 harg11 arg12 harg12 G11 G12 x0 x1 x2 x3 x4 = st_k0_t1 (F := Ideal) Variants.none c none i arg3 harg3 arg4 harg4 arg5 harg5 arg6 harg6 arg7 harg7 arg8 harg8 arg9 harg9 arg10 harg10 arg11 harg11 arg12 harg12 (BitVec.ofNat 32 (i 2).val) (v3w i) k0_pay244 k0_pay245 (qh0 (ldq arg3 harg3 x0)) (qh1 (ldq arg3 harg3 x0)) (doAll (lddo arg7 harg7 x4)) (doh0 (lddo arg7 harg7 x4)) inHead1 (ldl0 arg6 harg6 x3) (ldl1 arg6 harg6 x3) (harg4.unread x1) (harg5.unread x2) G11 G12 zeros (i 2).val := by
    unfold after1 loop1
    rw [trips1]
  rw [← ea] at hl
  simp only [] at hl ⊢
  generalize after1 c i arg3 harg3 arg4 harg4 arg5 harg5 arg6 harg6 arg7 harg7 arg8 harg8 arg9 harg9 arg10 harg10 arg11 harg11 arg12 harg12 G11 G12 x0 x1 x2 x3 x4 = S at hl ⊢
  obtain ⟨ic, i11, i12⟩ := hl
  rw [← ht] at ic i11 i12
  rw [e11, ← View.writes_append] at i11
  rw [e12, ← View.writes_append] at i12
  have he := env_at (hx := hx) (arg3 := arg3) (harg3 := harg3) (arg6 := arg6) (harg6 := harg6) (arg7 := arg7) (harg7 := harg7)
  have hk : ∀ u, BlkAt (kd i arg4 (harg4.unread x1) u) (mkOps N Q D K V).k (t0 + 128 * u.val) := kd_at i hx ht arg4 harg4 hx.k
  have hv : ∀ u, BlkAt (kd i arg5 (harg5.unread x2) u) (mkOps N Q D K V).v (t0 + 128 * u.val) := kd_at i hx ht arg5 harg5 hx.v
  have p1 := topNext_at he diag266 (hk 0) (hv 0) ic
  have p2 := cutNext_at he cut384 reads384 rfl diag267 (hk 1) (hv 1) p1
  have p3 := cutNext_at he cut256 reads256 rfl diag268 (hk 2) (hv 2) p2
  have p4 := cutNext_at he cut128 reads128 rfl diag269 (hk 3) (hv 3) p3
  refine ⟨p4, ?_, ?_⟩
  · rw [← upd_upd]
    have h := diag_holds arg11 i11 (fun x l => by rw [← ht]; exact topDk_at he diag266 (hk 0) (hv 0) ic x l)
      (fun x l => by rw [← ht]; exact cutDk_at he cut384 reads384 rfl diag267 (hk 1) (hv 1) p1 x l)
      (fun x l => by rw [← ht]; exact cutDk_at he cut256 reads256 rfl diag268 (hk 2) (hv 2) p2 x l)
      (fun x l => by rw [← ht]; exact cutDk_at he cut128 reads128 rfl diag269 (hk 3) (hv 3) p3 x l)
    rw [← ht] at h
    exact h
  · rw [← upd_upd]
    have h := diag_holds arg12 i12 (fun x l => by rw [← ht]; exact topDv_at he diag266 (hk 0) ic x l)
      (fun x l => by rw [← ht]; exact cutDv_at he cut384 reads384 rfl diag267 (hk 1) p1 x l)
      (fun x l => by rw [← ht]; exact cutDv_at he cut256 reads256 rfl diag268 (hk 2) p2 x l)
      (fun x l => by rw [← ht]; exact cutDv_at he cut128 reads128 rfl diag269 (hk 3) p3 x l)
    rw [← ht] at h
    exact h

end Run

end Cert.Tile

end
-- ==== Proof.Outs.lean ====
module

public import proofs.«01_k».proof.Proof.Point
public import proofs.«01_k».proof.Proof.Gen.KernelIdeal.Value

@[expose] public section

set_option maxRecDepth 16384

noncomputable section

open scoped BigOperators

/-! # The output blocks after one grid point -/

namespace Cert.Tile

open Idealize.ShloMosaic Idealize.ShloMosaic.TcCoe Cert.KernelIdeal Cert.KernelIdeal.Gen Cert.Stick

/-- The gradient of the queries' row `t` at lane `l`, which lies in the first or in the second head. -/
def Ops.dq (X : Ops) (t : ℕ) (l : Fin 128) : ℝ :=
  (if l.val < 64 then ∑ s ∈ Finset.range X.N, (X.head 0).dz t s * X.k s l else ∑ s ∈ Finset.range X.N, (X.head 1).dz t s * X.k s l) * (1 / 8)

theorem dq_more (X : Ops) (h : Fin 2) {t b : ℕ} (l : Fin 128) (h1 : t ≤ b) (h2 : b ≤ X.N) :
    ∑ s ∈ Finset.range X.N, (X.head h).dz t s * X.k s l = ∑ s ∈ Finset.range b, (X.head h).dz t s * X.k s l := by
  refine (Finset.sum_subset (Finset.range_mono h2) fun s _ hs => ?_).symm
  have := Finset.mem_range.not.mp hs
  rw [Head.dz, dz_zero _ _ _ (by omega), zero_mul]

theorem outq_pair {X : Ops} {c : Carry Ideal 512 × Carry Ideal 512} {t0 : ℕ} (h : PairAt X c t0 (t0 + 512)) (hN : t0 + 512 ≤ X.N) (a : Fin 512)
    (l : Fin 128) : outq c (ix3 0 a l) = (X.dq (t0 + a.val) l : EReal) := by
  have ha := a.isLt
  rw [outq_at, h.1.acc, h.2.acc, Ops.dq, dq_more X 0 l (b := t0 + 512) (by omega) hN, dq_more X 1 l (b := t0 + 512) (by omega) hN]
  split <;> exact (EReal.coe_mul _ _).symm

/-- An accumulator after a point's rows, as one sum. -/
theorem upd_dk {X : Ops} {B : ℕ → Fin 128 → EReal} (t0 : ℕ) (s : ℕ) (l : Fin 128) :
    upd (fun s l => B s l + (X.dk 0 t0 s l : EReal)) (X.dk t0 512) 0 (t0 + 512) s l = B s l + (X.dk 0 (t0 + 512) s l : EReal) := by
  unfold upd
  rw [X.dk_add, EReal.coe_add]
  split
  · exact add_assoc _ _ _
  · rw [X.dk_zero t0 512 s l (by omega), EReal.coe_zero, add_zero]
theorem upd_dv {X : Ops} {B : ℕ → Fin 128 → EReal} (t0 : ℕ) (s : ℕ) (l : Fin 128) :
    upd (fun s l => B s l + (X.dv 0 t0 s l : EReal)) (X.dv t0 512) 0 (t0 + 512) s l = B s l + (X.dv 0 (t0 + 512) s l : EReal) := by
  unfold upd
  rw [X.dv_add, EReal.coe_add]
  split
  · exact add_assoc _ _ _
  · rw [X.dv_zero t0 512 s l (by omega), EReal.coe_zero, add_zero]

/-- The three output blocks after the point whose rows start at `t0`, the accumulators having started from `B8` and `B9`. -/
structure OutAt (X : Ops) (t0 : ℕ) (B8 B9 : ℕ → Fin 128 → EReal)
    (o : Vec Ideal S1x512x128 .bf16 × Vec Ideal S1x2048x128 .f32 × Vec Ideal S1x2048x128 .f32) : Prop where
  q : ∀ (a : Fin 512) (l : Fin 128), o.1 (ix3 0 a l) = (X.dq (t0 + a.val) l : EReal)
  k : ∀ (s : Fin 2048) (l : Fin 128), o.2.1 (ix3 0 s l) = B8 s.val l + (X.dk 0 (t0 + 512) s.val l : EReal)
  v : ∀ (s : Fin 2048) (l : Fin 128), o.2.2 (ix3 0 s l) = B9 s.val l + (X.dv 0 (t0 + 512) s.val l : EReal)

theorem outAt_mk {X : Ops} {t0 : ℕ} {B8 B9 : ℕ → Fin 128 → EReal} {o7 : Vec Ideal S1x512x128 .bf16} {o8 o9 : Vec Ideal S1x2048x128 .f32}
    (q : ∀ (a : Fin 512) (l : Fin 128), o7 (ix3 0 a l) = (X.dq (t0 + a.val) l : EReal))
    (k : ∀ (s : Fin 2048) (l : Fin 128), o8 (ix3 0 s l) = B8 s.val l + (X.dk 0 (t0 + 512) s.val l : EReal))
    (v : ∀ (s : Fin 2048) (l : Fin 128), o9 (ix3 0 s l) = B9 s.val l + (X.dv 0 (t0 + 512) s.val l : EReal)) :
    OutAt X t0 B8 B9 (o7, o8, o9) := ⟨q, k, v⟩

section Run

variable (c : Dev nD) (i : grid0.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x128 .f32) (harg6 : arg6.IsWhole) (arg7 : Memref sig .tc .vmem S1x512x128 .bf16) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x512x128 .bf16) (harg10 : arg10.IsWhole) (arg11 : Memref sig .tc .vmem S1x2048x128 .f32) (harg11 : arg11.IsWhole) (arg12 : Memref sig .tc .vmem S1x2048x128 .f32) (harg12 : arg12.IsWhole)
  {N : ℕ} {Q D K V : ℕ → Fin 128 → ℝ} {x0 : Vec Ideal S1x512x128 .bf16} {x1 x2 : Vec Ideal S1x2048x128 .bf16}
  {x3 : Vec Ideal S1x512x128 .f32} {x4 : Vec Ideal S1x512x128 .bf16} {t0 : ℕ} (hx : InAt N Q D K V t0 x0 x1 x2 x3 x4)
  (ht : t0 = 512 * (i 2).val) (hN : t0 + 512 ≤ N) {B8 B9 : ℕ → Fin 128 → EReal}

theorem GA_holds (a b : Memref sig .tc .vmem S1x2048x128 .f32) (hb : b.IsWhole) {x : Vec Ideal S1x2048x128 .f32} {B : ℕ → Fin 128 → EReal}
    (hB : ∀ (s : Fin 2048) (l : Fin 128), x (ix3 0 s l) = B s.val l) : Holds a (GA a b hb x) B := by
  intro t l
  unfold GA copy
  rw [View.read_writes_full]
  rw [copy242_at, View.readAt_full, hb.read_unread, hB]

theorem outA_q (hc0 : cond0_0 i) (x0 : Vec Ideal S1x512x128 .bf16) (x1 x2 : Vec Ideal S1x2048x128 .bf16) (x3 : Vec Ideal S1x512x128 .f32) (x4 : Vec Ideal S1x512x128 .bf16) (x5 x6 : Vec Ideal S1x2048x128 .f32) :
    out0_A_7 c i arg3 harg3 arg4 harg4 arg5 harg5 arg6 harg6 arg7 harg7 arg8 harg8 arg9 harg9 arg10 harg10 arg11 harg11 arg12 harg12 hc0 x0 x1 x2 x3 x4 x5 x6
      = outq (diag4 (genv arg3 harg3 arg6 harg6 arg7 harg7 x0 x3 x4) (kd i arg4 (harg4.unread x1)) (kd i arg5 (harg5.unread x2))
        (unpack (after1 c i arg3 harg3 arg4 harg4 arg5 harg5 arg6 harg6 arg7 harg7 arg8 harg8 arg9 harg9 arg10 harg10 arg11 harg11 arg12 harg12 (GA arg11 arg8 harg8 x5) (GA arg12 arg9 harg9 x6) x0 x1 x2 x3 x4).1)) :=
  (congrArg (fun L => VO0_7.read (Elt Ideal) (VO0_7.writes (Elt Ideal) VO0_7.junk L)) (A_run10 (F := Ideal) c i arg3 harg3 arg4 harg4 arg5 harg5 arg6 harg6 arg7 harg7 arg8 harg8 arg9 harg9 arg10 harg10 arg11 harg11 arg12 harg12 x0 x1 x2 x3 x4 x5 x6 hc0)).trans
    (View.read_writes_full (Val := Elt Ideal) VO0_7 _ _ _ _)

theorem outB_q (hc0 : ¬cond0_0 i) (x0 : Vec Ideal S1x512x128 .bf16) (x1 x2 : Vec Ideal S1x2048x128 .bf16) (x3 : Vec Ideal S1x512x128 .f32) (x4 : Vec Ideal S1x512x128 .bf16) (x5 x6 xo8 xo9 : Vec Ideal S1x2048x128 .f32) :
    out0_B_7 c i arg3 harg3 arg4 harg4 arg5 harg5 arg6 harg6 arg7 harg7 arg8 harg8 arg9 harg9 arg10 harg10 arg11 harg11 arg12 harg12 hc0 x0 x1 x2 x3 x4 x5 x6 xo8 xo9
      = outq (diag4 (genv arg3 harg3 arg6 harg6 arg7 harg7 x0 x3 x4) (kd i arg4 (harg4.unread x1)) (kd i arg5 (harg5.unread x2))
        (unpack (after1 c i arg3 harg3 arg4 harg4 arg5 harg5 arg6 harg6 arg7 harg7 arg8 harg8 arg9 harg9 arg10 harg10 arg11 harg11 arg12 harg12 (harg11.unread xo8) (harg12.unread xo9) x0 x1 x2 x3 x4).1)) :=
  (congrArg (fun L => VO0_7.read (Elt Ideal) (VO0_7.writes (Elt Ideal) VO0_7.junk L)) (B_run10 (F := Ideal) c i arg3 harg3 arg4 harg4 arg5 harg5 arg6 harg6 arg7 harg7 arg8 harg8 arg9 harg9 arg10 harg10 arg11 harg11 arg12 harg12 x0 x1 x2 x3 x4 x5 x6 xo8 xo9 hc0)).trans
    (View.read_writes_full (Val := Elt Ideal) VO0_7 _ _ _ _)

include hx ht hN in
theorem outA_at (hc0 : cond0_0 i) {x5 x6 : Vec Ideal S1x2048x128 .f32}
    (h5 : ∀ (s : Fin 2048) (l : Fin 128), x5 (ix3 0 s l) = B8 s.val l + ((mkOps N Q D K V).dk 0 t0 s.val l : EReal))
    (h6 : ∀ (s : Fin 2048) (l : Fin 128), x6 (ix3 0 s l) = B9 s.val l + ((mkOps N Q D K V).dv 0 t0 s.val l : EReal)) :
    OutAt (mkOps N Q D K V) t0 B8 B9 (out0_A_7 c i arg3 harg3 arg4 harg4 arg5 harg5 arg6 harg6 arg7 harg7 arg8 harg8 arg9 harg9 arg10 harg10 arg11 harg11 arg12 harg12 hc0 x0 x1 x2 x3 x4 x5 x6,
      out0_A_8 c i arg3 harg3 arg4 harg4 arg5 harg5 arg6 harg6 arg7 harg7 arg8 harg8 arg9 harg9 arg10 harg10 arg11 harg11 arg12 harg12 hc0 x0 x1 x2 x3 x4 x5 x6,
      out0_A_9 c i arg3 harg3 arg4 harg4 arg5 harg5 arg6 harg6 arg7 harg7 arg8 harg8 arg9 harg9 arg10 harg10 arg11 harg11 arg12 harg12 hc0 x0 x1 x2 x3 x4 x5 x6) := by
  obtain ⟨p, k, v⟩ := point_at c i arg3 harg3 arg4 harg4 arg5 harg5 arg6 harg6 arg7 harg7 arg8 harg8 arg9 harg9 arg10 harg10 arg11 harg11 arg12 harg12 hx ht
    (GA_holds arg11 arg8 harg8 (B := fun s l => B8 s l + ((mkOps N Q D K V).dk 0 t0 s l : EReal)) h5)
    (GA_holds arg12 arg9 harg9 (B := fun s l => B9 s l + ((mkOps N Q D K V).dv 0 t0 s l : EReal)) h6)
    (L11 := [copy arg8 harg8 x5]) (L12 := [copy arg9 harg9 x6]) (f11 := arg11.view.junk) (f12 := arg12.view.junk) rfl rfl
  refine outAt_mk (fun a l => ?_) (fun s l => ?_) (fun s l => ?_)
  · rw [outA_q]
    exact outq_pair p hN a l
  · unfold out0_A_8
    rw [View.read_writes_junk_eq_canon, A_run11, ← View.read_writes_junk_eq_canon arg11.view]
    exact (k s l).trans (upd_dk t0 s.val l)
  · unfold out0_A_9
    rw [View.read_writes_junk_eq_canon, A_run12, ← View.read_writes_junk_eq_canon arg12.view]
    exact (v s l).trans (upd_dv t0 s.val l)

include hx ht hN in
theorem outB_at (hc0 : ¬cond0_0 i) {x5 x6 xo8 xo9 : Vec Ideal S1x2048x128 .f32}
    (h8 : ∀ (s : Fin 2048) (l : Fin 128), xo8 (ix3 0 s l) = B8 s.val l + ((mkOps N Q D K V).dk 0 t0 s.val l : EReal))
    (h9 : ∀ (s : Fin 2048) (l : Fin 128), xo9 (ix3 0 s l) = B9 s.val l + ((mkOps N Q D K V).dv 0 t0 s.val l : EReal)) :
    OutAt (mkOps N Q D K V) t0 B8 B9 (out0_B_7 c i arg3 harg3 arg4 harg4 arg5 harg5 arg6 harg6 arg7 harg7 arg8 harg8 arg9 harg9 arg10 harg10 arg11 harg11 arg12 harg12 hc0 x0 x1 x2 x3 x4 x5 x6 xo8 xo9,
      out0_B_8 c i arg3 harg3 arg4 harg4 arg5 harg5 arg6 harg6 arg7 harg7 arg8 harg8 arg9 harg9 arg10 harg10 arg11 harg11 arg12 harg12 hc0 x0 x1 x2 x3 x4 x5 x6 xo8 xo9,
      out0_B_9 c i arg3 harg3 arg4 harg4 arg5 harg5 arg6 harg6 arg7 harg7 arg8 harg8 arg9 harg9 arg10 harg10 arg11 harg11 arg12 harg12 hc0 x0 x1 x2 x3 x4 x5 x6 xo8 xo9) := by
  obtain ⟨p, k, v⟩ := point_at c i arg3 harg3 arg4 harg4 arg5 harg5 arg6 harg6 arg7 harg7 arg8 harg8 arg9 harg9 arg10 harg10 arg11 harg11 arg12 harg12 hx ht (G11 := harg11.unread xo8) (G12 := harg12.unread xo9)
    (B11 := fun s l => B8 s l + ((mkOps N Q D K V).dk 0 t0 s l : EReal)) (B12 := fun s l => B9 s l + ((mkOps N Q D K V).dv 0 t0 s l : EReal))
    (fun s l => by rw [harg11.read_unread]; exact h8 s l) (fun s l => by rw [harg12.read_unread]; exact h9 s l)
    (L11 := []) (L12 := []) (f11 := harg11.unread xo8) (f12 := harg12.unread xo9) rfl rfl
  rw [List.append_nil] at k v
  refine outAt_mk (fun a l => ?_) (fun s l => ?_) (fun s l => ?_)
  · rw [outB_q]
    exact outq_pair p hN a l
  · unfold out0_B_8
    rw [B_run11]
    exact (k s l).trans (upd_dk t0 s.val l)
  · unfold out0_B_9
    rw [B_run12]
    exact (v s l).trans (upd_dv t0 s.val l)

end Run

end Cert.Tile

end
-- ==== Proof.Blocks.lean ====
module

public import proofs.«01_k».proof.Proof.Outs
public import Idealize.ShloMosaic.Lib.Pipeline.ValueKit

@[expose] public section

set_option maxRecDepth 16384

noncomputable section

open scoped BigOperators

/-! # The kernel's result arrays -/

namespace Cert.Tile

open Idealize.ShloMosaic Idealize.ShloMosaic.TcCoe Cert.KernelIdeal Cert.KernelIdeal.Gen Cert.Stick

/-- The operands of the block of heads `2p` and `2p + 1` of batch `b`. -/
def blockOps (q kv d : ℕ → ℕ → ℕ → ℝ) (b p : ℕ) : Ops :=
  mkOps 2048 (fun t l => q b t (128 * p + l.val)) (fun t l => d b t (128 * p + l.val)) (fun s l => kv b s (128 * p + l.val))
    (fun s l => kv b s (1024 + 128 * p + l.val))

variable (m : (ℓ : Loc nD τ sig) → Idealize.ShloMosaic.Buf (Elt Ideal) ℓ) (c : Dev nD)

/-- The arrays that the launch finds. -/
structure ArrAt (Q KV D : ℕ → ℕ → ℕ → ℝ) : Prop where
  q : ∀ (b : Fin 4) (t : Fin 2048) (j : Fin 1024), (m ((c : Thread nD τ).loc main_arg0) : Vec Ideal S4x2048x1024 .bf16) (ix3 b t j) = (Q b.val t.val j.val : EReal)
  kv : ∀ (b : Fin 4) (t : Fin 2048) (j : Fin 2048), (m ((c : Thread nD τ).loc main_arg1) : Vec Ideal S4x2048x2048 .bf16) (ix3 b t j) = (KV b.val t.val j.val : EReal)
  d : ∀ (b : Fin 4) (t : Fin 2048) (j : Fin 1024), (m ((c : Thread nD τ).loc main_arg2) : Vec Ideal S4x2048x1024 .bf16) (ix3 b t j) = (D b.val t.val j.val : EReal)
  lt : ∀ (b : Fin 4) (t : Fin 2048) (p : Fin 8) (h : Fin 2), (V m c main_v22 : Vec Ideal S4x2048x1024 .f32) (ix3 b t ⟨128 * p.val + 64 * h.val, by omega⟩)
    = ((∑ s ∈ Finset.range 2048, ((blockOps Q KV D b.val p.val).head h).kp t.val s : ℝ) : EReal)

theorem idx0 : ∀ t : Fin cfg0.N, win0_0.index t = ![t.val / 32 % 4, t.val % 4, t.val / 4 % 8] := by decide +kernel
theorem idx1 : ∀ t : Fin cfg0.N, win0_1.index t = ![t.val / 32 % 4, 0, t.val / 4 % 8] := by decide +kernel
theorem idx2 : ∀ t : Fin cfg0.N, win0_2.index t = ![t.val / 32 % 4, 0, 8 + t.val / 4 % 8] := by decide +kernel
theorem idx3 : ∀ t : Fin cfg0.N, win0_3.index t = ![t.val / 32 % 4, t.val % 4, t.val / 4 % 8] := by decide +kernel
theorem idx4 : ∀ t : Fin cfg0.N, win0_4.index t = ![t.val / 32 % 4, t.val % 4, t.val / 4 % 8] := by decide +kernel
theorem idx5 : ∀ t : Fin cfg0.N, win0_5.index t = ![t.val / 32 % 4, 0, t.val / 4 % 8] := by decide +kernel
theorem idx6 : ∀ t : Fin cfg0.N, win0_6.index t = ![t.val / 32 % 4, 0, t.val / 4 % 8] := by decide +kernel
theorem idx7 : ∀ t : Fin cfg0.N, win0_7.index t = ![t.val / 32 % 4, t.val % 4, t.val / 4 % 8] := by decide +kernel
theorem idx8 : ∀ t : Fin cfg0.N, win0_8.index t = ![t.val / 32 % 4, 0, t.val / 4 % 8] := by decide +kernel
theorem idx9 : ∀ t : Fin cfg0.N, win0_9.index t = ![t.val / 32 % 4, 0, t.val / 4 % 8] := by decide +kernel

theorem blk0 (t : Fin cfg0.N) (a : Fin 512) (l : Fin 128) : (iblk m c 0 t : Vec Ideal S1x512x128 .bf16) (ix3 0 a l)
    = (V m c main_arg0 : Vec Ideal S4x2048x1024 .bf16) (ix3 ⟨t.val / 32 % 4, by omega⟩ ⟨512 * (t.val % 4) + a.val, by omega⟩ ⟨128 * (t.val / 4 % 8) + l.val, by omega⟩) := by
  blk_ext [iblk, idx0 t]

theorem read3 (X : Vec Ideal S4x2048x1024 .f32) (t : Fin cfg0.N) (a : Fin 512) (l : Fin 128) :
    (((cfg0.win 3).blk t).view.read (Elt Ideal) X : Vec Ideal S1x512x128 .f32) (ix3 0 a l)
    = X (ix3 ⟨t.val / 32 % 4, by omega⟩ ⟨512 * (t.val % 4) + a.val, by omega⟩ ⟨128 * (t.val / 4 % 8) + l.val, by omega⟩) := by
  blk_ext [idx3 t]

theorem blk3 (t : Fin cfg0.N) (a : Fin 512) (l : Fin 128) : (iblk m c 3 t : Vec Ideal S1x512x128 .f32) (ix3 0 a l)
    = (V m c main_v22 : Vec Ideal S4x2048x1024 .f32) (ix3 ⟨t.val / 32 % 4, by omega⟩ ⟨512 * (t.val % 4) + a.val, by omega⟩ ⟨128 * (t.val / 4 % 8) + l.val, by omega⟩) := by
  unfold iblk
  exact read3 _ t a l

theorem blk4 (t : Fin cfg0.N) (a : Fin 512) (l : Fin 128) : (iblk m c 4 t : Vec Ideal S1x512x128 .bf16) (ix3 0 a l)
    = (V m c main_arg2 : Vec Ideal S4x2048x1024 .bf16) (ix3 ⟨t.val / 32 % 4, by omega⟩ ⟨512 * (t.val % 4) + a.val, by omega⟩ ⟨128 * (t.val / 4 % 8) + l.val, by omega⟩) := by
  blk_ext [iblk, idx4 t]

theorem blk1 (t : Fin cfg0.N) (a : Fin 2048) (l : Fin 128) : (iblk m c 1 t : Vec Ideal S1x2048x128 .bf16) (ix3 0 a l)
    = (V m c main_arg1 : Vec Ideal S4x2048x2048 .bf16) (ix3 ⟨t.val / 32 % 4, by omega⟩ a ⟨128 * (t.val / 4 % 8) + l.val, by omega⟩) := by
  blk_ext [iblk, idx1 t]

theorem blk2 (t : Fin cfg0.N) (a : Fin 2048) (l : Fin 128) : (iblk m c 2 t : Vec Ideal S1x2048x128 .bf16) (ix3 0 a l)
    = (V m c main_arg1 : Vec Ideal S4x2048x2048 .bf16) (ix3 ⟨t.val / 32 % 4, by omega⟩ a ⟨1024 + 128 * (t.val / 4 % 8) + l.val, by omega⟩) := by
  blk_ext [iblk, idx2 t]

theorem blk5 (t : Fin cfg0.N) (a : Fin 2048) (l : Fin 128) : (iblk m c 5 t : Vec Ideal S1x2048x128 .f32) (ix3 0 a l)
    = (V m c main_arg3 : Vec Ideal S4x2048x1024 .f32) (ix3 ⟨t.val / 32 % 4, by omega⟩ a ⟨128 * (t.val / 4 % 8) + l.val, by omega⟩) := by
  blk_ext [iblk, idx5 t]

theorem blk6 (t : Fin cfg0.N) (a : Fin 2048) (l : Fin 128) : (iblk m c 6 t : Vec Ideal S1x2048x128 .f32) (ix3 0 a l)
    = (V m c main_arg4 : Vec Ideal S4x2048x1024 .f32) (ix3 ⟨t.val / 32 % 4, by omega⟩ a ⟨128 * (t.val / 4 % 8) + l.val, by omega⟩) := by
  blk_ext [iblk, idx6 t]

end Cert.Tile

end
-- ==== Proof.Arrays.lean ====
module

public import proofs.«01_k».proof.Proof.Blocks
public import Idealize.ShloMosaic.Lib.Pipeline.ValueKit

@[expose] public section

set_option maxRecDepth 16384

noncomputable section

open scoped BigOperators

/-! # The kernel's result arrays -/

namespace Cert.Tile

open Idealize.ShloMosaic Idealize.ShloMosaic.TcCoe Cert.KernelIdeal Cert.KernelIdeal.Gen Cert.Stick

variable {m : (ℓ : Loc nD τ sig) → Idealize.ShloMosaic.Buf (Elt Ideal) ℓ} {c : Dev nD} {q kv d : ℕ → ℕ → ℕ → ℝ} (h : ArrAt m c q kv d)

include h

theorem q_at (t : Fin cfg0.N) (a : Fin 512) (l : Fin 128) : (iblk m c 0 t : Vec Ideal S1x512x128 .bf16) (ix3 0 a l)
    = (q (t.val / 32 % 4) (512 * (t.val % 4) + a.val) (128 * (t.val / 4 % 8) + l.val) : EReal) :=
  (blk0 m c t a l).trans ((congrFun (V_main_arg0 m c) _).trans (h.q ⟨t.val / 32 % 4, by omega⟩ ⟨512 * (t.val % 4) + a.val, by omega⟩ ⟨128 * (t.val / 4 % 8) + l.val, by omega⟩))
theorem k_at (t : Fin cfg0.N) (a : Fin 2048) (l : Fin 128) : (iblk m c 1 t : Vec Ideal S1x2048x128 .bf16) (ix3 0 a l)
    = (kv (t.val / 32 % 4) a.val (128 * (t.val / 4 % 8) + l.val) : EReal) :=
  (blk1 m c t a l).trans ((congrFun (V_main_arg1 m c) _).trans (h.kv ⟨t.val / 32 % 4, by omega⟩ a ⟨128 * (t.val / 4 % 8) + l.val, by omega⟩))
theorem v_at (t : Fin cfg0.N) (a : Fin 2048) (l : Fin 128) : (iblk m c 2 t : Vec Ideal S1x2048x128 .bf16) (ix3 0 a l)
    = (kv (t.val / 32 % 4) a.val (1024 + 128 * (t.val / 4 % 8) + l.val) : EReal) :=
  (blk2 m c t a l).trans ((congrFun (V_main_arg1 m c) _).trans (h.kv ⟨t.val / 32 % 4, by omega⟩ a ⟨1024 + 128 * (t.val / 4 % 8) + l.val, by omega⟩))
theorem d_at (t : Fin cfg0.N) (a : Fin 512) (l : Fin 128) : (iblk m c 4 t : Vec Ideal S1x512x128 .bf16) (ix3 0 a l)
    = (d (t.val / 32 % 4) (512 * (t.val % 4) + a.val) (128 * (t.val / 4 % 8) + l.val) : EReal) :=
  (blk4 m c t a l).trans ((congrFun (V_main_arg2 m c) _).trans (h.d ⟨t.val / 32 % 4, by omega⟩ ⟨512 * (t.val % 4) + a.val, by omega⟩ ⟨128 * (t.val / 4 % 8) + l.val, by omega⟩))
theorem lt0_at' (t : Fin cfg0.N) (a : Fin 512) : (iblk m c 3 t : Vec Ideal S1x512x128 .f32) (ix3 0 a 0)
    = ((∑ s ∈ Finset.range 2048, ((blockOps q kv d (t.val / 32 % 4) (t.val / 4 % 8)).head 0).kp (512 * (t.val % 4) + a.val) s : ℝ) : EReal) :=
  (blk3 m c t a 0).trans (h.lt ⟨t.val / 32 % 4, by omega⟩ ⟨512 * (t.val % 4) + a.val, by omega⟩ ⟨t.val / 4 % 8, by omega⟩ 0)
theorem lt1_at' (t : Fin cfg0.N) (a : Fin 512) : (iblk m c 3 t : Vec Ideal S1x512x128 .f32) (ix3 0 a 64)
    = ((∑ s ∈ Finset.range 2048, ((blockOps q kv d (t.val / 32 % 4) (t.val / 4 % 8)).head 1).kp (512 * (t.val % 4) + a.val) s : ℝ) : EReal) :=
  (blk3 m c t a 64).trans (h.lt ⟨t.val / 32 % 4, by omega⟩ ⟨512 * (t.val % 4) + a.val, by omega⟩ ⟨t.val / 4 % 8, by omega⟩ 1)

theorem in_at (t : Fin cfg0.N) : InAt 2048 (fun r l => q (t.val / 32 % 4) r (128 * (t.val / 4 % 8) + l.val))
    (fun r l => d (t.val / 32 % 4) r (128 * (t.val / 4 % 8) + l.val)) (fun s l => kv (t.val / 32 % 4) s (128 * (t.val / 4 % 8) + l.val))
    (fun s l => kv (t.val / 32 % 4) s (1024 + 128 * (t.val / 4 % 8) + l.val)) (512 * (t.val % 4))
    (iblk m c 0 t) (iblk m c 1 t) (iblk m c 2 t) (iblk m c 3 t) (iblk m c 4 t) where
  q := q_at h t
  k := k_at h t
  v := v_at h t
  lt0 := lt0_at' h t
  lt1 := lt1_at' h t
  d := d_at h t

omit h

/-- The accumulators' starting values, read by natural numbers. -/
def start (x : Vec Ideal S4x2048x1024 .f32) (b p : ℕ) (s : ℕ) (l : Fin 128) : EReal :=
  if hb : b < 4 ∧ s < 2048 ∧ p < 8 then x (ix3 ⟨b, hb.1⟩ ⟨s, hb.2.1⟩ ⟨128 * p + l.val, by omega⟩) else 0

theorem coord2 : ∀ t : Fin cfg0.N, ((grid0.coords t) 2).val = t.val % 4 := by decide +kernel

theorem start5 (t : Fin cfg0.N) (s : Fin 2048) (l : Fin 128) : (iblk m c 5 t : Vec Ideal S1x2048x128 .f32) (ix3 0 s l)
    = start (m ((c : Thread nD τ).loc main_arg3)) (t.val / 32 % 4) (t.val / 4 % 8) s.val l :=
  (blk5 m c t s l).trans ((congrFun (V_main_arg3 m c) _).trans (by rw [start, dif_pos ⟨by omega, s.isLt, by omega⟩]))
theorem start6 (t : Fin cfg0.N) (s : Fin 2048) (l : Fin 128) : (iblk m c 6 t : Vec Ideal S1x2048x128 .f32) (ix3 0 s l)
    = start (m ((c : Thread nD τ).loc main_arg4)) (t.val / 32 % 4) (t.val / 4 % 8) s.val l :=
  (blk6 m c t s l).trans ((congrFun (V_main_arg4 m c) _).trans (by rw [start, dif_pos ⟨by omega, s.isLt, by omega⟩]))

theorem first_k (X : Ops) (s : ℕ) (l : Fin 128) (x : EReal) {n : ℕ} (hn : n % 4 = 0) : x = x + (X.dk 0 (512 * (n % 4)) s l : EReal) := by
  rw [hn, X.dk_zero 0 (512 * 0) s l (by omega), EReal.coe_zero, add_zero]
theorem first_v (X : Ops) (s : ℕ) (l : Fin 128) (x : EReal) {n : ℕ} (hn : n % 4 = 0) : x = x + (X.dv 0 (512 * (n % 4)) s l : EReal) := by
  rw [hn, X.dv_zero 0 (512 * 0) s l (by omega), EReal.coe_zero, add_zero]

include h

/-- The output blocks after point `n`. -/
theorem outs_at (n : ℕ) : ∀ hn : n < cfg0.N, OutAt (blockOps q kv d (n / 32 % 4) (n / 4 % 8)) (512 * (n % 4))
    (start (m ((c : Thread nD τ).loc main_arg3)) (n / 32 % 4) (n / 4 % 8)) (start (m ((c : Thread nD τ).loc main_arg4)) (n / 32 % 4) (n / 4 % 8))
    (outsAt0 m c n hn) := by
  induction n using Nat.strong_induction_on with
  | _ n ih =>
    intro hn
    by_cases h0 : n % 4 = 0
    · rw [show outsAt0 m c n hn = _ from outsAt0_A m c ⟨n, hn⟩ h0]
      exact outA_at c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) (ms0_8 ⟨n, hn⟩) (hs0_8 ⟨n, hn⟩) (ms0_9 ⟨n, hn⟩) (hs0_9 ⟨n, hn⟩) (in_at h ⟨n, hn⟩) (by rw [coord2]) (by show 512 * (n % 4) + 512 ≤ 2048; omega) _
        (fun s l => (start5 ⟨n, hn⟩ s l).trans (first_k _ _ _ _ h0)) (fun s l => (start6 ⟨n, hn⟩ s l).trans (first_v _ _ _ _ h0))
    · rw [show outsAt0 m c n hn = _ from outsAt0_B m c ⟨n, hn⟩ h0]
      have e := ih (n - 1) (by omega) (Nat.lt_of_le_of_lt (Nat.sub_le _ _) hn)
      rw [show (n - 1) / 32 % 4 = n / 32 % 4 by omega, show (n - 1) / 4 % 8 = n / 4 % 8 by omega] at e
      have ek := e.k
      have ev := e.v
      rw [show 512 * ((n - 1) % 4) + 512 = 512 * (n % 4) by omega] at ek ev
      exact outB_at c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) (ms0_8 ⟨n, hn⟩) (hs0_8 ⟨n, hn⟩) (ms0_9 ⟨n, hn⟩) (hs0_9 ⟨n, hn⟩) (in_at h ⟨n, hn⟩) (by rw [coord2]) (by show 512 * (n % 4) + 512 ≤ 2048; omega) _ ek ev

end Cert.Tile

end
-- ==== Proof.Final.lean ====
module

public import proofs.«01_k».proof.Proof.Arrays

@[expose] public section

set_option maxRecDepth 16384

noncomputable section

open scoped BigOperators

/-! # The kernel's three results, element by element -/

namespace Cert.Tile

open Idealize.ShloMosaic Idealize.ShloMosaic.TcCoe Cert.KernelIdeal Cert.KernelIdeal.Gen Cert.Stick
open Idealize.ShloMosaic.Pipeline (Dat)

variable (q kv d : ℕ → ℕ → ℕ → ℝ)

/-- The block of heads that a column lies in, and the column's lane. -/
def lane' (j : ℕ) : Fin 128 := ⟨j % 128, Nat.mod_lt _ (by norm_num)⟩

def dqA (i : S4x2048x1024.Idx) : EReal := ((blockOps q kv d (i 0).val ((i 2).val / 128)).dq (i 1).val (lane' (i 2).val) : ℝ)
def dkA (x : Vec Ideal S4x2048x1024 .f32) (i : S4x2048x1024.Idx) : EReal :=
  x i + ((blockOps q kv d (i 0).val ((i 2).val / 128)).dk 0 2048 (i 1).val (lane' (i 2).val) : ℝ)
def dvA (x : Vec Ideal S4x2048x1024 .f32) (i : S4x2048x1024.Idx) : EReal :=
  x i + ((blockOps q kv d (i 0).val ((i 2).val / 128)).dv 0 2048 (i 1).val (lane' (i 2).val) : ℝ)

theorem dqA_of {i : S4x2048x1024.Idx} {b p r : ℕ} {l : Fin 128} (e0 : (i 0).val = b) (e1 : (i 1).val = r) (e2 : (i 2).val = p * 128 + l.val) :
    dqA q kv d i = ((blockOps q kv d b p).dq r l : ℝ) := by
  unfold dqA lane'
  rw [e0, e1, show (i 2).val / 128 = p by have := l.isLt; omega]
  congr 2
  exact Fin.ext (by show (i 2).val % 128 = l.val; have := l.isLt; omega)
theorem dkA_of (x : Vec Ideal S4x2048x1024 .f32) {i : S4x2048x1024.Idx} {b p r : ℕ} {l : Fin 128} (hb : b < 4) (hp : p < 8) (e0 : (i 0).val = b) (e1 : (i 1).val = r) (e2 : (i 2).val = p * 128 + l.val) :
    dkA q kv d x i = start x b p r l + ((blockOps q kv d b p).dk 0 2048 r l : ℝ) := by
  have hr : r < 2048 := e1 ▸ (i 1).isLt
  unfold dkA lane' start
  rw [dif_pos ⟨hb, hr, hp⟩, e0, e1, show (i 2).val / 128 = p by have := l.isLt; omega]
  congr 1
  · refine congrArg x (funext fun a => Fin.ext ?_)
    fin_cases a
    · exact e0
    · exact e1
    · show (i 2).val = 128 * p + l.val
      omega
  · congr 2
    exact Fin.ext (by show (i 2).val % 128 = l.val; have := l.isLt; omega)
theorem dvA_of (x : Vec Ideal S4x2048x1024 .f32) {i : S4x2048x1024.Idx} {b p r : ℕ} {l : Fin 128} (hb : b < 4) (hp : p < 8) (e0 : (i 0).val = b) (e1 : (i 1).val = r) (e2 : (i 2).val = p * 128 + l.val) :
    dvA q kv d x i = start x b p r l + ((blockOps q kv d b p).dv 0 2048 r l : ℝ) := by
  have hr : r < 2048 := e1 ▸ (i 1).isLt
  unfold dvA lane' start
  rw [dif_pos ⟨hb, hr, hp⟩, e0, e1, show (i 2).val / 128 = p by have := l.isLt; omega]
  congr 1
  · refine congrArg x (funext fun a => Fin.ext ?_)
    fin_cases a
    · exact e0
    · exact e1
    · show (i 2).val = 128 * p + l.val
      omega
  · congr 2
    exact Fin.ext (by show (i 2).val % 128 = l.val; have := l.isLt; omega)

theorem ix_of {n : ℕ} (y : (⟨3, ![1, n, 128]⟩ : Shape).Idx) : ∃ (a : Fin n) (l : Fin 128), y = ix3 0 a l :=
  ⟨y 1, y 2, funext fun x => by fin_cases x; exacts [Subsingleton.elim (α := Fin 1) _ _, rfl, rfl]⟩

variable {m : (ℓ : Loc nD τ sig) → Idealize.ShloMosaic.Buf (Elt Ideal) ℓ} {c : Dev nD} {q kv d} (h : ArrAt m c q kv d)

include h

theorem final7 : (dats m 0 c).arrAt 7 cfg0.N = dqA q kv d := by
  refine (dats m 0 c).arrAt_eq_of_covers 7 _ (by decide +kernel) fun t hf y => ?_
  blk_simp
  rw [after0_7]
  obtain ⟨a, l, rfl⟩ := ix_of y
  refine ((outs_at h t.val t.isLt).q a l).trans (dqA_of q kv d ?_ ?_ ?_).symm
  · blk_simp [idx7 t]
    exact Nat.add_zero _
  · blk_simp [idx7 t]
    omega
  · blk_simp [idx7 t]

theorem final8 : (dats m 0 c).arrAt 8 cfg0.N = dkA q kv d (m ((c : Thread nD τ).loc main_arg3)) := by
  refine (dats m 0 c).arrAt_eq_of_covers 8 _ (by decide +kernel) fun t hf y => ?_
  blk_simp
  rw [after0_8]
  obtain ⟨a, l, rfl⟩ := ix_of y
  have h3 : t.val % 4 = 3 := (flush0_8 t).mp hf
  have e := (outs_at h t.val t.isLt).k a l
  rw [h3] at e
  refine e.trans (dkA_of q kv d _ (Nat.mod_lt _ (by norm_num)) (Nat.mod_lt _ (by norm_num)) ?_ ?_ ?_).symm
  · blk_simp [idx8 t]
    exact Nat.add_zero _
  · blk_simp [idx8 t]
  · blk_simp [idx8 t]

theorem final9 : (dats m 0 c).arrAt 9 cfg0.N = dvA q kv d (m ((c : Thread nD τ).loc main_arg4)) := by
  refine (dats m 0 c).arrAt_eq_of_covers 9 _ (by decide +kernel) fun t hf y => ?_
  blk_simp
  rw [after0_9]
  obtain ⟨a, l, rfl⟩ := ix_of y
  have h3 : t.val % 4 = 3 := (flush0_9 t).mp hf
  have e := (outs_at h t.val t.isLt).v a l
  rw [h3] at e
  refine e.trans (dvA_of q kv d _ (Nat.mod_lt _ (by norm_num)) (Nat.mod_lt _ (by norm_num)) ?_ ?_ ?_).symm
  · blk_simp [idx9 t]
    exact Nat.add_zero _
  · blk_simp [idx9 t]
  · blk_simp [idx9 t]

end Cert.Tile

end
-- ==== Proof.RefFinal.lean ====
module

public import proofs.«01_k».proof.Proof.RefStage
public import proofs.«01_k».proof.Proof.Final

@[expose] public section

set_option maxRecDepth 16384

noncomputable section

open scoped BigOperators

/-! # The reference's results are the kernel's -/

namespace Cert.RefVal

open Idealize.ShloMosaic Idealize.ShloMosaic.TcCoe Cert.ReferenceIdeal Cert.ReferenceIdeal.Gen Cert.Stick
open Cert.Tile (blockOps mkOps Ops Head coe_sum lane' dqA dkA dvA)

variable (Q KV D : ℕ → ℕ → ℕ → ℝ)

/-- The score of head `h`, and the cotangent of its weight. -/
def zr (b h t s : ℕ) : ℝ := (∑ l ∈ Finset.range 64, Q b t (64 * h + l) * KV b s (64 * h + l)) * (1 / 8)
def gr (b h t s : ℕ) : ℝ := ∑ l ∈ Finset.range 64, D b t (64 * h + l) * KV b s (1024 + (64 * h + l))

theorem sum_lanes (F : ℕ → ℝ) : ∑ l : Fin 128, F l.val = ∑ l ∈ Finset.range 64, F l + ∑ l ∈ Finset.range 64, F (64 + l) := by
  rw [← Finset.sum_range F, show (128 : ℕ) = 64 + 64 from rfl, Finset.sum_range_add]

theorem head_z (b p : ℕ) (e : Fin 2) : ((blockOps Q KV D b p).head e).z = zr Q KV b (2 * p + e.val) := by
  funext t s
  have e1 : ((blockOps Q KV D b p).head e).z t s
      = ∑ l ∈ Finset.range 64, (if e = 0 then (if l < 64 then Q b t (128 * p + l) * (1 / 8) else 0) else (if l < 64 then 0 else Q b t (128 * p + l) * (1 / 8))) * KV b s (128 * p + l)
        + ∑ l ∈ Finset.range 64, (if e = 0 then (if 64 + l < 64 then Q b t (128 * p + (64 + l)) * (1 / 8) else 0) else (if 64 + l < 64 then 0 else Q b t (128 * p + (64 + l)) * (1 / 8))) * KV b s (128 * p + (64 + l)) :=
    sum_lanes fun l : ℕ => (if e = 0 then (if l < 64 then Q b t (128 * p + l) * (1 / 8) else 0) else (if l < 64 then 0 else Q b t (128 * p + l) * (1 / 8))) * KV b s (128 * p + l)
  rw [e1, zr, Finset.sum_mul]
  match e with
  | 0 =>
    rw [Finset.sum_eq_zero (s := Finset.range 64) (f := fun l => _ * KV b s (128 * p + (64 + l))), add_zero]
    · refine Finset.sum_congr rfl fun l hl => ?_
      rw [if_pos rfl, if_pos (Finset.mem_range.mp hl), show 64 * (2 * p + (0 : Fin 2).val) + l = 128 * p + l by show 64 * (2 * p + 0) + l = _; omega]; ring
    · intro l _
      rw [if_pos rfl, if_neg (by omega), zero_mul]
  | 1 =>
    rw [Finset.sum_eq_zero, zero_add]
    · refine Finset.sum_congr rfl fun l hl => ?_
      rw [if_neg (by decide), if_neg (by omega), show 64 * (2 * p + (1 : Fin 2).val) + l = 128 * p + (64 + l) by show 64 * (2 * p + 1) + l = _; omega]; ring
    · intro l hl
      rw [if_neg (by decide), if_pos (Finset.mem_range.mp hl), zero_mul]

theorem head_g (b p : ℕ) (e : Fin 2) : ((blockOps Q KV D b p).head e).g = gr KV D b (2 * p + e.val) := by
  funext t s
  have e1 : ((blockOps Q KV D b p).head e).g t s
      = ∑ l ∈ Finset.range 64, (if e = 0 then (if l < 64 then D b t (128 * p + l) else 0) else (if l < 64 then 0 else D b t (128 * p + l))) * KV b s (1024 + 128 * p + l)
        + ∑ l ∈ Finset.range 64, (if e = 0 then (if 64 + l < 64 then D b t (128 * p + (64 + l)) else 0) else (if 64 + l < 64 then 0 else D b t (128 * p + (64 + l)))) * KV b s (1024 + 128 * p + (64 + l)) :=
    sum_lanes fun l : ℕ => (if e = 0 then (if l < 64 then D b t (128 * p + l) else 0) else (if l < 64 then 0 else D b t (128 * p + l))) * KV b s (1024 + 128 * p + l)
  rw [e1, gr]
  match e with
  | 0 =>
    rw [Finset.sum_eq_zero (s := Finset.range 64) (f := fun l => _ * KV b s (1024 + 128 * p + (64 + l))), add_zero]
    · refine Finset.sum_congr rfl fun l hl => ?_
      rw [if_pos rfl, if_pos (Finset.mem_range.mp hl), show 64 * (2 * p + (0 : Fin 2).val) + l = 128 * p + l by show 64 * (2 * p + 0) + l = _; omega, add_assoc]
    · intro l _
      rw [if_pos rfl, if_neg (by omega), zero_mul]
  | 1 =>
    rw [Finset.sum_eq_zero, zero_add]
    · refine Finset.sum_congr rfl fun l hl => ?_
      rw [if_neg (by decide), if_neg (by omega), show 64 * (2 * p + (1 : Fin 2).val) + l = 128 * p + (64 + l) by show 64 * (2 * p + 1) + l = _; omega, add_assoc]
    · intro l hl
      rw [if_neg (by decide), if_pos (Finset.mem_range.mp hl), zero_mul]

/-- The gradient of a score, and a weight, by batch, head, row and column. -/
def dzr (b h t s : ℕ) : ℝ := dz 2048 (zr Q KV b h) (gr KV D b h) t s
def wr (b h t s : ℕ) : ℝ := wt 2048 (zr Q KV b h) t s

theorem head_dz (b p : ℕ) (e : Fin 2) (t s : ℕ) : ((blockOps Q KV D b p).head e).dz t s = dzr Q KV D b (2 * p + e.val) t s := by
  unfold dzr; rw [← head_z Q KV D, ← head_g Q KV D]; rfl
theorem head_w (b p : ℕ) (e : Fin 2) (t s : ℕ) : ((blockOps Q KV D b p).head e).w t s = wr Q KV b (2 * p + e.val) t s := by
  unfold wr; rw [← head_z Q KV D]; rfl

/-- The kernel's gradients by the column of all the heads. -/
theorem dq_col (b t j : ℕ) : (blockOps Q KV D b (j / 128)).dq t (lane' j) = ∑ s ∈ Finset.range 2048, dzr Q KV D b (j / 64) t s * (1 / 8) * KV b s j := by
  have hk : ∀ s, (blockOps Q KV D b (j / 128)).k s (lane' j) = KV b s j := fun s => congrArg (KV b s) (Nat.div_add_mod j 128)
  have hN : (blockOps Q KV D b (j / 128)).N = 2048 := rfl
  unfold Ops.dq
  simp only [hk, head_dz, hN]
  by_cases hl : (lane' j).val < 64
  · have hl' : j % 128 < 64 := hl
    rw [if_pos hl, Finset.sum_mul, show 2 * (j / 128) + (0 : Fin 2).val = j / 64 by show 2 * (j / 128) + 0 = _; omega]
    exact Finset.sum_congr rfl fun s _ => by ring
  · have hl' : ¬ j % 128 < 64 := hl
    rw [if_neg hl, Finset.sum_mul, show 2 * (j / 128) + (1 : Fin 2).val = j / 64 by show 2 * (j / 128) + 1 = _; omega]
    exact Finset.sum_congr rfl fun s _ => by ring

theorem dk_col (b s j : ℕ) : (blockOps Q KV D b (j / 128)).dk 0 2048 s (lane' j) = ∑ t ∈ Finset.range 2048, dzr Q KV D b (j / 64) t s * (1 / 8) * Q b t j := by
  have hj : 128 * (j / 128) + (lane' j).val = j := Nat.div_add_mod j 128
  have hq : ∀ (e : Fin 2) (t : ℕ), (blockOps Q KV D b (j / 128)).q e t (lane' j)
      = if e = 0 then (if (lane' j).val < 64 then Q b t j * (1 / 8) else 0) else (if (lane' j).val < 64 then 0 else Q b t j * (1 / 8)) := by
    intro e t
    have : (blockOps Q KV D b (j / 128)).q e t (lane' j) = if e = 0 then (if (lane' j).val < 64 then Q b t (128 * (j / 128) + (lane' j).val) * (1 / 8) else 0)
      else (if (lane' j).val < 64 then 0 else Q b t (128 * (j / 128) + (lane' j).val) * (1 / 8)) := rfl
    rw [this, hj]
  unfold Ops.dk Ops.dkS
  simp only [hq, head_dz, zero_add]
  by_cases hl : (lane' j).val < 64
  · have hl' : j % 128 < 64 := hl
    simp only [if_pos hl, if_pos, if_neg (show ¬ (1 : Fin 2) = 0 by decide), mul_zero, Finset.sum_const_zero, add_zero]
    rw [show 2 * (j / 128) + (0 : Fin 2).val = j / 64 by show 2 * (j / 128) + 0 = _; omega]
    exact Finset.sum_congr rfl fun s _ => by ring
  · have hl' : ¬ j % 128 < 64 := hl
    simp only [if_neg hl, if_pos, if_neg (show ¬ (1 : Fin 2) = 0 by decide), mul_zero, Finset.sum_const_zero, zero_add]
    rw [show 2 * (j / 128) + (1 : Fin 2).val = j / 64 by show 2 * (j / 128) + 1 = _; omega]
    exact Finset.sum_congr rfl fun s _ => by ring

theorem dv_col (b s j : ℕ) : (blockOps Q KV D b (j / 128)).dv 0 2048 s (lane' j) = ∑ t ∈ Finset.range 2048, D b t j * wr Q KV b (j / 64) t s := by
  have hj : 128 * (j / 128) + (lane' j).val = j := Nat.div_add_mod j 128
  have hq : ∀ (e : Fin 2) (t : ℕ), (blockOps Q KV D b (j / 128)).d e t (lane' j)
      = if e = 0 then (if (lane' j).val < 64 then D b t j else 0) else (if (lane' j).val < 64 then 0 else D b t j) := by
    intro e t
    have : (blockOps Q KV D b (j / 128)).d e t (lane' j) = if e = 0 then (if (lane' j).val < 64 then D b t (128 * (j / 128) + (lane' j).val) else 0)
      else (if (lane' j).val < 64 then 0 else D b t (128 * (j / 128) + (lane' j).val)) := rfl
    rw [this, hj]
  unfold Ops.dv Ops.dvS
  simp only [hq, head_w, zero_add]
  by_cases hl : (lane' j).val < 64
  · have hl' : j % 128 < 64 := hl
    simp only [if_pos hl, if_pos, if_neg (show ¬ (1 : Fin 2) = 0 by decide), mul_zero, Finset.sum_const_zero, add_zero]
    rw [show 2 * (j / 128) + (0 : Fin 2).val = j / 64 by show 2 * (j / 128) + 0 = _; omega]
    exact Finset.sum_congr rfl fun s _ => by ring
  · have hl' : ¬ j % 128 < 64 := hl
    simp only [if_neg hl, if_pos, if_neg (show ¬ (1 : Fin 2) = 0 by decide), mul_zero, Finset.sum_const_zero, zero_add]
    rw [show 2 * (j / 128) + (1 : Fin 2).val = j / 64 by show 2 * (j / 128) + 1 = _; omega]
    exact Finset.sum_congr rfl fun s _ => by ring

/-- The arguments hold real numbers. -/
structure ArgsAt (a0 : FVec Ideal S4x2048x1024 .bf16) (a1 : FVec Ideal S4x2048x2048 .bf16) (a2 : FVec Ideal S4x2048x1024 .bf16) : Prop where
  q : ∀ (b : Fin 4) (t : Fin 2048) (j : Fin 1024), a0 (ix3 b t j) = (Q b.val t.val j.val : EReal)
  kv : ∀ (b : Fin 4) (t : Fin 2048) (j : Fin 2048), a1 (ix3 b t j) = (KV b.val t.val j.val : EReal)
  d : ∀ (b : Fin 4) (t : Fin 2048) (j : Fin 1024), a2 (ix3 b t j) = (D b.val t.val j.val : EReal)

variable {Q KV D} {a0 : FVec Ideal S4x2048x1024 .bf16} {a1 : FVec Ideal S4x2048x2048 .bf16} {a2 : FVec Ideal S4x2048x1024 .bf16}

theorem rows_at (x : FVec Ideal S4x2048x1024 .bf16) (b : Fin 4) (t : Fin 2048) (h : Fin 16) (l : Fin 64) :
    rowsOf x (ix4 b t h l) = x (ix3 b t ⟨64 * h.val + l.val, by omega⟩) := by
  unfold rowsOf; rw [heads_at]; rfl
theorem keys_at (x : FVec Ideal S4x2048x2048 .bf16) (b : Fin 4) (t : Fin 2048) (h : Fin 16) (l : Fin 64) :
    keysOf x (ix4 b t h l) = x (ix3 b t ⟨64 * h.val + l.val, by omega⟩) := by
  unfold keysOf; rw [heads_at]; pointwise
theorem vals_at (x : FVec Ideal S4x2048x2048 .bf16) (b : Fin 4) (t : Fin 2048) (h : Fin 16) (l : Fin 64) :
    valsOf x (ix4 b t h l) = x (ix3 b t ⟨1024 + (64 * h.val + l.val), by omega⟩) := by
  unfold valsOf; rw [heads_at]; pointwise

variable (hA : ArgsAt Q KV D a0 a1 a2)
include hA

theorem zT_at (b : Fin 4) (h : Fin 16) : Holds (zT a0 a1) b h (zr Q KV b.val h.val) := by
  intro t s
  unfold zT zr
  rw [scores_at, Finset.sum_range (fun l => Q b.val t.val (64 * h.val + l) * KV b.val s.val (64 * h.val + l)), EReal.coe_mul, coe_sum]
  congr 1
  refine Finset.sum_congr rfl fun l _ => ?_
  rw [rows_at, keys_at, hA.q, hA.kv, EReal.coe_mul]

theorem gT_at (b : Fin 4) (h : Fin 16) : Holds (cot (valsOf a1) (rowsOf a2)) b h fun t s => if s < t then gr KV D b.val h.val t s else 0 := by
  intro t s
  rw [cot_at]
  by_cases c : s.val < t.val
  · refine (if_pos c).trans (Eq.trans ?_ (congrArg Real.toEReal (if_pos c).symm))
    unfold gr
    rw [Finset.sum_range (fun l => D b.val t.val (64 * h.val + l) * KV b.val s.val (1024 + (64 * h.val + l))), coe_sum]
    refine Finset.sum_congr rfl fun l _ => ?_
    rw [rows_at, vals_at, hA.d, hA.kv, EReal.coe_mul]
  · exact (if_neg c).trans (congrArg Real.toEReal (if_neg c).symm)

theorem dzT_at (b : Fin 4) (h : Fin 16) : Holds (dzT a0 a1 a2) b h fun t s => dzr Q KV D b.val h.val t s * (1 / 8) :=
  dScore_at (zT_at hA b h) (aT_at (zT_at hA b h) (gT_at hA b h))

theorem dq_at (b : Fin 4) (t : Fin 2048) (j : Fin 1024) :
    cols (dqT (dzT a0 a1 a2) (keysOf a1)) (ix3 b t j) = ((blockOps Q KV D b.val (j.val / 128)).dq t.val (lane' j.val) : ℝ) := by
  rw [cols_at, dqT_at, dq_col, Finset.sum_range (fun s => dzr Q KV D b.val (j.val / 64) t.val s * (1 / 8) * KV b.val s j.val), coe_sum]
  refine Finset.sum_congr rfl fun s _ => ?_
  rw [dzT_at hA, keys_at, hA.kv, EReal.coe_mul]
  exact congrArg (fun n => _ * ((KV b.val s.val n : ℝ) : EReal)) (Nat.div_add_mod j.val 64)

theorem dk_at (b : Fin 4) (s : Fin 2048) (j : Fin 1024) :
    cols (dkT (dzT a0 a1 a2) (rowsOf a0)) (ix3 b s j) = ((blockOps Q KV D b.val (j.val / 128)).dk 0 2048 s.val (lane' j.val) : ℝ) := by
  rw [cols_at, dkT_at, dk_col, Finset.sum_range (fun t => dzr Q KV D b.val (j.val / 64) t s.val * (1 / 8) * Q b.val t j.val), coe_sum]
  refine Finset.sum_congr rfl fun t _ => ?_
  rw [dzT_at hA, rows_at, hA.q, EReal.coe_mul]
  exact congrArg (fun n => _ * ((Q b.val t.val n : ℝ) : EReal)) (Nat.div_add_mod j.val 64)

theorem dv_at (b : Fin 4) (s : Fin 2048) (j : Fin 1024) :
    cols (dvT (weight (zT a0 a1)) (rowsOf a2)) (ix3 b s j) = ((blockOps Q KV D b.val (j.val / 128)).dv 0 2048 s.val (lane' j.val) : ℝ) := by
  rw [cols_at, dvT_at, dv_col, Finset.sum_range (fun t => D b.val t j.val * wr Q KV b.val (j.val / 64) t s.val), coe_sum]
  refine Finset.sum_congr rfl fun t _ => ?_
  rw [rows_at, hA.d, EReal.coe_mul]
  refine (congrArg (fun n => ((D b.val t.val n : ℝ) : EReal) * _) (Nat.div_add_mod j.val 64)).trans (congrArg _ ?_)
  by_cases c : s.val < t.val
  · rw [if_pos c, weight_at (zT_at hA b _) t s, wr, wt, if_pos c]
  · rw [if_neg c, wr, wt, if_neg c, EReal.coe_zero]

end Cert.RefVal
-- ==== Proof.Saved.lean ====
module

public import proofs.«01_k».proof.Proof.RefFinal

@[expose] public section

set_option maxRecDepth 16384

noncomputable section

open scoped BigOperators

/-! # The saved sums that the kernel is handed -/

namespace Cert.Tile

open Idealize.ShloMosaic Idealize.ShloMosaic.TcCoe Cert.KernelIdeal Cert.KernelIdeal.Gen Cert.Stick
open Cert.RefVal (T4 Holds)

def ltotT (kp : T4) : FVec Ideal S4x2048x1024 .f32 :=
  shapeCast _ (broadcastInDim S4x2048x16x64 ![0, 1, 2, 3] bcast_S4x2048x16x1_S4x2048x16x64_0_1_2_3
    (broadcastInDim S4x2048x16x1 ![0, 1, 2] bcast_S4x2048x16_S4x2048x16x1_0_1_2
      (transpose S4x2048x16 [0, 2, 1] (Host.reduceAdd kp (constant S_ .f32 0x00000000#32) reducesTo_S4x16x2048x2048_S4x16x2048_d3 h_S_)
        transposes_S4x16x2048_S4x2048x16_0_2_1))) shapeCasts_S4x2048x16x64_S4x2048x1024

theorem saved_eq (m : (ℓ : Loc nD τ sig) → Idealize.ShloMosaic.Buf (Elt Ideal) ℓ) (c : Dev nD) :
    (V m c main_v22 : Vec Ideal S4x2048x1024 .f32)
      = ltotT (RefVal.logKeep (RefVal.zT (m ((c : Thread nD τ).loc main_arg0)) (m ((c : Thread nD τ).loc main_arg1)))) := by
  show StableHlo.after [hostOps0, hostOps0_1, hostOps0_2, hostOps0_3, hostOps0_4].flatten (fun b => m (c, b))
      (Proc.tc.devRef main_v22) = _
  simp only [hostOps0, hostOps0_1, hostOps0_2, hostOps0_3, hostOps0_4, List.flatten_cons, List.flatten_nil, List.append_nil, List.cons_append,
      List.nil_append]
  after_results
  rfl

theorem ltotT_at (kp : T4) (b : Fin 4) (t : Fin 2048) (j : Fin 1024) :
    ltotT kp (ix3 b t j) = ∑ s : Fin 2048, kp (ix4 b ⟨j.val / 64, by omega⟩ t s) := by
  unfold ltotT
  pointwise

variable {m : (ℓ : Loc nD τ sig) → Idealize.ShloMosaic.Buf (Elt Ideal) ℓ} {c : Dev nD} {q kv d : ℕ → ℕ → ℕ → ℝ}

theorem arrAt (h : RefVal.ArgsAt q kv d (m ((c : Thread nD τ).loc main_arg0)) (m ((c : Thread nD τ).loc main_arg1)) (m ((c : Thread nD τ).loc main_arg2))) :
    ArrAt m c q kv d where
  q := h.q
  kv := h.kv
  d := h.d
  lt b t p e := by
    refine (congrFun (saved_eq m c) _).trans ((ltotT_at _ b t _).trans ?_)
    rw [Finset.sum_range (fun s => ((blockOps q kv d b.val p.val).head e).kp t.val s), coe_sum]
    refine Finset.sum_congr rfl fun s _ => ?_
    rw [RefVal.logKeep_at (RefVal.zT_at h b _) t s]
    have he : (128 * p.val + 64 * e.val) / 64 = 2 * p.val + e.val := by omega
    show ((keep (RefVal.zr q kv b.val ((128 * p.val + 64 * e.val) / 64)) t.val s.val : ℝ) : EReal) = _
    rw [he, ← RefVal.head_z q kv d]

end Cert.Tile
-- ==== Proof.Agree.lean ====
module

public import proofs.«01_k».proof.Defs
public import proofs.«01_k».proof.Proof.Saved
public import proofs.«01_k».proof.Proof.Gen.KernelIdeal.Value

@[expose] public section

set_option maxRecDepth 16384

noncomputable section

open scoped BigOperators

/-! # Finite arguments, and the two programs' results -/

namespace Cert.RefVal

open Idealize.ShloMosaic Idealize.ShloMosaic.TcCoe Cert.ReferenceIdeal Cert.ReferenceIdeal.Gen Cert.Stick
open Cert.Tile (dqA dkA dvA)

/-- An entry whose magnitude is below infinity is a real number. -/
theorem real_of_lt {x : EReal} (h : max x (-x) < ⊤) : x = ((x.toReal : ℝ) : EReal) := by
  refine (EReal.coe_toReal ?_ ?_).symm
  · rintro rfl; simp at h
  · rintro rfl; simp at h

theorem lt_of_bit {x : EReal} {φ : FTy} (h : FloatOps.cmpf (F := Ideal) (φ := φ) .olt (max x (-x)) (⊤ : EReal) = 1#1) : max x (-x) < ⊤ := by
  by_contra c
  have : FloatOps.cmpf (F := Ideal) (φ := φ) .olt (max x (-x)) (⊤ : EReal) = BitVec.ofBool (decide (max x (-x) < ⊤)) := rfl
  rw [this, decide_eq_false c] at h
  exact absurd h (by decide)

theorem inf_bf16 : Ideal.ofBits .bf16 0x7F80#16 = (⊤ : EReal) := by simp [Ideal.ofBits, Ideal.ieee]

/-- A real array by its coordinates. -/
def coords (n k p : ℕ) (x : (⟨3, ![n, k, p]⟩ : Shape).Idx → EReal) (b t j : ℕ) : ℝ :=
  if h : b < n ∧ t < k ∧ j < p then (x (ix3 ⟨b, h.1⟩ ⟨t, h.2.1⟩ ⟨j, h.2.2⟩)).toReal else 0

theorem coords_at {n k p : ℕ} (x : (⟨3, ![n, k, p]⟩ : Shape).Idx → EReal) (b : Fin n) (t : Fin k) (j : Fin p) :
    coords n k p x b.val t.val j.val = (x (ix3 b t j)).toReal := dif_pos ⟨b.isLt, t.isLt, j.isLt⟩

instance preFacts : Cert.Pre_finite.Facts := ⟨by decide, by decide⟩

theorem argsAt (a0 : FVec Ideal S4x2048x1024 .bf16) (a1 : FVec Ideal S4x2048x2048 .bf16) (a2 : FVec Ideal S4x2048x1024 .bf16) (a3 a4 : FVec Ideal S4x2048x1024 .f32)
    (h0 : (Cert.Pre_finite.fn a0 a1 a2 a3 a4).1 = fun _ => 1#1) (h1 : (Cert.Pre_finite.fn a0 a1 a2 a3 a4).2.1 = fun _ => 1#1)
    (h2 : (Cert.Pre_finite.fn a0 a1 a2 a3 a4).2.2 = fun _ => 1#1) :
    ArgsAt (coords 4 2048 1024 a0) (coords 4 2048 2048 a1) (coords 4 2048 1024 a2) a0 a1 a2 where
  q b t j := by
    rw [coords_at]
    refine real_of_lt (lt_of_bit (φ := .bf16) ?_)
    rw [← inf_bf16]
    exact congrFun h0 (ix3 b t j)
  kv b t j := by
    rw [coords_at]
    refine real_of_lt (lt_of_bit (φ := .bf16) ?_)
    rw [← inf_bf16]
    exact congrFun h1 (ix3 b t j)
  d b t j := by
    rw [coords_at]
    refine real_of_lt (lt_of_bit (φ := .bf16) ?_)
    rw [← inf_bf16]
    exact congrFun h2 (ix3 b t j)

variable {Q KV D : ℕ → ℕ → ℕ → ℝ} {m' : (ℓ : Loc nD τ sig) → Idealize.ShloMosaic.Buf (Elt Ideal) ℓ} {c : Dev nD}
variable (h : ArgsAt Q KV D (A0 m' c) (A1 m' c) (A2 m' c))
include h

theorem ref54 : (Value.res_main_v54 m' c : FVec Ideal S4x2048x1024 .bf16) = dqA Q KV D := by
  rw [res54]
  funext i
  idx_vars i
  exact dq_at h _ _ _
theorem ref55 : (Value.res_main_v55 m' c : FVec Ideal S4x2048x1024 .f32) = dkA Q KV D (A3 m' c) := by
  rw [res55]
  funext i
  idx_vars i
  exact congrArg (A3 m' c _ + ·) (dk_at h _ _ _)
theorem ref56 : (Value.res_main_v56 m' c : FVec Ideal S4x2048x1024 .f32) = dvA Q KV D (A4 m' c) := by
  rw [res56]
  funext i
  idx_vars i
  exact congrArg (A4 m' c _ + ·) (dv_at h _ _ _)

end Cert.RefVal

end
-- ==== Proof.ConvRef.lean ====
module

public import proofs.«01_k».proof.Proof.ConvGrad
public import proofs.«01_k».proof.Proof.Agree
public import proofs.«01_k».proof.Proof.Gen.Reference19Ideal.Run

@[expose] public section

set_option maxRecDepth 16384

noncomputable section

open scoped BigOperators

/-! # The gradient of the convolution: what the reference leaves -/

namespace Cert.Conv

open Idealize.ShloMosaic Idealize.ShloMosaic.TcCoe Idealize.SL.Sem Cert.Reference19Ideal Cert.Reference19Ideal.Gen

variable (u d : FVec Ideal S4x2048x3072 .f32) (w : FVec Ideal S8x3072 .f32) (b : FVec Ideal S1x3072 .f32)

/-! The reference's intermediate results. -/

def refPast : FVec Ideal S4x2051x3072 .f32 :=
  concatenate S4x2051x3072 1 [⟨S4x3x3072, broadcastInDim S4x3x3072 ![] bcast_S_S4x3x3072 (constant S_ .f32 0x00000000#32)⟩, ⟨S4x2048x3072, u⟩] concatenates_S4x3x3072_S4x2048x3072_S4x2051x3072_d1

def refTap (o : Fin 2 → ℕ) (h : S8x3072.Slices o S1x3072) : FVec Ideal S4x2048x3072 .f32 :=
  broadcastInDim S4x2048x3072 ![0, 1, 2] bcast_S1x1x3072_S4x2048x3072_0_1_2 (broadcastInDim S1x1x3072 ![2] bcast_S3072_S1x1x3072_2
    (shapeCast _ (extractStridedSlice S1x3072 o w h) shapeCasts_S1x3072_S3072))

def refAt (o : Fin 3 → ℕ) (h : S4x2051x3072.Slices o S4x2048x3072) : FVec Ideal S4x2048x3072 .f32 := extractStridedSlice S4x2048x3072 o (refPast u) h

def refPre : FVec Ideal S4x2048x3072 .f32 :=
  addf (addf (addf (addf (addf (broadcastInDim S4x2048x3072 ![] bcast_S_S4x2048x3072 (constant S_ .f32 0x00000000#32))
    (mulf (refTap w ![0, 0] slices_S8x3072_S1x3072_0_0) (refAt u ![0, 0, 0] slices_S4x2051x3072_S4x2048x3072_0_0_0)))
    (mulf (refTap w ![1, 0] slices_S8x3072_S1x3072_1_0) (refAt u ![0, 1, 0] slices_S4x2051x3072_S4x2048x3072_0_1_0)))
    (mulf (refTap w ![2, 0] slices_S8x3072_S1x3072_2_0) (refAt u ![0, 2, 0] slices_S4x2051x3072_S4x2048x3072_0_2_0)))
    (mulf (refTap w ![3, 0] slices_S8x3072_S1x3072_3_0) (refAt u ![0, 3, 0] slices_S4x2051x3072_S4x2048x3072_0_3_0)))
    (broadcastInDim S4x2048x3072 ![0, 1, 2] bcast_S1x1x3072_S4x2048x3072_0_1_2 (broadcastInDim S1x1x3072 ![1, 2] bcast_S1x3072_S1x1x3072_1_2 b))

abbrev refOne : FVec Ideal S4x2048x3072 .f32 := broadcastInDim S4x2048x3072 ![] bcast_S_S4x2048x3072 (constant S_ .f32 0x3F800000#32)

def refSig (x : FVec Ideal S4x2048x3072 .f32) : FVec Ideal S4x2048x3072 .f32 := Host.divf refOne (addf refOne (Host.exp (Host.negf x)))

def refGrad (x : FVec Ideal S4x2048x3072 .f32) : FVec Ideal S4x2048x3072 .f32 :=
  addf (mulf d (refSig x)) (mulf (mulf x d) (mulf (refSig x) (subf refOne (refSig x))))

def refPad (o e : Fin 3 → ℕ) (h : S4x2048x3072.Pads o e ![0, 0, 0] S4x2051x3072) (x y : FVec Ideal S4x2048x3072 .f32) : FVec Ideal S4x2051x3072 .f32 :=
  pad S4x2051x3072 o e ![0, 0, 0] (mulf x y) (constant S_ .f32 0x00000000#32) h h_S_

def refDu (g : FVec Ideal S4x2048x3072 .f32) : FVec Ideal S4x2048x3072 .bf16 :=
  truncf .bf16 (extractStridedSlice S4x2048x3072 ![0, 3, 0] (addf (addf (addf
    (refPad ![0, 3, 0] ![0, 0, 0] pads_S4x2048x3072_S4x2051x3072_000_300_000 (refTap w ![3, 0] slices_S8x3072_S1x3072_3_0) g)
    (refPad ![0, 2, 0] ![0, 1, 0] pads_S4x2048x3072_S4x2051x3072_000_210_000 (refTap w ![2, 0] slices_S8x3072_S1x3072_2_0) g))
    (refPad ![0, 1, 0] ![0, 2, 0] pads_S4x2048x3072_S4x2051x3072_000_120_000 (refTap w ![1, 0] slices_S8x3072_S1x3072_1_0) g))
    (refPad ![0, 0, 0] ![0, 3, 0] pads_S4x2048x3072_S4x2051x3072_000_030_000 (refTap w ![0, 0] slices_S8x3072_S1x3072_0_0) g))
    slices_S4x2051x3072_S4x2048x3072_0_3_0) bitsLt_bf16_f32

def refSum (x : FVec Ideal S4x2048x3072 .f32) : FVec Ideal S1x3072 .f32 :=
  broadcastInDim S1x3072 ![1] bcast_S3072_S1x3072_1 (Host.reduceAdd (shapeCast S1x1x3072 (Host.reduceAdd x (constant S_ .f32 0x00000000#32) reducesTo_S4x2048x3072_S3072_d0_1 h_S_)
    shapeCasts_S3072_S1x1x3072) (constant S_ .f32 0x00000000#32) reducesTo_S1x1x3072_S3072_d0_1 h_S_)

def refRow (o e : Fin 2 → ℕ) (h : S1x3072.Pads o e ![0, 0] S8x3072) (x y : FVec Ideal S4x2048x3072 .f32) : FVec Ideal S8x3072 .f32 :=
  pad S8x3072 o e ![0, 0] (refSum (mulf x y)) (constant S_ .f32 0x00000000#32) h h_S_

def refDw (g : FVec Ideal S4x2048x3072 .f32) : FVec Ideal S8x3072 .f32 :=
  addf (addf (addf (refRow ![3, 0] ![4, 0] pads_S1x3072_S8x3072_340_000 g (refAt u ![0, 3, 0] slices_S4x2051x3072_S4x2048x3072_0_3_0))
    (refRow ![2, 0] ![5, 0] pads_S1x3072_S8x3072_250_000 g (refAt u ![0, 2, 0] slices_S4x2051x3072_S4x2048x3072_0_2_0)))
    (refRow ![1, 0] ![6, 0] pads_S1x3072_S8x3072_160_000 g (refAt u ![0, 1, 0] slices_S4x2051x3072_S4x2048x3072_0_1_0)))
    (refRow ![0, 0] ![7, 0] pads_S1x3072_S8x3072_070_000 g (refAt u ![0, 0, 0] slices_S4x2051x3072_S4x2048x3072_0_0_0))

section
variable (m : (ℓ : Loc nD τ sig) → Idealize.ShloMosaic.Buf (Elt Ideal) ℓ) (c : Dev nD)

abbrev refG : FVec Ideal S4x2048x3072 .f32 := refGrad (m ((c.tc : Thread nD τ).loc main_arg1)) (refPre (m ((c.tc : Thread nD τ).loc main_arg0)) (m ((c.tc : Thread nD τ).loc main_arg2)) (m ((c.tc : Thread nD τ).loc main_arg3)))

theorem res0 : Value.res_out0 m c = refDu (m ((c.tc : Thread nD τ).loc main_arg2)) (refG m c) := rfl
theorem res1 : Value.res_out1 m c = refDw (m ((c.tc : Thread nD τ).loc main_arg0)) (refG m c) := rfl
theorem res2 : Value.res_out2 m c = refSum (refG m c) := rfl
end

/-! Summing a rank-3 array over its first two axes. -/

theorem drop_first_two {n0 n1 n2 : ℕ} (h : (⟨3, ![n0, n1, n2]⟩ : Shape).ReducesTo [0, 1] ⟨1, ![n2]⟩) (l : Fin n2) (i : (⟨3, ![n0, n1, n2]⟩ : Shape).Idx) :
    h.drop i = ix1 l ↔ ∃ k : Fin n0 × Fin n1, ix3 k.1 k.2 l = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
  · rintro ⟨k, rfl⟩
    funext b
    apply Fin.ext
    match b with
    | ⟨0, _⟩ => rfl

theorem reduce_first_two {n0 n1 n2 : ℕ} (h : (⟨3, ![n0, n1, n2]⟩ : Shape).ReducesTo [0, 1] ⟨1, ![n2]⟩) (v : (⟨3, ![n0, n1, n2]⟩ : Shape).Idx → EReal) (l : Fin n2) :
    Ideal.hostReduceAdd h v 0 (ix1 l) = ∑ k0 : Fin n0, ∑ k1 : Fin n1, v (ix3 k0 k1 l) := by
  refine (zero_add (M := EReal) _).trans ((Finset.sum_filter_eq_sum_of_fiber _ (fun k : Fin n0 × Fin n1 => ix3 k.1 k.2 l)
    (fun _ _ e => Prod.ext (congrFun e 0) (congrFun e 1)) (drop_first_two h l) v).trans ?_)
  simp only [Fintype.sum_prod_type]

theorem refTap_at (k : Fin 8) (h : S8x3072.Slices ![k.val, 0] S1x3072) (n : Fin 4) (p : Fin 2048) (l : Fin 3072) :
    (refTap w ![k.val, 0] h (ix3 n p l) : EReal) = w (ix2 k l) := by
  unfold refTap
  pointwise

theorem refAt_at (j : ℕ) (hj : j ≤ 3) (h : S4x2051x3072.Slices ![0, j, 0] S4x2048x3072) (n : Fin 4) (p : Fin 2048) (l : Fin 3072) :
    (refAt u ![0, j, 0] h (ix3 n p l) : EReal) = before u n p.val l (3 - j) := by
  unfold refAt refPast
  pointwise
  unfold before
  have hp := p.isLt
  by_cases hq : j + p.val < 3
  · have hn : ¬(3 - j ≤ p.val ∧ p.val - (3 - j) < 2048) := by omega
    rw [dif_pos hq, dif_neg hn]
  · refine (dif_neg hq).trans (Eq.symm ((dif_pos (show 3 - j ≤ p.val ∧ p.val - (3 - j) < 2048 from ⟨by omega, by omega⟩)).trans (congrArg (fun r : Fin 2048 => (u (ix3 n r l) : EReal)) (Fin.ext ?_))))
    show p.val - (3 - j) = j + p.val - 3
    omega

theorem refSum_at (x : FVec Ideal S4x2048x3072 .f32) (l : Fin 3072) : (refSum x (ix2 0 l) : EReal) = ∑ n : Fin 4, ∑ p : Fin 2048, x (ix3 n p l) := by
  unfold refSum
  pointwise
  refine (reduce_first_two reducesTo_S1x1x3072_S3072_d0_1 _ l).trans ((Fin.sum_univ_one (M := EReal) _).trans ((Fin.sum_univ_one (M := EReal) _).trans ?_))
  pointwise
  exact reduce_first_two reducesTo_S4x2048x3072_S3072_d0_1 x l

theorem refPad_at (o e : ℕ) (h : S4x2048x3072.Pads ![0, o, 0] ![0, e, 0] ![0, 0, 0] S4x2051x3072) (x y : FVec Ideal S4x2048x3072 .f32)
    (n : Fin 4) (p : Fin 2051) (l : Fin 3072) : (refPad ![0, o, 0] ![0, e, 0] h x y (ix3 n p l) : EReal)
      = if hp : o ≤ p.val ∧ p.val - o < 2048 then x (ix3 n ⟨p.val - o, hp.2⟩ l) * y (ix3 n ⟨p.val - o, hp.2⟩ l) else 0 := by
  unfold refPad
  pointwise

theorem refRow_at (o e : ℕ) (h : S1x3072.Pads ![o, 0] ![e, 0] ![0, 0] S8x3072) (x y : FVec Ideal S4x2048x3072 .f32) (k : Fin 8) (l : Fin 3072) :
    (refRow ![o, 0] ![e, 0] h x y (ix2 k l) : EReal) = if k.val = o then ∑ n : Fin 4, ∑ p : Fin 2048, (x (ix3 n p l) : EReal) * y (ix3 n p l) else 0 := by
  unfold refRow
  pointwise
  by_cases hk : k.val = o
  · refine (dif_pos ⟨by omega, by omega⟩).trans (Eq.trans ?_ (if_pos hk).symm)
    refine (congrArg (fun r : Fin 1 => (refSum (mulf x y) (ix2 r l) : EReal)) (Subsingleton.elim _ 0)).trans ((refSum_at (mulf x y) l).trans ?_)
    pointwise
  · exact (dif_neg (by omega)).trans (if_neg hk).symm

theorem sum_of {x0 y0 x1 y1 x2 y2 x3 y3 b a0 c0 a1 c1 a2 c2 a3 c3 : EReal} (h0 : x0 = a0) (k0 : y0 = c0) (h1 : x1 = a1) (k1 : y1 = c1) (h2 : x2 = a2) (k2 : y2 = c2)
    (h3 : x3 = a3) (k3 : y3 = c3) : x0 * y0 + x1 * y1 + x2 * y2 + x3 * y3 + b = a0 * c0 + a1 * c1 + a2 * c2 + a3 * c3 + b := by
  rw [h0, k0, h1, k1, h2, k2, h3, k3]

theorem refPre_at (n : Fin 4) (p : Fin 2048) (l : Fin 3072) : (refPre u w b (ix3 n p l) : EReal) = pre u w b n p.val l := by
  have ht (k : Fin 8) (h : S8x3072.Slices ![k.val, 0] S1x3072) := refTap_at w k h n p l
  have hu (j : ℕ) (hj : j ≤ 3) (h : S4x2051x3072.Slices ![0, j, 0] S4x2048x3072) := refAt_at u j hj h n p l
  have key : (refPre u w b (ix3 n p l) : EReal) = ((((w (ix2 0 l) * before u n p.val l 3) + w (ix2 1 l) * before u n p.val l 2)
      + w (ix2 2 l) * before u n p.val l 1) + w (ix2 3 l) * before u n p.val l 0) + b (ix2 0 l) := by
    unfold refPre
    pointwise
    exact sum_of (ht 0 _) (hu 0 (by omega) _) (ht 1 _) (hu 1 (by omega) _) (ht 2 _) (hu 2 (by omega) _) (ht 3 _) (hu 3 (by omega) _)
  refine key.trans ?_
  unfold pre
  generalize (w (ix2 0 l) * before u n p.val l 3 : EReal) = a0
  generalize (w (ix2 1 l) * before u n p.val l 2 : EReal) = a1
  generalize (w (ix2 2 l) * before u n p.val l 1 : EReal) = a2
  generalize (w (ix2 3 l) * before u n p.val l 0 : EReal) = a3
  generalize (b (ix2 0 l) : EReal) = b0
  show a0 + a1 + a2 + a3 + b0 = b0 + a3 + a2 + a1 + a0
  abel

/-- The two ways of writing the gradient agree where the incoming gradient is finite. -/
theorem slope_eq (d : ℝ) (x : EReal) : (d : EReal) * Ideal.logistic x + (x * d) * (Ideal.logistic x * (1 - Ideal.logistic x)) = d * slope x := by
  unfold slope
  induction x with
  | bot => simp
  | top =>
    have h : (1 : EReal) - 1 = 0 := by rw [← EReal.coe_one, ← EReal.coe_sub, sub_self, EReal.coe_zero]
    simp [h]
  | coe r =>
    rw [Ideal.logistic_coe]
    generalize (1 + Real.exp (-r))⁻¹ = s
    norm_cast
    ring

theorem refGrad_at (x : FVec Ideal S4x2048x3072 .f32) (i : S4x2048x3072.Idx) :
    (refGrad d x i : EReal) = d i * Ideal.logistic (x i) + (x i * d i) * (Ideal.logistic (x i) * (1 - Ideal.logistic (x i))) := by
  unfold refGrad refSig Ideal.logistic
  pointwise

variable (hd : ∀ i, ∃ r : ℝ, (d i : EReal) = r)
include hd

theorem refG_at (n : Fin 4) (p : Fin 2048) (l : Fin 3072) : (refGrad d (refPre u w b) (ix3 n p l) : EReal) = dpre u d w b n p.val l := by
  obtain ⟨r, hr⟩ := hd (ix3 n p l)
  refine (refGrad_at d _ _).trans ?_
  rw [refPre_at u w b n p l, hr]
  refine (slope_eq r _).trans (Eq.symm ((dif_pos p.isLt).trans ?_))
  exact congrArg (fun a : EReal => a * slope (pre u w b n p.val l)) hr

/-- One padded tap, `j` positions on. -/
theorem refPad_g (o e : ℕ) (ho : o ≤ 3) (k : Fin 8) (hk : S8x3072.Slices ![k.val, 0] S1x3072) (h : S4x2048x3072.Pads ![0, o, 0] ![0, e, 0] ![0, 0, 0] S4x2051x3072)
    (n : Fin 4) (p : Fin 2048) (l : Fin 3072) :
    (refPad ![0, o, 0] ![0, e, 0] h (refTap w ![k.val, 0] hk) (refGrad d (refPre u w b)) (ix3 n ⟨3 + p.val, by omega⟩ l) : EReal)
      = w (ix2 k l) * dpre u d w b n (p.val + (3 - o)) l := by
  refine (refPad_at o e h _ _ n _ l).trans ?_
  have hp := p.isLt
  by_cases hq : p.val + (3 - o) < 2048
  · refine (dif_pos (show o ≤ 3 + p.val ∧ 3 + p.val - o < 2048 from ⟨by omega, by omega⟩)).trans ?_
    refine congrArg₂ (fun a b : EReal => a * b) (refTap_at w k hk n _ l) ((refG_at u d w b hd n _ l).trans ?_)
    exact congrArg (fun q => dpre u d w b n q l) (show 3 + p.val - o = p.val + (3 - o) by omega)
  · refine (dif_neg (show ¬(o ≤ 3 + p.val ∧ 3 + p.val - o < 2048) by omega)).trans (Eq.symm ?_)
    exact (congrArg (fun a : EReal => (w (ix2 k l) : EReal) * a) (dif_neg hq)).trans (mul_zero (M₀ := EReal) _)

theorem refDu_at (n : Fin 4) (p : Fin 2048) (l : Fin 3072) : (refDu w (refGrad d (refPre u w b)) (ix3 n p l) : EReal) = du u d w b (ix3 n p l) := by
  have h3 := refPad_g u d w b hd 3 0 (by omega) 3 slices_S8x3072_S1x3072_3_0 pads_S4x2048x3072_S4x2051x3072_000_300_000 n p l
  have h2 := refPad_g u d w b hd 2 1 (by omega) 2 slices_S8x3072_S1x3072_2_0 pads_S4x2048x3072_S4x2051x3072_000_210_000 n p l
  have h1 := refPad_g u d w b hd 1 2 (by omega) 1 slices_S8x3072_S1x3072_1_0 pads_S4x2048x3072_S4x2051x3072_000_120_000 n p l
  have h0 := refPad_g u d w b hd 0 3 (by omega) 0 slices_S8x3072_S1x3072_0_0 pads_S4x2048x3072_S4x2051x3072_000_030_000 n p l
  unfold refDu
  pointwise
  exact congrArg₂ (fun a b : EReal => a + b) (congrArg₂ (fun a b : EReal => a + b) (congrArg₂ (fun a b : EReal => a + b) h3 h2) h1) h0

theorem refDu_eq : refDu w (refGrad d (refPre u w b)) = du u d w b := by
  funext i
  idx_vars i
  exact refDu_at u d w b hd _ _ _

theorem refRow_g (o e : ℕ) (ho : o ≤ 3) (h : S1x3072.Pads ![o, 0] ![e, 0] ![0, 0] S8x3072) (hs : S4x2051x3072.Slices ![0, o, 0] S4x2048x3072) (k : Fin 8) (l : Fin 3072) :
    (refRow ![o, 0] ![e, 0] h (refGrad d (refPre u w b)) (refAt u ![0, o, 0] hs) (ix2 k l) : EReal)
      = if k.val = o then ∑ n : Fin 4, ∑ p : Fin 2048, dpre u d w b n p.val l * before u n p.val l (3 - o) else 0 := by
  refine (refRow_at o e h _ _ k l).trans ?_
  refine congrArg (fun a : EReal => if k.val = o then a else 0) ?_
  exact Finset.sum_congr (M := EReal) rfl fun n _ => Finset.sum_congr (M := EReal) rfl fun p _ =>
    congrArg₂ (fun a b : EReal => a * b) (refG_at u d w b hd n p l) (refAt_at u o ho hs n p l)

omit hd in
theorem pick (f : ℕ → EReal) (k : ℕ) : ((if k = 3 then f 3 else 0) + (if k = 2 then f 2 else 0) + (if k = 1 then f 1 else 0) + (if k = 0 then f 0 else 0) : EReal)
    = if k < 4 then f k else 0 := by
  match k with
  | 0 => simp
  | 1 => simp
  | 2 => simp
  | 3 => simp
  | j + 4 => simp

theorem refDw_at (k : Fin 8) (l : Fin 3072) : (refDw u (refGrad d (refPre u w b)) (ix2 k l) : EReal) = dw u d w b (ix2 k l) := by
  have h3 := refRow_g u d w b hd 3 4 (by omega) pads_S1x3072_S8x3072_340_000 slices_S4x2051x3072_S4x2048x3072_0_3_0 k l
  have h2 := refRow_g u d w b hd 2 5 (by omega) pads_S1x3072_S8x3072_250_000 slices_S4x2051x3072_S4x2048x3072_0_2_0 k l
  have h1 := refRow_g u d w b hd 1 6 (by omega) pads_S1x3072_S8x3072_160_000 slices_S4x2051x3072_S4x2048x3072_0_1_0 k l
  have h0 := refRow_g u d w b hd 0 7 (by omega) pads_S1x3072_S8x3072_070_000 slices_S4x2051x3072_S4x2048x3072_0_0_0 k l
  refine (congrArg₂ (fun a b : EReal => a + b) (congrArg₂ (fun a b : EReal => a + b) (congrArg₂ (fun a b : EReal => a + b) h3 h2) h1) h0).trans ?_
  exact pick (fun j => ∑ n : Fin 4, ∑ p : Fin 2048, dpre u d w b n p.val l * before u n p.val l (3 - j)) k.val

theorem refDw_eq : refDw u (refGrad d (refPre u w b)) = dw u d w b := by
  funext i
  idx_vars i
  exact refDw_at u d w b hd _ _

theorem refDb_at (z : Fin 1) (l : Fin 3072) : (refSum (refGrad d (refPre u w b)) (ix2 z l) : EReal) = db u d w b (ix2 z l) := by
  refine (congrArg (fun r : Fin 1 => (refSum (refGrad d (refPre u w b)) (ix2 r l) : EReal)) (Subsingleton.elim _ 0)).trans ((refSum_at _ l).trans ?_)
  exact Finset.sum_congr (M := EReal) rfl fun n _ => Finset.sum_congr (M := EReal) rfl fun p _ => refG_at u d w b hd n p l

theorem refDb_eq : refSum (refGrad d (refPre u w b)) = db u d w b := by
  funext i
  idx_vars i
  exact refDb_at u d w b hd _ _

omit hd in
theorem ref_results (m : (ℓ : Loc nD τ sig) → Idealize.ShloMosaic.Buf (Elt Ideal) ℓ) (c : Dev nD) (hd : ∀ i, ∃ r : ℝ, (d i : EReal) = r)
    (e0 : m ((c.tc : Thread nD τ).loc main_arg0) = u) (e1 : m ((c.tc : Thread nD τ).loc main_arg1) = d) (e2 : m ((c.tc : Thread nD τ).loc main_arg2) = w)
    (e3 : m ((c.tc : Thread nD τ).loc main_arg3) = b) :
    Value.res_out0 m c = du u d w b ∧ Value.res_out1 m c = dw u d w b ∧ Value.res_out2 m c = db u d w b := by
  subst e0 e1 e2 e3
  exact ⟨(res0 m c).trans (refDu_eq _ _ _ _ hd), (res1 m c).trans (refDw_eq _ _ _ _ hd), (res2 m c).trans (refDb_eq _ _ _ _ hd)⟩

instance preFacts : Cert.Pre_finite_dxc.Facts := ⟨by decide⟩

omit hd in
theorem inf_f32 : Ideal.ofBits .f32 0x7F800000#32 = (⊤ : EReal) := by simp [Ideal.ofBits, Ideal.ieee]

omit hd in
theorem real_dxc (h : Cert.Pre_finite_dxc.fn u d w b = fun _ => 1#1) (i : S4x2048x3072.Idx) : ∃ r : ℝ, (d i : EReal) = r := by
  refine ⟨_, Cert.RefVal.real_of_lt (Cert.RefVal.lt_of_bit (φ := .f32) ?_)⟩
  rw [← inf_f32]
  exact congrFun h i

end Cert.Conv

end
-- ==== Proof.DownDx.lean ====
module

public import proofs.«01_k».proof.Proof.Gen.Kernel2Ideal.Value
public import proofs.«01_k».proof.Proof.Gen.Reference2Ideal.Run
public import proofs.«01_k».proof.Proof.Product

@[expose] public section

set_option maxRecDepth 16384

noncomputable section

open scoped BigOperators

/-! # The gradient of the MLP's activations through the down projection -/

namespace Cert.DownDx

open Idealize.ShloMosaic Idealize.ShloMosaic.TcCoe Idealize.SL.Sem Cert.Kernel2Ideal Cert.Kernel2Ideal.Gen
open Idealize.ShloMosaic.Pipeline (Dat)

variable (m : (ℓ : Loc nD τ sig) → Idealize.ShloMosaic.Buf (Elt Ideal) ℓ) (c : Dev nD)

/-- The result: row `i` of the cotangent against row `j` of the weights. -/
def value (w : FVec Ideal S2816x1024 .bf16) (ct : FVec Ideal S8192x1024 .bf16) : FVec Ideal S8192x2816 .f32 := fun i =>
  ∑ k : Fin 1024, (ct (ix2 (i 0) k) : EReal) * w (ix2 (i 1) k)

theorem idx0 : ∀ t : Fin cfg0.N, win0_0.index t = ![t.val / 2, 0] := by decide +kernel
theorem idx1 : ∀ t : Fin cfg0.N, win0_1.index t = ![t.val % 2, 0] := by decide +kernel
theorem idx2 : ∀ t : Fin cfg0.N, win0_2.index t = ![t.val / 2, t.val % 2] := by decide +kernel

/-- What the kernel leaves. -/
theorem kernel_eq : (dats m 0 c).arrAt 2 cfg0.N = value (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold value k0_pay1
  pointwise
  refine Product.sum_eq fun k => ?_
  congr 1 <;> blk_ext [iblk, V, idx0 t, idx1 t, idx2 t]

/-- What the reference leaves. -/
theorem reference_eq (w : FVec Ideal S2816x1024 .bf16) (ct : FVec Ideal S8192x1024 .bf16) :
    Host.dotGeneral Cert.Reference2Ideal.dot_S8192x1024_S2816x1024_S8192x2816_1_1_0_0_n_n none
      (extf .f32 ct Cert.Reference2Ideal.Gen.bitsLt_bf16_f32) (extf .f32 w Cert.Reference2Ideal.Gen.bitsLt_bf16_f32) = value w ct := by
  funext i
  idx_vars i
  unfold value
  pointwise

end Cert.DownDx

end
-- ==== Proof.DownDw.lean ====
module

public import proofs.«01_k».proof.Proof.Gen.Kernel3Ideal.Value
public import proofs.«01_k».proof.Proof.Gen.Reference3Ideal.Run
public import proofs.«01_k».proof.Proof.Product

@[expose] public section

set_option maxRecDepth 16384

noncomputable section

open scoped BigOperators

/-! # The gradient of the down projection's weights -/

namespace Cert.DownDw

open Idealize.ShloMosaic Idealize.ShloMosaic.TcCoe Idealize.SL.Sem Cert.Kernel3Ideal Cert.Kernel3Ideal.Gen
open Idealize.ShloMosaic.Pipeline (Dat)

variable (m : (ℓ : Loc nD τ sig) → Idealize.ShloMosaic.Buf (Elt Ideal) ℓ) (c : Dev nD)

/-- The result: column `i` of the activations against column `j` of the cotangent, over all positions. -/
def value (x : FVec Ideal S8192x2816 .bf16) (ct : FVec Ideal S8192x1024 .bf16) : FVec Ideal S2816x1024 .f32 := fun i =>
  ∑ k : Fin 8192, (x (ix2 k (i 0)) : EReal) * ct (ix2 k (i 1))

theorem idx0 : ∀ t : Fin cfg0.N, win0_0.index t = ![t.val % 4, t.val / 4] := by decide +kernel
theorem idx1 : ∀ t : Fin cfg0.N, win0_1.index t = ![t.val % 4, 0] := by decide +kernel
theorem idx2 : ∀ t : Fin cfg0.N, win0_2.index t = ![t.val / 4, 0] := by decide +kernel

/-- What a point's blocks add. -/
abbrev term (t : Fin cfg0.N) : FVec Ideal S1408x1024 .f32 := k0_pay1 (iblk m c 0 t) (iblk m c 1 t)

theorem out_eq (t : Fin cfg0.N) (ht : t.val % 4 = 3) (y : S1408x1024.Idx) :
    (outsAt0 m c t.val t.isLt).1 y = ∑ k : Fin 4, (term m c ⟨4 * (t.val / 4) + k.val, by have := t.isLt; omega⟩ y : EReal) :=
  Product.run_sum (fun n h => (outsAt0 m c n h).1) (fun n h => (outsAt0 m c n h).2) (term m c)
    (fun t h i => by
      rw [outsAt0_A m c t h (by omega) (by omega)]
      frame_out
      unfold k0_pay2
      rw [shapeCast_self])
    (fun t h i => by
      rw [outsAt0_B m c t (by omega) h (by omega)]
      frame_out
      simp only [Idealize.ShloMosaic.read_unread_whole]
      unfold k0_pay3
      rw [shapeCast_self]
      rfl)
    (fun t h i => by
      rw [outsAt0_C m c t (by omega) (by omega) h]
      frame_out
      simp only [Idealize.ShloMosaic.read_unread_whole]
      unfold k0_pay4
      rfl) t ht y

/-- What the kernel leaves. -/
theorem kernel_eq : (dats m 0 c).arrAt 2 cfg0.N = value (m ((c : Thread nD τ).loc main_arg0)) (m ((c : Thread nD τ).loc main_arg1)) := by
  refine (dats m 0 c).arrAt_eq_of_covers 2 _ (by decide +kernel) fun t hf y => ?_
  blk_simp
  rw [after0_2]
  refine (out_eq m c t ((flush0_2 t).mp hf) y).trans ?_
  unfold value term k0_pay1
  pointwise
  refine Fin.sum_mul_add_congr (M := EReal) fun s k hl => ?_
  congr 1 <;> blk_ext [iblk, V, idx0, idx1, idx2]

/-- What the reference leaves. -/
theorem reference_eq (x : FVec Ideal S8192x2816 .bf16) (ct : FVec Ideal S8192x1024 .bf16) :
    transpose Cert.Reference3Ideal.S2816x1024 [1, 0] (Host.dotGeneral Cert.Reference3Ideal.dot_S8192x1024_S8192x2816_S1024x2816_0_0_1_1_n_n none
      (extf .f32 ct Cert.Reference3Ideal.Gen.bitsLt_bf16_f32) (extf .f32 x Cert.Reference3Ideal.Gen.bitsLt_bf16_f32))
      Cert.Reference3Ideal.Gen.transposes_S1024x2816_S2816x1024_1_0 = value x ct := by
  funext i
  idx_vars i
  unfold value
  pointwise
  refine Product.sum_eq fun k => ?_
  exact mul_comm _ _

end Cert.DownDw

end
-- ==== Proof.UpDx.lean ====
module

public import proofs.«01_k».proof.Proof.Gen.Kernel4Ideal.Value
public import proofs.«01_k».proof.Proof.Gen.Reference4Ideal.Run
public import proofs.«01_k».proof.Proof.Product

@[expose] public section

set_option maxRecDepth 16384

noncomputable section

open scoped BigOperators

/-! # The gradient of the MLP's input through one half of the up projection -/

namespace Cert.UpDx

open Idealize.ShloMosaic Idealize.ShloMosaic.TcCoe Idealize.SL.Sem Cert.Kernel4Ideal Cert.Kernel4Ideal.Gen
open Idealize.ShloMosaic.Pipeline (Dat)

variable (m : (ℓ : Loc nD τ sig) → Idealize.ShloMosaic.Buf (Elt Ideal) ℓ) (c : Dev nD)

/-- The result: row `i` of the cotangent against row `j` of the weights. -/
def value (w : FVec Ideal S1024x2816 .bf16) (ct : FVec Ideal S8192x2816 .bf16) : FVec Ideal S8192x1024 .f32 := fun i =>
  ∑ k : Fin 2816, (ct (ix2 (i 0) k) : EReal) * w (ix2 (i 1) k)

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel

/-- What the kernel leaves. -/
theorem kernel_eq : (dats m 0 c).arrAt 2 cfg0.N = value (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold value k0_pay1
  pointwise
  refine Product.sum_eq fun k => ?_
  congr 1 <;> blk_ext [iblk, V, idx0 t, idx1 t, idx2 t]

/-- What the reference leaves. -/
theorem reference_eq (w : FVec Ideal S1024x2816 .bf16) (ct : FVec Ideal S8192x2816 .bf16) :
    Host.dotGeneral Cert.Reference4Ideal.dot_S8192x2816_S1024x2816_S8192x1024_1_1_0_0_n_n none
      (extf .f32 ct Cert.Reference4Ideal.Gen.bitsLt_bf16_f32) (extf .f32 w Cert.Reference4Ideal.Gen.bitsLt_bf16_f32) = value w ct := by
  funext i
  idx_vars i
  unfold value
  pointwise

end Cert.UpDx

end
-- ==== Proof.UpDxAdd.lean ====
module

public import proofs.«01_k».proof.Proof.Gen.Kernel5Ideal.Value
public import proofs.«01_k».proof.Proof.Gen.Reference5Ideal.Run
public import proofs.«01_k».proof.Proof.UpDx

@[expose] public section

set_option maxRecDepth 16384

noncomputable section

open scoped BigOperators

/-! # The gradient through the other half, added to the first -/

namespace Cert.UpDxAdd

open Idealize.ShloMosaic Idealize.ShloMosaic.TcCoe Idealize.SL.Sem Cert.Kernel5Ideal Cert.Kernel5Ideal.Gen
open Idealize.ShloMosaic.Pipeline (Dat)

variable (m : (ℓ : Loc nD τ sig) → Idealize.ShloMosaic.Buf (Elt Ideal) ℓ) (c : Dev nD)

/-- The result: the sum so far, and the other half's product. -/
def value (w : FVec Ideal S1024x2816 .bf16) (ct : FVec Ideal S8192x2816 .bf16) (dx : FVec Ideal S8192x1024 .f32) : FVec Ideal S8192x1024 .f32 := fun i =>
  (dx i : EReal) + UpDx.value w ct i

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel
theorem idx3 : ∀ t : Fin cfg0.N, win0_3.index t = ![t.val, 0] := by decide +kernel

/-- What the kernel leaves. -/
theorem kernel_eq : (dats m 0 c).arrAt 3 cfg0.N
    = value (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  unfold value UpDx.value k0_pay1
  pointwise
  refine (add_comm (G := EReal) _ _).trans (congrArg₂ (fun a b : EReal => a + b) ?_ (Product.sum_eq fun k => ?_))
  · blk_ext [iblk, V, idx2 t, idx3 t]
  · congr 1 <;> blk_ext [iblk, V, idx0 t, idx1 t, idx3 t]

/-- What the reference leaves. -/
theorem reference_eq (w : FVec Ideal S1024x2816 .bf16) (ct : FVec Ideal S8192x2816 .bf16) (dx : FVec Ideal S8192x1024 .f32) :
    addf dx (Host.dotGeneral Cert.Reference5Ideal.dot_S8192x2816_S1024x2816_S8192x1024_1_1_0_0_n_n none
      (extf .f32 ct Cert.Reference5Ideal.Gen.bitsLt_bf16_f32) (extf .f32 w Cert.Reference5Ideal.Gen.bitsLt_bf16_f32)) = value w ct dx := by
  funext i
  exact congrArg (fun b : EReal => (dx i : EReal) + b) (congrFun (UpDx.reference_eq w ct) i)

end Cert.UpDxAdd

end
-- ==== Proof.UpDw.lean ====
module

public import proofs.«01_k».proof.Proof.Gen.Kernel6Ideal.Value
public import proofs.«01_k».proof.Proof.Gen.Reference6Ideal.Run
public import proofs.«01_k».proof.Proof.Product

@[expose] public section

set_option maxRecDepth 16384

noncomputable section

open scoped BigOperators

/-! # The gradient of one half of the up projection's weights -/

namespace Cert.UpDw

open Idealize.ShloMosaic Idealize.ShloMosaic.TcCoe Idealize.SL.Sem Cert.Kernel6Ideal Cert.Kernel6Ideal.Gen
open Idealize.ShloMosaic.Pipeline (Dat)

variable (m : (ℓ : Loc nD τ sig) → Idealize.ShloMosaic.Buf (Elt Ideal) ℓ) (c : Dev nD)

/-- The result: column `i` of the activations against column `j` of the cotangent, over all positions. -/
def value (x : FVec Ideal S8192x1024 .bf16) (ct : FVec Ideal S8192x2816 .bf16) : FVec Ideal S1024x2816 .f32 := fun i =>
  ∑ k : Fin 8192, (x (ix2 k (i 0)) : EReal) * ct (ix2 k (i 1))

theorem idx0 : ∀ t : Fin cfg0.N, win0_0.index t = ![t.val % 4, t.val / 8] := by decide +kernel
theorem idx1 : ∀ t : Fin cfg0.N, win0_1.index t = ![t.val % 4, t.val / 4 % 2] := by decide +kernel
theorem idx2 : ∀ t : Fin cfg0.N, win0_2.index t = ![t.val / 8, t.val / 4 % 2] := by decide +kernel

/-- What a point's blocks add. -/
abbrev term (t : Fin cfg0.N) : FVec Ideal S512x1408 .f32 := k0_pay1 (iblk m c 0 t) (iblk m c 1 t)

theorem out_eq (t : Fin cfg0.N) (ht : t.val % 4 = 3) (y : S512x1408.Idx) :
    (outsAt0 m c t.val t.isLt).1 y = ∑ k : Fin 4, (term m c ⟨4 * (t.val / 4) + k.val, by have := t.isLt; omega⟩ y : EReal) :=
  Product.run_sum (fun n h => (outsAt0 m c n h).1) (fun n h => (outsAt0 m c n h).2) (term m c)
    (fun t h i => by
      rw [outsAt0_A m c t h (by omega) (by omega)]
      frame_out
      unfold k0_pay2
      rw [shapeCast_self])
    (fun t h i => by
      rw [outsAt0_B m c t (by omega) h (by omega)]
      frame_out
      simp only [Idealize.ShloMosaic.read_unread_whole]
      unfold k0_pay3
      rw [shapeCast_self]
      rfl)
    (fun t h i => by
      rw [outsAt0_C m c t (by omega) (by omega) h]
      frame_out
      simp only [Idealize.ShloMosaic.read_unread_whole]
      unfold k0_pay4
      rfl) t ht y

/-- What the kernel leaves. -/
theorem kernel_eq : (dats m 0 c).arrAt 2 cfg0.N = value (m ((c : Thread nD τ).loc main_arg0)) (m ((c : Thread nD τ).loc main_arg1)) := by
  refine (dats m 0 c).arrAt_eq_of_covers 2 _ (by decide +kernel) fun t hf y => ?_
  blk_simp
  rw [after0_2]
  refine (out_eq m c t ((flush0_2 t).mp hf) y).trans ?_
  unfold value term k0_pay1
  pointwise
  refine Fin.sum_mul_add_congr (M := EReal) fun s k hl => ?_
  congr 1 <;> blk_ext [iblk, V, idx0, idx1, idx2]

/-- What the reference leaves. -/
theorem reference_eq (x : FVec Ideal S8192x1024 .bf16) (ct : FVec Ideal S8192x2816 .bf16) :
    transpose Cert.Reference6Ideal.S1024x2816 [1, 0] (Host.dotGeneral Cert.Reference6Ideal.dot_S8192x2816_S8192x1024_S2816x1024_0_0_1_1_n_n none
      (extf .f32 ct Cert.Reference6Ideal.Gen.bitsLt_bf16_f32) (extf .f32 x Cert.Reference6Ideal.Gen.bitsLt_bf16_f32))
      Cert.Reference6Ideal.Gen.transposes_S2816x1024_S1024x2816_1_0 = value x ct := by
  funext i
  idx_vars i
  unfold value
  pointwise
  refine Product.sum_eq fun k => ?_
  exact mul_comm _ _

end Cert.UpDw

end
-- ==== Proof.NormRow.lean ====
module

public import Idealize.ShloMosaic.PureOps.Ideal

@[expose] public section

noncomputable section

open scoped BigOperators

/-! # A row's root mean square, and the gradient through it -/

namespace Cert.Norm

open Idealize.ShloMosaic

/-- The number of a row's entries, what is added to the mean square, and what the derivative of the root brings. -/
abbrev width : EReal := Ideal.ofBits .f32 0x44800000#32
abbrev eps : EReal := Ideal.ofBits .f32 0x358637BD#32
abbrev mhalf : EReal := Ideal.ofBits .f32 0xBF000000#32

theorem width_eq : width = ((1024 : ℝ) : EReal) := by
  simp [width, Ideal.ofBits, Ideal.ieee, -EReal.coe_mul]; norm_num
theorem mhalf_eq : mhalf = ((-(1 / 2) : ℝ) : EReal) := by
  simp [mhalf, Ideal.ofBits, Ideal.ieee, -EReal.coe_mul]; norm_num
theorem eps_pos : 0 < eps := by
  simp [eps, Ideal.ofBits, Ideal.ieee, -EReal.coe_mul]

theorem div_width (a : EReal) : Ideal.div a width = ((1 / 1024 : ℝ) : EReal) * a := by
  rw [width_eq, Ideal.div, if_neg (by exact_mod_cast (by norm_num : (1024 : ℝ) ≠ 0)), mul_comm, ← EReal.coe_inv, one_div]

theorem mul_self_nonneg (a : EReal) : 0 ≤ a * a := by
  rcases le_total 0 a with h | h
  · exact mul_nonneg h h
  · have := EReal.mul_nonneg_iff (a := a) (b := a)
    exact this.mpr (Or.inr ⟨h, h⟩)

/-- A factor that is a real number, and not negative, may be drawn out of a sum. -/
theorem mul_sum {n : ℕ} (r : ℝ) (hr : 0 ≤ r) (f : Fin n → EReal) : ∑ k, (r : EReal) * f k = r * ∑ k, f k := by
  induction n with
  | zero => simp
  | succ n ih =>
    rw [Fin.sum_univ_succ, Fin.sum_univ_succ, ih, EReal.left_distrib_of_nonneg_of_ne_top (by exact_mod_cast hr) (EReal.coe_ne_top r)]

/-- Two multiples of one number by one real number. -/
theorem two_mul_coe (a : ℝ) (y : EReal) : (a : EReal) * y + a * y = ((2 * a : ℝ) : EReal) * y := by
  have h2 : ((2 * a : ℝ) : EReal) * y = ((2 : ℝ) : EReal) * ((a : EReal) * y) := by rw [EReal.coe_mul, mul_assoc]
  rw [h2]
  induction (a : EReal) * y with
  | bot => rw [EReal.coe_mul_bot_of_pos (by norm_num)]; rfl
  | top => rw [EReal.coe_mul_top_of_pos (by norm_num)]; rfl
  | coe b => norm_cast; ring

/-- The mean square of a row and the addend. -/
abbrev msq {n : ℕ} (x : Fin n → EReal) : EReal := Ideal.div (∑ k, x k * x k) width + eps

theorem msq_pos {n : ℕ} (x : Fin n → EReal) : 0 < msq x := by
  have h : 0 ≤ Ideal.div (∑ k, x k * x k) width := by
    rw [div_width]
    exact mul_nonneg (by exact_mod_cast (by norm_num : (0 : ℝ) ≤ 1 / 1024)) (Finset.sum_nonneg fun k _ => mul_self_nonneg _)
  exact lt_of_lt_of_le eps_pos (le_add_of_nonneg_left h)

/-- The inverse of a positive number's root is a real number, and its quotient by the number is its cube, also when the number
    is infinite. -/
theorem rsqrt_real (v : EReal) (hv : 0 < v) : ∃ r : ℝ, 0 ≤ r ∧ Ideal.rsqrt v = (r : EReal) ∧ Ideal.div (Ideal.rsqrt v) v = ((r * r * r : ℝ) : EReal) := by
  induction v with
  | bot => exact absurd hv (by simp)
  | top => exact ⟨0, le_refl _, by simp, by simp [Ideal.div]⟩
  | coe a =>
    have ha : 0 < a := by exact_mod_cast hv
    have hs : 0 < Real.sqrt a := Real.sqrt_pos.mpr ha
    refine ⟨(Real.sqrt a)⁻¹, (inv_pos.mpr hs).le, ?_, ?_⟩
    · rw [Ideal.rsqrt_coe, if_neg (not_lt.mpr ha.le), if_neg ha.ne']
    · rw [Ideal.rsqrt_coe, if_neg (not_lt.mpr ha.le), if_neg ha.ne', Ideal.div, if_neg (by exact_mod_cast ha.ne'), ← EReal.coe_inv, ← EReal.coe_mul]
      congr 1
      have h := Real.mul_self_sqrt ha.le
      nth_rewrite 2 [← h]
      rw [mul_inv, mul_assoc]

/-- The gradient of a row's norm: `d` is the cotangent times the gain. -/
abbrev grad {n : ℕ} (d x : Fin n → EReal) (j : Fin n) : EReal :=
  Ideal.rsqrt (msq x) * (d j - x j * Ideal.rsqrt (msq x) * Ideal.div (∑ k, d k * (x k * Ideal.rsqrt (msq x))) width)

/-- The factor by which the derivative of the mean square reaches every entry of the row. -/
abbrev pull {n : ℕ} (d x : Fin n → EReal) : EReal :=
  Ideal.div ((∑ k, x k * d k) * (mhalf * Ideal.div (Ideal.rsqrt (msq x)) (msq x))) width

/-- The gradient as the chain rule through the mean square writes it. -/
theorem grad_eq {n : ℕ} (d x : Fin n → EReal) (j : Fin n) :
    grad d x j = d j * Ideal.rsqrt (msq x) + x j * pull d x + pull d x * x j := by
  obtain ⟨r, hr, h1, h3⟩ := rsqrt_real (msq x) (msq_pos x)
  unfold grad pull
  rw [h3, h1, div_width, div_width, mhalf_eq]
  have hs : ∑ k, d k * (x k * (r : EReal)) = (r : EReal) * ∑ k, x k * d k := by
    rw [← mul_sum r hr]
    exact Finset.sum_congr rfl fun k _ => by rw [← mul_assoc, mul_comm, mul_comm (d k)]
  rw [hs]
  generalize (∑ k, x k * d k) = S
  have e1 : ((1 / 1024 : ℝ) : EReal) * (S * (((-(1 / 2) : ℝ) : EReal) * ((r * r * r : ℝ) : EReal)))
      = ((1 / 1024 * (-(1 / 2) * (r * r * r)) : ℝ) : EReal) * S := by
    rw [← EReal.coe_mul, mul_comm S, ← mul_assoc, ← EReal.coe_mul]
  have e2 : x j * (r : EReal) * (((1 / 1024 : ℝ) : EReal) * ((r : EReal) * S)) = ((1 / 1024 * (r * r) : ℝ) : EReal) * (S * x j) := by
    rw [EReal.coe_mul, EReal.coe_mul]; ac_rfl
  rw [e1, e2, sub_eq_add_neg, EReal.left_distrib_of_nonneg_of_ne_top (by exact_mod_cast hr) (EReal.coe_ne_top r), mul_comm (r : EReal) (d j), add_assoc]
  congr 1
  rw [mul_comm (x j), mul_assoc, two_mul_coe, ← neg_mul, ← EReal.coe_neg, ← mul_assoc, ← EReal.coe_mul]
  congr 2
  ring

end Cert.Norm

end
-- ==== Proof.Norm.lean ====
module

public import proofs.«01_k».proof.Proof.Gen.Kernel7Ideal.Value
public import proofs.«01_k».proof.Proof.Gen.Reference7Ideal.Run
public import proofs.«01_k».proof.Proof.NormRow
public import proofs.«01_k».proof.Proof.Product

@[expose] public section

set_option maxRecDepth 16384

noncomputable section

open scoped BigOperators

/-! # The gradient of the norm -/

namespace Cert.Norm

open Idealize.ShloMosaic Idealize.ShloMosaic.TcCoe Idealize.SL.Sem Cert.Kernel7Ideal Cert.Kernel7Ideal.Gen
open Idealize.ShloMosaic.Pipeline (Dat)

variable (m : (ℓ : Loc nD τ sig) → Idealize.ShloMosaic.Buf (Elt Ideal) ℓ) (c : Dev nD)

section
open Cert.Reference7Ideal.Gen

/-- The reference's intermediate results. -/
def refMsq (x : FVec Ideal S8192x1024 .f32) : FVec Ideal Cert.Reference7Ideal.S8192x1 .f32 :=
  addf (Host.divf (broadcastInDim Cert.Reference7Ideal.S8192x1 ![0] bcast_S8192_S8192x1_0 (Host.reduceAdd (mulf x x) (constant Cert.Reference7Ideal.S_ .f32 0x00000000#32) Cert.Reference7Ideal.Gen.reducesTo_S8192x1024_S8192_d1 Cert.Reference7Ideal.Gen.h_S_))
    (broadcastInDim Cert.Reference7Ideal.S8192x1 ![] bcast_S_S8192x1 (constant Cert.Reference7Ideal.S_ .f32 0x44800000#32)))
    (broadcastInDim Cert.Reference7Ideal.S8192x1 ![] bcast_S_S8192x1 (constant Cert.Reference7Ideal.S_ .f32 0x358637BD#32))

def refRoot (x : FVec Ideal S8192x1024 .f32) : FVec Ideal Cert.Reference7Ideal.S8192x1 .f32 := Host.rsqrt (refMsq x)

def refPull (dy x : FVec Ideal S8192x1024 .f32) (g : FVec Ideal S1x1024 .f32) : FVec Ideal S8192x1024 .f32 :=
  broadcastInDim Cert.Reference7Ideal.S8192x1024 ![0] bcast_S8192_S8192x1024_0 (Host.reduceAdd (Host.divf
    (mulf (shapeCast _ (Host.reduceAdd (mulf x (mulf dy (broadcastInDim Cert.Reference7Ideal.S8192x1024 ![0, 1] bcast_S1x1024_S8192x1024_0_1 g))) (constant Cert.Reference7Ideal.S_ .f32 0x00000000#32) Cert.Reference7Ideal.Gen.reducesTo_S8192x1024_S8192_d1 Cert.Reference7Ideal.Gen.h_S_) Cert.Reference7Ideal.Gen.shapeCasts_S8192_S8192x1)
      (mulf (broadcastInDim Cert.Reference7Ideal.S8192x1 ![] bcast_S_S8192x1 (constant Cert.Reference7Ideal.S_ .f32 0xBF000000#32)) (Host.divf (refRoot x) (refMsq x))))
    (broadcastInDim Cert.Reference7Ideal.S8192x1 ![] bcast_S_S8192x1 (constant Cert.Reference7Ideal.S_ .f32 0x44800000#32)))
    (constant Cert.Reference7Ideal.S_ .f32 0x00000000#32) Cert.Reference7Ideal.Gen.reducesTo_S8192x1_S8192_d1 Cert.Reference7Ideal.Gen.h_S_)

def refDx (dy x : FVec Ideal S8192x1024 .f32) (g : FVec Ideal S1x1024 .f32) (h : FVec Ideal S8192x1024 .f32) : FVec Ideal S8192x1024 .f32 :=
  addf h (addf (addf (mulf (mulf dy (broadcastInDim Cert.Reference7Ideal.S8192x1024 ![0, 1] bcast_S1x1024_S8192x1024_0_1 g)) (broadcastInDim Cert.Reference7Ideal.S8192x1024 ![0, 1] bcast_S8192x1_S8192x1024_0_1 (refRoot x)))
    (mulf x (refPull dy x g))) (mulf (refPull dy x g) x))

def refDgain (dy x : FVec Ideal S8192x1024 .f32) : FVec Ideal S1x1024 .f32 :=
  shapeCast _ (Host.reduceAdd (mulf (mulf x (broadcastInDim Cert.Reference7Ideal.S8192x1024 ![0, 1] bcast_S8192x1_S8192x1024_0_1 (refRoot x))) dy) (constant Cert.Reference7Ideal.S_ .f32 0x00000000#32) Cert.Reference7Ideal.Gen.reducesTo_S8192x1024_S1024_d0 Cert.Reference7Ideal.Gen.h_S_) Cert.Reference7Ideal.Gen.shapeCasts_S1024_S1x1024

end

/-- The gradient of the input, added to what the residual brings. -/
def dx (dy x : FVec Ideal S8192x1024 .f32) (g : FVec Ideal S1x1024 .f32) (h : FVec Ideal S8192x1024 .f32) : FVec Ideal S8192x1024 .f32 := fun i =>
  (h i : EReal) + grad (n := 1024) (fun k => dy (ix2 (i 0) k) * g (ix2 0 k)) (fun k => x (ix2 (i 0) k)) (i 1)

/-- The gradient of the gain: what one position gives, and the sum over all positions. -/
abbrev part (dy x : FVec Ideal S8192x1024 .f32) (l : Fin 8192) (j : Fin 1024) : EReal :=
  (dy (ix2 l j) : EReal) * (x (ix2 l j) * Ideal.rsqrt (msq (n := 1024) fun k => x (ix2 l k)))

def dgain (dy x : FVec Ideal S8192x1024 .f32) : FVec Ideal S1x1024 .f32 := fun i => ∑ l : Fin 8192, part dy x l (i 1)

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![0, 0] := by decide +kernel
theorem idx3 : ∀ t : Fin cfg0.N, win0_3.index t = ![t.val, 0] := by decide +kernel
theorem idx4 : ∀ t : Fin cfg0.N, win0_4.index t = ![t.val, 0] := by decide +kernel
theorem idx5 : ∀ t : Fin cfg0.N, win0_5.index t = ![0, 0] := by decide +kernel
theorem idx6 : ∀ t : Fin cfg0.N, win0_6.index t = ![t.val, 0] := by decide +kernel

/-- The position that row `r` of point `t`'s blocks holds. -/
abbrev pos (t : Fin cfg0.N) (r : Fin 512) : Fin 8192 := ⟨t.val * 512 + r.val, by have := t.isLt; have : cfg0.N = 16 := N_0; omega⟩

theorem blk0 (t : Fin cfg0.N) (r : Fin 512) (k : Fin 1024) : iblk m c 0 t (ix2 r k) = m ((c : Thread nD τ).loc main_arg0) (ix2 (pos t r) k) := by
  blk_ext [iblk, V, idx0 t]
theorem blk1 (t : Fin cfg0.N) (r : Fin 512) (k : Fin 1024) : iblk m c 1 t (ix2 r k) = m ((c : Thread nD τ).loc main_arg1) (ix2 (pos t r) k) := by
  blk_ext [iblk, V, idx1 t]
theorem blk2 (t : Fin cfg0.N) (k : Fin 1024) : iblk m c 2 t (ix2 0 k) = m ((c : Thread nD τ).loc main_arg2) (ix2 0 k) := by
  blk_ext [iblk, V, idx2 t]
theorem blk3 (t : Fin cfg0.N) (r : Fin 512) (k : Fin 1024) : iblk m c 3 t (ix2 r k) = m ((c : Thread nD τ).loc main_arg3) (ix2 (pos t r) k) := by
  blk_ext [iblk, V, idx3 t]

/-- What a point leaves in its blocks of the two copies of the input's gradient. -/
theorem point_dx (t : Fin cfg0.N) (y : S512x1024.Idx) : k0_pay4 (iblk m c 1 t) (iblk m c 0 t) (iblk m c 2 t) (iblk m c 3 t) y
    = dx (m ((c : Thread nD τ).loc main_arg0)) (m ((c : Thread nD τ).loc main_arg1)) (m ((c : Thread nD τ).loc main_arg2)) (m ((c : Thread nD τ).loc main_arg3)) (ix2 (pos t (y 0)) (y 1)) := by
  idx_vars y
  unfold dx k0_pay4 k0_pay3 k0_pay2
  pointwise
  simp only [blk0, blk1, blk2, blk3]

theorem out4 (t : Fin cfg0.N) : (outsAt0 m c t.val t.isLt).1 = k0_pay4 (iblk m c 1 t) (iblk m c 0 t) (iblk m c 2 t) (iblk m c 3 t) := by
  by_cases h : t.val % 16 = 0
  · rw [outsAt0_A m c t h]
    frame_out
  · rw [outsAt0_B m c t h]
    frame_out

theorem out6 (t : Fin cfg0.N) : (outsAt0 m c t.val t.isLt).2.2 = k0_pay4 (iblk m c 1 t) (iblk m c 0 t) (iblk m c 2 t) (iblk m c 3 t) := by
  by_cases h : t.val % 16 = 0
  · rw [outsAt0_A m c t h]
    frame_out
    rfl
  · rw [outsAt0_B m c t h]
    frame_out
    rfl

/-- What the kernel leaves. -/
theorem kernel_dx : (dats m 0 c).arrAt 4 cfg0.N = dx (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t hf y => ?_
  blk_simp
  rw [after0_4, out4]
  refine (point_dx m c t y).trans ?_
  blk_ext [idx4 t]

theorem kernel_dx16 : (dats m 0 c).arrAt 6 cfg0.N = truncf .bf16 (dx (m ((c : Thread nD τ).loc main_arg0)) (m ((c : Thread nD τ).loc main_arg1))
    (m ((c : Thread nD τ).loc main_arg2)) (m ((c : Thread nD τ).loc main_arg3))) bitsLt_bf16_f32 := by
  refine (dats m 0 c).arrAt_eq_of_covers 6 _ (by decide +kernel) fun t hf y => ?_
  blk_simp
  rw [after0_6, out6]
  refine (point_dx m c t y).trans ?_
  pointwise
  blk_ext [idx6 t]

/-- What a point adds to the gradient of the gain. -/
abbrev term (t : Fin cfg0.N) (y : S1x1024.Idx) : EReal :=
  ∑ r : Fin 512, part (m ((c : Thread nD τ).loc main_arg0)) (m ((c : Thread nD τ).loc main_arg1)) (pos t r) (y 1)

theorem out5 (t : Fin cfg0.N) (ht : t.val % 16 = 15) (y : S1x1024.Idx) :
    (outsAt0 m c t.val t.isLt).2.1 y = ∑ s : Fin 16, term m c ⟨16 * (t.val / 16) + s.val, by have := t.isLt; have : cfg0.N = 16 := N_0; omega⟩ y := by
  refine (Idealize.ShloMosaic.Pipeline.eq_sum_fin_of_reset_step_apply_of_flush
    (fun n h => (outsAt0 m c n h).2.1) 16 (fun _ => (0 : EReal)) (term m c)
    (fun t h i => ?_) (fun t h i => ?_) t ht y).trans (zero_add (M := EReal) _)
  · rw [outsAt0_A m c t h]
    frame_out
    unfold k0_pay1 k0_pay7 k0_pay6 k0_pay3 k0_pay2
    pointwise
    idx_vars i
    simp only [blk0, blk1]
    rfl
  · rw [outsAt0_B m c t h]
    frame_out
    unfold k0_pay1 k0_pay7 k0_pay3 k0_pay2
    pointwise
    idx_vars i
    simp only [blk0, blk1]
    rfl

theorem kernel_dgain : (dats m 0 c).arrAt 5 cfg0.N = dgain (m ((c : Thread nD τ).loc main_arg0)) (m ((c : Thread nD τ).loc main_arg1)) := by
  refine (dats m 0 c).arrAt_eq_of_covers 5 _ (by decide +kernel) fun t hf y => ?_
  blk_simp
  rw [after0_5]
  refine (out5 m c t ((flush0_5 t).mp hf) y).trans ?_
  unfold dgain
  refine Fin.sum_mul_add_congr (M := EReal) fun s k hl => ?_
  have h0 : t.val / 16 = 0 := Nat.div_eq_of_lt (Nat.lt_of_lt_of_eq t.isLt N_0)
  have hs : pos ⟨16 * (t.val / 16) + s.val, by rw [h0, Nat.mul_zero, Nat.zero_add]; exact Nat.lt_of_lt_of_eq s.isLt N_0.symm⟩ k = ⟨s.val * 512 + k.val, hl⟩ :=
    Fin.ext (show (16 * (t.val / 16) + s.val) * 512 + k.val = s.val * 512 + k.val by omega)
  rw [hs]
  unfold part
  congr 1
  · blk_ext [idx5 t]
  · congr 1
    blk_ext [idx5 t]

/-- What the reference leaves. -/
theorem reference_dx (dy x : FVec Ideal S8192x1024 .f32) (g : FVec Ideal S1x1024 .f32) (h : FVec Ideal S8192x1024 .f32) : refDx dy x g h = dx dy x g h := by
  funext i
  idx_vars i
  unfold dx refDx refPull refRoot refMsq
  pointwise
  rw [Fin.sum_univ_one]
  exact congrArg (fun a : EReal => h (ix2 i0 i1) + a) (grad_eq (n := 1024) (fun k => (dy (ix2 i0 k) : EReal) * g (ix2 0 k)) (fun k => x (ix2 i0 k)) i1).symm

theorem reference_dgain (dy x : FVec Ideal S8192x1024 .f32) : refDgain dy x = dgain dy x := by
  funext i
  idx_vars i
  unfold dgain refDgain refRoot refMsq
  pointwise
  exact Product.sum_eq fun k => mul_comm (G := EReal) _ _

end Cert.Norm

end
-- ==== Proof.Gate.lean ====
module

public import proofs.«01_k».proof.Proof.Gen.Kernel8Ideal.Value
public import proofs.«01_k».proof.Proof.Gen.Reference8Ideal.Run
public import Idealize.ShloMosaic.Lib.Pointwise

@[expose] public section

set_option maxRecDepth 16384

noncomputable section

/-! # The gradient of the per-layer embedding's gate -/

namespace Cert.Gate

open Idealize.ShloMosaic Idealize.ShloMosaic.TcCoe Idealize.SL.Sem Cert.Kernel8Ideal Cert.Kernel8Ideal.Gen

/-- The gradient of the gate's argument. -/
def dgate (d g p : FVec Ideal S8192x1024 .f32) : FVec Ideal S8192x1024 .bf16 := fun i =>
  (d i * p i : EReal) * (Ideal.logistic (g i) * (1 - Ideal.logistic (g i)))

/-- The gradient of what is gated. -/
def dproj (d g : FVec Ideal S8192x1024 .f32) : FVec Ideal S8192x1024 .bf16 := fun i => (d i : EReal) * Ideal.logistic (g i)

theorem kernel_dgate (d g p : FVec Ideal S8192x1024 .f32) : Value.G3 (F := Ideal) g d p = dgate d g p := by
  funext i
  unfold Value.G3 dgate
  pointwise
  exact mul_assoc (G := EReal) _ _ _

theorem kernel_dproj (d g : FVec Ideal S8192x1024 .f32) : Value.G4 (F := Ideal) g d = dproj d g := by
  funext i
  unfold Value.G4 dproj
  pointwise

open Cert.Reference8Ideal.Gen in
theorem reference_dgate (d g p : FVec Ideal S8192x1024 .f32) :
    truncf .bf16 (mulf (mulf d p) (mulf (Host.divf (broadcastInDim S8192x1024 ![] bcast_S_S8192x1024 (constant Cert.Reference8Ideal.S_ .f32 0x3F800000#32)) (addf (broadcastInDim S8192x1024 ![] bcast_S_S8192x1024 (constant Cert.Reference8Ideal.S_ .f32 0x3F800000#32)) (Host.exp (Host.negf g)))) (subf (broadcastInDim S8192x1024 ![] bcast_S_S8192x1024 (constant Cert.Reference8Ideal.S_ .f32 0x3F800000#32)) (Host.divf (broadcastInDim S8192x1024 ![] bcast_S_S8192x1024 (constant Cert.Reference8Ideal.S_ .f32 0x3F800000#32)) (addf (broadcastInDim S8192x1024 ![] bcast_S_S8192x1024 (constant Cert.Reference8Ideal.S_ .f32 0x3F800000#32)) (Host.exp (Host.negf g))))))) Cert.Reference8Ideal.Gen.bitsLt_bf16_f32 = dgate d g p := by
  funext i
  unfold dgate Ideal.logistic
  pointwise

open Cert.Reference8Ideal.Gen in
theorem reference_dproj (d g : FVec Ideal S8192x1024 .f32) :
    truncf .bf16 (mulf (Host.divf (broadcastInDim S8192x1024 ![] bcast_S_S8192x1024 (constant Cert.Reference8Ideal.S_ .f32 0x3F800000#32)) (addf (broadcastInDim S8192x1024 ![] bcast_S_S8192x1024 (constant Cert.Reference8Ideal.S_ .f32 0x3F800000#32)) (Host.exp (Host.negf g)))) d) Cert.Reference8Ideal.Gen.bitsLt_bf16_f32 = dproj d g := by
  funext i
  unfold dproj Ideal.logistic
  pointwise
  exact mul_comm (G := EReal) _ _

end Cert.Gate

end
-- ==== Proof.UpFwd.lean ====
module

public import proofs.«01_k».proof.Proof.Gen.Kernel9Ideal.Value
public import proofs.«01_k».proof.Proof.Gen.Reference9Ideal.Run
public import proofs.«01_k».proof.Proof.Product

@[expose] public section

set_option maxRecDepth 16384

noncomputable section

open scoped BigOperators

/-! # One half of the up projection -/

namespace Cert.UpFwd

open Idealize.ShloMosaic Idealize.ShloMosaic.TcCoe Idealize.SL.Sem Cert.Kernel9Ideal Cert.Kernel9Ideal.Gen
open Idealize.ShloMosaic.Pipeline (Dat)

variable (m : (ℓ : Loc nD τ sig) → Idealize.ShloMosaic.Buf (Elt Ideal) ℓ) (c : Dev nD)

/-- The result: row `i` of the input against column `j` of the weights. -/
def value (x : FVec Ideal S8192x1024 .bf16) (w : FVec Ideal S1024x2816 .bf16) : FVec Ideal S8192x2816 .f32 := fun i =>
  ∑ k : Fin 1024, (x (ix2 (i 0) k) : EReal) * w (ix2 k (i 1))

theorem idx0 : ∀ t : Fin cfg0.N, win0_0.index t = ![t.val / 2, 0] := by decide +kernel
theorem idx1 : ∀ t : Fin cfg0.N, win0_1.index t = ![0, t.val % 2] := by decide +kernel
theorem idx2 : ∀ t : Fin cfg0.N, win0_2.index t = ![t.val / 2, t.val % 2] := by decide +kernel

/-- What the kernel leaves. -/
theorem kernel_eq : (dats m 0 c).arrAt 2 cfg0.N = value (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold value k0_pay1
  pointwise
  refine Product.sum_eq fun k => ?_
  congr 1 <;> blk_ext [iblk, V, idx0 t, idx1 t, idx2 t]

/-- What the reference leaves. -/
theorem reference_eq (x : FVec Ideal S8192x1024 .bf16) (w : FVec Ideal S1024x2816 .bf16) :
    Host.dotGeneral Cert.Reference9Ideal.dot_S8192x1024_S1024x2816_S8192x2816_1_0_0_1_n_n none
      (extf .f32 x Cert.Reference9Ideal.Gen.bitsLt_bf16_f32) (extf .f32 w Cert.Reference9Ideal.Gen.bitsLt_bf16_f32) = value x w := by
  funext i
  idx_vars i
  unfold value
  pointwise

end Cert.UpFwd

end
-- ==== Proof.DownFwd.lean ====
module

public import proofs.«01_k».proof.Proof.Gen.Kernel10Ideal.Value
public import proofs.«01_k».proof.Proof.Gen.Reference10Ideal.Run
public import proofs.«01_k».proof.Proof.Product

@[expose] public section

set_option maxRecDepth 16384

noncomputable section

open scoped BigOperators

/-! # The down projection, added to the residual stream -/

namespace Cert.DownFwd

open Idealize.ShloMosaic Idealize.ShloMosaic.TcCoe Idealize.SL.Sem Cert.Kernel10Ideal Cert.Kernel10Ideal.Gen
open Idealize.ShloMosaic.Pipeline (Dat)

variable (m : (ℓ : Loc nD τ sig) → Idealize.ShloMosaic.Buf (Elt Ideal) ℓ) (c : Dev nD)

/-- The result: the residual stream, and row `i` of the activations against column `j` of the weights. -/
def value (x : FVec Ideal S8192x2816 .bf16) (w : FVec Ideal S2816x1024 .bf16) (h : FVec Ideal S8192x1024 .f32) : FVec Ideal S8192x1024 .f32 := fun i =>
  (h i : EReal) + ∑ k : Fin 2816, (x (ix2 (i 0) k) : EReal) * w (ix2 k (i 1))

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel
theorem idx3 : ∀ t : Fin cfg0.N, win0_3.index t = ![t.val, 0] := by decide +kernel

/-- What the kernel leaves. -/
theorem kernel_eq : (dats m 0 c).arrAt 3 cfg0.N
    = value (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  unfold value k0_pay1
  pointwise
  refine (add_comm (G := EReal) _ _).trans (congrArg₂ (fun a b : EReal => a + b) ?_ (Product.sum_eq fun k => ?_))
  · blk_ext [iblk, V, idx2 t, idx3 t]
  · congr 1 <;> blk_ext [iblk, V, idx0 t, idx1 t, idx3 t]

/-- What the reference leaves. -/
theorem reference_eq (x : FVec Ideal S8192x2816 .bf16) (w : FVec Ideal S2816x1024 .bf16) (h : FVec Ideal S8192x1024 .f32) :
    addf h (Host.dotGeneral Cert.Reference10Ideal.dot_S8192x2816_S2816x1024_S8192x1024_1_0_0_1_n_n none
      (extf .f32 x Cert.Reference10Ideal.Gen.bitsLt_bf16_f32) (extf .f32 w Cert.Reference10Ideal.Gen.bitsLt_bf16_f32)) = value x w h := by
  funext i
  idx_vars i
  unfold value
  pointwise

end Cert.DownFwd

end
-- ==== Proof.SquareDw.lean ====
module

public import proofs.«01_k».proof.Proof.Gen.Kernel11Ideal.Value
public import proofs.«01_k».proof.Proof.Gen.Reference11Ideal.Run
public import proofs.«01_k».proof.Proof.Matmul

@[expose] public section

set_option maxRecDepth 16384

noncomputable section

open scoped BigOperators

/-! # The gradient of the weights of a projection between the 1024 channels -/

namespace Cert.SquareDw

open Idealize.ShloMosaic Idealize.ShloMosaic.TcCoe Idealize.SL.Sem Cert.Kernel11Ideal Cert.Kernel11Ideal.Gen
open Idealize.ShloMosaic.Pipeline (Dat)

variable (m : (ℓ : Loc nD τ sig) → Idealize.ShloMosaic.Buf (Elt Ideal) ℓ) (c : Dev nD)

theorem idx0 : ∀ t : Fin cfg0.N, win0_0.index t = ![t.val % 4, t.val / 4] := by decide +kernel
theorem idx1 : ∀ t : Fin cfg0.N, win0_1.index t = ![t.val % 4, 0] := by decide +kernel
theorem idx2 : ∀ t : Fin cfg0.N, win0_2.index t = ![t.val / 4, 0] := by decide +kernel

/-- What a point's blocks add. -/
abbrev term (t : Fin cfg0.N) : FVec Ideal S512x1024 .f32 := k0_pay1 (iblk m c 0 t) (iblk m c 1 t)

theorem out_eq (t : Fin cfg0.N) (ht : t.val % 4 = 3) (y : S512x1024.Idx) :
    (outsAt0 m c t.val t.isLt).1 y = ∑ k : Fin 4, (term m c ⟨4 * (t.val / 4) + k.val, by have := t.isLt; omega⟩ y : EReal) :=
  Product.run_sum (fun n h => (outsAt0 m c n h).1) (fun n h => (outsAt0 m c n h).2) (term m c)
    (fun t h i => by
      rw [outsAt0_A m c t h (by omega) (by omega)]
      frame_out
      unfold k0_pay2
      rw [shapeCast_self])
    (fun t h i => by
      rw [outsAt0_B m c t (by omega) h (by omega)]
      frame_out
      simp only [Idealize.ShloMosaic.read_unread_whole]
      unfold k0_pay3
      rw [shapeCast_self]
      rfl)
    (fun t h i => by
      rw [outsAt0_C m c t (by omega) (by omega) h]
      frame_out
      simp only [Idealize.ShloMosaic.read_unread_whole]
      unfold k0_pay4
      rfl) t ht y

/-- What the kernel leaves. -/
theorem kernel_eq : (dats m 0 c).arrAt 2 cfg0.N = Matmul.dRight (m ((c : Thread nD τ).loc main_arg0)) (m ((c : Thread nD τ).loc main_arg1)) := by
  refine (dats m 0 c).arrAt_eq_of_covers 2 _ (by decide +kernel) fun t hf y => ?_
  blk_simp
  rw [after0_2]
  refine (out_eq m c t ((flush0_2 t).mp hf) y).trans ?_
  unfold Matmul.dRight term k0_pay1
  pointwise
  refine Fin.sum_mul_add_congr (M := EReal) fun s k hl => ?_
  congr 1 <;> blk_ext [iblk, V, idx0, idx1, idx2]

/-- What the reference leaves. -/
theorem reference_eq (x : FVec Ideal S8192x1024 .bf16) (ct : FVec Ideal S8192x1024 .bf16) :
    transpose Cert.Reference11Ideal.S1024x1024 [1, 0] (Host.dotGeneral Cert.Reference11Ideal.dot_S8192x1024_S8192x1024_S1024x1024_0_0_1_1_n_n none
      (extf .f32 ct Cert.Reference11Ideal.Gen.bitsLt_bf16_f32) (extf .f32 x Cert.Reference11Ideal.Gen.bitsLt_bf16_f32))
      Cert.Reference11Ideal.Gen.transposes_S1024x1024_S1024x1024_1_0 = Matmul.dRight x ct := by
  funext i
  idx_vars i
  unfold Matmul.dRight
  pointwise
  exact Product.sum_eq fun k => mul_comm (G := EReal) _ _

end Cert.SquareDw

end
-- ==== Proof.SquareDx.lean ====
module

public import proofs.«01_k».proof.Proof.Gen.Kernel12Ideal.Value
public import proofs.«01_k».proof.Proof.Gen.Reference12Ideal.Run
public import proofs.«01_k».proof.Proof.Matmul

@[expose] public section

set_option maxRecDepth 16384

noncomputable section

open scoped BigOperators

/-! # The gradient of the input of a projection between the 1024 channels -/

namespace Cert.SquareDx

open Idealize.ShloMosaic Idealize.ShloMosaic.TcCoe Idealize.SL.Sem Cert.Kernel12Ideal Cert.Kernel12Ideal.Gen
open Idealize.ShloMosaic.Pipeline (Dat)

variable (m : (ℓ : Loc nD τ sig) → Idealize.ShloMosaic.Buf (Elt Ideal) ℓ) (c : Dev nD)

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel

/-- What the kernel leaves. -/
theorem kernel_eq : (dats m 0 c).arrAt 2 cfg0.N = Matmul.dLeft (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold Matmul.dLeft k0_pay1
  pointwise
  refine Product.sum_eq fun k => ?_
  congr 1 <;> blk_ext [iblk, V, idx0 t, idx1 t, idx2 t]

/-- What the reference leaves. -/
theorem reference_eq (w : FVec Ideal S1024x1024 .bf16) (ct : FVec Ideal S8192x1024 .bf16) :
    Host.dotGeneral Cert.Reference12Ideal.dot_S8192x1024_S1024x1024_S8192x1024_1_1_0_0_n_n none
      (extf .f32 ct Cert.Reference12Ideal.Gen.bitsLt_bf16_f32) (extf .f32 w Cert.Reference12Ideal.Gen.bitsLt_bf16_f32) = Matmul.dLeft w ct := by
  funext i
  idx_vars i
  unfold Matmul.dLeft
  pointwise

end Cert.SquareDx

end
-- ==== Proof.OutDx.lean ====
module

public import proofs.«01_k».proof.Proof.Gen.Kernel13Ideal.Value
public import proofs.«01_k».proof.Proof.Gen.Reference13Ideal.Run
public import proofs.«01_k».proof.Proof.Matmul

@[expose] public section

set_option maxRecDepth 16384

noncomputable section

open scoped BigOperators

/-! # The gradient of the gated norm's output through the mixer's output projection -/

namespace Cert.OutDx

open Idealize.ShloMosaic Idealize.ShloMosaic.TcCoe Idealize.SL.Sem Cert.Kernel13Ideal Cert.Kernel13Ideal.Gen
open Idealize.ShloMosaic.Pipeline (Dat)

variable (m : (ℓ : Loc nD τ sig) → Idealize.ShloMosaic.Buf (Elt Ideal) ℓ) (c : Dev nD)

theorem idx0 : ∀ t : Fin cfg0.N, win0_0.index t = ![t.val / 2, 0] := by decide +kernel
theorem idx1 : ∀ t : Fin cfg0.N, win0_1.index t = ![t.val % 2, 0] := by decide +kernel
theorem idx2 : ∀ t : Fin cfg0.N, win0_2.index t = ![t.val / 2, t.val % 2] := by decide +kernel

/-- What the kernel leaves. -/
theorem kernel_eq : (dats m 0 c).arrAt 2 cfg0.N = Matmul.dLeft (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold Matmul.dLeft k0_pay1
  pointwise
  refine Product.sum_eq fun k => ?_
  congr 1 <;> blk_ext [iblk, V, idx0 t, idx1 t, idx2 t]

/-- What the reference leaves. -/
theorem reference_eq (w : FVec Ideal S2048x1024 .bf16) (ct : FVec Ideal S8192x1024 .bf16) :
    Host.dotGeneral Cert.Reference13Ideal.dot_S8192x1024_S2048x1024_S8192x2048_1_1_0_0_n_n none
      (extf .f32 ct Cert.Reference13Ideal.Gen.bitsLt_bf16_f32) (extf .f32 w Cert.Reference13Ideal.Gen.bitsLt_bf16_f32) = Matmul.dLeft w ct := by
  funext i
  idx_vars i
  unfold Matmul.dLeft
  pointwise

end Cert.OutDx

end
-- ==== Proof.OutDw.lean ====
module

public import proofs.«01_k».proof.Proof.Gen.Kernel14Ideal.Value
public import proofs.«01_k».proof.Proof.Gen.Reference14Ideal.Run
public import proofs.«01_k».proof.Proof.Matmul

@[expose] public section

set_option maxRecDepth 16384

noncomputable section

open scoped BigOperators

/-! # The gradient of the mixer's output projection -/

namespace Cert.OutDw

open Idealize.ShloMosaic Idealize.ShloMosaic.TcCoe Idealize.SL.Sem Cert.Kernel14Ideal Cert.Kernel14Ideal.Gen
open Idealize.ShloMosaic.Pipeline (Dat)

variable (m : (ℓ : Loc nD τ sig) → Idealize.ShloMosaic.Buf (Elt Ideal) ℓ) (c : Dev nD)

theorem idx0 : ∀ t : Fin cfg0.N, win0_0.index t = ![t.val % 4, t.val / 4] := by decide +kernel
theorem idx1 : ∀ t : Fin cfg0.N, win0_1.index t = ![t.val % 4, 0] := by decide +kernel
theorem idx2 : ∀ t : Fin cfg0.N, win0_2.index t = ![t.val / 4, 0] := by decide +kernel

/-- What a point's blocks add. -/
abbrev term (t : Fin cfg0.N) : FVec Ideal S512x1024 .f32 := k0_pay1 (iblk m c 0 t) (iblk m c 1 t)

theorem out_eq (t : Fin cfg0.N) (ht : t.val % 4 = 3) (y : S512x1024.Idx) :
    (outsAt0 m c t.val t.isLt).1 y = ∑ k : Fin 4, (term m c ⟨4 * (t.val / 4) + k.val, by have := t.isLt; omega⟩ y : EReal) :=
  Product.run_sum (fun n h => (outsAt0 m c n h).1) (fun n h => (outsAt0 m c n h).2) (term m c)
    (fun t h i => by
      rw [outsAt0_A m c t h (by omega) (by omega)]
      frame_out
      unfold k0_pay2
      rw [shapeCast_self])
    (fun t h i => by
      rw [outsAt0_B m c t (by omega) h (by omega)]
      frame_out
      simp only [Idealize.ShloMosaic.read_unread_whole]
      unfold k0_pay3
      rw [shapeCast_self]
      rfl)
    (fun t h i => by
      rw [outsAt0_C m c t (by omega) (by omega) h]
      frame_out
      simp only [Idealize.ShloMosaic.read_unread_whole]
      unfold k0_pay4
      rfl) t ht y

/-- What the kernel leaves. -/
theorem kernel_eq : (dats m 0 c).arrAt 2 cfg0.N = Matmul.dRight (m ((c : Thread nD τ).loc main_arg0)) (m ((c : Thread nD τ).loc main_arg1)) := by
  refine (dats m 0 c).arrAt_eq_of_covers 2 _ (by decide +kernel) fun t hf y => ?_
  blk_simp
  rw [after0_2]
  refine (out_eq m c t ((flush0_2 t).mp hf) y).trans ?_
  unfold Matmul.dRight term k0_pay1
  pointwise
  refine Fin.sum_mul_add_congr (M := EReal) fun s k hl => ?_
  congr 1 <;> blk_ext [iblk, V, idx0, idx1, idx2]

/-- What the reference leaves. -/
theorem reference_eq (x : FVec Ideal S8192x2048 .bf16) (ct : FVec Ideal S8192x1024 .bf16) :
    transpose Cert.Reference14Ideal.S2048x1024 [1, 0] (Host.dotGeneral Cert.Reference14Ideal.dot_S8192x1024_S8192x2048_S1024x2048_0_0_1_1_n_n none
      (extf .f32 ct Cert.Reference14Ideal.Gen.bitsLt_bf16_f32) (extf .f32 x Cert.Reference14Ideal.Gen.bitsLt_bf16_f32))
      Cert.Reference14Ideal.Gen.transposes_S1024x2048_S2048x1024_1_0 = Matmul.dRight x ct := by
  funext i
  idx_vars i
  unfold Matmul.dRight
  pointwise
  exact Product.sum_eq fun k => mul_comm (G := EReal) _ _

end Cert.OutDw

end
-- ==== Proof.ZDw.lean ====
module

public import proofs.«01_k».proof.Proof.Gen.Kernel15Ideal.Value
public import proofs.«01_k».proof.Proof.Gen.Reference15Ideal.Run
public import proofs.«01_k».proof.Proof.Matmul

@[expose] public section

set_option maxRecDepth 16384

noncomputable section

open scoped BigOperators

/-! # The gradient of the mixer's input projection, its part for the gate -/

namespace Cert.ZDw

open Idealize.ShloMosaic Idealize.ShloMosaic.TcCoe Idealize.SL.Sem Cert.Kernel15Ideal Cert.Kernel15Ideal.Gen
open Idealize.ShloMosaic.Pipeline (Dat)

variable (m : (ℓ : Loc nD τ sig) → Idealize.ShloMosaic.Buf (Elt Ideal) ℓ) (c : Dev nD)

theorem idx0 : ∀ t : Fin cfg0.N, win0_0.index t = ![t.val % 4, t.val / 8] := by decide +kernel
theorem idx1 : ∀ t : Fin cfg0.N, win0_1.index t = ![t.val % 4, t.val / 4 % 2] := by decide +kernel
theorem idx2 : ∀ t : Fin cfg0.N, win0_2.index t = ![t.val / 8, t.val / 4 % 2] := by decide +kernel

/-- What a point's blocks add. -/
abbrev term (t : Fin cfg0.N) : FVec Ideal S512x1024 .f32 := k0_pay1 (iblk m c 0 t) (iblk m c 1 t)

theorem out_eq (t : Fin cfg0.N) (ht : t.val % 4 = 3) (y : S512x1024.Idx) :
    (outsAt0 m c t.val t.isLt).1 y = ∑ k : Fin 4, (term m c ⟨4 * (t.val / 4) + k.val, by have := t.isLt; omega⟩ y : EReal) :=
  Product.run_sum (fun n h => (outsAt0 m c n h).1) (fun n h => (outsAt0 m c n h).2) (term m c)
    (fun t h i => by
      rw [outsAt0_A m c t h (by omega) (by omega)]
      frame_out
      unfold k0_pay2
      rw [shapeCast_self])
    (fun t h i => by
      rw [outsAt0_B m c t (by omega) h (by omega)]
      frame_out
      simp only [Idealize.ShloMosaic.read_unread_whole]
      unfold k0_pay3
      rw [shapeCast_self]
      rfl)
    (fun t h i => by
      rw [outsAt0_C m c t (by omega) (by omega) h]
      frame_out
      simp only [Idealize.ShloMosaic.read_unread_whole]
      unfold k0_pay4
      rfl) t ht y

/-- What the kernel leaves. -/
theorem kernel_eq : (dats m 0 c).arrAt 2 cfg0.N = Matmul.dRight (m ((c : Thread nD τ).loc main_arg0)) (m ((c : Thread nD τ).loc main_arg1)) := by
  refine (dats m 0 c).arrAt_eq_of_covers 2 _ (by decide +kernel) fun t hf y => ?_
  blk_simp
  rw [after0_2]
  refine (out_eq m c t ((flush0_2 t).mp hf) y).trans ?_
  unfold Matmul.dRight term k0_pay1
  pointwise
  refine Fin.sum_mul_add_congr (M := EReal) fun s k hl => ?_
  congr 1 <;> blk_ext [iblk, V, idx0, idx1, idx2]

/-- What the reference leaves. -/
theorem reference_eq (x : FVec Ideal S8192x1024 .bf16) (ct : FVec Ideal S8192x2048 .bf16) :
    transpose Cert.Reference15Ideal.S1024x2048 [1, 0] (Host.dotGeneral Cert.Reference15Ideal.dot_S8192x2048_S8192x1024_S2048x1024_0_0_1_1_n_n none
      (extf .f32 ct Cert.Reference15Ideal.Gen.bitsLt_bf16_f32) (extf .f32 x Cert.Reference15Ideal.Gen.bitsLt_bf16_f32))
      Cert.Reference15Ideal.Gen.transposes_S2048x1024_S1024x2048_1_0 = Matmul.dRight x ct := by
  funext i
  idx_vars i
  unfold Matmul.dRight
  pointwise
  exact Product.sum_eq fun k => mul_comm (G := EReal) _ _

end Cert.ZDw

end
-- ==== Proof.ZDx.lean ====
module

public import proofs.«01_k».proof.Proof.Gen.Kernel16Ideal.Value
public import proofs.«01_k».proof.Proof.Gen.Reference16Ideal.Run
public import proofs.«01_k».proof.Proof.Matmul

@[expose] public section

set_option maxRecDepth 16384

noncomputable section

open scoped BigOperators

/-! # The gradient of the mixer's input through the gate -/

namespace Cert.ZDx

open Idealize.ShloMosaic Idealize.ShloMosaic.TcCoe Idealize.SL.Sem Cert.Kernel16Ideal Cert.Kernel16Ideal.Gen
open Idealize.ShloMosaic.Pipeline (Dat)

variable (m : (ℓ : Loc nD τ sig) → Idealize.ShloMosaic.Buf (Elt Ideal) ℓ) (c : Dev nD)

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel

/-- What the kernel leaves. -/
theorem kernel_eq : (dats m 0 c).arrAt 2 cfg0.N = Matmul.dLeft (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold Matmul.dLeft k0_pay1
  pointwise
  refine Product.sum_eq fun k => ?_
  congr 1 <;> blk_ext [iblk, V, idx0 t, idx1 t, idx2 t]

/-- What the reference leaves. -/
theorem reference_eq (w : FVec Ideal S1024x2048 .bf16) (ct : FVec Ideal S8192x2048 .bf16) :
    Host.dotGeneral Cert.Reference16Ideal.dot_S8192x2048_S1024x2048_S8192x1024_1_1_0_0_n_n none
      (extf .f32 ct Cert.Reference16Ideal.Gen.bitsLt_bf16_f32) (extf .f32 w Cert.Reference16Ideal.Gen.bitsLt_bf16_f32) = Matmul.dLeft w ct := by
  funext i
  idx_vars i
  unfold Matmul.dLeft
  pointwise

end Cert.ZDx

end
-- ==== Proof.XbcDw.lean ====
module

public import proofs.«01_k».proof.Proof.Gen.Kernel17Ideal.Value
public import proofs.«01_k».proof.Proof.Gen.Reference17Ideal.Run
public import proofs.«01_k».proof.Proof.Matmul

@[expose] public section

set_option maxRecDepth 16384

noncomputable section

open scoped BigOperators

/-! # The gradient of the mixer's input projection, its part for the recurrence -/

namespace Cert.XbcDw

open Idealize.ShloMosaic Idealize.ShloMosaic.TcCoe Idealize.SL.Sem Cert.Kernel17Ideal Cert.Kernel17Ideal.Gen
open Idealize.ShloMosaic.Pipeline (Dat)

variable (m : (ℓ : Loc nD τ sig) → Idealize.ShloMosaic.Buf (Elt Ideal) ℓ) (c : Dev nD)

theorem idx0 : ∀ t : Fin cfg0.N, win0_0.index t = ![t.val % 4, t.val / 12] := by decide +kernel
theorem idx1 : ∀ t : Fin cfg0.N, win0_1.index t = ![t.val % 4, t.val / 4 % 3] := by decide +kernel
theorem idx2 : ∀ t : Fin cfg0.N, win0_2.index t = ![t.val / 12, t.val / 4 % 3] := by decide +kernel

/-- What a point's blocks add. -/
abbrev term (t : Fin cfg0.N) : FVec Ideal S512x1024 .f32 := k0_pay1 (iblk m c 0 t) (iblk m c 1 t)

theorem out_eq (t : Fin cfg0.N) (ht : t.val % 4 = 3) (y : S512x1024.Idx) :
    (outsAt0 m c t.val t.isLt).1 y = ∑ k : Fin 4, (term m c ⟨4 * (t.val / 4) + k.val, by have := t.isLt; omega⟩ y : EReal) :=
  Product.run_sum (fun n h => (outsAt0 m c n h).1) (fun n h => (outsAt0 m c n h).2) (term m c)
    (fun t h i => by
      rw [outsAt0_A m c t h (by omega) (by omega)]
      frame_out
      unfold k0_pay2
      rw [shapeCast_self])
    (fun t h i => by
      rw [outsAt0_B m c t (by omega) h (by omega)]
      frame_out
      simp only [Idealize.ShloMosaic.read_unread_whole]
      unfold k0_pay3
      rw [shapeCast_self]
      rfl)
    (fun t h i => by
      rw [outsAt0_C m c t (by omega) (by omega) h]
      frame_out
      simp only [Idealize.ShloMosaic.read_unread_whole]
      unfold k0_pay4
      rfl) t ht y

/-- What the kernel leaves. -/
theorem kernel_eq : (dats m 0 c).arrAt 2 cfg0.N = Matmul.dRight (m ((c : Thread nD τ).loc main_arg0)) (m ((c : Thread nD τ).loc main_arg1)) := by
  refine (dats m 0 c).arrAt_eq_of_covers 2 _ (by decide +kernel) fun t hf y => ?_
  blk_simp
  rw [after0_2]
  refine (out_eq m c t ((flush0_2 t).mp hf) y).trans ?_
  unfold Matmul.dRight term k0_pay1
  pointwise
  refine Fin.sum_mul_add_congr (M := EReal) fun s k hl => ?_
  congr 1 <;> blk_ext [iblk, V, idx0, idx1, idx2]

/-- What the reference leaves. -/
theorem reference_eq (x : FVec Ideal S8192x1024 .bf16) (ct : FVec Ideal S8192x3072 .bf16) :
    transpose Cert.Reference17Ideal.S1024x3072 [1, 0] (Host.dotGeneral Cert.Reference17Ideal.dot_S8192x3072_S8192x1024_S3072x1024_0_0_1_1_n_n none
      (extf .f32 ct Cert.Reference17Ideal.Gen.bitsLt_bf16_f32) (extf .f32 x Cert.Reference17Ideal.Gen.bitsLt_bf16_f32))
      Cert.Reference17Ideal.Gen.transposes_S3072x1024_S1024x3072_1_0 = Matmul.dRight x ct := by
  funext i
  idx_vars i
  unfold Matmul.dRight
  pointwise
  exact Product.sum_eq fun k => mul_comm (G := EReal) _ _

end Cert.XbcDw

end
-- ==== Proof.XbcDx.lean ====
module

public import proofs.«01_k».proof.Proof.Gen.Kernel18Ideal.Value
public import proofs.«01_k».proof.Proof.Gen.Reference18Ideal.Run
public import proofs.«01_k».proof.Proof.Matmul

@[expose] public section

set_option maxRecDepth 16384

noncomputable section

open scoped BigOperators

/-! # The gradient of the mixer's input through the recurrence's part, added to the gate's -/

namespace Cert.XbcDx

open Idealize.ShloMosaic Idealize.ShloMosaic.TcCoe Idealize.SL.Sem Cert.Kernel18Ideal Cert.Kernel18Ideal.Gen
open Idealize.ShloMosaic.Pipeline (Dat)

variable (m : (ℓ : Loc nD τ sig) → Idealize.ShloMosaic.Buf (Elt Ideal) ℓ) (c : Dev nD)

theorem idx0 : ∀ t : Fin cfg0.N, win0_0.index t = ![t.val / 3, t.val % 3] := by decide +kernel
theorem idx1 : ∀ t : Fin cfg0.N, win0_1.index t = ![0, t.val % 3] := by decide +kernel
theorem idx2 : ∀ t : Fin cfg0.N, win0_2.index t = ![t.val / 3, 0] := by decide +kernel
theorem idx3 : ∀ t : Fin cfg0.N, win0_3.index t = ![t.val / 3, 0] := by decide +kernel

/-- The result: the sum so far, and the product. -/
def value (w : FVec Ideal S1024x3072 .bf16) (ct : FVec Ideal S8192x3072 .bf16) (dx : FVec Ideal S8192x1024 .f32) : FVec Ideal S8192x1024 .f32 := fun i =>
  (dx i : EReal) + Matmul.dLeft w ct i

/-- What a point's blocks add. -/
abbrev term (t : Fin cfg0.N) : FVec Ideal S512x1024 .f32 := k0_pay1 (iblk m c 0 t) (iblk m c 1 t)

/-- The block of the sum so far. -/
abbrev old (t : Fin cfg0.N) : FVec Ideal S512x1024 .f32 := iblk m c 2 t

theorem out_eq (t : Fin cfg0.N) (ht : t.val % 3 = 2) (y : S512x1024.Idx) :
    (outsAt0 m c t.val t.isLt).1 y = (old m c t y : EReal) + ∑ k : Fin 3, (term m c ⟨3 * (t.val / 3) + k.val, by have := t.isLt; omega⟩ y : EReal) :=
  Matmul.run_three (fun n h => (outsAt0 m c n h).1) (fun n h => (outsAt0 m c n h).2) (term m c) (old m c)
    (fun t h i => by
      rw [outsAt0_A m c t h (by omega) (by omega)]
      frame_out
      unfold k0_pay2
      rw [shapeCast_self])
    (fun t h i => by
      rw [outsAt0_B m c t (by omega) h (by omega)]
      frame_out
      simp only [Idealize.ShloMosaic.read_unread_whole]
      unfold k0_pay3
      rw [shapeCast_self]
      rfl)
    (fun t h i => by
      rw [outsAt0_C m c t (by omega) (by omega) h]
      frame_out
      simp only [Idealize.ShloMosaic.read_unread_whole]
      unfold k0_pay4
      rfl) t ht y

/-- What the kernel leaves. -/
theorem kernel_eq : (dats m 0 c).arrAt 3 cfg0.N
    = value (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  refine (out_eq m c t ((flush0_3 t).mp hf) y).trans ?_
  unfold value Matmul.dLeft term old k0_pay1
  pointwise
  refine congrArg₂ (fun a b : EReal => a + b) ?_ (Fin.sum_mul_add_congr (M := EReal) fun s k hl => ?_)
  · blk_ext [iblk, V, idx2 t, idx3 t]
  · congr 1 <;> blk_ext [iblk, V, idx0, idx1, idx3]

/-- What the reference leaves. -/
theorem reference_eq (w : FVec Ideal S1024x3072 .bf16) (ct : FVec Ideal S8192x3072 .bf16) (dx : FVec Ideal S8192x1024 .f32) :
    addf dx (Host.dotGeneral Cert.Reference18Ideal.dot_S8192x3072_S1024x3072_S8192x1024_1_1_0_0_n_n none
      (extf .f32 ct Cert.Reference18Ideal.Gen.bitsLt_bf16_f32) (extf .f32 w Cert.Reference18Ideal.Gen.bitsLt_bf16_f32)) = value w ct dx := by
  funext i
  idx_vars i
  unfold value Matmul.dLeft
  pointwise

end Cert.XbcDx

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Kernel25
public import proofs.«01_k».proof.Proof.Gen.Kernel25.Frame
public import proofs.«01_k».proof.Proof.Gen.Kernel25Ideal
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Kernel26
public import proofs.«01_k».proof.Proof.Gen.Kernel26.Frame
public import proofs.«01_k».proof.Proof.Gen.Kernel26Ideal
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Kernel27
public import proofs.«01_k».proof.Proof.Gen.Kernel27.Frame
public import proofs.«01_k».proof.Proof.Gen.Kernel27Ideal
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.AttnProj
public import proofs.«01_k».proof.Proof.MixerProj
public import proofs.«01_k».proof.Proof.ConvSum
public import proofs.«01_k».proof.Proof.ConvRef
public import proofs.«01_k».proof.Proof.Agree
public import proofs.«01_k».proof.Proof.DownDx
public import proofs.«01_k».proof.Proof.DownDw
public import proofs.«01_k».proof.Proof.UpDx
public import proofs.«01_k».proof.Proof.UpDxAdd
public import proofs.«01_k».proof.Proof.UpDw
public import proofs.«01_k».proof.Proof.Norm
public import proofs.«01_k».proof.Proof.Gate
public import proofs.«01_k».proof.Proof.UpFwd
public import proofs.«01_k».proof.Proof.DownFwd
public import proofs.«01_k».proof.Proof.SquareDw
public import proofs.«01_k».proof.Proof.SquareDx
public import proofs.«01_k».proof.Proof.OutDx
public import proofs.«01_k».proof.Proof.OutDw
public import proofs.«01_k».proof.Proof.ZDw
public import proofs.«01_k».proof.Proof.ZDx
public import proofs.«01_k».proof.Proof.XbcDw
public import proofs.«01_k».proof.Proof.XbcDx
public import Idealize.ShloMosaic.Adequacy
public import Idealize.ShloMosaic.Init

@[expose] public section

noncomputable section

namespace Cert.Proof

open Idealize.ShloMosaic Idealize.SL.Sem Cert.Kernel
open Cert.RefVal (coords)

theorem frame_bits : quiescent_Kernel := fun m ρ _ => Cert.Kernel.Gen.frame m ρ
theorem frame_ideal : quiescent_KernelIdeal := fun m ρ _ => Cert.KernelIdeal.Gen.frame m ρ
theorem frame_ideal_finite : quiescent_KernelIdeal_pre_finite := fun m ρ _ => Cert.KernelIdeal.Gen.frame m ρ

theorem frame_reference : quiescent_ReferenceIdeal := fun m ρ _ =>
  (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ)
theorem frame_reference_finite : quiescent_ReferenceIdeal_pre_finite := fun m ρ _ => frame_reference m ρ trivial

/-- The kernel's arguments on a device, at the reference's types. -/
abbrev K0 (m : (ℓ : Loc Cert.KernelIdeal.nD Cert.KernelIdeal.τ Cert.KernelIdeal.sig) → Buf (Elt Ideal) ℓ) (c : Dev Cert.KernelIdeal.nD) : FVec Ideal Cert.ReferenceIdeal.S4x2048x1024 .bf16 :=
  m ((c.tc : Thread Cert.KernelIdeal.nD Cert.KernelIdeal.τ).loc Cert.KernelIdeal.main_arg0)
abbrev K1 (m : (ℓ : Loc Cert.KernelIdeal.nD Cert.KernelIdeal.τ Cert.KernelIdeal.sig) → Buf (Elt Ideal) ℓ) (c : Dev Cert.KernelIdeal.nD) : FVec Ideal Cert.ReferenceIdeal.S4x2048x2048 .bf16 :=
  m ((c.tc : Thread Cert.KernelIdeal.nD Cert.KernelIdeal.τ).loc Cert.KernelIdeal.main_arg1)
abbrev K2 (m : (ℓ : Loc Cert.KernelIdeal.nD Cert.KernelIdeal.τ Cert.KernelIdeal.sig) → Buf (Elt Ideal) ℓ) (c : Dev Cert.KernelIdeal.nD) : FVec Ideal Cert.ReferenceIdeal.S4x2048x1024 .bf16 :=
  m ((c.tc : Thread Cert.KernelIdeal.nD Cert.KernelIdeal.τ).loc Cert.KernelIdeal.main_arg2)

theorem argsAt {m : (ℓ : Loc Cert.KernelIdeal.nD Cert.KernelIdeal.τ Cert.KernelIdeal.sig) → Buf (Elt Ideal) ℓ} (h : Pre_KernelIdeal_finite m) (c : Dev Cert.KernelIdeal.nD) :
    Cert.RefVal.ArgsAt (coords 4 2048 1024 (K0 m c)) (coords 4 2048 2048 (K1 m c)) (coords 4 2048 1024 (K2 m c)) (K0 m c) (K1 m c) (K2 m c) :=
  Cert.RefVal.argsAt (K0 m c) (K1 m c) (K2 m c) _ _ (h c).1 (h c).2.1 (h c).2.2

theorem algebraic : algebraic_KernelIdeal_ReferenceIdeal_pre_finite := by
  intro m g m' g' hf ha
  refine ⟨fun c => Cert.Tile.dqA (coords 4 2048 1024 (K0 m c)) (coords 4 2048 2048 (K1 m c)) (coords 4 2048 1024 (K2 m c)),
    fun c => Cert.Tile.dkA (coords 4 2048 1024 (K0 m c)) (coords 4 2048 2048 (K1 m c)) (coords 4 2048 1024 (K2 m c)) (m ((c.tc : Thread Cert.KernelIdeal.nD Cert.KernelIdeal.τ).loc Cert.KernelIdeal.main_arg3)),
    fun c => Cert.Tile.dvA (coords 4 2048 1024 (K0 m c)) (coords 4 2048 2048 (K1 m c)) (coords 4 2048 1024 (K2 m c)) (m ((c.tc : Thread Cert.KernelIdeal.nD Cert.KernelIdeal.τ).loc Cert.KernelIdeal.main_arg4)), ?_, ?_⟩
  · refine (θ_run Cert.KernelIdeal.defs _ _).mono (fun r h c => ?_) (Cert.KernelIdeal.Value.run_blocks m g)
    have hA := Cert.Tile.arrAt (argsAt hf c)
    exact ⟨(h c).1.trans (Cert.Tile.final7 hA), (h c).2.1.trans (Cert.Tile.final8 hA), (h c).2.2.1.trans (Cert.Tile.final9 hA), (h c).2.2.2⟩
  · refine (θ_run Cert.ReferenceIdeal.defs _ _).mono (fun r h c => ?_) (Cert.ReferenceIdeal.Value.run (F := Ideal) m' g')
    have e0 : Cert.RefVal.A0 m' c = K0 m c := (ha c).1
    have e1 : Cert.RefVal.A1 m' c = K1 m c := (ha c).2.1
    have e2 : Cert.RefVal.A2 m' c = K2 m c := (ha c).2.2.1
    have hA : Cert.RefVal.ArgsAt (coords 4 2048 1024 (K0 m c)) (coords 4 2048 2048 (K1 m c)) (coords 4 2048 1024 (K2 m c)) (Cert.RefVal.A0 m' c) (Cert.RefVal.A1 m' c) (Cert.RefVal.A2 m' c) := by
      rw [e0, e1, e2]; exact argsAt hf c
    exact ⟨(h c).1.trans (Cert.RefVal.ref54 hA),
      (h c).2.1.trans ((Cert.RefVal.ref55 hA).trans (congrArg (Cert.Tile.dkA _ _ _) (ha c).2.2.2.1)),
      (h c).2.2.1.trans ((Cert.RefVal.ref56 hA).trans (congrArg (Cert.Tile.dvA _ _ _) (ha c).2.2.2.2)), (h c).2.2.2⟩

theorem frame_bits2 : quiescent_Kernel2 := fun m ρ _ => Cert.Kernel2.Gen.frame m ρ
theorem frame_ideal2 : quiescent_Kernel2Ideal := fun m ρ _ => Cert.Kernel2Ideal.Gen.frame m ρ
theorem frame_reference2 : quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)
theorem algebraic2 : algebraic_Kernel2Ideal_Reference2Ideal := fun m g m' g' _ ha =>
  ⟨fun c => Cert.DownDx.value (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)),
    (θ_run Cert.Kernel2Ideal.defs _ _).mono (fun r h c => ⟨(h c).1.trans (Cert.DownDx.kernel_eq m c), (h c).2⟩) (Cert.Kernel2Ideal.Value.run_blocks m g),
    (θ_run Cert.Reference2Ideal.defs _ _).mono (fun r h c => ⟨(h c).1.trans (by rw [(ha c).1, (ha c).2]; exact Cert.DownDx.reference_eq _ _ ), (h c).2⟩)
      (Cert.Reference2Ideal.Value.run (F := Ideal) m' g')⟩

theorem frame_bits3 : quiescent_Kernel3 := fun m ρ _ => Cert.Kernel3.Gen.frame m ρ
theorem frame_ideal3 : quiescent_Kernel3Ideal := fun m ρ _ => Cert.Kernel3Ideal.Gen.frame m ρ
theorem frame_reference3 : quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)
theorem algebraic3 : algebraic_Kernel3Ideal_Reference3Ideal := fun m g m' g' _ ha =>
  ⟨fun c => Cert.DownDw.value (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)),
    (θ_run Cert.Kernel3Ideal.defs _ _).mono (fun r h c => ⟨(h c).1.trans (Cert.DownDw.kernel_eq m c), (h c).2⟩) (Cert.Kernel3Ideal.Value.run_blocks m g),
    (θ_run Cert.Reference3Ideal.defs _ _).mono (fun r h c => ⟨(h c).1.trans (by rw [(ha c).1, (ha c).2]; exact Cert.DownDw.reference_eq _ _ ), (h c).2⟩)
      (Cert.Reference3Ideal.Value.run (F := Ideal) m' g')⟩

theorem frame_bits4 : quiescent_Kernel4 := fun m ρ _ => Cert.Kernel4.Gen.frame m ρ
theorem frame_ideal4 : quiescent_Kernel4Ideal := fun m ρ _ => Cert.Kernel4Ideal.Gen.frame m ρ
theorem frame_reference4 : quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)
theorem algebraic4 : algebraic_Kernel4Ideal_Reference4Ideal := fun m g m' g' _ ha =>
  ⟨fun c => Cert.UpDx.value (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)),
    (θ_run Cert.Kernel4Ideal.defs _ _).mono (fun r h c => ⟨(h c).1.trans (Cert.UpDx.kernel_eq m c), (h c).2⟩) (Cert.Kernel4Ideal.Value.run_blocks m g),
    (θ_run Cert.Reference4Ideal.defs _ _).mono (fun r h c => ⟨(h c).1.trans (by rw [(ha c).1, (ha c).2]; exact Cert.UpDx.reference_eq _ _ ), (h c).2⟩)
      (Cert.Reference4Ideal.Value.run (F := Ideal) m' g')⟩

theorem frame_bits5 : quiescent_Kernel5 := fun m ρ _ => Cert.Kernel5.Gen.frame m ρ
theorem frame_ideal5 : quiescent_Kernel5Ideal := fun m ρ _ => Cert.Kernel5Ideal.Gen.frame m ρ
theorem frame_reference5 : quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)
theorem algebraic5 : algebraic_Kernel5Ideal_Reference5Ideal := fun m g m' g' _ ha =>
  ⟨fun c => Cert.UpDxAdd.value (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)),
    (θ_run Cert.Kernel5Ideal.defs _ _).mono (fun r h c => ⟨(h c).1.trans (Cert.UpDxAdd.kernel_eq m c), (h c).2⟩) (Cert.Kernel5Ideal.Value.run_blocks m g),
    (θ_run Cert.Reference5Ideal.defs _ _).mono (fun r h c => ⟨(h c).1.trans (by rw [(ha c).1, (ha c).2.1, (ha c).2.2]; exact Cert.UpDxAdd.reference_eq _ _ _ ), (h c).2⟩)
      (Cert.Reference5Ideal.Value.run (F := Ideal) m' g')⟩

theorem frame_bits6 : quiescent_Kernel6 := fun m ρ _ => Cert.Kernel6.Gen.frame m ρ
theorem frame_ideal6 : quiescent_Kernel6Ideal := fun m ρ _ => Cert.Kernel6Ideal.Gen.frame m ρ
theorem frame_reference6 : quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)
theorem algebraic6 : algebraic_Kernel6Ideal_Reference6Ideal := fun m g m' g' _ ha =>
  ⟨fun c => Cert.UpDw.value (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)),
    (θ_run Cert.Kernel6Ideal.defs _ _).mono (fun r h c => ⟨(h c).1.trans (Cert.UpDw.kernel_eq m c), (h c).2⟩) (Cert.Kernel6Ideal.Value.run_blocks m g),
    (θ_run Cert.Reference6Ideal.defs _ _).mono (fun r h c => ⟨(h c).1.trans (by rw [(ha c).1, (ha c).2]; exact Cert.UpDw.reference_eq _ _ ), (h c).2⟩)
      (Cert.Reference6Ideal.Value.run (F := Ideal) m' g')⟩

theorem frame_bits7 : quiescent_Kernel7 := fun m ρ _ => Cert.Kernel7.Gen.frame m ρ
theorem frame_ideal7 : quiescent_Kernel7Ideal := fun m ρ _ => Cert.Kernel7Ideal.Gen.frame m ρ
theorem frame_reference7 : quiescent_Reference7Ideal := fun m ρ _ =>
  (θ_run Cert.Reference7Ideal.defs _ _).mono (fun r h => ⟨fun c => (h c).2.2.2, Idealize.ShloMosaic.sem_eq_zero_of_no_sems (by decide) r.2⟩)
    (Cert.Reference7Ideal.Value.run (F := Ideal) m ρ)
theorem algebraic7 : algebraic_Kernel7Ideal_Reference7Ideal := fun m g m' g' _ ha =>
  ⟨fun c => Cert.Norm.dx (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)),
    fun c => Cert.Norm.dgain (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)),
    fun c => truncf .bf16 (Cert.Norm.dx (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))) Cert.Kernel7Ideal.Gen.bitsLt_bf16_f32,
    (θ_run Cert.Kernel7Ideal.defs _ _).mono (fun r h c => ⟨(h c).1.trans (Cert.Norm.kernel_dx m c), (h c).2.1.trans (Cert.Norm.kernel_dgain m c), (h c).2.2.1.trans (Cert.Norm.kernel_dx16 m c), (h c).2.2.2⟩)
      (Cert.Kernel7Ideal.Value.run_blocks m g),
    (θ_run Cert.Reference7Ideal.defs _ _).mono (fun r h c => ⟨(h c).1.trans (by rw [(ha c).1, (ha c).2.1, (ha c).2.2.1, (ha c).2.2.2]; exact Cert.Norm.reference_dx _ _ _ _),
        (h c).2.1.trans (by rw [(ha c).1, (ha c).2.1]; exact Cert.Norm.reference_dgain _ _),
        (h c).2.2.1.trans (by rw [(ha c).1, (ha c).2.1, (ha c).2.2.1, (ha c).2.2.2]; exact congrArg (fun v => truncf .bf16 v Cert.Kernel7Ideal.Gen.bitsLt_bf16_f32) (Cert.Norm.reference_dx _ _ _ _)), (h c).2.2.2⟩)
      (Cert.Reference7Ideal.Value.run (F := Ideal) m' g')⟩

theorem frame_bits8 : quiescent_Kernel8 := fun m ρ _ => Cert.Kernel8.Gen.frame m ρ
theorem frame_ideal8 : quiescent_Kernel8Ideal := fun m ρ _ => Cert.Kernel8Ideal.Gen.frame m ρ
theorem frame_reference8 : quiescent_Reference8Ideal := fun m ρ _ =>
  (θ_run Cert.Reference8Ideal.defs _ _).mono (fun r h => ⟨fun c => (h c).2.2, Idealize.ShloMosaic.sem_eq_zero_of_no_sems (by decide) r.2⟩)
    (Cert.Reference8Ideal.Value.run (F := Ideal) m ρ)
theorem algebraic8 : algebraic_Kernel8Ideal_Reference8Ideal := fun m g m' g' _ ha =>
  ⟨fun c => Cert.Gate.dgate (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)),
    fun c => Cert.Gate.dproj (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)),
    (θ_run Cert.Kernel8Ideal.defs _ _).mono (fun r h c => ⟨(h c).1.trans (Cert.Gate.kernel_dgate _ _ _), (h c).2.1.trans (Cert.Gate.kernel_dproj _ _), (h c).2.2⟩)
      (Cert.Kernel8Ideal.Value.run (F := Ideal) m g),
    (θ_run Cert.Reference8Ideal.defs _ _).mono (fun r h c => ⟨(h c).1.trans (by rw [(ha c).1, (ha c).2.1, (ha c).2.2]; exact Cert.Gate.reference_dgate _ _ _),
        (h c).2.1.trans (by rw [(ha c).1, (ha c).2.1]; exact Cert.Gate.reference_dproj _ _), (h c).2.2⟩)
      (Cert.Reference8Ideal.Value.run (F := Ideal) m' g')⟩

theorem frame_bits9 : quiescent_Kernel9 := fun m ρ _ => Cert.Kernel9.Gen.frame m ρ
theorem frame_ideal9 : quiescent_Kernel9Ideal := fun m ρ _ => Cert.Kernel9Ideal.Gen.frame m ρ
theorem frame_reference9 : quiescent_Reference9Ideal := fun m ρ _ =>
  (θ_run Cert.Reference9Ideal.defs _ _).mono (fun r h => ⟨fun c => (h c).2, Idealize.ShloMosaic.sem_eq_zero_of_no_sems (by decide) r.2⟩)
    (Cert.Reference9Ideal.Value.run (F := Ideal) m ρ)
theorem algebraic9 : algebraic_Kernel9Ideal_Reference9Ideal := fun m g m' g' _ ha =>
  ⟨fun c => Cert.UpFwd.value (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)),
    (θ_run Cert.Kernel9Ideal.defs _ _).mono (fun r h c => ⟨(h c).1.trans (Cert.UpFwd.kernel_eq m c), (h c).2⟩)
      (Cert.Kernel9Ideal.Value.run_blocks m g),
    (θ_run Cert.Reference9Ideal.defs _ _).mono (fun r h c => ⟨(h c).1.trans (by rw [(ha c).1, (ha c).2]; exact Cert.UpFwd.reference_eq _ _), (h c).2⟩)
      (Cert.Reference9Ideal.Value.run (F := Ideal) m' g')⟩

theorem frame_bits10 : quiescent_Kernel10 := fun m ρ _ => Cert.Kernel10.Gen.frame m ρ
theorem frame_ideal10 : quiescent_Kernel10Ideal := fun m ρ _ => Cert.Kernel10Ideal.Gen.frame m ρ
theorem frame_reference10 : quiescent_Reference10Ideal := fun m ρ _ =>
  (θ_run Cert.Reference10Ideal.defs _ _).mono (fun r h => ⟨fun c => (h c).2, Idealize.ShloMosaic.sem_eq_zero_of_no_sems (by decide) r.2⟩)
    (Cert.Reference10Ideal.Value.run (F := Ideal) m ρ)
theorem algebraic10 : algebraic_Kernel10Ideal_Reference10Ideal := fun m g m' g' _ ha =>
  ⟨fun c => Cert.DownFwd.value (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)),
    (θ_run Cert.Kernel10Ideal.defs _ _).mono (fun r h c => ⟨(h c).1.trans (Cert.DownFwd.kernel_eq m c), (h c).2⟩)
      (Cert.Kernel10Ideal.Value.run_blocks m g),
    (θ_run Cert.Reference10Ideal.defs _ _).mono (fun r h c => ⟨(h c).1.trans (by rw [(ha c).1, (ha c).2.1, (ha c).2.2]; exact Cert.DownFwd.reference_eq _ _ _), (h c).2⟩)
      (Cert.Reference10Ideal.Value.run (F := Ideal) m' g')⟩

theorem frame_bits11 : quiescent_Kernel11 := fun m ρ _ => Cert.Kernel11.Gen.frame m ρ
theorem frame_ideal11 : quiescent_Kernel11Ideal := fun m ρ _ => Cert.Kernel11Ideal.Gen.frame m ρ
theorem frame_reference11 : quiescent_Reference11Ideal := fun m ρ _ =>
  (θ_run Cert.Reference11Ideal.defs _ _).mono (fun r h => ⟨fun c => (h c).2, Idealize.ShloMosaic.sem_eq_zero_of_no_sems (by decide) r.2⟩)
    (Cert.Reference11Ideal.Value.run (F := Ideal) m ρ)
theorem algebraic11 : algebraic_Kernel11Ideal_Reference11Ideal := fun m g m' g' _ ha =>
  ⟨fun c => Cert.Matmul.dRight (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)),
    (θ_run Cert.Kernel11Ideal.defs _ _).mono (fun r h c => ⟨(h c).1.trans (Cert.SquareDw.kernel_eq m c), (h c).2⟩)
      (Cert.Kernel11Ideal.Value.run_blocks m g),
    (θ_run Cert.Reference11Ideal.defs _ _).mono (fun r h c => ⟨(h c).1.trans (by rw [(ha c).1, (ha c).2]; exact Cert.SquareDw.reference_eq _ _), (h c).2⟩)
      (Cert.Reference11Ideal.Value.run (F := Ideal) m' g')⟩

theorem frame_bits12 : quiescent_Kernel12 := fun m ρ _ => Cert.Kernel12.Gen.frame m ρ
theorem frame_ideal12 : quiescent_Kernel12Ideal := fun m ρ _ => Cert.Kernel12Ideal.Gen.frame m ρ
theorem frame_reference12 : quiescent_Reference12Ideal := fun m ρ _ =>
  (θ_run Cert.Reference12Ideal.defs _ _).mono (fun r h => ⟨fun c => (h c).2, Idealize.ShloMosaic.sem_eq_zero_of_no_sems (by decide) r.2⟩)
    (Cert.Reference12Ideal.Value.run (F := Ideal) m ρ)
theorem algebraic12 : algebraic_Kernel12Ideal_Reference12Ideal := fun m g m' g' _ ha =>
  ⟨fun c => Cert.Matmul.dLeft (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)),
    (θ_run Cert.Kernel12Ideal.defs _ _).mono (fun r h c => ⟨(h c).1.trans (Cert.SquareDx.kernel_eq m c), (h c).2⟩)
      (Cert.Kernel12Ideal.Value.run_blocks m g),
    (θ_run Cert.Reference12Ideal.defs _ _).mono (fun r h c => ⟨(h c).1.trans (by rw [(ha c).1, (ha c).2]; exact Cert.SquareDx.reference_eq _ _), (h c).2⟩)
      (Cert.Reference12Ideal.Value.run (F := Ideal) m' g')⟩

theorem frame_bits13 : quiescent_Kernel13 := fun m ρ _ => Cert.Kernel13.Gen.frame m ρ
theorem frame_ideal13 : quiescent_Kernel13Ideal := fun m ρ _ => Cert.Kernel13Ideal.Gen.frame m ρ
theorem frame_reference13 : quiescent_Reference13Ideal := fun m ρ _ =>
  (θ_run Cert.Reference13Ideal.defs _ _).mono (fun r h => ⟨fun c => (h c).2, Idealize.ShloMosaic.sem_eq_zero_of_no_sems (by decide) r.2⟩)
    (Cert.Reference13Ideal.Value.run (F := Ideal) m ρ)
theorem algebraic13 : algebraic_Kernel13Ideal_Reference13Ideal := fun m g m' g' _ ha =>
  ⟨fun c => Cert.Matmul.dLeft (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)),
    (θ_run Cert.Kernel13Ideal.defs _ _).mono (fun r h c => ⟨(h c).1.trans (Cert.OutDx.kernel_eq m c), (h c).2⟩)
      (Cert.Kernel13Ideal.Value.run_blocks m g),
    (θ_run Cert.Reference13Ideal.defs _ _).mono (fun r h c => ⟨(h c).1.trans (by rw [(ha c).1, (ha c).2]; exact Cert.OutDx.reference_eq _ _), (h c).2⟩)
      (Cert.Reference13Ideal.Value.run (F := Ideal) m' g')⟩

theorem frame_bits14 : quiescent_Kernel14 := fun m ρ _ => Cert.Kernel14.Gen.frame m ρ
theorem frame_ideal14 : quiescent_Kernel14Ideal := fun m ρ _ => Cert.Kernel14Ideal.Gen.frame m ρ
theorem frame_reference14 : quiescent_Reference14Ideal := fun m ρ _ =>
  (θ_run Cert.Reference14Ideal.defs _ _).mono (fun r h => ⟨fun c => (h c).2, Idealize.ShloMosaic.sem_eq_zero_of_no_sems (by decide) r.2⟩)
    (Cert.Reference14Ideal.Value.run (F := Ideal) m ρ)
theorem algebraic14 : algebraic_Kernel14Ideal_Reference14Ideal := fun m g m' g' _ ha =>
  ⟨fun c => Cert.Matmul.dRight (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)),
    (θ_run Cert.Kernel14Ideal.defs _ _).mono (fun r h c => ⟨(h c).1.trans (Cert.OutDw.kernel_eq m c), (h c).2⟩)
      (Cert.Kernel14Ideal.Value.run_blocks m g),
    (θ_run Cert.Reference14Ideal.defs _ _).mono (fun r h c => ⟨(h c).1.trans (by rw [(ha c).1, (ha c).2]; exact Cert.OutDw.reference_eq _ _), (h c).2⟩)
      (Cert.Reference14Ideal.Value.run (F := Ideal) m' g')⟩

theorem frame_bits15 : quiescent_Kernel15 := fun m ρ _ => Cert.Kernel15.Gen.frame m ρ
theorem frame_ideal15 : quiescent_Kernel15Ideal := fun m ρ _ => Cert.Kernel15Ideal.Gen.frame m ρ
theorem frame_reference15 : quiescent_Reference15Ideal := fun m ρ _ =>
  (θ_run Cert.Reference15Ideal.defs _ _).mono (fun r h => ⟨fun c => (h c).2, Idealize.ShloMosaic.sem_eq_zero_of_no_sems (by decide) r.2⟩)
    (Cert.Reference15Ideal.Value.run (F := Ideal) m ρ)
theorem algebraic15 : algebraic_Kernel15Ideal_Reference15Ideal := fun m g m' g' _ ha =>
  ⟨fun c => Cert.Matmul.dRight (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)),
    (θ_run Cert.Kernel15Ideal.defs _ _).mono (fun r h c => ⟨(h c).1.trans (Cert.ZDw.kernel_eq m c), (h c).2⟩)
      (Cert.Kernel15Ideal.Value.run_blocks m g),
    (θ_run Cert.Reference15Ideal.defs _ _).mono (fun r h c => ⟨(h c).1.trans (by rw [(ha c).1, (ha c).2]; exact Cert.ZDw.reference_eq _ _), (h c).2⟩)
      (Cert.Reference15Ideal.Value.run (F := Ideal) m' g')⟩

theorem frame_bits16 : quiescent_Kernel16 := fun m ρ _ => Cert.Kernel16.Gen.frame m ρ
theorem frame_ideal16 : quiescent_Kernel16Ideal := fun m ρ _ => Cert.Kernel16Ideal.Gen.frame m ρ
theorem frame_reference16 : quiescent_Reference16Ideal := fun m ρ _ =>
  (θ_run Cert.Reference16Ideal.defs _ _).mono (fun r h => ⟨fun c => (h c).2, Idealize.ShloMosaic.sem_eq_zero_of_no_sems (by decide) r.2⟩)
    (Cert.Reference16Ideal.Value.run (F := Ideal) m ρ)
theorem algebraic16 : algebraic_Kernel16Ideal_Reference16Ideal := fun m g m' g' _ ha =>
  ⟨fun c => Cert.Matmul.dLeft (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)),
    (θ_run Cert.Kernel16Ideal.defs _ _).mono (fun r h c => ⟨(h c).1.trans (Cert.ZDx.kernel_eq m c), (h c).2⟩)
      (Cert.Kernel16Ideal.Value.run_blocks m g),
    (θ_run Cert.Reference16Ideal.defs _ _).mono (fun r h c => ⟨(h c).1.trans (by rw [(ha c).1, (ha c).2]; exact Cert.ZDx.reference_eq _ _), (h c).2⟩)
      (Cert.Reference16Ideal.Value.run (F := Ideal) m' g')⟩

theorem frame_bits17 : quiescent_Kernel17 := fun m ρ _ => Cert.Kernel17.Gen.frame m ρ
theorem frame_ideal17 : quiescent_Kernel17Ideal := fun m ρ _ => Cert.Kernel17Ideal.Gen.frame m ρ
theorem frame_reference17 : quiescent_Reference17Ideal := fun m ρ _ =>
  (θ_run Cert.Reference17Ideal.defs _ _).mono (fun r h => ⟨fun c => (h c).2, Idealize.ShloMosaic.sem_eq_zero_of_no_sems (by decide) r.2⟩)
    (Cert.Reference17Ideal.Value.run (F := Ideal) m ρ)
theorem algebraic17 : algebraic_Kernel17Ideal_Reference17Ideal := fun m g m' g' _ ha =>
  ⟨fun c => Cert.Matmul.dRight (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)),
    (θ_run Cert.Kernel17Ideal.defs _ _).mono (fun r h c => ⟨(h c).1.trans (Cert.XbcDw.kernel_eq m c), (h c).2⟩)
      (Cert.Kernel17Ideal.Value.run_blocks m g),
    (θ_run Cert.Reference17Ideal.defs _ _).mono (fun r h c => ⟨(h c).1.trans (by rw [(ha c).1, (ha c).2]; exact Cert.XbcDw.reference_eq _ _), (h c).2⟩)
      (Cert.Reference17Ideal.Value.run (F := Ideal) m' g')⟩

theorem frame_bits18 : quiescent_Kernel18 := fun m ρ _ => Cert.Kernel18.Gen.frame m ρ
theorem frame_ideal18 : quiescent_Kernel18Ideal := fun m ρ _ => Cert.Kernel18Ideal.Gen.frame m ρ
theorem frame_reference18 : quiescent_Reference18Ideal := fun m ρ _ =>
  (θ_run Cert.Reference18Ideal.defs _ _).mono (fun r h => ⟨fun c => (h c).2, Idealize.ShloMosaic.sem_eq_zero_of_no_sems (by decide) r.2⟩)
    (Cert.Reference18Ideal.Value.run (F := Ideal) m ρ)
theorem algebraic18 : algebraic_Kernel18Ideal_Reference18Ideal := fun m g m' g' _ ha =>
  ⟨fun c => Cert.XbcDx.value (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)),
    (θ_run Cert.Kernel18Ideal.defs _ _).mono (fun r h c => ⟨(h c).1.trans (Cert.XbcDx.kernel_eq m c), (h c).2⟩)
      (Cert.Kernel18Ideal.Value.run_blocks m g),
    (θ_run Cert.Reference18Ideal.defs _ _).mono (fun r h c => ⟨(h c).1.trans (by rw [(ha c).1, (ha c).2.1, (ha c).2.2]; exact Cert.XbcDx.reference_eq _ _ _), (h c).2⟩)
      (Cert.Reference18Ideal.Value.run (F := Ideal) m' g')⟩

theorem frame_bits19 : quiescent_Kernel19 := fun m ρ _ => Cert.Kernel19.Gen.frame m ρ
theorem frame_ideal19 : quiescent_Kernel19Ideal := fun m ρ _ => Cert.Kernel19Ideal.Gen.frame m ρ
theorem frame_reference19 : quiescent_Reference19Ideal := fun m ρ _ =>
  (θ_run Cert.Reference19Ideal.defs _ _).mono (fun r h => ⟨fun c => (h c).2.2.2, Idealize.ShloMosaic.sem_eq_zero_of_no_sems (by decide) r.2⟩)
    (Cert.Reference19Ideal.Value.run (F := Ideal) m ρ)

theorem frame_ideal_finite_dxc : quiescent_Kernel19Ideal_pre_finite_dxc := fun m ρ _ => Cert.Kernel19Ideal.Gen.frame m ρ
theorem frame_reference_finite_dxc : quiescent_Reference19Ideal_pre_finite_dxc := fun m ρ _ => frame_reference19 m ρ trivial

theorem algebraic19 : algebraic_Kernel19Ideal_Reference19Ideal_pre_finite_dxc := fun m g m' g' hf ha =>
  ⟨fun c => Cert.Conv.du (Cert.Conv.au m c) (Cert.Conv.ad m c) (Cert.Conv.aw m c) (Cert.Conv.ab m c),
    fun c => Cert.Conv.dw (Cert.Conv.au m c) (Cert.Conv.ad m c) (Cert.Conv.aw m c) (Cert.Conv.ab m c),
    fun c => Cert.Conv.db (Cert.Conv.au m c) (Cert.Conv.ad m c) (Cert.Conv.aw m c) (Cert.Conv.ab m c),
    (θ_run Cert.Kernel19Ideal.defs _ _).mono (fun r h c => ⟨(h c).1.trans (Cert.Conv.kernel_du m c), (h c).2.1.trans (Cert.Conv.kernel_dw m c),
        (h c).2.2.1.trans (Cert.Conv.kernel_db m c), (h c).2.2.2⟩)
      (Cert.Kernel19Ideal.Value.run_blocks m g),
    (θ_run Cert.Reference19Ideal.defs _ _).mono (fun r h c => by
        have hd := Cert.Conv.real_dxc (Cert.Conv.au m c) (Cert.Conv.ad m c) (Cert.Conv.aw m c) (Cert.Conv.ab m c) (hf c)
        have e := Cert.Conv.ref_results (Cert.Conv.au m c) (Cert.Conv.ad m c) (Cert.Conv.aw m c) (Cert.Conv.ab m c) m' c hd (ha c).1 (ha c).2.1 (ha c).2.2.1 (ha c).2.2.2
        exact ⟨(h c).1.trans e.1, (h c).2.1.trans e.2.1, (h c).2.2.1.trans e.2.2, (h c).2.2.2⟩)
      (Cert.Reference19Ideal.Value.run (F := Ideal) m' g')⟩

theorem frame_bits20 : quiescent_Kernel20 := fun m ρ _ => Cert.Kernel20.Gen.frame m ρ
theorem frame_ideal20 : quiescent_Kernel20Ideal := fun m ρ _ => Cert.Kernel20Ideal.Gen.frame m ρ
theorem frame_reference20 : quiescent_Reference20Ideal := fun m ρ _ =>
  (θ_run Cert.Reference20Ideal.defs _ _).mono (fun r h => ⟨fun c => (h c).2, Idealize.ShloMosaic.sem_eq_zero_of_no_sems (by decide) r.2⟩)
    (Cert.Reference20Ideal.Value.run (F := Ideal) m ρ)
theorem algebraic20 : algebraic_Kernel20Ideal_Reference20Ideal := fun m g m' g' _ ha =>
  ⟨fun c => Cert.Matmul.left16 (Cert.Matmul.dLeft (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1))),
    (θ_run Cert.Kernel20Ideal.defs _ _).mono (fun r h c => ⟨(h c).1.trans (Cert.ODx.kernel_eq m c), (h c).2⟩)
      (Cert.Kernel20Ideal.Value.run_blocks m g),
    (θ_run Cert.Reference20Ideal.defs _ _).mono (fun r h c => ⟨(h c).1.trans (by rw [(ha c).1, (ha c).2]; exact Cert.ODx.reference_eq _ _), (h c).2⟩)
      (Cert.Reference20Ideal.Value.run (F := Ideal) m' g')⟩

theorem frame_bits21 : quiescent_Kernel21 := fun m ρ _ => Cert.Kernel21.Gen.frame m ρ
theorem frame_ideal21 : quiescent_Kernel21Ideal := fun m ρ _ => Cert.Kernel21Ideal.Gen.frame m ρ
theorem frame_reference21 : quiescent_Reference21Ideal := fun m ρ _ =>
  (θ_run Cert.Reference21Ideal.defs _ _).mono (fun r h => ⟨fun c => (h c).2, Idealize.ShloMosaic.sem_eq_zero_of_no_sems (by decide) r.2⟩)
    (Cert.Reference21Ideal.Value.run (F := Ideal) m ρ)
theorem algebraic21 : algebraic_Kernel21Ideal_Reference21Ideal := fun m g m' g' _ ha =>
  ⟨fun c => Cert.Matmul.forward (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)),
    (θ_run Cert.Kernel21Ideal.defs _ _).mono (fun r h c => ⟨(h c).1.trans (Cert.ZFwd.kernel_eq m c), (h c).2⟩)
      (Cert.Kernel21Ideal.Value.run_blocks m g),
    (θ_run Cert.Reference21Ideal.defs _ _).mono (fun r h c => ⟨(h c).1.trans (by rw [(ha c).1, (ha c).2]; exact Cert.ZFwd.reference_eq _ _), (h c).2⟩)
      (Cert.Reference21Ideal.Value.run (F := Ideal) m' g')⟩

theorem frame_bits22 : quiescent_Kernel22 := fun m ρ _ => Cert.Kernel22.Gen.frame m ρ
theorem frame_ideal22 : quiescent_Kernel22Ideal := fun m ρ _ => Cert.Kernel22Ideal.Gen.frame m ρ
theorem frame_reference22 : quiescent_Reference22Ideal := fun m ρ _ =>
  (θ_run Cert.Reference22Ideal.defs _ _).mono (fun r h => ⟨fun c => (h c).2, Idealize.ShloMosaic.sem_eq_zero_of_no_sems (by decide) r.2⟩)
    (Cert.Reference22Ideal.Value.run (F := Ideal) m ρ)
theorem algebraic22 : algebraic_Kernel22Ideal_Reference22Ideal := fun m g m' g' _ ha =>
  ⟨fun c => Cert.Matmul.forward (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)),
    (θ_run Cert.Kernel22Ideal.defs _ _).mono (fun r h c => ⟨(h c).1.trans (Cert.XbcFwd.kernel_eq m c), (h c).2⟩)
      (Cert.Kernel22Ideal.Value.run_blocks m g),
    (θ_run Cert.Reference22Ideal.defs _ _).mono (fun r h c => ⟨(h c).1.trans (by rw [(ha c).1, (ha c).2]; exact Cert.XbcFwd.reference_eq _ _), (h c).2⟩)
      (Cert.Reference22Ideal.Value.run (F := Ideal) m' g')⟩

theorem frame_bits23 : quiescent_Kernel23 := fun m ρ _ => Cert.Kernel23.Gen.frame m ρ
theorem frame_ideal23 : quiescent_Kernel23Ideal := fun m ρ _ => Cert.Kernel23Ideal.Gen.frame m ρ
theorem frame_reference23 : quiescent_Reference23Ideal := fun m ρ _ =>
  (θ_run Cert.Reference23Ideal.defs _ _).mono (fun r h => ⟨fun c => (h c).2, Idealize.ShloMosaic.sem_eq_zero_of_no_sems (by decide) r.2⟩)
    (Cert.Reference23Ideal.Value.run (F := Ideal) m ρ)
theorem algebraic23 : algebraic_Kernel23Ideal_Reference23Ideal := fun m g m' g' _ ha =>
  ⟨fun c => Cert.Matmul.forwardAdd (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)),
    (θ_run Cert.Kernel23Ideal.defs _ _).mono (fun r h c => ⟨(h c).1.trans (Cert.OutFwd.kernel_eq m c), (h c).2⟩)
      (Cert.Kernel23Ideal.Value.run_blocks m g),
    (θ_run Cert.Reference23Ideal.defs _ _).mono (fun r h c => ⟨(h c).1.trans (by rw [(ha c).1, (ha c).2.1, (ha c).2.2]; exact Cert.OutFwd.reference_eq _ _ _), (h c).2⟩)
      (Cert.Reference23Ideal.Value.run (F := Ideal) m' g')⟩

theorem frame_bits24 : quiescent_Kernel24 := fun m ρ _ => Cert.Kernel24.Gen.frame m ρ
theorem frame_ideal24 : quiescent_Kernel24Ideal := fun m ρ _ => Cert.Kernel24Ideal.Gen.frame m ρ
theorem frame_reference24 : quiescent_Reference24Ideal := fun m ρ _ =>
  (θ_run Cert.Reference24Ideal.defs _ _).mono (fun r h => ⟨fun c => (h c).2, Idealize.ShloMosaic.sem_eq_zero_of_no_sems (by decide) r.2⟩)
    (Cert.Reference24Ideal.Value.run (F := Ideal) m ρ)
theorem algebraic24 : algebraic_Kernel24Ideal_Reference24Ideal := fun m g m' g' _ ha =>
  ⟨fun c => Cert.Matmul.left16 (Cert.Matmul.forward (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1))),
    (θ_run Cert.Kernel24Ideal.defs _ _).mono (fun r h c => ⟨(h c).1.trans (Cert.QFwd.kernel_eq m c), (h c).2⟩)
      (Cert.Kernel24Ideal.Value.run_blocks m g),
    (θ_run Cert.Reference24Ideal.defs _ _).mono (fun r h c => ⟨(h c).1.trans (by rw [(ha c).1, (ha c).2]; exact Cert.QFwd.reference_eq _ _), (h c).2⟩)
      (Cert.Reference24Ideal.Value.run (F := Ideal) m' g')⟩

theorem frame_bits25 : quiescent_Kernel25 := fun m ρ _ => Cert.Kernel25.Gen.frame m ρ
theorem frame_ideal25 : quiescent_Kernel25Ideal := fun m ρ _ => Cert.Kernel25Ideal.Gen.frame m ρ
theorem frame_reference25 : quiescent_Reference25Ideal := fun m ρ _ =>
  (θ_run Cert.Reference25Ideal.defs _ _).mono (fun r h => ⟨fun c => (h c).2, Idealize.ShloMosaic.sem_eq_zero_of_no_sems (by decide) r.2⟩)
    (Cert.Reference25Ideal.Value.run (F := Ideal) m ρ)
theorem algebraic25 : algebraic_Kernel25Ideal_Reference25Ideal := fun m g m' g' _ ha =>
  ⟨fun c => Cert.Matmul.forwardAdd (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)),
    (θ_run Cert.Kernel25Ideal.defs _ _).mono (fun r h c => ⟨(h c).1.trans (Cert.OFwd.kernel_eq m c), (h c).2⟩)
      (Cert.Kernel25Ideal.Value.run_blocks m g),
    (θ_run Cert.Reference25Ideal.defs _ _).mono (fun r h c => ⟨(h c).1.trans (by rw [(ha c).1, (ha c).2.1, (ha c).2.2]; exact Cert.OFwd.reference_eq _ _ _), (h c).2⟩)
      (Cert.Reference25Ideal.Value.run (F := Ideal) m' g')⟩

theorem frame_bits26 : quiescent_Kernel26 := fun m ρ _ => Cert.Kernel26.Gen.frame m ρ
theorem frame_ideal26 : quiescent_Kernel26Ideal := fun m ρ _ => Cert.Kernel26Ideal.Gen.frame m ρ
theorem frame_reference26 : quiescent_Reference26Ideal := fun m ρ _ =>
  (θ_run Cert.Reference26Ideal.defs _ _).mono (fun r h => ⟨fun c => (h c).2, Idealize.ShloMosaic.sem_eq_zero_of_no_sems (by decide) r.2⟩)
    (Cert.Reference26Ideal.Value.run (F := Ideal) m ρ)
theorem algebraic26 : algebraic_Kernel26Ideal_Reference26Ideal := fun m g m' g' _ ha =>
  ⟨fun c => Cert.Matmul.forward (m ((c.tc : Thread Cert.Kernel26Ideal.nD Cert.Kernel26Ideal.τ).loc Cert.Kernel26Ideal.main_arg0)) (m ((c.tc : Thread Cert.Kernel26Ideal.nD Cert.Kernel26Ideal.τ).loc Cert.Kernel26Ideal.main_arg1)),
    (θ_run Cert.Kernel26Ideal.defs _ _).mono (fun r h c => ⟨(h c).1.trans (Cert.PleFwd.kernel_eq m c), (h c).2⟩)
      (Cert.Kernel26Ideal.Value.run_blocks m g),
    (θ_run Cert.Reference26Ideal.defs _ _).mono (fun r h c => ⟨(h c).1.trans (by rw [(ha c).1, (ha c).2]; exact Cert.PleFwd.reference_eq _ _), (h c).2⟩)
      (Cert.Reference26Ideal.Value.run (F := Ideal) m' g')⟩

theorem frame_bits27 : quiescent_Kernel27 := fun m ρ _ => Cert.Kernel27.Gen.frame m ρ
theorem frame_ideal27 : quiescent_Kernel27Ideal := fun m ρ _ => Cert.Kernel27Ideal.Gen.frame m ρ
theorem frame_reference27 : quiescent_Reference27Ideal := fun m ρ _ =>
  (θ_run Cert.Reference27Ideal.defs _ _).mono (fun r h => ⟨fun c => (h c).2, Idealize.ShloMosaic.sem_eq_zero_of_no_sems (by decide) r.2⟩)
    (Cert.Reference27Ideal.Value.run (F := Ideal) m ρ)
theorem algebraic27 : algebraic_Kernel27Ideal_Reference27Ideal := fun m g m' g' _ ha =>
  ⟨fun c => Cert.Matmul.left16 (Cert.Matmul.forward (m ((c.tc : Thread Cert.Kernel27Ideal.nD Cert.Kernel27Ideal.τ).loc Cert.Kernel27Ideal.main_arg0)) (m ((c.tc : Thread Cert.Kernel27Ideal.nD Cert.Kernel27Ideal.τ).loc Cert.Kernel27Ideal.main_arg1))),
    (θ_run Cert.Kernel27Ideal.defs _ _).mono (fun r h c => ⟨(h c).1.trans (Cert.KvFwd.kernel_eq m c), (h c).2⟩)
      (Cert.Kernel27Ideal.Value.run_blocks m g),
    (θ_run Cert.Reference27Ideal.defs _ _).mono (fun r h c => ⟨(h c).1.trans (by rw [(ha c).1, (ha c).2]; exact Cert.KvFwd.reference_eq _ _), (h c).2⟩)
      (Cert.Reference27Ideal.Value.run (F := Ideal) m' g')⟩

theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts, Cert.Kernel4.Gen.facts,
  Cert.Kernel4Ideal.Gen.facts, Cert.Reference4Ideal.Gen.facts, Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.RefVal.preFacts, Cert.Conv.preFacts,
  frame_bits, frame_ideal, frame_ideal_finite, frame_reference, frame_reference_finite,
  frame_bits2, frame_ideal2, frame_reference2, frame_bits3, frame_ideal3,
  frame_reference3, frame_bits4, frame_ideal4, frame_reference4, frame_bits5,
  frame_ideal5, frame_reference5, frame_bits6, frame_ideal6, frame_reference6,
  frame_bits7, frame_ideal7, frame_reference7,
  frame_bits8, frame_ideal8, frame_reference8,
  frame_bits9, frame_ideal9, frame_reference9,
  frame_bits10, frame_ideal10, frame_reference10,
  frame_bits11, frame_ideal11, frame_reference11,
  frame_bits12, frame_ideal12, frame_reference12,
  frame_bits13, frame_ideal13, frame_reference13,
  frame_bits14, frame_ideal14, frame_reference14,
  frame_bits15, frame_ideal15, frame_reference15,
  frame_bits16, frame_ideal16, frame_reference16,
  frame_bits17, frame_ideal17, frame_reference17,
  frame_bits18, frame_ideal18, frame_reference18,
  frame_bits19, frame_ideal19, frame_ideal_finite_dxc, frame_reference19, frame_reference_finite_dxc,
  frame_bits20, frame_ideal20, frame_reference20,
  frame_bits21, frame_ideal21, frame_reference21,
  frame_bits22, frame_ideal22, frame_reference22,
  frame_bits23, frame_ideal23, frame_reference23,
  frame_bits24, frame_ideal24, frame_reference24,
  frame_bits25, frame_ideal25, frame_reference25,
  frame_bits26, frame_ideal26, frame_reference26,
  frame_bits27, frame_ideal27, frame_reference27,
  trivial, algebraic, trivial, algebraic2, trivial,
  algebraic3, trivial, algebraic4, trivial, algebraic5,
  trivial, algebraic6, trivial, algebraic7, trivial, algebraic8, trivial, algebraic9, trivial, algebraic10,
  trivial, algebraic11, trivial, algebraic12, trivial, algebraic13, trivial, algebraic14, trivial, algebraic15, trivial, algebraic16, trivial, algebraic17, trivial, algebraic18,
  trivial, algebraic19, trivial, algebraic20, trivial, algebraic21, trivial, algebraic22, trivial, algebraic23, trivial, algebraic24, trivial, algebraic25, trivial, algebraic26, trivial, algebraic27⟩

end Cert.Proof

end
